-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_DaIn (m : (ℓ : Loc Cert.DaIn.nD Cert.DaIn.τ Cert.DaIn.sig) → Buf (Elt Bits) ℓ) : Prop :=
  True

def Pre_DaInIdeal (m : (ℓ : Loc Cert.DaInIdeal.nD Cert.DaInIdeal.τ Cert.DaInIdeal.sig) → Buf (Elt Ideal) ℓ) : Prop :=
  True

def Pre_DaInRefIdeal (m : (ℓ : Loc Cert.DaInRefIdeal.nD Cert.DaInRefIdeal.τ Cert.DaInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_DaOut (m : (ℓ : Loc Cert.DaOut.nD Cert.DaOut.τ Cert.DaOut.sig) → Buf (Elt Bits) ℓ) : Prop :=
  True

def Pre_DaOutIdeal (m : (ℓ : Loc Cert.DaOutIdeal.nD Cert.DaOutIdeal.τ Cert.DaOutIdeal.sig) → Buf (Elt Ideal) ℓ) : Prop :=
  True

def Pre_DaOutRefIdeal (m : (ℓ : Loc Cert.DaOutRefIdeal.nD Cert.DaOutRefIdeal.τ Cert.DaOutRefIdeal.sig) → Buf (Elt Ideal) ℓ) : Prop :=
  True

def Pre_MoeOut (m : (ℓ : Loc Cert.MoeOut.nD Cert.MoeOut.τ Cert.MoeOut.sig) → Buf (Elt Bits) ℓ) : Prop :=
  True

def Pre_MoeOutIdeal (m : (ℓ : Loc Cert.MoeOutIdeal.nD Cert.MoeOutIdeal.τ Cert.MoeOutIdeal.sig) → Buf (Elt Ideal) ℓ) : Prop :=
  True

def Pre_MoeOutRefIdeal (m : (ℓ : Loc Cert.MoeOutRefIdeal.nD Cert.MoeOutRefIdeal.τ Cert.MoeOutRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3))
      ∧ r.2.sem = fun _ => 0)

def quiescent_DaIn [hDaIn : Cert.DaIn.Facts] : Prop :=
  ∀ (m : (ℓ : Loc Cert.DaIn.nD Cert.DaIn.τ Cert.DaIn.sig) → Buf (Elt Bits) ℓ) (g : Dev Cert.DaIn.nD → PrngReg), Pre_DaIn m →
    θ_run (Cert.DaIn.defs (F := Bits)) (onTc (τ := Cert.DaIn.τ) (Cert.DaIn.main (F := Bits))) ⟨m, fun _ => 0, g⟩ (fun r => (∀ c : Dev Cert.DaIn.nD,
      r.2.mem ((c.tc : Thread Cert.DaIn.nD Cert.DaIn.τ).loc Cert.DaIn.main_arg0) = m ((c.tc : Thread Cert.DaIn.nD Cert.DaIn.τ).loc Cert.DaIn.main_arg0)
      ∧ r.2.mem ((c.tc : Thread Cert.DaIn.nD Cert.DaIn.τ).loc Cert.DaIn.main_arg1) = m ((c.tc : Thread Cert.DaIn.nD Cert.DaIn.τ).loc Cert.DaIn.main_arg1))
      ∧ r.2.sem = fun _ => 0)

def quiescent_DaInIdeal [hDaInIdeal : Cert.DaInIdeal.Facts] : Prop :=
  ∀ (m : (ℓ : Loc Cert.DaInIdeal.nD Cert.DaInIdeal.τ Cert.DaInIdeal.sig) → Buf (Elt Ideal) ℓ) (g : Dev Cert.DaInIdeal.nD → PrngReg), Pre_DaInIdeal m →
    θ_run (Cert.DaInIdeal.defs (F := Ideal)) (onTc (τ := Cert.DaInIdeal.τ) (Cert.DaInIdeal.main (F := Ideal))) ⟨m, fun _ => 0, g⟩ (fun r => (∀ c : Dev Cert.DaInIdeal.nD,
      r.2.mem ((c.tc : Thread Cert.DaInIdeal.nD Cert.DaInIdeal.τ).loc Cert.DaInIdeal.main_arg0) = m ((c.tc : Thread Cert.DaInIdeal.nD Cert.DaInIdeal.τ).loc Cert.DaInIdeal.main_arg0)
      ∧ r.2.mem ((c.tc : Thread Cert.DaInIdeal.nD Cert.DaInIdeal.τ).loc Cert.DaInIdeal.main_arg1) = m ((c.tc : Thread Cert.DaInIdeal.nD Cert.DaInIdeal.τ).loc Cert.DaInIdeal.main_arg1))
      ∧ r.2.sem = fun _ => 0)

def quiescent_DaInRefIdeal [hDaInRefIdeal : Cert.DaInRefIdeal.Facts] : Prop :=
  ∀ (m : (ℓ : Loc Cert.DaInRefIdeal.nD Cert.DaInRefIdeal.τ Cert.DaInRefIdeal.sig) → Buf (Elt Ideal) ℓ) (g : Dev Cert.DaInRefIdeal.nD → PrngReg), Pre_DaInRefIdeal m →
    θ_run (Cert.DaInRefIdeal.defs (F := Ideal)) (onTc (τ := Cert.DaInRefIdeal.τ) (Cert.DaInRefIdeal.main (F := Ideal))) ⟨m, fun _ => 0, g⟩ (fun r => (∀ c : Dev Cert.DaInRefIdeal.nD,
      r.2.mem ((c.tc : Thread Cert.DaInRefIdeal.nD Cert.DaInRefIdeal.τ).loc Cert.DaInRefIdeal.main_arg0) = m ((c.tc : Thread Cert.DaInRefIdeal.nD Cert.DaInRefIdeal.τ).loc Cert.DaInRefIdeal.main_arg0)
      ∧ r.2.mem ((c.tc : Thread Cert.DaInRefIdeal.nD Cert.DaInRefIdeal.τ).loc Cert.DaInRefIdeal.main_arg1) = m ((c.tc : Thread Cert.DaInRefIdeal.nD Cert.DaInRefIdeal.τ).loc Cert.DaInRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4)
      ∧ r.2.mem ((c.tc : Thread Cert.AbOut.nD Cert.AbOut.τ).loc Cert.AbOut.main_arg5) = m ((c.tc : Thread Cert.AbOut.nD Cert.AbOut.τ).loc Cert.AbOut.main_arg5))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
      ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4)
      ∧ r.2.mem ((c.tc : Thread Cert.AbOutRefIdeal.nD Cert.AbOutRefIdeal.τ).loc Cert.AbOutRefIdeal.main_arg5) = m ((c.tc : Thread Cert.AbOutRefIdeal.nD Cert.AbOutRefIdeal.τ).loc Cert.AbOutRefIdeal.main_arg5))
      ∧ r.2.sem = fun _ => 0)

def quiescent_DaOut [hDaOut : Cert.DaOut.Facts] : Prop :=
  ∀ (m : (ℓ : Loc Cert.DaOut.nD Cert.DaOut.τ Cert.DaOut.sig) → Buf (Elt Bits) ℓ) (g : Dev Cert.DaOut.nD → PrngReg), Pre_DaOut m →
    θ_run (Cert.DaOut.defs (F := Bits)) (onTc (τ := Cert.DaOut.τ) (Cert.DaOut.main (F := Bits))) ⟨m, fun _ => 0, g⟩ (fun r => (∀ c : Dev Cert.DaOut.nD,
      r.2.mem ((c.tc : Thread Cert.DaOut.nD Cert.DaOut.τ).loc Cert.DaOut.main_arg0) = m ((c.tc : Thread Cert.DaOut.nD Cert.DaOut.τ).loc Cert.DaOut.main_arg0)
      ∧ r.2.mem ((c.tc : Thread Cert.DaOut.nD Cert.DaOut.τ).loc Cert.DaOut.main_arg1) = m ((c.tc : Thread Cert.DaOut.nD Cert.DaOut.τ).loc Cert.DaOut.main_arg1)
      ∧ r.2.mem ((c.tc : Thread Cert.DaOut.nD Cert.DaOut.τ).loc Cert.DaOut.main_arg2) = m ((c.tc : Thread Cert.DaOut.nD Cert.DaOut.τ).loc Cert.DaOut.main_arg2)
      ∧ r.2.mem ((c.tc : Thread Cert.DaOut.nD Cert.DaOut.τ).loc Cert.DaOut.main_arg3) = m ((c.tc : Thread Cert.DaOut.nD Cert.DaOut.τ).loc Cert.DaOut.main_arg3)
      ∧ r.2.mem ((c.tc : Thread Cert.DaOut.nD Cert.DaOut.τ).loc Cert.DaOut.main_arg4) = m ((c.tc : Thread Cert.DaOut.nD Cert.DaOut.τ).loc Cert.DaOut.main_arg4))
      ∧ r.2.sem = fun _ => 0)

def quiescent_DaOutIdeal [hDaOutIdeal : Cert.DaOutIdeal.Facts] : Prop :=
  ∀ (m : (ℓ : Loc Cert.DaOutIdeal.nD Cert.DaOutIdeal.τ Cert.DaOutIdeal.sig) → Buf (Elt Ideal) ℓ) (g : Dev Cert.DaOutIdeal.nD → PrngReg), Pre_DaOutIdeal m →
    θ_run (Cert.DaOutIdeal.defs (F := Ideal)) (onTc (τ := Cert.DaOutIdeal.τ) (Cert.DaOutIdeal.main (F := Ideal))) ⟨m, fun _ => 0, g⟩ (fun r => (∀ c : Dev Cert.DaOutIdeal.nD,
      r.2.mem ((c.tc : Thread Cert.DaOutIdeal.nD Cert.DaOutIdeal.τ).loc Cert.DaOutIdeal.main_arg0) = m ((c.tc : Thread Cert.DaOutIdeal.nD Cert.DaOutIdeal.τ).loc Cert.DaOutIdeal.main_arg0)
      ∧ r.2.mem ((c.tc : Thread Cert.DaOutIdeal.nD Cert.DaOutIdeal.τ).loc Cert.DaOutIdeal.main_arg1) = m ((c.tc : Thread Cert.DaOutIdeal.nD Cert.DaOutIdeal.τ).loc Cert.DaOutIdeal.main_arg1)
      ∧ r.2.mem ((c.tc : Thread Cert.DaOutIdeal.nD Cert.DaOutIdeal.τ).loc Cert.DaOutIdeal.main_arg2) = m ((c.tc : Thread Cert.DaOutIdeal.nD Cert.DaOutIdeal.τ).loc Cert.DaOutIdeal.main_arg2)
      ∧ r.2.mem ((c.tc : Thread Cert.DaOutIdeal.nD Cert.DaOutIdeal.τ).loc Cert.DaOutIdeal.main_arg3) = m ((c.tc : Thread Cert.DaOutIdeal.nD Cert.DaOutIdeal.τ).loc Cert.DaOutIdeal.main_arg3)
      ∧ r.2.mem ((c.tc : Thread Cert.DaOutIdeal.nD Cert.DaOutIdeal.τ).loc Cert.DaOutIdeal.main_arg4) = m ((c.tc : Thread Cert.DaOutIdeal.nD Cert.DaOutIdeal.τ).loc Cert.DaOutIdeal.main_arg4))
      ∧ r.2.sem = fun _ => 0)

def quiescent_DaOutRefIdeal [hDaOutRefIdeal : Cert.DaOutRefIdeal.Facts] : Prop :=
  ∀ (m : (ℓ : Loc Cert.DaOutRefIdeal.nD Cert.DaOutRefIdeal.τ Cert.DaOutRefIdeal.sig) → Buf (Elt Ideal) ℓ) (g : Dev Cert.DaOutRefIdeal.nD → PrngReg), Pre_DaOutRefIdeal m →
    θ_run (Cert.DaOutRefIdeal.defs (F := Ideal)) (onTc (τ := Cert.DaOutRefIdeal.τ) (Cert.DaOutRefIdeal.main (F := Ideal))) ⟨m, fun _ => 0, g⟩ (fun r => (∀ c : Dev Cert.DaOutRefIdeal.nD,
      r.2.mem ((c.tc : Thread Cert.DaOutRefIdeal.nD Cert.DaOutRefIdeal.τ).loc Cert.DaOutRefIdeal.main_arg0) = m ((c.tc : Thread Cert.DaOutRefIdeal.nD Cert.DaOutRefIdeal.τ).loc Cert.DaOutRefIdeal.main_arg0)
      ∧ r.2.mem ((c.tc : Thread Cert.DaOutRefIdeal.nD Cert.DaOutRefIdeal.τ).loc Cert.DaOutRefIdeal.main_arg1) = m ((c.tc : Thread Cert.DaOutRefIdeal.nD Cert.DaOutRefIdeal.τ).loc Cert.DaOutRefIdeal.main_arg1)
      ∧ r.2.mem ((c.tc : Thread Cert.DaOutRefIdeal.nD Cert.DaOutRefIdeal.τ).loc Cert.DaOutRefIdeal.main_arg2) = m ((c.tc : Thread Cert.DaOutRefIdeal.nD Cert.DaOutRefIdeal.τ).loc Cert.DaOutRefIdeal.main_arg2)
      ∧ r.2.mem ((c.tc : Thread Cert.DaOutRefIdeal.nD Cert.DaOutRefIdeal.τ).loc Cert.DaOutRefIdeal.main_arg3) = m ((c.tc : Thread Cert.DaOutRefIdeal.nD Cert.DaOutRefIdeal.τ).loc Cert.DaOutRefIdeal.main_arg3)
      ∧ r.2.mem ((c.tc : Thread Cert.DaOutRefIdeal.nD Cert.DaOutRefIdeal.τ).loc Cert.DaOutRefIdeal.main_arg4) = m ((c.tc : Thread Cert.DaOutRefIdeal.nD Cert.DaOutRefIdeal.τ).loc Cert.DaOutRefIdeal.main_arg4))
      ∧ r.2.sem = fun _ => 0)

def quiescent_MoeOut [hMoeOut : Cert.MoeOut.Facts] : Prop :=
  ∀ (m : (ℓ : Loc Cert.MoeOut.nD Cert.MoeOut.τ Cert.MoeOut.sig) → Buf (Elt Bits) ℓ) (g : Dev Cert.MoeOut.nD → PrngReg), Pre_MoeOut m →
    θ_run (Cert.MoeOut.defs (F := Bits)) (onTc (τ := Cert.MoeOut.τ) (Cert.MoeOut.main (F := Bits))) ⟨m, fun _ => 0, g⟩ (fun r => (∀ c : Dev Cert.MoeOut.nD,
      r.2.mem ((c.tc : Thread Cert.MoeOut.nD Cert.MoeOut.τ).loc Cert.MoeOut.main_arg0) = m ((c.tc : Thread Cert.MoeOut.nD Cert.MoeOut.τ).loc Cert.MoeOut.main_arg0)
      ∧ r.2.mem ((c.tc : Thread Cert.MoeOut.nD Cert.MoeOut.τ).loc Cert.MoeOut.main_arg1) = m ((c.tc : Thread Cert.MoeOut.nD Cert.MoeOut.τ).loc Cert.MoeOut.main_arg1)
      ∧ r.2.mem ((c.tc : Thread Cert.MoeOut.nD Cert.MoeOut.τ).loc Cert.MoeOut.main_arg2) = m ((c.tc : Thread Cert.MoeOut.nD Cert.MoeOut.τ).loc Cert.MoeOut.main_arg2)
      ∧ r.2.mem ((c.tc : Thread Cert.MoeOut.nD Cert.MoeOut.τ).loc Cert.MoeOut.main_arg3) = m ((c.tc : Thread Cert.MoeOut.nD Cert.MoeOut.τ).loc Cert.MoeOut.main_arg3)
      ∧ r.2.mem ((c.tc : Thread Cert.MoeOut.nD Cert.MoeOut.τ).loc Cert.MoeOut.main_arg4) = m ((c.tc : Thread Cert.MoeOut.nD Cert.MoeOut.τ).loc Cert.MoeOut.main_arg4)
      ∧ r.2.mem ((c.tc : Thread Cert.MoeOut.nD Cert.MoeOut.τ).loc Cert.MoeOut.main_arg5) = m ((c.tc : Thread Cert.MoeOut.nD Cert.MoeOut.τ).loc Cert.MoeOut.main_arg5)
      ∧ r.2.mem ((c.tc : Thread Cert.MoeOut.nD Cert.MoeOut.τ).loc Cert.MoeOut.main_arg6) = m ((c.tc : Thread Cert.MoeOut.nD Cert.MoeOut.τ).loc Cert.MoeOut.main_arg6)
      ∧ r.2.mem ((c.tc : Thread Cert.MoeOut.nD Cert.MoeOut.τ).loc Cert.MoeOut.main_arg7) = m ((c.tc : Thread Cert.MoeOut.nD Cert.MoeOut.τ).loc Cert.MoeOut.main_arg7)
      ∧ r.2.mem ((c.tc : Thread Cert.MoeOut.nD Cert.MoeOut.τ).loc Cert.MoeOut.main_arg8) = m ((c.tc : Thread Cert.MoeOut.nD Cert.MoeOut.τ).loc Cert.MoeOut.main_arg8))
      ∧ r.2.sem = fun _ => 0)

def quiescent_MoeOutIdeal [hMoeOutIdeal : Cert.MoeOutIdeal.Facts] : Prop :=
  ∀ (m : (ℓ : Loc Cert.MoeOutIdeal.nD Cert.MoeOutIdeal.τ Cert.MoeOutIdeal.sig) → Buf (Elt Ideal) ℓ) (g : Dev Cert.MoeOutIdeal.nD → PrngReg), Pre_MoeOutIdeal m →
    θ_run (Cert.MoeOutIdeal.defs (F := Ideal)) (onTc (τ := Cert.MoeOutIdeal.τ) (Cert.MoeOutIdeal.main (F := Ideal))) ⟨m, fun _ => 0, g⟩ (fun r => (∀ c : Dev Cert.MoeOutIdeal.nD,
      r.2.mem ((c.tc : Thread Cert.MoeOutIdeal.nD Cert.MoeOutIdeal.τ).loc Cert.MoeOutIdeal.main_arg0) = m ((c.tc : Thread Cert.MoeOutIdeal.nD Cert.MoeOutIdeal.τ).loc Cert.MoeOutIdeal.main_arg0)
      ∧ r.2.mem ((c.tc : Thread Cert.MoeOutIdeal.nD Cert.MoeOutIdeal.τ).loc Cert.MoeOutIdeal.main_arg1) = m ((c.tc : Thread Cert.MoeOutIdeal.nD Cert.MoeOutIdeal.τ).loc Cert.MoeOutIdeal.main_arg1)
      ∧ r.2.mem ((c.tc : Thread Cert.MoeOutIdeal.nD Cert.MoeOutIdeal.τ).loc Cert.MoeOutIdeal.main_arg2) = m ((c.tc : Thread Cert.MoeOutIdeal.nD Cert.MoeOutIdeal.τ).loc Cert.MoeOutIdeal.main_arg2)
      ∧ r.2.mem ((c.tc : Thread Cert.MoeOutIdeal.nD Cert.MoeOutIdeal.τ).loc Cert.MoeOutIdeal.main_arg3) = m ((c.tc : Thread Cert.MoeOutIdeal.nD Cert.MoeOutIdeal.τ).loc Cert.MoeOutIdeal.main_arg3)
      ∧ r.2.mem ((c.tc : Thread Cert.MoeOutIdeal.nD Cert.MoeOutIdeal.τ).loc Cert.MoeOutIdeal.main_arg4) = m ((c.tc : Thread Cert.MoeOutIdeal.nD Cert.MoeOutIdeal.τ).loc Cert.MoeOutIdeal.main_arg4)
      ∧ r.2.mem ((c.tc : Thread Cert.MoeOutIdeal.nD Cert.MoeOutIdeal.τ).loc Cert.MoeOutIdeal.main_arg5) = m ((c.tc : Thread Cert.MoeOutIdeal.nD Cert.MoeOutIdeal.τ).loc Cert.MoeOutIdeal.main_arg5)
      ∧ r.2.mem ((c.tc : Thread Cert.MoeOutIdeal.nD Cert.MoeOutIdeal.τ).loc Cert.MoeOutIdeal.main_arg6) = m ((c.tc : Thread Cert.MoeOutIdeal.nD Cert.MoeOutIdeal.τ).loc Cert.MoeOutIdeal.main_arg6)
      ∧ r.2.mem ((c.tc : Thread Cert.MoeOutIdeal.nD Cert.MoeOutIdeal.τ).loc Cert.MoeOutIdeal.main_arg7) = m ((c.tc : Thread Cert.MoeOutIdeal.nD Cert.MoeOutIdeal.τ).loc Cert.MoeOutIdeal.main_arg7)
      ∧ r.2.mem ((c.tc : Thread Cert.MoeOutIdeal.nD Cert.MoeOutIdeal.τ).loc Cert.MoeOutIdeal.main_arg8) = m ((c.tc : Thread Cert.MoeOutIdeal.nD Cert.MoeOutIdeal.τ).loc Cert.MoeOutIdeal.main_arg8))
      ∧ r.2.sem = fun _ => 0)

def quiescent_MoeOutRefIdeal [hMoeOutRefIdeal : Cert.MoeOutRefIdeal.Facts] : Prop :=
  ∀ (m : (ℓ : Loc Cert.MoeOutRefIdeal.nD Cert.MoeOutRefIdeal.τ Cert.MoeOutRefIdeal.sig) → Buf (Elt Ideal) ℓ) (g : Dev Cert.MoeOutRefIdeal.nD → PrngReg), Pre_MoeOutRefIdeal m →
    θ_run (Cert.MoeOutRefIdeal.defs (F := Ideal)) (onTc (τ := Cert.MoeOutRefIdeal.τ) (Cert.MoeOutRefIdeal.main (F := Ideal))) ⟨m, fun _ => 0, g⟩ (fun r => (∀ c : Dev Cert.MoeOutRefIdeal.nD,
      r.2.mem ((c.tc : Thread Cert.MoeOutRefIdeal.nD Cert.MoeOutRefIdeal.τ).loc Cert.MoeOutRefIdeal.main_arg0) = m ((c.tc : Thread Cert.MoeOutRefIdeal.nD Cert.MoeOutRefIdeal.τ).loc Cert.MoeOutRefIdeal.main_arg0)
      ∧ r.2.mem ((c.tc : Thread Cert.MoeOutRefIdeal.nD Cert.MoeOutRefIdeal.τ).loc Cert.MoeOutRefIdeal.main_arg1) = m ((c.tc : Thread Cert.MoeOutRefIdeal.nD Cert.MoeOutRefIdeal.τ).loc Cert.MoeOutRefIdeal.main_arg1)
      ∧ r.2.mem ((c.tc : Thread Cert.MoeOutRefIdeal.nD Cert.MoeOutRefIdeal.τ).loc Cert.MoeOutRefIdeal.main_arg2) = m ((c.tc : Thread Cert.MoeOutRefIdeal.nD Cert.MoeOutRefIdeal.τ).loc Cert.MoeOutRefIdeal.main_arg2)
      ∧ r.2.mem ((c.tc : Thread Cert.MoeOutRefIdeal.nD Cert.MoeOutRefIdeal.τ).loc Cert.MoeOutRefIdeal.main_arg3) = m ((c.tc : Thread Cert.MoeOutRefIdeal.nD Cert.MoeOutRefIdeal.τ).loc Cert.MoeOutRefIdeal.main_arg3)
      ∧ r.2.mem ((c.tc : Thread Cert.MoeOutRefIdeal.nD Cert.MoeOutRefIdeal.τ).loc Cert.MoeOutRefIdeal.main_arg4) = m ((c.tc : Thread Cert.MoeOutRefIdeal.nD Cert.MoeOutRefIdeal.τ).loc Cert.MoeOutRefIdeal.main_arg4)
      ∧ r.2.mem ((c.tc : Thread Cert.MoeOutRefIdeal.nD Cert.MoeOutRefIdeal.τ).loc Cert.MoeOutRefIdeal.main_arg5) = m ((c.tc : Thread Cert.MoeOutRefIdeal.nD Cert.MoeOutRefIdeal.τ).loc Cert.MoeOutRefIdeal.main_arg5)
      ∧ r.2.mem ((c.tc : Thread Cert.MoeOutRefIdeal.nD Cert.MoeOutRefIdeal.τ).loc Cert.MoeOutRefIdeal.main_arg6) = m ((c.tc : Thread Cert.MoeOutRefIdeal.nD Cert.MoeOutRefIdeal.τ).loc Cert.MoeOutRefIdeal.main_arg6)
      ∧ r.2.mem ((c.tc : Thread Cert.MoeOutRefIdeal.nD Cert.MoeOutRefIdeal.τ).loc Cert.MoeOutRefIdeal.main_arg7) = m ((c.tc : Thread Cert.MoeOutRefIdeal.nD Cert.MoeOutRefIdeal.τ).loc Cert.MoeOutRefIdeal.main_arg7)
      ∧ r.2.mem ((c.tc : Thread Cert.MoeOutRefIdeal.nD Cert.MoeOutRefIdeal.τ).loc Cert.MoeOutRefIdeal.main_arg8) = m ((c.tc : Thread Cert.MoeOutRefIdeal.nD Cert.MoeOutRefIdeal.τ).loc Cert.MoeOutRefIdeal.main_arg8))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)
      ∧ r.2.mem ((c.tc : Thread Cert.ModulationRefIdeal.nD Cert.ModulationRefIdeal.τ).loc Cert.ModulationRefIdeal.main_arg3) = m ((c.tc : Thread Cert.ModulationRefIdeal.nD Cert.ModulationRefIdeal.τ).loc Cert.ModulationRefIdeal.main_arg3))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def preserves_Kernel_KernelIdeal : Prop :=
  IdealRules.named_const.Statement Cert.KernelIdeal.κ "scale" .f32 0x3E38AA3B#32 (((Real.log 2)⁻¹ * (1 / 8) : ℝ) : EReal)
  ∧ IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)) →
    ∃ (v0 : (c : Dev Cert.AbInIdeal.nD) → Buf (Elt Ideal) ((c.tc : Thread Cert.AbInIdeal.nD Cert.AbInIdeal.τ).loc Cert.AbInIdeal.main_v9)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v9) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v48) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3))

def preserves_DaIn_DaInIdeal : Prop :=
  True

def algebraic_DaInIdeal_DaInRefIdeal [hDaInIdeal : Cert.DaInIdeal.Facts] [hDaInRefIdeal : Cert.DaInRefIdeal.Facts] : Prop :=
  ∀ (m : (ℓ : Loc Cert.DaInIdeal.nD Cert.DaInIdeal.τ Cert.DaInIdeal.sig) → Buf (Elt Ideal) ℓ) (g : Dev Cert.DaInIdeal.nD → PrngReg)
    (m' : (ℓ : Loc Cert.DaInRefIdeal.nD Cert.DaInRefIdeal.τ Cert.DaInRefIdeal.sig) → Buf (Elt Ideal) ℓ) (g' : Dev Cert.DaInRefIdeal.nD → PrngReg), Pre_DaInIdeal m →
    (∀ c : Dev Cert.DaInIdeal.nD,
      m' ((c.tc : Thread Cert.DaInRefIdeal.nD Cert.DaInRefIdeal.τ).loc Cert.DaInRefIdeal.main_arg0) = m ((c.tc : Thread Cert.DaInIdeal.nD Cert.DaInIdeal.τ).loc Cert.DaInIdeal.main_arg0)
      ∧ m' ((c.tc : Thread Cert.DaInRefIdeal.nD Cert.DaInRefIdeal.τ).loc Cert.DaInRefIdeal.main_arg1) = m ((c.tc : Thread Cert.DaInIdeal.nD Cert.DaInIdeal.τ).loc Cert.DaInIdeal.main_arg1)) →
    ∃ (v0 : (c : Dev Cert.DaInIdeal.nD) → Buf (Elt Ideal) ((c.tc : Thread Cert.DaInIdeal.nD Cert.DaInIdeal.τ).loc Cert.DaInIdeal.main_v2)),
      θ_run (Cert.DaInIdeal.defs (F := Ideal)) (onTc (τ := Cert.DaInIdeal.τ) (Cert.DaInIdeal.main (F := Ideal))) ⟨m, fun _ => 0, g⟩ (fun r => ∀ c : Dev Cert.DaInIdeal.nD,
          r.2.mem ((c.tc : Thread Cert.DaInIdeal.nD Cert.DaInIdeal.τ).loc Cert.DaInIdeal.main_v2) = v0 c
          ∧ r.2.mem ((c.tc : Thread Cert.DaInIdeal.nD Cert.DaInIdeal.τ).loc Cert.DaInIdeal.main_arg0) = m ((c.tc : Thread Cert.DaInIdeal.nD Cert.DaInIdeal.τ).loc Cert.DaInIdeal.main_arg0)
          ∧ r.2.mem ((c.tc : Thread Cert.DaInIdeal.nD Cert.DaInIdeal.τ).loc Cert.DaInIdeal.main_arg1) = m ((c.tc : Thread Cert.DaInIdeal.nD Cert.DaInIdeal.τ).loc Cert.DaInIdeal.main_arg1))
      ∧ θ_run (Cert.DaInRefIdeal.defs (F := Ideal)) (onTc (τ := Cert.DaInRefIdeal.τ) (Cert.DaInRefIdeal.main (F := Ideal))) ⟨m', fun _ => 0, g'⟩ (fun r => ∀ c : Dev Cert.DaInRefIdeal.nD,
          r.2.mem ((c.tc : Thread Cert.DaInRefIdeal.nD Cert.DaInRefIdeal.τ).loc Cert.DaInRefIdeal.main_v0) = v0 c
          ∧ r.2.mem ((c.tc : Thread Cert.DaInRefIdeal.nD Cert.DaInRefIdeal.τ).loc Cert.DaInRefIdeal.main_arg0) = m' ((c.tc : Thread Cert.DaInRefIdeal.nD Cert.DaInRefIdeal.τ).loc Cert.DaInRefIdeal.main_arg0)
          ∧ r.2.mem ((c.tc : Thread Cert.DaInRefIdeal.nD Cert.DaInRefIdeal.τ).loc Cert.DaInRefIdeal.main_arg1) = m' ((c.tc : Thread Cert.DaInRefIdeal.nD Cert.DaInRefIdeal.τ).loc Cert.DaInRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)
      ∧ m' ((c.tc : Thread Cert.AbOutRefIdeal.nD Cert.AbOutRefIdeal.τ).loc Cert.AbOutRefIdeal.main_arg5) = m ((c.tc : Thread Cert.AbOutIdeal.nD Cert.AbOutIdeal.τ).loc Cert.AbOutIdeal.main_arg5)) →
    ∃ (v0 : (c : Dev Cert.AbOutIdeal.nD) → Buf (Elt Ideal) ((c.tc : Thread Cert.AbOutIdeal.nD Cert.AbOutIdeal.τ).loc Cert.AbOutIdeal.main_v7)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v7) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4)
          ∧ r.2.mem ((c.tc : Thread Cert.AbOutIdeal.nD Cert.AbOutIdeal.τ).loc Cert.AbOutIdeal.main_arg5) = m ((c.tc : Thread Cert.AbOutIdeal.nD Cert.AbOutIdeal.τ).loc Cert.AbOutIdeal.main_arg5))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v25) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4)
          ∧ r.2.mem ((c.tc : Thread Cert.AbOutRefIdeal.nD Cert.AbOutRefIdeal.τ).loc Cert.AbOutRefIdeal.main_arg5) = m' ((c.tc : Thread Cert.AbOutRefIdeal.nD Cert.AbOutRefIdeal.τ).loc Cert.AbOutRefIdeal.main_arg5))

def preserves_DaOut_DaOutIdeal : Prop :=
  True

def algebraic_DaOutIdeal_DaOutRefIdeal [hDaOutIdeal : Cert.DaOutIdeal.Facts] [hDaOutRefIdeal : Cert.DaOutRefIdeal.Facts] : Prop :=
  ∀ (m : (ℓ : Loc Cert.DaOutIdeal.nD Cert.DaOutIdeal.τ Cert.DaOutIdeal.sig) → Buf (Elt Ideal) ℓ) (g : Dev Cert.DaOutIdeal.nD → PrngReg)
    (m' : (ℓ : Loc Cert.DaOutRefIdeal.nD Cert.DaOutRefIdeal.τ Cert.DaOutRefIdeal.sig) → Buf (Elt Ideal) ℓ) (g' : Dev Cert.DaOutRefIdeal.nD → PrngReg), Pre_DaOutIdeal m →
    (∀ c : Dev Cert.DaOutIdeal.nD,
      m' ((c.tc : Thread Cert.DaOutRefIdeal.nD Cert.DaOutRefIdeal.τ).loc Cert.DaOutRefIdeal.main_arg0) = m ((c.tc : Thread Cert.DaOutIdeal.nD Cert.DaOutIdeal.τ).loc Cert.DaOutIdeal.main_arg0)
      ∧ m' ((c.tc : Thread Cert.DaOutRefIdeal.nD Cert.DaOutRefIdeal.τ).loc Cert.DaOutRefIdeal.main_arg1) = m ((c.tc : Thread Cert.DaOutIdeal.nD Cert.DaOutIdeal.τ).loc Cert.DaOutIdeal.main_arg1)
      ∧ m' ((c.tc : Thread Cert.DaOutRefIdeal.nD Cert.DaOutRefIdeal.τ).loc Cert.DaOutRefIdeal.main_arg2) = m ((c.tc : Thread Cert.DaOutIdeal.nD Cert.DaOutIdeal.τ).loc Cert.DaOutIdeal.main_arg2)
      ∧ m' ((c.tc : Thread Cert.DaOutRefIdeal.nD Cert.DaOutRefIdeal.τ).loc Cert.DaOutRefIdeal.main_arg3) = m ((c.tc : Thread Cert.DaOutIdeal.nD Cert.DaOutIdeal.τ).loc Cert.DaOutIdeal.main_arg3)
      ∧ m' ((c.tc : Thread Cert.DaOutRefIdeal.nD Cert.DaOutRefIdeal.τ).loc Cert.DaOutRefIdeal.main_arg4) = m ((c.tc : Thread Cert.DaOutIdeal.nD Cert.DaOutIdeal.τ).loc Cert.DaOutIdeal.main_arg4)) →
    ∃ (v0 : (c : Dev Cert.DaOutIdeal.nD) → Buf (Elt Ideal) ((c.tc : Thread Cert.DaOutIdeal.nD Cert.DaOutIdeal.τ).loc Cert.DaOutIdeal.main_v5)),
      θ_run (Cert.DaOutIdeal.defs (F := Ideal)) (onTc (τ := Cert.DaOutIdeal.τ) (Cert.DaOutIdeal.main (F := Ideal))) ⟨m, fun _ => 0, g⟩ (fun r => ∀ c : Dev Cert.DaOutIdeal.nD,
          r.2.mem ((c.tc : Thread Cert.DaOutIdeal.nD Cert.DaOutIdeal.τ).loc Cert.DaOutIdeal.main_v5) = v0 c
          ∧ r.2.mem ((c.tc : Thread Cert.DaOutIdeal.nD Cert.DaOutIdeal.τ).loc Cert.DaOutIdeal.main_arg0) = m ((c.tc : Thread Cert.DaOutIdeal.nD Cert.DaOutIdeal.τ).loc Cert.DaOutIdeal.main_arg0)
          ∧ r.2.mem ((c.tc : Thread Cert.DaOutIdeal.nD Cert.DaOutIdeal.τ).loc Cert.DaOutIdeal.main_arg1) = m ((c.tc : Thread Cert.DaOutIdeal.nD Cert.DaOutIdeal.τ).loc Cert.DaOutIdeal.main_arg1)
          ∧ r.2.mem ((c.tc : Thread Cert.DaOutIdeal.nD Cert.DaOutIdeal.τ).loc Cert.DaOutIdeal.main_arg2) = m ((c.tc : Thread Cert.DaOutIdeal.nD Cert.DaOutIdeal.τ).loc Cert.DaOutIdeal.main_arg2)
          ∧ r.2.mem ((c.tc : Thread Cert.DaOutIdeal.nD Cert.DaOutIdeal.τ).loc Cert.DaOutIdeal.main_arg3) = m ((c.tc : Thread Cert.DaOutIdeal.nD Cert.DaOutIdeal.τ).loc Cert.DaOutIdeal.main_arg3)
          ∧ r.2.mem ((c.tc : Thread Cert.DaOutIdeal.nD Cert.DaOutIdeal.τ).loc Cert.DaOutIdeal.main_arg4) = m ((c.tc : Thread Cert.DaOutIdeal.nD Cert.DaOutIdeal.τ).loc Cert.DaOutIdeal.main_arg4))
      ∧ θ_run (Cert.DaOutRefIdeal.defs (F := Ideal)) (onTc (τ := Cert.DaOutRefIdeal.τ) (Cert.DaOutRefIdeal.main (F := Ideal))) ⟨m', fun _ => 0, g'⟩ (fun r => ∀ c : Dev Cert.DaOutRefIdeal.nD,
          r.2.mem ((c.tc : Thread Cert.DaOutRefIdeal.nD Cert.DaOutRefIdeal.τ).loc Cert.DaOutRefIdeal.main_v24) = v0 c
          ∧ r.2.mem ((c.tc : Thread Cert.DaOutRefIdeal.nD Cert.DaOutRefIdeal.τ).loc Cert.DaOutRefIdeal.main_arg0) = m' ((c.tc : Thread Cert.DaOutRefIdeal.nD Cert.DaOutRefIdeal.τ).loc Cert.DaOutRefIdeal.main_arg0)
          ∧ r.2.mem ((c.tc : Thread Cert.DaOutRefIdeal.nD Cert.DaOutRefIdeal.τ).loc Cert.DaOutRefIdeal.main_arg1) = m' ((c.tc : Thread Cert.DaOutRefIdeal.nD Cert.DaOutRefIdeal.τ).loc Cert.DaOutRefIdeal.main_arg1)
          ∧ r.2.mem ((c.tc : Thread Cert.DaOutRefIdeal.nD Cert.DaOutRefIdeal.τ).loc Cert.DaOutRefIdeal.main_arg2) = m' ((c.tc : Thread Cert.DaOutRefIdeal.nD Cert.DaOutRefIdeal.τ).loc Cert.DaOutRefIdeal.main_arg2)
          ∧ r.2.mem ((c.tc : Thread Cert.DaOutRefIdeal.nD Cert.DaOutRefIdeal.τ).loc Cert.DaOutRefIdeal.main_arg3) = m' ((c.tc : Thread Cert.DaOutRefIdeal.nD Cert.DaOutRefIdeal.τ).loc Cert.DaOutRefIdeal.main_arg3)
          ∧ r.2.mem ((c.tc : Thread Cert.DaOutRefIdeal.nD Cert.DaOutRefIdeal.τ).loc Cert.DaOutRefIdeal.main_arg4) = m' ((c.tc : Thread Cert.DaOutRefIdeal.nD Cert.DaOutRefIdeal.τ).loc Cert.DaOutRefIdeal.main_arg4))

def preserves_MoeOut_MoeOutIdeal : Prop :=
  True

def algebraic_MoeOutIdeal_MoeOutRefIdeal [hMoeOutIdeal : Cert.MoeOutIdeal.Facts] [hMoeOutRefIdeal : Cert.MoeOutRefIdeal.Facts] : Prop :=
  ∀ (m : (ℓ : Loc Cert.MoeOutIdeal.nD Cert.MoeOutIdeal.τ Cert.MoeOutIdeal.sig) → Buf (Elt Ideal) ℓ) (g : Dev Cert.MoeOutIdeal.nD → PrngReg)
    (m' : (ℓ : Loc Cert.MoeOutRefIdeal.nD Cert.MoeOutRefIdeal.τ Cert.MoeOutRefIdeal.sig) → Buf (Elt Ideal) ℓ) (g' : Dev Cert.MoeOutRefIdeal.nD → PrngReg), Pre_MoeOutIdeal m →
    (∀ c : Dev Cert.MoeOutIdeal.nD,
      m' ((c.tc : Thread Cert.MoeOutRefIdeal.nD Cert.MoeOutRefIdeal.τ).loc Cert.MoeOutRefIdeal.main_arg0) = m ((c.tc : Thread Cert.MoeOutIdeal.nD Cert.MoeOutIdeal.τ).loc Cert.MoeOutIdeal.main_arg0)
      ∧ m' ((c.tc : Thread Cert.MoeOutRefIdeal.nD Cert.MoeOutRefIdeal.τ).loc Cert.MoeOutRefIdeal.main_arg1) = m ((c.tc : Thread Cert.MoeOutIdeal.nD Cert.MoeOutIdeal.τ).loc Cert.MoeOutIdeal.main_arg1)
      ∧ m' ((c.tc : Thread Cert.MoeOutRefIdeal.nD Cert.MoeOutRefIdeal.τ).loc Cert.MoeOutRefIdeal.main_arg2) = m ((c.tc : Thread Cert.MoeOutIdeal.nD Cert.MoeOutIdeal.τ).loc Cert.MoeOutIdeal.main_arg2)
      ∧ m' ((c.tc : Thread Cert.MoeOutRefIdeal.nD Cert.MoeOutRefIdeal.τ).loc Cert.MoeOutRefIdeal.main_arg3) = m ((c.tc : Thread Cert.MoeOutIdeal.nD Cert.MoeOutIdeal.τ).loc Cert.MoeOutIdeal.main_arg3)
      ∧ m' ((c.tc : Thread Cert.MoeOutRefIdeal.nD Cert.MoeOutRefIdeal.τ).loc Cert.MoeOutRefIdeal.main_arg4) = m ((c.tc : Thread Cert.MoeOutIdeal.nD Cert.MoeOutIdeal.τ).loc Cert.MoeOutIdeal.main_arg4)
      ∧ m' ((c.tc : Thread Cert.MoeOutRefIdeal.nD Cert.MoeOutRefIdeal.τ).loc Cert.MoeOutRefIdeal.main_arg5) = m ((c.tc : Thread Cert.MoeOutIdeal.nD Cert.MoeOutIdeal.τ).loc Cert.MoeOutIdeal.main_arg5)
      ∧ m' ((c.tc : Thread Cert.MoeOutRefIdeal.nD Cert.MoeOutRefIdeal.τ).loc Cert.MoeOutRefIdeal.main_arg6) = m ((c.tc : Thread Cert.MoeOutIdeal.nD Cert.MoeOutIdeal.τ).loc Cert.MoeOutIdeal.main_arg6)
      ∧ m' ((c.tc : Thread Cert.MoeOutRefIdeal.nD Cert.MoeOutRefIdeal.τ).loc Cert.MoeOutRefIdeal.main_arg7) = m ((c.tc : Thread Cert.MoeOutIdeal.nD Cert.MoeOutIdeal.τ).loc Cert.MoeOutIdeal.main_arg7)
      ∧ m' ((c.tc : Thread Cert.MoeOutRefIdeal.nD Cert.MoeOutRefIdeal.τ).loc Cert.MoeOutRefIdeal.main_arg8) = m ((c.tc : Thread Cert.MoeOutIdeal.nD Cert.MoeOutIdeal.τ).loc Cert.MoeOutIdeal.main_arg8)) →
    ∃ (v0 : (c : Dev Cert.MoeOutIdeal.nD) → Buf (Elt Ideal) ((c.tc : Thread Cert.MoeOutIdeal.nD Cert.MoeOutIdeal.τ).loc Cert.MoeOutIdeal.main_v12)),
      θ_run (Cert.MoeOutIdeal.defs (F := Ideal)) (onTc (τ := Cert.MoeOutIdeal.τ) (Cert.MoeOutIdeal.main (F := Ideal))) ⟨m, fun _ => 0, g⟩ (fun r => ∀ c : Dev Cert.MoeOutIdeal.nD,
          r.2.mem ((c.tc : Thread Cert.MoeOutIdeal.nD Cert.MoeOutIdeal.τ).loc Cert.MoeOutIdeal.main_v12) = v0 c
          ∧ r.2.mem ((c.tc : Thread Cert.MoeOutIdeal.nD Cert.MoeOutIdeal.τ).loc Cert.MoeOutIdeal.main_arg0) = m ((c.tc : Thread Cert.MoeOutIdeal.nD Cert.MoeOutIdeal.τ).loc Cert.MoeOutIdeal.main_arg0)
          ∧ r.2.mem ((c.tc : Thread Cert.MoeOutIdeal.nD Cert.MoeOutIdeal.τ).loc Cert.MoeOutIdeal.main_arg1) = m ((c.tc : Thread Cert.MoeOutIdeal.nD Cert.MoeOutIdeal.τ).loc Cert.MoeOutIdeal.main_arg1)
          ∧ r.2.mem ((c.tc : Thread Cert.MoeOutIdeal.nD Cert.MoeOutIdeal.τ).loc Cert.MoeOutIdeal.main_arg2) = m ((c.tc : Thread Cert.MoeOutIdeal.nD Cert.MoeOutIdeal.τ).loc Cert.MoeOutIdeal.main_arg2)
          ∧ r.2.mem ((c.tc : Thread Cert.MoeOutIdeal.nD Cert.MoeOutIdeal.τ).loc Cert.MoeOutIdeal.main_arg3) = m ((c.tc : Thread Cert.MoeOutIdeal.nD Cert.MoeOutIdeal.τ).loc Cert.MoeOutIdeal.main_arg3)
          ∧ r.2.mem ((c.tc : Thread Cert.MoeOutIdeal.nD Cert.MoeOutIdeal.τ).loc Cert.MoeOutIdeal.main_arg4) = m ((c.tc : Thread Cert.MoeOutIdeal.nD Cert.MoeOutIdeal.τ).loc Cert.MoeOutIdeal.main_arg4)
          ∧ r.2.mem ((c.tc : Thread Cert.MoeOutIdeal.nD Cert.MoeOutIdeal.τ).loc Cert.MoeOutIdeal.main_arg5) = m ((c.tc : Thread Cert.MoeOutIdeal.nD Cert.MoeOutIdeal.τ).loc Cert.MoeOutIdeal.main_arg5)
          ∧ r.2.mem ((c.tc : Thread Cert.MoeOutIdeal.nD Cert.MoeOutIdeal.τ).loc Cert.MoeOutIdeal.main_arg6) = m ((c.tc : Thread Cert.MoeOutIdeal.nD Cert.MoeOutIdeal.τ).loc Cert.MoeOutIdeal.main_arg6)
          ∧ r.2.mem ((c.tc : Thread Cert.MoeOutIdeal.nD Cert.MoeOutIdeal.τ).loc Cert.MoeOutIdeal.main_arg7) = m ((c.tc : Thread Cert.MoeOutIdeal.nD Cert.MoeOutIdeal.τ).loc Cert.MoeOutIdeal.main_arg7)
          ∧ r.2.mem ((c.tc : Thread Cert.MoeOutIdeal.nD Cert.MoeOutIdeal.τ).loc Cert.MoeOutIdeal.main_arg8) = m ((c.tc : Thread Cert.MoeOutIdeal.nD Cert.MoeOutIdeal.τ).loc Cert.MoeOutIdeal.main_arg8))
      ∧ θ_run (Cert.MoeOutRefIdeal.defs (F := Ideal)) (onTc (τ := Cert.MoeOutRefIdeal.τ) (Cert.MoeOutRefIdeal.main (F := Ideal))) ⟨m', fun _ => 0, g'⟩ (fun r => ∀ c : Dev Cert.MoeOutRefIdeal.nD,
          r.2.mem ((c.tc : Thread Cert.MoeOutRefIdeal.nD Cert.MoeOutRefIdeal.τ).loc Cert.MoeOutRefIdeal.main_v40) = v0 c
          ∧ r.2.mem ((c.tc : Thread Cert.MoeOutRefIdeal.nD Cert.MoeOutRefIdeal.τ).loc Cert.MoeOutRefIdeal.main_arg0) = m' ((c.tc : Thread Cert.MoeOutRefIdeal.nD Cert.MoeOutRefIdeal.τ).loc Cert.MoeOutRefIdeal.main_arg0)
          ∧ r.2.mem ((c.tc : Thread Cert.MoeOutRefIdeal.nD Cert.MoeOutRefIdeal.τ).loc Cert.MoeOutRefIdeal.main_arg1) = m' ((c.tc : Thread Cert.MoeOutRefIdeal.nD Cert.MoeOutRefIdeal.τ).loc Cert.MoeOutRefIdeal.main_arg1)
          ∧ r.2.mem ((c.tc : Thread Cert.MoeOutRefIdeal.nD Cert.MoeOutRefIdeal.τ).loc Cert.MoeOutRefIdeal.main_arg2) = m' ((c.tc : Thread Cert.MoeOutRefIdeal.nD Cert.MoeOutRefIdeal.τ).loc Cert.MoeOutRefIdeal.main_arg2)
          ∧ r.2.mem ((c.tc : Thread Cert.MoeOutRefIdeal.nD Cert.MoeOutRefIdeal.τ).loc Cert.MoeOutRefIdeal.main_arg3) = m' ((c.tc : Thread Cert.MoeOutRefIdeal.nD Cert.MoeOutRefIdeal.τ).loc Cert.MoeOutRefIdeal.main_arg3)
          ∧ r.2.mem ((c.tc : Thread Cert.MoeOutRefIdeal.nD Cert.MoeOutRefIdeal.τ).loc Cert.MoeOutRefIdeal.main_arg4) = m' ((c.tc : Thread Cert.MoeOutRefIdeal.nD Cert.MoeOutRefIdeal.τ).loc Cert.MoeOutRefIdeal.main_arg4)
          ∧ r.2.mem ((c.tc : Thread Cert.MoeOutRefIdeal.nD Cert.MoeOutRefIdeal.τ).loc Cert.MoeOutRefIdeal.main_arg5) = m' ((c.tc : Thread Cert.MoeOutRefIdeal.nD Cert.MoeOutRefIdeal.τ).loc Cert.MoeOutRefIdeal.main_arg5)
          ∧ r.2.mem ((c.tc : Thread Cert.MoeOutRefIdeal.nD Cert.MoeOutRefIdeal.τ).loc Cert.MoeOutRefIdeal.main_arg6) = m' ((c.tc : Thread Cert.MoeOutRefIdeal.nD Cert.MoeOutRefIdeal.τ).loc Cert.MoeOutRefIdeal.main_arg6)
          ∧ r.2.mem ((c.tc : Thread Cert.MoeOutRefIdeal.nD Cert.MoeOutRefIdeal.τ).loc Cert.MoeOutRefIdeal.main_arg7) = m' ((c.tc : Thread Cert.MoeOutRefIdeal.nD Cert.MoeOutRefIdeal.τ).loc Cert.MoeOutRefIdeal.main_arg7)
          ∧ r.2.mem ((c.tc : Thread Cert.MoeOutRefIdeal.nD Cert.MoeOutRefIdeal.τ).loc Cert.MoeOutRefIdeal.main_arg8) = m' ((c.tc : Thread Cert.MoeOutRefIdeal.nD Cert.MoeOutRefIdeal.τ).loc Cert.MoeOutRefIdeal.main_arg8))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)) →
    ∃ (v0 : (c : Dev Cert.MixNormIdeal.nD) → Buf (Elt Ideal) ((c.tc : Thread Cert.MixNormIdeal.nD Cert.MixNormIdeal.τ).loc Cert.MixNormIdeal.main_v4)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v4) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v55) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)) →
    ∃ (v0 : (c : Dev Cert.FfnNormIdeal.nD) → Buf (Elt Ideal) ((c.tc : Thread Cert.FfnNormIdeal.nD Cert.FfnNormIdeal.τ).loc Cert.FfnNormIdeal.main_v5_0)) (v1 : (c : Dev Cert.FfnNormIdeal.nD) → Buf (Elt Ideal) ((c.tc : Thread Cert.FfnNormIdeal.nD Cert.FfnNormIdeal.τ).loc Cert.FfnNormIdeal.main_v5_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v5_0) = v0 c
          ∧ r.2.mem ((c.tc : Thread Cert.FfnNormIdeal.nD Cert.FfnNormIdeal.τ).loc Cert.FfnNormIdeal.main_v5_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v55) = v0 c
          ∧ r.2.mem ((c.tc : Thread Cert.FfnNormRefIdeal.nD Cert.FfnNormRefIdeal.τ).loc Cert.FfnNormRefIdeal.main_v57) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)
      ∧ m' ((c.tc : Thread Cert.ModulationRefIdeal.nD Cert.ModulationRefIdeal.τ).loc Cert.ModulationRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v9)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v9) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v81) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2)
          ∧ r.2.mem ((c.tc : Thread Cert.ModulationRefIdeal.nD Cert.ModulationRefIdeal.τ).loc Cert.ModulationRefIdeal.main_arg3) = m' ((c.tc : Thread Cert.ModulationRefIdeal.nD Cert.ModulationRefIdeal.τ).loc Cert.ModulationRefIdeal.main_arg3))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v1_0)) (v1 : (c : Dev Cert.ShortConvIdeal.nD) → Buf (Elt Ideal) ((c.tc : Thread Cert.ShortConvIdeal.nD Cert.ShortConvIdeal.τ).loc Cert.ShortConvIdeal.main_v1_1)) (v2 : (c : Dev Cert.ShortConvIdeal.nD) → Buf (Elt Ideal) ((c.tc : Thread Cert.ShortConvIdeal.nD Cert.ShortConvIdeal.τ).loc Cert.ShortConvIdeal.main_v1_2)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v1_0) = v0 c
          ∧ r.2.mem ((c.tc : Thread Cert.ShortConvIdeal.nD Cert.ShortConvIdeal.τ).loc Cert.ShortConvIdeal.main_v1_1) = v1 c
          ∧ r.2.mem ((c.tc : Thread Cert.ShortConvIdeal.nD Cert.ShortConvIdeal.τ).loc Cert.ShortConvIdeal.main_v1_2) = v2 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v52) = v0 c
          ∧ r.2.mem ((c.tc : Thread Cert.ShortConvRefIdeal.nD Cert.ShortConvRefIdeal.τ).loc Cert.ShortConvRefIdeal.main_v53) = v1 c
          ∧ r.2.mem ((c.tc : Thread Cert.ShortConvRefIdeal.nD Cert.ShortConvRefIdeal.τ).loc Cert.ShortConvRefIdeal.main_v54) = v2 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def Claim : Prop :=
  ∃ (hKernel : Cert.Kernel.Facts) (hKernelIdeal : Cert.KernelIdeal.Facts) (hReferenceIdeal : Cert.ReferenceIdeal.Facts) (hAbIn : Cert.AbIn.Facts) (hAbInIdeal : Cert.AbInIdeal.Facts) (hAbInRefIdeal : Cert.AbInRefIdeal.Facts) (hDaIn : Cert.DaIn.Facts) (hDaInIdeal : Cert.DaInIdeal.Facts) (hDaInRefIdeal : Cert.DaInRefIdeal.Facts) (hAbOut : Cert.AbOut.Facts) (hAbOutIdeal : Cert.AbOutIdeal.Facts) (hAbOutRefIdeal : Cert.AbOutRefIdeal.Facts) (hDaOut : Cert.DaOut.Facts) (hDaOutIdeal : Cert.DaOutIdeal.Facts) (hDaOutRefIdeal : Cert.DaOutRefIdeal.Facts) (hMoeOut : Cert.MoeOut.Facts) (hMoeOutIdeal : Cert.MoeOutIdeal.Facts) (hMoeOutRefIdeal : Cert.MoeOutRefIdeal.Facts) (hMixNorm : Cert.MixNorm.Facts) (hMixNormIdeal : Cert.MixNormIdeal.Facts) (hMixNormRefIdeal : Cert.MixNormRefIdeal.Facts) (hFinalNorm : Cert.FinalNorm.Facts) (hFinalNormIdeal : Cert.FinalNormIdeal.Facts) (hFinalNormRefIdeal : Cert.FinalNormRefIdeal.Facts) (hFfnNorm : Cert.FfnNorm.Facts) (hFfnNormIdeal : Cert.FfnNormIdeal.Facts) (hFfnNormRefIdeal : Cert.FfnNormRefIdeal.Facts) (hModulation : Cert.Modulation.Facts) (hModulationIdeal : Cert.ModulationIdeal.Facts) (hModulationRefIdeal : Cert.ModulationRefIdeal.Facts) (hShortConv : Cert.ShortConv.Facts) (hShortConvIdeal : Cert.ShortConvIdeal.Facts) (hShortConvRefIdeal : Cert.ShortConvRefIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_AbIn (hAbIn := hAbIn)
    ∧ quiescent_AbInIdeal (hAbInIdeal := hAbInIdeal)
    ∧ quiescent_AbInRefIdeal (hAbInRefIdeal := hAbInRefIdeal)
    ∧ quiescent_DaIn (hDaIn := hDaIn)
    ∧ quiescent_DaInIdeal (hDaInIdeal := hDaInIdeal)
    ∧ quiescent_DaInRefIdeal (hDaInRefIdeal := hDaInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_DaOut (hDaOut := hDaOut)
    ∧ quiescent_DaOutIdeal (hDaOutIdeal := hDaOutIdeal)
    ∧ quiescent_DaOutRefIdeal (hDaOutRefIdeal := hDaOutRefIdeal)
    ∧ quiescent_MoeOut (hMoeOut := hMoeOut)
    ∧ quiescent_MoeOutIdeal (hMoeOutIdeal := hMoeOutIdeal)
    ∧ quiescent_MoeOutRefIdeal (hMoeOutRefIdeal := hMoeOutRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_AbIn_AbInIdeal
    ∧ algebraic_AbInIdeal_AbInRefIdeal (hAbInIdeal := hAbInIdeal) (hAbInRefIdeal := hAbInRefIdeal)
    ∧ preserves_DaIn_DaInIdeal
    ∧ algebraic_DaInIdeal_DaInRefIdeal (hDaInIdeal := hDaInIdeal) (hDaInRefIdeal := hDaInRefIdeal)
    ∧ preserves_AbOut_AbOutIdeal
    ∧ algebraic_AbOutIdeal_AbOutRefIdeal (hAbOutIdeal := hAbOutIdeal) (hAbOutRefIdeal := hAbOutRefIdeal)
    ∧ preserves_DaOut_DaOutIdeal
    ∧ algebraic_DaOutIdeal_DaOutRefIdeal (hDaOutIdeal := hDaOutIdeal) (hDaOutRefIdeal := hDaOutRefIdeal)
    ∧ preserves_MoeOut_MoeOutIdeal
    ∧ algebraic_MoeOutIdeal_MoeOutRefIdeal (hMoeOutIdeal := hMoeOutIdeal) (hMoeOutRefIdeal := hMoeOutRefIdeal)
    ∧ preserves_MixNorm_MixNormIdeal
    ∧ algebraic_MixNormIdeal_MixNormRefIdeal (hMixNormIdeal := hMixNormIdeal) (hMixNormRefIdeal := hMixNormRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_Modulation_ModulationIdeal
    ∧ algebraic_ModulationIdeal_ModulationRefIdeal (hModulationIdeal := hModulationIdeal) (hModulationRefIdeal := hModulationRefIdeal)
    ∧ preserves_ShortConv_ShortConvIdeal
    ∧ algebraic_ShortConvIdeal_ShortConvRefIdeal (hShortConvIdeal := hShortConvIdeal) (hShortConvRefIdeal := hShortConvRefIdeal)
-- ==== Pre_finite_args.lean ====
abbrev S16640x1024 : Shape := ⟨2, ![16640, 1024]⟩
abbrev S4x64 : Shape := ⟨2, ![4, 64]⟩
abbrev S128 : Shape := ⟨1, ![128]⟩
abbrev S_ : Shape := ⟨0, ![]⟩

class Facts : Prop where
  bcast_S_S16640x1024 : S_.BroadcastsInDim S16640x1024 (![] : Fin 0 → Fin S16640x1024.rank)
  bcast_S_S4x64 : S_.BroadcastsInDim S4x64 (![] : Fin 0 → Fin S4x64.rank)

variable [Facts]

def fn {F : FTy → Type} [FloatOps F] (main_arg0 : FVec F S16640x1024 .f32) (main_arg1 : FVec F S16640x1024 .f32) (main_arg2 : FVec F S16640x1024 .f32) (main_arg3 : FVec F S4x64 .f32) (main_arg4 : FVec F S128 .f32) : IVec S16640x1024 1 × IVec S16640x1024 1 × IVec S16640x1024 1 × IVec S4x64 1 :=
  let main_v0 : FVec F S16640x1024 .f32 := Host.absf main_arg0
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_v3 : FVec F S16640x1024 .f32 := Host.absf main_arg1
  let main_cst_0 : FVec F S_ .f32 := constant S_ .f32 0x7F800000#32
  let main_v4 : FVec F S16640x1024 .f32 := broadcastInDim S16640x1024 ![] bcast_S_S16640x1024 main_cst_0
  let main_v5 : IVec S16640x1024 1 := cmpf .olt main_v3 main_v4
  let main_v6 : FVec F S16640x1024 .f32 := Host.absf main_arg2
  let main_cst_1 : FVec F S_ .f32 := constant S_ .f32 0x7F800000#32
  let main_v7 : FVec F S16640x1024 .f32 := broadcastInDim S16640x1024 ![] bcast_S_S16640x1024 main_cst_1
  let main_v8 : IVec S16640x1024 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Kernel.lean ====
abbrev S16640x1024 : Shape := ⟨2, ![16640, 1024]⟩
abbrev S4x64 : Shape := ⟨2, ![4, 64]⟩
abbrev S128 : Shape := ⟨1, ![128]⟩
abbrev S1024x16640 : Shape := ⟨2, ![1024, 16640]⟩
abbrev S8x128x16640 : Shape := ⟨3, ![8, 128, 16640]⟩
abbrev S_ : Shape := ⟨0, ![]⟩
abbrev S8x16x16640 : Shape := ⟨3, ![8, 16, 16640]⟩
abbrev S8x144x16640 : Shape := ⟨3, ![8, 144, 16640]⟩
abbrev S1152x16640 : Shape := ⟨2, ![1152, 16640]⟩
abbrev S1x64 : Shape := ⟨2, ![1, 64]⟩
abbrev S64 : Shape := ⟨1, ![64]⟩
abbrev S1 : Shape := ⟨1, ![1]⟩
abbrev S1x128 : Shape := ⟨2, ![1, 128]⟩
abbrev S128x1280 : Shape := ⟨2, ![128, 1280]⟩
abbrev S16640x128 : Shape := ⟨2, ![16640, 128]⟩
abbrev S144x16640 : Shape := ⟨2, ![144, 16640]⟩
abbrev S1280x128 : Shape := ⟨2, ![1280, 128]⟩
abbrev S2x1x1280 : Shape := ⟨3, ![2, 1, 1280]⟩
abbrev S2x144x1280 : Shape := ⟨3, ![2, 144, 1280]⟩
abbrev S64x1280 : Shape := ⟨2, ![64, 1280]⟩
abbrev S16x64 : Shape := ⟨2, ![16, 64]⟩
abbrev S16x1280 : Shape := ⟨2, ![16, 1280]⟩
abbrev S1280 : Shape := ⟨1, ![1280]⟩
abbrev S1x1280 : Shape := ⟨2, ![1, 1280]⟩
abbrev S1x1x1280 : Shape := ⟨3, ![1, 1, 1280]⟩
abbrev S1280x64 : Shape := ⟨2, ![1280, 64]⟩
abbrev S1280x1280 : Shape := ⟨2, ![1280, 1280]⟩
abbrev S144x1280 : Shape := ⟨2, ![144, 1280]⟩
abbrev S1x144x1280 : Shape := ⟨3, ![1, 144, 1280]⟩
abbrev S1x2x1x1280 : Shape := ⟨4, ![1, 2, 1, 1280]⟩
abbrev S1x1x1x1 : Shape := ⟨4, ![1, 1, 1, 1]⟩
abbrev S1280x1 : Shape := ⟨2, ![1280, 1]⟩
abbrev S1x128x1280 : Shape := ⟨3, ![1, 128, 1280]⟩

abbrev nBuf : Space → Nat
  | .hbm => 36
  | .vmem => 12
  | .smem => 1
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S4x64, .f32⟩
  | .hbm, ⟨4, _⟩ => ⟨S128, .f32⟩
  | .hbm, ⟨5, _⟩ => ⟨S1024x16640, .f32⟩
  | .hbm, ⟨6, _⟩ => ⟨S1024x16640, .f32⟩
  | .hbm, ⟨7, _⟩ => ⟨S8x128x16640, .f32⟩
  | .hbm, ⟨8, _⟩ => ⟨S_, .f32⟩
  | .hbm, ⟨9, _⟩ => ⟨S8x16x16640, .f32⟩
  | .hbm, ⟨10, _⟩ => ⟨S8x144x16640, .f32⟩
  | .hbm, ⟨11, _⟩ => ⟨S1152x16640, .f32⟩
  | .hbm, ⟨12, _⟩ => ⟨S1152x16640, .bf16⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16640x1024, .bf16⟩
  | .hbm, ⟨33, _⟩ => ⟨S1, .f32⟩
  | .hbm, ⟨34, _⟩ => ⟨S1x128, .f32⟩
  | .hbm, ⟨35, _⟩ => ⟨S16640x1024, .bf16⟩
  | .local _ .vmem, ⟨0, _⟩ => ⟨S128x1280, .f32⟩
  | .local _ .vmem, ⟨1, _⟩ => ⟨S128x1280, .f32⟩
  | .local _ .vmem, ⟨2, _⟩ => ⟨S16640x128, .bf16⟩
  | .local _ .vmem, ⟨3, _⟩ => ⟨S16640x128, .bf16⟩
  | .local _ .vmem, ⟨4, _⟩ => ⟨S144x16640, .bf16⟩
  | .local _ .vmem, ⟨5, _⟩ => ⟨S144x16640, .bf16⟩
  | .local _ .vmem, ⟨6, _⟩ => ⟨S1x128, .f32⟩
  | .local _ .vmem, ⟨7, _⟩ => ⟨S1280x128, .bf16⟩
  | .local _ .vmem, ⟨8, _⟩ => ⟨S1280x128, .bf16⟩
  | .local _ .vmem, ⟨9, _⟩ => ⟨S2x1x1280, .f32⟩
  | .local _ .vmem, ⟨10, _⟩ => ⟨S2x1x1280, .f32⟩
  | .local _ .vmem, ⟨11, _⟩ => ⟨S2x144x1280, .f32⟩
  | .local _ .smem, ⟨0, _⟩ => ⟨S1, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c12_i32 : BitVec 32 := 12#32
  let v4 : BitVec 1 := Scalar.cmpi .ne arg1 c12_i32
  let v5 : BitVec 32 := Scalar.extui v4
  let c0_i32 : BitVec 32 := 0#32
  let v6 : BitVec 1 := Scalar.cmpi .ne v5 c0_i32
  v6

@[reducible] def k0_t1_loop : Scf.Loop 32 :=
  let c0_i32_46 : BitVec 32 := 0#32
  let c13_i32 : BitVec 32 := 13#32
  let v75 : BitVec 32 := Scalar.addi c0_i32_46 c13_i32
  let c1_i32 : BitVec 32 := 1#32
  ⟨c0_i32_46, v75, c1_i32⟩
def k0_mult1 (k0_t1 : Fin k0_t1_loop.trips) : BitVec 32 :=
  let c0_i32_46 : BitVec 32 := 0#32
  let c1_i32 : BitVec 32 := 1#32
  let arg11 : BitVec 32 := Scf.iv c0_i32_46 c1_i32 k0_t1
  let c1280_i32 : BitVec 32 := 1280#32
  let v84 : BitVec 32 := Scalar.muli arg11 c1280_i32
  v84
def k0_off1 (k0_t1 : Fin k0_t1_loop.trips) : Fin 2 → Nat :=
  let c0_i32_46 : BitVec 32 := 0#32
  let c1_i32 : BitVec 32 := 1#32
  let arg11 : BitVec 32 := Scf.iv c0_i32_46 c1_i32 k0_t1
  let c1280_i32 : BitVec 32 := 1280#32
  let v84 : BitVec 32 := Scalar.muli arg11 c1280_i32
  let v85 : BitVec 32 := v84
  let v91 : Index := Scalar.indexCast v85
  let c0_57 : Index := 0#32
  ![v91.toNat, 0]
def k0_off2 (k0_t1 : Fin k0_t1_loop.trips) : Fin 2 → Nat :=
  let c0_63 : Index := 0#32
  let c0_i32_46 : BitVec 32 := 0#32
  let c1_i32 : BitVec 32 := 1#32
  let arg11 : BitVec 32 := Scf.iv c0_i32_46 c1_i32 k0_t1
  let c1280_i32 : BitVec 32 := 1280#32
  let v84 : BitVec 32 := Scalar.muli arg11 c1280_i32
  let v85 : BitVec 32 := v84
  let v99 : Index := Scalar.indexCast v85
  ![0, v99.toNat]
def k0_off3 (k0_t1 : Fin k0_t1_loop.trips) : Fin 2 → Nat :=
  let c0_i32_46 : BitVec 32 := 0#32
  let c1_i32 : BitVec 32 := 1#32
  let arg11 : BitVec 32 := Scf.iv c0_i32_46 c1_i32 k0_t1
  let c1280_i32 : BitVec 32 := 1280#32
  let v84 : BitVec 32 := Scalar.muli arg11 c1280_i32
  let v85 : BitVec 32 := v84
  let v133 : Index := Scalar.indexCast v85
  let c64_83 : Index := 64#32
  ![v133.toNat, 64]
@[reducible] def k0_t2_loop : Scf.Loop 32 :=
  let c0_i32_62 : BitVec 32 := 0#32
  let c13_i32_63 : BitVec 32 := 13#32
  let v92 : BitVec 32 := Scalar.addi c0_i32_62 c13_i32_63
  let c1_i32_64 : BitVec 32 := 1#32
  ⟨c0_i32_62, v92, c1_i32_64⟩
def k0_mult2 (k0_t2 : Fin k0_t2_loop.trips) : BitVec 32 :=
  let c0_i32_62 : BitVec 32 := 0#32
  let c1_i32_64 : BitVec 32 := 1#32
  let arg11 : BitVec 32 := Scf.iv c0_i32_62 c1_i32_64 k0_t2
  let c1280_i32 : BitVec 32 := 1280#32
  let v93 : BitVec 32 := Scalar.muli arg11 c1280_i32
  v93
def k0_off4 (k0_t2 : Fin k0_t2_loop.trips) : Fin 2 → Nat :=
  let c0_i32_62 : BitVec 32 := 0#32
  let c1_i32_64 : BitVec 32 := 1#32
  let arg11 : BitVec 32 := Scf.iv c0_i32_62 c1_i32_64 k0_t2
  let c1280_i32 : BitVec 32 := 1280#32
  let v93 : BitVec 32 := Scalar.muli arg11 c1280_i32
  let v94 : BitVec 32 := v93
  let v100 : Index := Scalar.indexCast v94
  let c0_69 : Index := 0#32
  ![v100.toNat, 0]
def k0_off5 (k0_t2 : Fin k0_t2_loop.trips) : Fin 2 → Nat :=
  let c0_78 : Index := 0#32
  let c0_i32_62 : BitVec 32 := 0#32
  let c1_i32_64 : BitVec 32 := 1#32
  let arg11 : BitVec 32 := Scf.iv c0_i32_62 c1_i32_64 k0_t2
  let c1280_i32 : BitVec 32 := 1280#32
  let v93 : BitVec 32 := Scalar.muli arg11 c1280_i32
  let v94 : BitVec 32 := v93
  let v119 : Index := Scalar.indexCast v94
  ![0, v119.toNat]
def k0_off6 (k0_t2 : Fin k0_t2_loop.trips) : Fin 2 → Nat :=
  let c0_i32_62 : BitVec 32 := 0#32
  let c1_i32_64 : BitVec 32 := 1#32
  let arg11 : BitVec 32 := Scf.iv c0_i32_62 c1_i32_64 k0_t2
  let c1280_i32 : BitVec 32 := 1280#32
  let v93 : BitVec 32 := Scalar.muli arg11 c1280_i32
  let v94 : BitVec 32 := v93
  let v135 : Index := Scalar.indexCast v94
  let c64_89 : Index := 64#32
  ![v135.toNat, 64]
def k0_cond3 (i : grid0.Coords) : BitVec 1 :=
  let arg1 : BitVec 32 := BitVec.ofNat 32 (i 1).val
  let c12_i32_2 : BitVec 32 := 12#32
  let v7 : BitVec 1 := Scalar.cmpi .eq arg1 c12_i32_2
  let v8 : BitVec 32 := Scalar.extui v7
  let c0_i32_3 : BitVec 32 := 0#32
  let v9 : BitVec 1 := Scalar.cmpi .ne v8 c0_i32_3
  v9

@[reducible] def k0_t3_loop : Scf.Loop 32 :=
  let c0_i32_60 : BitVec 32 := 0#32
  let c13_i32 : BitVec 32 := 13#32
  let v103 : BitVec 32 := Scalar.addi c0_i32_60 c13_i32
  let c1_i32 : BitVec 32 := 1#32
  ⟨c0_i32_60, v103, c1_i32⟩
def k0_mult3 (k0_t3 : Fin k0_t3_loop.trips) : BitVec 32 :=
  let c0_i32_60 : BitVec 32 := 0#32
  let c1_i32 : BitVec 32 := 1#32
  let arg11 : BitVec 32 := Scf.iv c0_i32_60 c1_i32 k0_t3
  let c1280_i32 : BitVec 32 := 1280#32
  let v112 : BitVec 32 := Scalar.muli arg11 c1280_i32
  v112
def k0_off7 (k0_t3 : Fin k0_t3_loop.trips) : Fin 2 → Nat :=
  let c0_i32_60 : BitVec 32 := 0#32
  let c1_i32 : BitVec 32 := 1#32
  let arg11 : BitVec 32 := Scf.iv c0_i32_60 c1_i32 k0_t3
  let c1280_i32 : BitVec 32 := 1280#32
  let v112 : BitVec 32 := Scalar.muli arg11 c1280_i32
  let v113 : BitVec 32 := v112
  let v119 : Index := Scalar.indexCast v113
  let c0_71 : Index := 0#32
  ![v119.toNat, 0]
def k0_off8 (k0_t3 : Fin k0_t3_loop.trips) : Fin 2 → Nat :=
  let c0_82 : Index := 0#32
  let c0_i32_60 : BitVec 32 := 0#32
  let c1_i32 : BitVec 32 := 1#32
  let arg11 : BitVec 32 := Scf.iv c0_i32_60 c1_i32 k0_t3
  let c1280_i32 : BitVec 32 := 1280#32
  let v112 : BitVec 32 := Scalar.muli arg11 c1280_i32
  let v113 : BitVec 32 := v112
  let v145 : Index := Scalar.indexCast v113
  ![0, v145.toNat]
def k0_off9 (k0_t3 : Fin k0_t3_loop.trips) : Fin 2 → Nat :=
  let c0_i32_60 : BitVec 32 := 0#32
  let c1_i32 : BitVec 32 := 1#32
  let arg11 : BitVec 32 := Scf.iv c0_i32_60 c1_i32 k0_t3
  let c1280_i32 : BitVec 32 := 1280#32
  let v112 : BitVec 32 := Scalar.muli arg11 c1280_i32
  let v113 : BitVec 32 := v112
  let v179 : Index := Scalar.indexCast v113
  let c64_102 : Index := 64#32
  ![v179.toNat, 64]
@[reducible] def k0_t4_loop : Scf.Loop 32 :=
  let c0_i32_76 : BitVec 32 := 0#32
  let c13_i32_77 : BitVec 32 := 13#32
  let v120 : BitVec 32 := Scalar.addi c0_i32_76 c13_i32_77
  let c1_i32_78 : BitVec 32 := 1#32
  ⟨c0_i32_76, v120, c1_i32_78⟩
def k0_mult4 (k0_t4 : Fin k0_t4_loop.trips) : BitVec 32 :=
  let c0_i32_76 : BitVec 32 := 0#32
  let c1_i32_78 : BitVec 32 := 1#32
  let arg11 : BitVec 32 := Scf.iv c0_i32_76 c1_i32_78 k0_t4
  let c1280_i32 : BitVec 32 := 1280#32
  let v121 : BitVec 32 := Scalar.muli arg11 c1280_i32
  v121
def k0_off10 (k0_t4 : Fin k0_t4_loop.trips) : Fin 2 → Nat :=
  let c0_i32_76 : BitVec 32 := 0#32
  let c1_i32_78 : BitVec 32 := 1#32
  let arg11 : BitVec 32 := Scf.iv c0_i32_76 c1_i32_78 k0_t4
  let c1280_i32 : BitVec 32 := 1280#32
  let v121 : BitVec 32 := Scalar.muli arg11 c1280_i32
  let v122 : BitVec 32 := v121
  let v128 : Index := Scalar.indexCast v122
  let c0_83 : Index := 0#32
  ![v128.toNat, 0]
def k0_off11 (k0_t4 : Fin k0_t4_loop.trips) : Fin 2 → Nat :=
  let c0_97 : Index := 0#32
  let c0_i32_76 : BitVec 32 := 0#32
  let c1_i32_78 : BitVec 32 := 1#32
  let arg11 : BitVec 32 := Scf.iv c0_i32_76 c1_i32_78 k0_t4
  let c1280_i32 : BitVec 32 := 1280#32
  let v121 : BitVec 32 := Scalar.muli arg11 c1280_i32
  let v122 : BitVec 32 := v121
  let v165 : Index := Scalar.indexCast v122
  ![0, v165.toNat]
def k0_off12 (k0_t4 : Fin k0_t4_loop.trips) : Fin 2 → Nat :=
  let c0_i32_76 : BitVec 32 := 0#32
  let c1_i32_78 : BitVec 32 := 1#32
  let arg11 : BitVec 32 := Scf.iv c0_i32_76 c1_i32_78 k0_t4
  let c1280_i32 : BitVec 32 := 1280#32
  let v121 : BitVec 32 := Scalar.muli arg11 c1280_i32
  let v122 : BitVec 32 := v121
  let v181 : Index := Scalar.indexCast v122
  let c64_108 : Index := 64#32
  ![v181.toNat, 64]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S144x16640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1280x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale" => some (((Real.log 2)⁻¹ * (1 / 8) : ℝ) : EReal)
  | _ => none
-- ==== ReferenceIdeal.lean ====
abbrev S16640x1024 : Shape := ⟨2, ![16640, 1024]⟩
abbrev S4x64 : Shape := ⟨2, ![4, 64]⟩
abbrev S128 : Shape := ⟨1, ![128]⟩
abbrev S16640x8x2x64 : Shape := ⟨4, ![16640, 8, 2, 64]⟩
abbrev S16640x8x128 : Shape := ⟨3, ![16640, 8, 128]⟩
abbrev S1x64 : Shape := ⟨2, ![1, 64]⟩
abbrev S64 : Shape := ⟨1, ![64]⟩
abbrev S_ : Shape := ⟨0, ![]⟩
abbrev S16384x8x2x64 : Shape := ⟨4, ![16384, 8, 2, 64]⟩
abbrev S8x2x16384x16640 : Shape := ⟨4, ![8, 2, 16384, 16640]⟩
abbrev S8x2x16384 : Shape := ⟨3, ![8, 2, 16384]⟩
abbrev S8x2x16384x1 : Shape := ⟨4, ![8, 2, 16384, 1]⟩
abbrev S8x1x16384x16640 : Shape := ⟨4, ![8, 1, 16384, 16640]⟩
abbrev S8x16384x16640 : Shape := ⟨3, ![8, 16384, 16640]⟩
abbrev S8x128x16384 : Shape := ⟨3, ![8, 128, 16384]⟩
abbrev S16384x8x128 : Shape := ⟨3, ![16384, 8, 128]⟩
abbrev S256x8x2x64 : Shape := ⟨4, ![256, 8, 2, 64]⟩
abbrev S256x8x128 : Shape := ⟨3, ![256, 8, 128]⟩
abbrev S8x2x256x256 : Shape := ⟨4, ![8, 2, 256, 256]⟩
abbrev S8x2x256 : Shape := ⟨3, ![8, 2, 256]⟩
abbrev S8x2x256x1 : Shape := ⟨4, ![8, 2, 256, 1]⟩
abbrev S8x1x256x256 : Shape := ⟨4, ![8, 1, 256, 256]⟩
abbrev S8x256x256 : Shape := ⟨3, ![8, 256, 256]⟩
abbrev S8x128x256 : Shape := ⟨3, ![8, 128, 256]⟩
abbrev S16640x8 : Shape := ⟨2, ![16640, 8]⟩
abbrev S16640x8x1 : Shape := ⟨3, ![16640, 8, 1]⟩
abbrev S1x1x128 : Shape := ⟨3, ![1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S4x64, .f32⟩
  | .hbm, ⟨4, _⟩ => ⟨S128, .f32⟩
  | .hbm, ⟨5, _⟩ => ⟨S16640x8x2x64, .f32⟩
  | .hbm, ⟨6, _⟩ => ⟨S16640x8x2x64, .f32⟩
  | .hbm, ⟨7, _⟩ => ⟨S16640x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x8x2x64, .f32⟩
  | .hbm, ⟨28, _⟩ => ⟨S8x2x16384x16640, .f32⟩
  | .hbm, ⟨29, _⟩ => ⟨S_, .f32⟩
  | .hbm, ⟨30, _⟩ => ⟨S8x2x16384x16640, .f32⟩
  | .hbm, ⟨31, _⟩ => ⟨S8x2x16384x16640, .f32⟩
  | .hbm, ⟨32, _⟩ => ⟨S_, .f32⟩
  | .hbm, ⟨33, _⟩ => ⟨S8x2x16384, .f32⟩
  | .hbm, ⟨34, _⟩ => ⟨S_, .f32⟩
  | .hbm, ⟨35, _⟩ => ⟨S8x2x16384, .f32⟩
  | .hbm, ⟨36, _⟩ => ⟨S8x2x16384, .f32⟩
  | .hbm, ⟨37, _⟩ => ⟨S8x2x16384x1, .f32⟩
  | .hbm, ⟨38, _⟩ => ⟨S8x2x16384x16640, .f32⟩
  | .hbm, ⟨39, _⟩ => ⟨S8x2x16384x16640, .f32⟩
  | .hbm, ⟨40, _⟩ => ⟨S8x2x16384x16640, .f32⟩
  | .hbm, ⟨41, _⟩ => ⟨S_, .f32⟩
  | .hbm, ⟨42, _⟩ => ⟨S8x2x16384, .f32⟩
  | .hbm, ⟨43, _⟩ => ⟨S8x2x16384x1, .f32⟩
  | .hbm, ⟨44, _⟩ => ⟨S8x2x16384x16640, .f32⟩
  | .hbm, ⟨45, _⟩ => ⟨S8x2x16384x16640, .f32⟩
  | .hbm, ⟨46, _⟩ => ⟨S8x1x16384x16640, .f32⟩
  | .hbm, ⟨47, _⟩ => ⟨S8x16384x16640, .f32⟩
  | .hbm, ⟨48, _⟩ => ⟨S8x1x16384x16640, .f32⟩
  | .hbm, ⟨49, _⟩ => ⟨S8x16384x16640, .f32⟩
  | .hbm, ⟨50, _⟩ => ⟨S8x16384x16640, .f32⟩
  | .hbm, ⟨51, _⟩ => ⟨S8x16384x16640, .f32⟩
  | .hbm, ⟨52, _⟩ => ⟨S8x16384x16640, .f32⟩
  | .hbm, ⟨53, _⟩ => ⟨S8x128x16384, .f32⟩
  | .hbm, ⟨54, _⟩ => ⟨S16384x8x128, .f32⟩
  | .hbm, ⟨55, _⟩ => ⟨S256x8x2x64, .f32⟩
  | .hbm, ⟨56, _⟩ => ⟨S256x8x2x64, .f32⟩
  | .hbm, ⟨57, _⟩ => ⟨S256x8x128, .f32⟩
  | .hbm, ⟨58, _⟩ => ⟨S8x2x256x256, .f32⟩
  | .hbm, ⟨59, _⟩ => ⟨S_, .f32⟩
  | .hbm, ⟨60, _⟩ => ⟨S8x2x256x256, .f32⟩
  | .hbm, ⟨61, _⟩ => ⟨S8x2x256x256, .f32⟩
  | .hbm, ⟨62, _⟩ => ⟨S_, .f32⟩
  | .hbm, ⟨63, _⟩ => ⟨S8x2x256, .f32⟩
  | .hbm, ⟨64, _⟩ => ⟨S_, .f32⟩
  | .hbm, ⟨65, _⟩ => ⟨S8x2x256, .f32⟩
  | .hbm, ⟨66, _⟩ => ⟨S8x2x256, .f32⟩
  | .hbm, ⟨67, _⟩ => ⟨S8x2x256x1, .f32⟩
  | .hbm, ⟨68, _⟩ => ⟨S8x2x256x256, .f32⟩
  | .hbm, ⟨69, _⟩ => ⟨S8x2x256x256, .f32⟩
  | .hbm, ⟨70, _⟩ => ⟨S8x2x256x256, .f32⟩
  | .hbm, ⟨71, _⟩ => ⟨S_, .f32⟩
  | .hbm, ⟨72, _⟩ => ⟨S8x2x256, .f32⟩
  | .hbm, ⟨73, _⟩ => ⟨S8x2x256x1, .f32⟩
  | .hbm, ⟨74, _⟩ => ⟨S8x2x256x256, .f32⟩
  | .hbm, ⟨75, _⟩ => ⟨S8x2x256x256, .f32⟩
  | .hbm, ⟨76, _⟩ => ⟨S8x1x256x256, .f32⟩
  | .hbm, ⟨77, _⟩ => ⟨S8x256x256, .f32⟩
  | .hbm, ⟨78, _⟩ => ⟨S8x1x256x256, .f32⟩
  | .hbm, ⟨79, _⟩ => ⟨S8x256x256, .f32⟩
  | .hbm, ⟨80, _⟩ => ⟨S8x256x256, .f32⟩
  | .hbm, ⟨81, _⟩ => ⟨S8x256x256, .f32⟩
  | .hbm, ⟨82, _⟩ => ⟨S8x256x256, .f32⟩
  | .hbm, ⟨83, _⟩ => ⟨S8x128x256, .f32⟩
  | .hbm, ⟨84, _⟩ => ⟨S256x8x128, .f32⟩
  | .hbm, ⟨85, _⟩ => ⟨S16640x8x128, .f32⟩
  | .hbm, ⟨86, _⟩ => ⟨S16640x8x128, .f32⟩
  | .hbm, ⟨87, _⟩ => ⟨S_, .f32⟩
  | .hbm, ⟨88, _⟩ => ⟨S16640x8, .f32⟩
  | .hbm, ⟨89, _⟩ => ⟨S16640x8x1, .f32⟩
  | .hbm, ⟨90, _⟩ => ⟨S_, .f32⟩
  | .hbm, ⟨91, _⟩ => ⟨S16640x8x1, .f32⟩
  | .hbm, ⟨92, _⟩ => ⟨S16640x8x1, .f32⟩
  | .hbm, ⟨93, _⟩ => ⟨S_, .f32⟩
  | .hbm, ⟨94, _⟩ => ⟨S16640x8x1, .f32⟩
  | .hbm, ⟨95, _⟩ => ⟨S16640x8x1, .f32⟩
  | .hbm, ⟨96, _⟩ => ⟨S16640x8x1, .f32⟩
  | .hbm, ⟨97, _⟩ => ⟨S16640x8x128, .f32⟩
  | .hbm, ⟨98, _⟩ => ⟨S16640x8x128, .f32⟩
  | .hbm, ⟨99, _⟩ => ⟨S1x1x128, .f32⟩
  | .hbm, ⟨100, _⟩ => ⟨S16640x8x128, .f32⟩
  | .hbm, ⟨101, _⟩ => ⟨S16640x8x128, .f32⟩
  | .hbm, ⟨102, _⟩ => ⟨S_, .f32⟩
  | .hbm, ⟨103, _⟩ => ⟨S16640x8x128, .f32⟩
  | .hbm, ⟨104, _⟩ => ⟨S16640x8x128, .f32⟩
  | .hbm, ⟨105, _⟩ => ⟨S16640x1024, .f32⟩
  | .hbm, ⟨106, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_cst_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_13 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== AbIn.lean ====
abbrev S16640x1024 : Shape := ⟨2, ![16640, 1024]⟩
abbrev S1024x4608 : Shape := ⟨2, ![1024, 4608]⟩
abbrev S16384x64 : Shape := ⟨2, ![16384, 64]⟩
abbrev S16384x128 : Shape := ⟨2, ![16384, 128]⟩
abbrev S_ : Shape := ⟨0, ![]⟩
abbrev S256x128 : Shape := ⟨2, ![256, 128]⟩
abbrev S16640x128 : Shape := ⟨2, ![16640, 128]⟩
abbrev S16640x4608 : Shape := ⟨2, ![16640, 4608]⟩
abbrev S1280x1024 : Shape := ⟨2, ![1280, 1024]⟩
abbrev S1024x512 : Shape := ⟨2, ![1024, 512]⟩
abbrev S1280x128 : Shape := ⟨2, ![1280, 128]⟩
abbrev S1280x512 : Shape := ⟨2, ![1280, 512]⟩

abbrev nBuf : Space → Nat
  | .hbm => 16
  | .vmem => 10
  | .smem => 0
  | _ => 0

abbrev bufTy : (tb : Table) → Fin (tcTables nBuf tb) → BufTy
  | .hbm, ⟨0, _⟩ => ⟨S16640x1024, .f32⟩
  | .hbm, ⟨1, _⟩ => ⟨S1024x4608, .f32⟩
  | .hbm, ⟨2, _⟩ => ⟨S16384x64, .f32⟩
  | .hbm, ⟨3, _⟩ => ⟨S16384x64, .f32⟩
  | .hbm, ⟨4, _⟩ => ⟨S16384x128, .f32⟩
  | .hbm, ⟨5, _⟩ => ⟨S16384x64, .f32⟩
  | .hbm, ⟨6, _⟩ => ⟨S16384x128, .f32⟩
  | .hbm, ⟨7, _⟩ => ⟨S_, .f32⟩
  | .hbm, ⟨8, _⟩ => ⟨S256x128, .f32⟩
  | .hbm, ⟨9, _⟩ => ⟨S16640x128, .f32⟩
  | .hbm, ⟨10, _⟩ => ⟨S_, .f32⟩
  | .hbm, ⟨11, _⟩ => ⟨S256x128, .f32⟩
  | .hbm, ⟨12, _⟩ => ⟨S16640x128, .f32⟩
  | .hbm, ⟨13, _⟩ => ⟨S16640x1024, .bf16⟩
  | .hbm, ⟨14, _⟩ => ⟨S1024x4608, .bf16⟩
  | .hbm, ⟨15, _⟩ => ⟨S16640x4608, .f32⟩
  | .local _ .vmem, ⟨0, _⟩ => ⟨S1280x1024, .bf16⟩
  | .local _ .vmem, ⟨1, _⟩ => ⟨S1280x1024, .bf16⟩
  | .local _ .vmem, ⟨2, _⟩ => ⟨S1024x512, .bf16⟩
  | .local _ .vmem, ⟨3, _⟩ => ⟨S1024x512, .bf16⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x512, .f32⟩
  | .local _ .vmem, ⟨9, _⟩ => ⟨S1280x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 9], ![false, false]⟩

def k0_cond1 (i : grid0.Coords) : BitVec 1 :=
  let arg1 : BitVec 32 := BitVec.ofNat 32 (i 1).val
  let c2_i32 : BitVec 32 := 2#32
  let v9 : BitVec 1 := Scalar.cmpi .sge arg1 c2_i32
  let v10 : BitVec 32 := Scalar.extui v9
  let c0_i32 : BitVec 32 := 0#32
  let v11 : BitVec 1 := Scalar.cmpi .ne v10 c0_i32
  v11

def k0_cond2 (i : grid0.Coords) : BitVec 1 :=
  let arg1 : BitVec 32 := BitVec.ofNat 32 (i 1).val
  let c0_i32_7 : BitVec 32 := 0#32
  let v12 : BitVec 1 := Scalar.cmpi .eq arg1 c0_i32_7
  let v13 : BitVec 32 := Scalar.extui v12
  let c0_i32_8 : BitVec 32 := 0#32
  let v14 : BitVec 1 := Scalar.cmpi .ne v13 c0_i32_8
  v14

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AbInRefIdeal.lean ====
abbrev S16640x1024 : Shape := ⟨2, ![16640, 1024]⟩
abbrev S1024x4608 : Shape := ⟨2, ![1024, 4608]⟩
abbrev S16384x64 : Shape := ⟨2, ![16384, 64]⟩
abbrev S16640x4608 : Shape := ⟨2, ![16640, 4608]⟩
abbrev S16640x512 : Shape := ⟨2, ![16640, 512]⟩
abbrev S16640x1536 : Shape := ⟨2, ![16640, 1536]⟩
abbrev S16640x4x128 : Shape := ⟨3, ![16640, 4, 128]⟩
abbrev S_ : Shape := ⟨0, ![]⟩
abbrev S16384x4x128 : Shape := ⟨3, ![16384, 4, 128]⟩
abbrev S16384x1x64 : Shape := ⟨3, ![16384, 1, 64]⟩
abbrev S16384x4x64 : Shape := ⟨3, ![16384, 4, 64]⟩
abbrev S256x4x128 : Shape := ⟨3, ![256, 4, 128]⟩

abbrev nBuf : Space → Nat
  | .hbm => 54
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x4608, .f32⟩
  | .hbm, ⟨2, _⟩ => ⟨S16384x64, .f32⟩
  | .hbm, ⟨3, _⟩ => ⟨S16384x64, .f32⟩
  | .hbm, ⟨4, _⟩ => ⟨S16640x4608, .f32⟩
  | .hbm, ⟨5, _⟩ => ⟨S16640x512, .f32⟩
  | .hbm, ⟨6, _⟩ => ⟨S16640x512, .f32⟩
  | .hbm, ⟨7, _⟩ => ⟨S16640x1024, .f32⟩
  | .hbm, ⟨8, _⟩ => ⟨S16640x1024, .f32⟩
  | .hbm, ⟨9, _⟩ => ⟨S16640x1536, .f32⟩
  | .hbm, ⟨10, _⟩ => ⟨S16640x4x128, .f32⟩
  | .hbm, ⟨11, _⟩ => ⟨S16640x4x128, .f32⟩
  | .hbm, ⟨12, _⟩ => ⟨S_, .f32⟩
  | .hbm, ⟨13, _⟩ => ⟨S16640x4x128, .f32⟩
  | .hbm, ⟨14, _⟩ => ⟨S16640x4x128, .f32⟩
  | .hbm, ⟨15, _⟩ => ⟨S16384x4x128, .f32⟩
  | .hbm, ⟨16, _⟩ => ⟨S16384x1x64, .f32⟩
  | .hbm, ⟨17, _⟩ => ⟨S16384x1x64, .f32⟩
  | .hbm, ⟨18, _⟩ => ⟨S16384x4x64, .f32⟩
  | .hbm, ⟨19, _⟩ => ⟨S16384x4x64, .f32⟩
  | .hbm, ⟨20, _⟩ => ⟨S16384x4x64, .f32⟩
  | .hbm, ⟨21, _⟩ => ⟨S16384x4x64, .f32⟩
  | .hbm, ⟨22, _⟩ => ⟨S16384x4x64, .f32⟩
  | .hbm, ⟨23, _⟩ => ⟨S16384x4x64, .f32⟩
  | .hbm, ⟨24, _⟩ => ⟨S16384x4x64, .f32⟩
  | .hbm, ⟨25, _⟩ => ⟨S16384x4x64, .f32⟩
  | .hbm, ⟨26, _⟩ => ⟨S16384x4x64, .f32⟩
  | .hbm, ⟨27, _⟩ => ⟨S16384x4x64, .f32⟩
  | .hbm, ⟨28, _⟩ => ⟨S16384x4x64, .f32⟩
  | .hbm, ⟨29, _⟩ => ⟨S16384x4x64, .f32⟩
  | .hbm, ⟨30, _⟩ => ⟨S16384x4x128, .f32⟩
  | .hbm, ⟨31, _⟩ => ⟨S256x4x128, .f32⟩
  | .hbm, ⟨32, _⟩ => ⟨S16640x4x128, .f32⟩
  | .hbm, ⟨33, _⟩ => ⟨S16384x4x128, .f32⟩
  | .hbm, ⟨34, _⟩ => ⟨S16384x1x64, .f32⟩
  | .hbm, ⟨35, _⟩ => ⟨S16384x1x64, .f32⟩
  | .hbm, ⟨36, _⟩ => ⟨S16384x4x64, .f32⟩
  | .hbm, ⟨37, _⟩ => ⟨S16384x4x64, .f32⟩
  | .hbm, ⟨38, _⟩ => ⟨S16384x4x64, .f32⟩
  | .hbm, ⟨39, _⟩ => ⟨S16384x4x64, .f32⟩
  | .hbm, ⟨40, _⟩ => ⟨S16384x4x64, .f32⟩
  | .hbm, ⟨41, _⟩ => ⟨S16384x4x64, .f32⟩
  | .hbm, ⟨42, _⟩ => ⟨S16384x4x64, .f32⟩
  | .hbm, ⟨43, _⟩ => ⟨S16384x4x64, .f32⟩
  | .hbm, ⟨44, _⟩ => ⟨S16384x4x64, .f32⟩
  | .hbm, ⟨45, _⟩ => ⟨S16384x4x64, .f32⟩
  | .hbm, ⟨46, _⟩ => ⟨S16384x4x64, .f32⟩
  | .hbm, ⟨47, _⟩ => ⟨S16384x4x64, .f32⟩
  | .hbm, ⟨48, _⟩ => ⟨S16384x4x128, .f32⟩
  | .hbm, ⟨49, _⟩ => ⟨S256x4x128, .f32⟩
  | .hbm, ⟨50, _⟩ => ⟨S16640x4x128, .f32⟩
  | .hbm, ⟨51, _⟩ => ⟨S16640x512, .f32⟩
  | .hbm, ⟨52, _⟩ => ⟨S16640x512, .f32⟩
  | .hbm, ⟨53, _⟩ => ⟨S16640x4608, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩

abbrev nD : Nat := 1
abbrev τ : Topo := Topo.v7x

variable {F : FTy → Type} [FloatOps F]
-- ==== DaIn.lean ====
abbrev S16640x1024 : Shape := ⟨2, ![16640, 1024]⟩
abbrev S1024x3072 : Shape := ⟨2, ![1024, 3072]⟩
abbrev S16640x3072 : Shape := ⟨2, ![16640, 3072]⟩
abbrev S1280x1024 : Shape := ⟨2, ![1280, 1024]⟩
abbrev S1024x512 : Shape := ⟨2, ![1024, 512]⟩
abbrev S1280x512 : Shape := ⟨2, ![1280, 512]⟩

abbrev nBuf : Space → Nat
  | .hbm => 5
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S1024x3072, .f32⟩
  | .hbm, ⟨2, _⟩ => ⟨S16640x1024, .bf16⟩
  | .hbm, ⟨3, _⟩ => ⟨S1024x3072, .bf16⟩
  | .hbm, ⟨4, _⟩ => ⟨S16640x3072, .f32⟩
  | .local _ .vmem, ⟨0, _⟩ => ⟨S1280x1024, .bf16⟩
  | .local _ .vmem, ⟨1, _⟩ => ⟨S1280x1024, .bf16⟩
  | .local _ .vmem, ⟨2, _⟩ => ⟨S1024x512, .bf16⟩
  | .local _ .vmem, ⟨3, _⟩ => ⟨S1024x512, .bf16⟩
  | .local _ .vmem, ⟨4, _⟩ => ⟨S1280x512, .f32⟩
  | .local _ .vmem, ⟨5, _⟩ => ⟨S1280x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DaInRefIdeal.lean ====
abbrev S16640x1024 : Shape := ⟨2, ![16640, 1024]⟩
abbrev S1024x3072 : Shape := ⟨2, ![1024, 3072]⟩
abbrev S16640x3072 : Shape := ⟨2, ![16640, 3072]⟩

abbrev nBuf : Space → Nat
  | .hbm => 3
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024x3072, .f32⟩
  | .hbm, ⟨2, _⟩ => ⟨S16640x3072, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbOut.lean ====
abbrev S16640x1024 : Shape := ⟨2, ![16640, 1024]⟩
abbrev S16640x512 : Shape := ⟨2, ![16640, 512]⟩
abbrev S1536x1024 : Shape := ⟨2, ![1536, 1024]⟩
abbrev S6144 : Shape := ⟨1, ![6144]⟩
abbrev S1x6144 : Shape := ⟨2, ![1, 6144]⟩
abbrev S1024x1024 : Shape := ⟨2, ![1024, 1024]⟩
abbrev S512x1024 : Shape := ⟨2, ![512, 1024]⟩
abbrev S2x6144 : Shape := ⟨2, ![2, 6144]⟩
abbrev S2x6x1024 : Shape := ⟨3, ![2, 6, 1024]⟩
abbrev S1280x1024 : Shape := ⟨2, ![1280, 1024]⟩
abbrev S1024x512 : Shape := ⟨2, ![1024, 512]⟩
abbrev S1280x512 : Shape := ⟨2, ![1280, 512]⟩
abbrev S512x512 : Shape := ⟨2, ![512, 512]⟩
abbrev S2x6x512 : Shape := ⟨3, ![2, 6, 512]⟩
abbrev S1280x1 : Shape := ⟨2, ![1280, 1]⟩
abbrev S1x1x512 : Shape := ⟨3, ![1, 1, 512]⟩
abbrev S1x512 : Shape := ⟨2, ![1, 512]⟩

abbrev nBuf : Space → Nat
  | .hbm => 14
  | .vmem => 14
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x512, .f32⟩
  | .hbm, ⟨3, _⟩ => ⟨S1536x1024, .f32⟩
  | .hbm, ⟨4, _⟩ => ⟨S6144, .f32⟩
  | .hbm, ⟨5, _⟩ => ⟨S1x6144, .f32⟩
  | .hbm, ⟨6, _⟩ => ⟨S1536x1024, .bf16⟩
  | .hbm, ⟨7, _⟩ => ⟨S16640x1024, .bf16⟩
  | .hbm, ⟨8, _⟩ => ⟨S1024x1024, .bf16⟩
  | .hbm, ⟨9, _⟩ => ⟨S512x1024, .bf16⟩
  | .hbm, ⟨10, _⟩ => ⟨S1x6144, .f32⟩
  | .hbm, ⟨11, _⟩ => ⟨S2x6144, .f32⟩
  | .hbm, ⟨12, _⟩ => ⟨S2x6x1024, .f32⟩
  | .hbm, ⟨13, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x512, .bf16⟩
  | .local _ .vmem, ⟨3, _⟩ => ⟨S1024x512, .bf16⟩
  | .local _ .vmem, ⟨4, _⟩ => ⟨S1280x512, .f32⟩
  | .local _ .vmem, ⟨5, _⟩ => ⟨S1280x512, .f32⟩
  | .local _ .vmem, ⟨6, _⟩ => ⟨S512x512, .bf16⟩
  | .local _ .vmem, ⟨7, _⟩ => ⟨S512x512, .bf16⟩
  | .local _ .vmem, ⟨8, _⟩ => ⟨S1280x512, .f32⟩
  | .local _ .vmem, ⟨9, _⟩ => ⟨S1280x512, .f32⟩
  | .local _ .vmem, ⟨10, _⟩ => ⟨S2x6x512, .f32⟩
  | .local _ .vmem, ⟨11, _⟩ => ⟨S2x6x512, .f32⟩
  | .local _ .vmem, ⟨12, _⟩ => ⟨S1280x512, .f32⟩
  | .local _ .vmem, ⟨13, _⟩ => ⟨S1280x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1280x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AbOutRefIdeal.lean ====
abbrev S16640x1024 : Shape := ⟨2, ![16640, 1024]⟩
abbrev S16640x512 : Shape := ⟨2, ![16640, 512]⟩
abbrev S1536x1024 : Shape := ⟨2, ![1536, 1024]⟩
abbrev S6144 : Shape := ⟨1, ![6144]⟩
abbrev S1x6144 : Shape := ⟨2, ![1, 6144]⟩
abbrev S1x1024 : Shape := ⟨2, ![1, 1024]⟩
abbrev S1024 : Shape := ⟨1, ![1024]⟩
abbrev S16640x1536 : Shape := ⟨2, ![16640, 1536]⟩
abbrev S16384x1024 : Shape := ⟨2, ![16384, 1024]⟩
abbrev S256x1024 : Shape := ⟨2, ![256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x512, .f32⟩
  | .hbm, ⟨3, _⟩ => ⟨S1536x1024, .f32⟩
  | .hbm, ⟨4, _⟩ => ⟨S6144, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S16640x1536, .f32⟩
  | .hbm, ⟨19, _⟩ => ⟨S16640x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S256x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== DaOut.lean ====
abbrev S16640x1024 : Shape := ⟨2, ![16640, 1024]⟩
abbrev S1024x1024 : Shape := ⟨2, ![1024, 1024]⟩
abbrev S6144 : Shape := ⟨1, ![6144]⟩
abbrev S1x6144 : Shape := ⟨2, ![1, 6144]⟩
abbrev S2x6144 : Shape := ⟨2, ![2, 6144]⟩
abbrev S2x6x1024 : Shape := ⟨3, ![2, 6, 1024]⟩
abbrev S1280x1024 : Shape := ⟨2, ![1280, 1024]⟩
abbrev S1024x512 : Shape := ⟨2, ![1024, 512]⟩
abbrev S1280x512 : Shape := ⟨2, ![1280, 512]⟩
abbrev S2x6x512 : Shape := ⟨3, ![2, 6, 512]⟩
abbrev S1280x1 : Shape := ⟨2, ![1280, 1]⟩
abbrev S1x1x512 : Shape := ⟨3, ![1, 1, 512]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1024x1024, .f32⟩
  | .hbm, ⟨3, _⟩ => ⟨S6144, .f32⟩
  | .hbm, ⟨4, _⟩ => ⟨S1x6144, .f32⟩
  | .hbm, ⟨5, _⟩ => ⟨S16640x1024, .bf16⟩
  | .hbm, ⟨6, _⟩ => ⟨S1024x1024, .bf16⟩
  | .hbm, ⟨7, _⟩ => ⟨S1x6144, .f32⟩
  | .hbm, ⟨8, _⟩ => ⟨S2x6144, .f32⟩
  | .hbm, ⟨9, _⟩ => ⟨S2x6x1024, .f32⟩
  | .hbm, ⟨10, _⟩ => ⟨S16640x1024, .f32⟩
  | .local _ .vmem, ⟨0, _⟩ => ⟨S1280x1024, .bf16⟩
  | .local _ .vmem, ⟨1, _⟩ => ⟨S1280x1024, .bf16⟩
  | .local _ .vmem, ⟨2, _⟩ => ⟨S1024x512, .bf16⟩
  | .local _ .vmem, ⟨3, _⟩ => ⟨S1024x512, .bf16⟩
  | .local _ .vmem, ⟨4, _⟩ => ⟨S1280x512, .f32⟩
  | .local _ .vmem, ⟨5, _⟩ => ⟨S1280x512, .f32⟩
  | .local _ .vmem, ⟨6, _⟩ => ⟨S2x6x512, .f32⟩
  | .local _ .vmem, ⟨7, _⟩ => ⟨S2x6x512, .f32⟩
  | .local _ .vmem, ⟨8, _⟩ => ⟨S1280x512, .f32⟩
  | .local _ .vmem, ⟨9, _⟩ => ⟨S1280x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DaOutRefIdeal.lean ====
abbrev S16640x1024 : Shape := ⟨2, ![16640, 1024]⟩
abbrev S1024x1024 : Shape := ⟨2, ![1024, 1024]⟩
abbrev S6144 : Shape := ⟨1, ![6144]⟩
abbrev S1x6144 : Shape := ⟨2, ![1, 6144]⟩
abbrev S1x1024 : Shape := ⟨2, ![1, 1024]⟩
abbrev S1024 : Shape := ⟨1, ![1024]⟩
abbrev S16384x1024 : Shape := ⟨2, ![16384, 1024]⟩
abbrev S256x1024 : Shape := ⟨2, ![256, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S1024x1024, .f32⟩
  | .hbm, ⟨3, _⟩ => ⟨S6144, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S16640x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== MoeOut.lean ====
abbrev S16640x1024 : Shape := ⟨2, ![16640, 1024]⟩
abbrev S8x16640x512 : Shape := ⟨3, ![8, 16640, 512]⟩
abbrev S8x16640 : Shape := ⟨2, ![8, 16640]⟩
abbrev S1024x256 : Shape := ⟨2, ![1024, 256]⟩
abbrev S256x1024 : Shape := ⟨2, ![256, 1024]⟩
abbrev S6144 : Shape := ⟨1, ![6144]⟩
abbrev S1x6144 : Shape := ⟨2, ![1, 6144]⟩
abbrev S2x6144 : Shape := ⟨2, ![2, 6144]⟩
abbrev S2x6x1024 : Shape := ⟨3, ![2, 6, 1024]⟩
abbrev S8x8960x512 : Shape := ⟨3, ![8, 8960, 512]⟩
abbrev S8x8960 : Shape := ⟨2, ![8, 8960]⟩
abbrev S8x256x512 : Shape := ⟨3, ![8, 256, 512]⟩
abbrev S8x256 : Shape := ⟨2, ![8, 256]⟩
abbrev S256x256 : Shape := ⟨2, ![256, 256]⟩
abbrev S256x512 : Shape := ⟨2, ![256, 512]⟩
abbrev S256x8 : Shape := ⟨2, ![256, 8]⟩
abbrev S1x256x512 : Shape := ⟨3, ![1, 256, 512]⟩
abbrev S256x1 : Shape := ⟨2, ![256, 1]⟩
abbrev S1x1x1024 : Shape := ⟨3, ![1, 1, 1024]⟩
abbrev S1x1024 : Shape := ⟨2, ![1, 1024]⟩
abbrev S8x7680x512 : Shape := ⟨3, ![8, 7680, 512]⟩
abbrev S8x7680 : Shape := ⟨2, ![8, 7680]⟩

abbrev nBuf : Space → Nat
  | .hbm => 22
  | .vmem => 28
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S8x16640x512, .i32⟩
  | .hbm, ⟨3, _⟩ => ⟨S8x16640, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S6144, .f32⟩
  | .hbm, ⟨8, _⟩ => ⟨S1x6144, .f32⟩
  | .hbm, ⟨9, _⟩ => ⟨S16640x1024, .bf16⟩
  | .hbm, ⟨10, _⟩ => ⟨S1024x256, .bf16⟩
  | .hbm, ⟨11, _⟩ => ⟨S1024x256, .bf16⟩
  | .hbm, ⟨12, _⟩ => ⟨S256x1024, .bf16⟩
  | .hbm, ⟨13, _⟩ => ⟨S1x6144, .f32⟩
  | .hbm, ⟨14, _⟩ => ⟨S2x6144, .f32⟩
  | .hbm, ⟨15, _⟩ => ⟨S2x6x1024, .f32⟩
  | .hbm, ⟨16, _⟩ => ⟨S8x8960x512, .i32⟩
  | .hbm, ⟨17, _⟩ => ⟨S8x8960, .f32⟩
  | .hbm, ⟨18, _⟩ => ⟨S16640x1024, .f32⟩
  | .hbm, ⟨19, _⟩ => ⟨S8x7680x512, .i32⟩
  | .hbm, ⟨20, _⟩ => ⟨S8x7680, .f32⟩
  | .hbm, ⟨21, _⟩ => ⟨S16640x1024, .f32⟩
  | .local _ .vmem, ⟨0, _⟩ => ⟨S8x256x512, .i32⟩
  | .local _ .vmem, ⟨1, _⟩ => ⟨S8x256x512, .i32⟩
  | .local _ .vmem, ⟨2, _⟩ => ⟨S8x256, .f32⟩
  | .local _ .vmem, ⟨3, _⟩ => ⟨S8x256, .f32⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S2x6x1024, .f32⟩
  | .local _ .vmem, ⟨12, _⟩ => ⟨S256x1024, .f32⟩
  | .local _ .vmem, ⟨13, _⟩ => ⟨S256x1024, .f32⟩
  | .local _ .vmem, ⟨14, _⟩ => ⟨S8x256x512, .i32⟩
  | .local _ .vmem, ⟨15, _⟩ => ⟨S8x256x512, .i32⟩
  | .local _ .vmem, ⟨16, _⟩ => ⟨S8x256, .f32⟩
  | .local _ .vmem, ⟨17, _⟩ => ⟨S8x256, .f32⟩
  | .local _ .vmem, ⟨18, _⟩ => ⟨S256x1024, .bf16⟩
  | .local _ .vmem, ⟨19, _⟩ => ⟨S256x1024, .bf16⟩
  | .local _ .vmem, ⟨20, _⟩ => ⟨S1024x256, .bf16⟩
  | .local _ .vmem, ⟨21, _⟩ => ⟨S1024x256, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S2x6x1024, .f32⟩
  | .local _ .vmem, ⟨26, _⟩ => ⟨S256x1024, .f32⟩
  | .local _ .vmem, ⟨27, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![35], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S8x256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![30], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c35_i32 : BitVec 32 := 35#32
  let v0 : BitVec 32 := Scalar.addi c35_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c35_i32 : BitVec 32 := 35#32
  let v0 : BitVec 32 := Scalar.addi c35_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c35_i32 : BitVec 32 := 35#32
  let v0 : BitVec 32 := Scalar.addi c35_i32 arg0
  let c0_i32 : BitVec 32 := 0#32
  let c0_i32_0 : BitVec 32 := 0#32
  ![v0.toNat, c0_i32.toNat]

abbrev stage1_0 : Fin 2 → Memref sig .tc .vmem S8x256x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x6x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== MoeOutRefIdeal.lean ====
abbrev S16640x1024 : Shape := ⟨2, ![16640, 1024]⟩
abbrev S8x16640x512 : Shape := ⟨3, ![8, 16640, 512]⟩
abbrev S8x16640 : Shape := ⟨2, ![8, 16640]⟩
abbrev S1024x256 : Shape := ⟨2, ![1024, 256]⟩
abbrev S256x1024 : Shape := ⟨2, ![256, 1024]⟩
abbrev S6144 : Shape := ⟨1, ![6144]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S8x16640x1024 : Shape := ⟨3, ![8, 16640, 1024]⟩
abbrev S16640x256 : Shape := ⟨2, ![16640, 256]⟩
abbrev S8x16640x1 : Shape := ⟨3, ![8, 16640, 1]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S8x16640x512, .i32⟩
  | .hbm, ⟨3, _⟩ => ⟨S8x16640, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S6144, .f32⟩
  | .hbm, ⟨8, _⟩ => ⟨S1x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .i32⟩
  | .hbm, ⟨22, _⟩ => ⟨S8x16640x512, .i32⟩
  | .hbm, ⟨23, _⟩ => ⟨S8x16640x512, .i32⟩
  | .hbm, ⟨24, _⟩ => ⟨S8x16640x512, .f32⟩
  | .hbm, ⟨25, _⟩ => ⟨S_, .i32⟩
  | .hbm, ⟨26, _⟩ => ⟨S8x16640x512, .i32⟩
  | .hbm, ⟨27, _⟩ => ⟨S8x16640x512, .i32⟩
  | .hbm, ⟨28, _⟩ => ⟨S8x16640x512, .f32⟩
  | .hbm, ⟨29, _⟩ => ⟨S8x16640x1024, .f32⟩
  | .hbm, ⟨30, _⟩ => ⟨S16640x256, .f32⟩
  | .hbm, ⟨31, _⟩ => ⟨S16640x256, .f32⟩
  | .hbm, ⟨32, _⟩ => ⟨S16640x256, .f32⟩
  | .hbm, ⟨33, _⟩ => ⟨S_, .f32⟩
  | .hbm, ⟨34, _⟩ => ⟨S16640x256, .f32⟩
  | .hbm, ⟨35, _⟩ => ⟨S16640x256, .f32⟩
  | .hbm, ⟨36, _⟩ => ⟨S_, .f32⟩
  | .hbm, ⟨37, _⟩ => ⟨S16640x256, .f32⟩
  | .hbm, ⟨38, _⟩ => ⟨S16640x256, .f32⟩
  | .hbm, ⟨39, _⟩ => ⟨S16640x256, .f32⟩
  | .hbm, ⟨40, _⟩ => ⟨S16640x256, .f32⟩
  | .hbm, ⟨41, _⟩ => ⟨S16640x256, .f32⟩
  | .hbm, ⟨42, _⟩ => ⟨S16640x1024, .f32⟩
  | .hbm, ⟨43, _⟩ => ⟨S8x16640x1, .f32⟩
  | .hbm, ⟨44, _⟩ => ⟨S8x16640x1024, .f32⟩
  | .hbm, ⟨45, _⟩ => ⟨S8x16640x1024, .f32⟩
  | .hbm, ⟨46, _⟩ => ⟨S_, .f32⟩
  | .hbm, ⟨47, _⟩ => ⟨S16640x1024, .f32⟩
  | .hbm, ⟨48, _⟩ => ⟨S16640x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S256x1024, .f32⟩
  | .hbm, ⟨55, _⟩ => ⟨S256x1024, .f32⟩
  | .hbm, ⟨56, _⟩ => ⟨S1x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== MixNorm.lean ====
abbrev S16640x1024 : Shape := ⟨2, ![16640, 1024]⟩
abbrev S1024 : Shape := ⟨1, ![1024]⟩
abbrev S6144 : Shape := ⟨1, ![6144]⟩
abbrev S1x6144 : Shape := ⟨2, ![1, 6144]⟩
abbrev S2x6144 : Shape := ⟨2, ![2, 6144]⟩
abbrev S2x6x1024 : Shape := ⟨3, ![2, 6, 1024]⟩
abbrev S1x1024 : Shape := ⟨2, ![1, 1024]⟩
abbrev S1280x1024 : Shape := ⟨2, ![1280, 1024]⟩
abbrev S1280 : Shape := ⟨1, ![1280]⟩
abbrev S1280x1 : Shape := ⟨2, ![1280, 1]⟩
abbrev S1x1x1024 : Shape := ⟨3, ![1, 1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S6144, .f32⟩
  | .hbm, ⟨3, _⟩ => ⟨S1x6144, .f32⟩
  | .hbm, ⟨4, _⟩ => ⟨S1x6144, .f32⟩
  | .hbm, ⟨5, _⟩ => ⟨S2x6144, .f32⟩
  | .hbm, ⟨6, _⟩ => ⟨S2x6x1024, .f32⟩
  | .hbm, ⟨7, _⟩ => ⟨S1x1024, .f32⟩
  | .hbm, ⟨8, _⟩ => ⟨S16640x1024, .bf16⟩
  | .local _ .vmem, ⟨0, _⟩ => ⟨S1280x1024, .f32⟩
  | .local _ .vmem, ⟨1, _⟩ => ⟨S1280x1024, .f32⟩
  | .local _ .vmem, ⟨2, _⟩ => ⟨S2x6x1024, .f32⟩
  | .local _ .vmem, ⟨3, _⟩ => ⟨S1x1024, .f32⟩
  | .local _ .vmem, ⟨4, _⟩ => ⟨S1280x1024, .bf16⟩
  | .local _ .vmem, ⟨5, _⟩ => ⟨S1280x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixNormRefIdeal.lean ====
abbrev S16640x1024 : Shape := ⟨2, ![16640, 1024]⟩
abbrev S1024 : Shape := ⟨1, ![1024]⟩
abbrev S6144 : Shape := ⟨1, ![6144]⟩
abbrev S1x6144 : Shape := ⟨2, ![1, 6144]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S256 : Shape := ⟨1, ![256]⟩
abbrev S256x1 : Shape := ⟨2, ![256, 1]⟩

abbrev nBuf : Space → Nat
  | .hbm => 68
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S6144, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S256x1024, .f32⟩
  | .hbm, ⟨56, _⟩ => ⟨S256x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S256x1024, .f32⟩
  | .hbm, ⟨62, _⟩ => ⟨S256x1024, .f32⟩
  | .hbm, ⟨63, _⟩ => ⟨S1x1024, .f32⟩
  | .hbm, ⟨64, _⟩ => ⟨S256x1024, .f32⟩
  | .hbm, ⟨65, _⟩ => ⟨S256x1024, .f32⟩
  | .hbm, ⟨66, _⟩ => ⟨S16640x1024, .f32⟩
  | .hbm, ⟨67, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== FinalNorm.lean ====
abbrev S16640x1024 : Shape := ⟨2, ![16640, 1024]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16640x1024 : Shape := ⟨2, ![16640, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnNorm.lean ====
abbrev S16640x1024 : Shape := ⟨2, ![16640, 1024]⟩
abbrev S1024 : Shape := ⟨1, ![1024]⟩
abbrev S1024x64 : Shape := ⟨2, ![1024, 64]⟩
abbrev S6144 : Shape := ⟨1, ![6144]⟩
abbrev S1x6144 : Shape := ⟨2, ![1, 6144]⟩
abbrev S2x6144 : Shape := ⟨2, ![2, 6144]⟩
abbrev S2x6x1024 : Shape := ⟨3, ![2, 6, 1024]⟩
abbrev S64x1024 : Shape := ⟨2, ![64, 1024]⟩
abbrev S1x1024 : Shape := ⟨2, ![1, 1024]⟩
abbrev S64x16640 : Shape := ⟨2, ![64, 16640]⟩
abbrev S1280x1024 : Shape := ⟨2, ![1280, 1024]⟩
abbrev S64x1280 : Shape := ⟨2, ![64, 1280]⟩
abbrev S1280 : Shape := ⟨1, ![1280]⟩
abbrev S1280x1 : Shape := ⟨2, ![1280, 1]⟩
abbrev S1x1x1024 : Shape := ⟨3, ![1, 1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x64, .f32⟩
  | .hbm, ⟨3, _⟩ => ⟨S6144, .f32⟩
  | .hbm, ⟨4, _⟩ => ⟨S1x6144, .f32⟩
  | .hbm, ⟨5, _⟩ => ⟨S1x6144, .f32⟩
  | .hbm, ⟨6, _⟩ => ⟨S2x6144, .f32⟩
  | .hbm, ⟨7, _⟩ => ⟨S2x6x1024, .f32⟩
  | .hbm, ⟨8, _⟩ => ⟨S64x1024, .f32⟩
  | .hbm, ⟨9, _⟩ => ⟨S1x1024, .f32⟩
  | .hbm, ⟨10, _⟩ => ⟨S16640x1024, .bf16⟩
  | .hbm, ⟨11, _⟩ => ⟨S64x16640, .f32⟩
  | .local _ .vmem, ⟨0, _⟩ => ⟨S1280x1024, .f32⟩
  | .local _ .vmem, ⟨1, _⟩ => ⟨S1280x1024, .f32⟩
  | .local _ .vmem, ⟨2, _⟩ => ⟨S2x6x1024, .f32⟩
  | .local _ .vmem, ⟨3, _⟩ => ⟨S1x1024, .f32⟩
  | .local _ .vmem, ⟨4, _⟩ => ⟨S64x1024, .f32⟩
  | .local _ .vmem, ⟨5, _⟩ => ⟨S1280x1024, .bf16⟩
  | .local _ .vmem, ⟨6, _⟩ => ⟨S1280x1024, .bf16⟩
  | .local _ .vmem, ⟨7, _⟩ => ⟨S64x1280, .f32⟩
  | .local _ .vmem, ⟨8, _⟩ => ⟨S64x1280, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnNormRefIdeal.lean ====
abbrev S16640x1024 : Shape := ⟨2, ![16640, 1024]⟩
abbrev S1024 : Shape := ⟨1, ![1024]⟩
abbrev S1024x64 : Shape := ⟨2, ![1024, 64]⟩
abbrev S6144 : Shape := ⟨1, ![6144]⟩
abbrev S1x6144 : Shape := ⟨2, ![1, 6144]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S256 : Shape := ⟨1, ![256]⟩
abbrev S256x1 : Shape := ⟨2, ![256, 1]⟩
abbrev S16640x64 : Shape := ⟨2, ![16640, 64]⟩
abbrev S64x16640 : Shape := ⟨2, ![64, 16640]⟩

abbrev nBuf : Space → Nat
  | .hbm => 71
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x64, .f32⟩
  | .hbm, ⟨3, _⟩ => ⟨S6144, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S_, .f32⟩
  | .hbm, ⟨50, _⟩ => ⟨S256x1, .f32⟩
  | .hbm, ⟨51, _⟩ => ⟨S256x1, .f32⟩
  | .hbm, ⟨52, _⟩ => ⟨S256x1, .f32⟩
  | .hbm, ⟨53, _⟩ => ⟨S256x1024, .f32⟩
  | .hbm, ⟨54, _⟩ => ⟨S256x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S256x1024, .f32⟩
  | .hbm, ⟨63, _⟩ => ⟨S256x1024, .f32⟩
  | .hbm, ⟨64, _⟩ => ⟨S1x1024, .f32⟩
  | .hbm, ⟨65, _⟩ => ⟨S256x1024, .f32⟩
  | .hbm, ⟨66, _⟩ => ⟨S256x1024, .f32⟩
  | .hbm, ⟨67, _⟩ => ⟨S16640x1024, .f32⟩
  | .hbm, ⟨68, _⟩ => ⟨S16640x1024, .bf16⟩
  | .hbm, ⟨69, _⟩ => ⟨S16640x64, .f32⟩
  | .hbm, ⟨70, _⟩ => ⟨S64x16640, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Modulation.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S4x2x6144 : Shape := ⟨3, ![4, 2, 6144]⟩
abbrev S4x2x6x1024 : Shape := ⟨4, ![4, 2, 6, 1024]⟩

abbrev nBuf : Space → Nat
  | .hbm => 17
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S4x1x6144, .f32⟩
  | .hbm, ⟨14, _⟩ => ⟨S4x8x6144, .f32⟩
  | .hbm, ⟨15, _⟩ => ⟨S4x2x6144, .f32⟩
  | .hbm, ⟨16, _⟩ => ⟨S4x2x6x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S2x6144 : Shape := ⟨2, ![2, 6144]⟩
abbrev S1x2x6144 : Shape := ⟨3, ![1, 2, 6144]⟩
abbrev S4x2x6144 : Shape := ⟨3, ![4, 2, 6144]⟩
abbrev S4x2x6x1024 : Shape := ⟨4, ![4, 2, 6, 1024]⟩

abbrev nBuf : Space → Nat
  | .hbm => 150
  | .vmem => 0
  | .smem => 0
  | _ => 0

abbrev hbmTy0_0 (i : Nat) : BufTy := match i % 128 with
  | 0 => ⟨S1x1024, .f32⟩
  | 1 => ⟨S1024, .f32⟩
  | 2 => ⟨S4x1024x6144, .f32⟩
  | 3 => ⟨S4x6144, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S1x1024x6144, .f32⟩
  | 14 => ⟨S1024x6144, .f32⟩
  | 15 => ⟨S1x6144, .f32⟩
  | 16 => ⟨S1x6144, .f32⟩
  | 17 => ⟨S6144, .f32⟩
  | 18 => ⟨S1x6144, .f32⟩
  | 19 => ⟨S1x6144, .f32⟩
  | 20 => ⟨S1024, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S1x1024x6144, .f32⟩
  | 30 => ⟨S1024x6144, .f32⟩
  | 31 => ⟨S6144, .f32⟩
  | 32 => ⟨S1x6144, .f32⟩
  | 33 => ⟨S6144, .f32⟩
  | 34 => ⟨S6144, .f32⟩
  | 35 => ⟨S6144, .f32⟩
  | 36 => ⟨S1x6144, .f32⟩
  | 37 => ⟨S1x6144, .f32⟩
  | 38 => ⟨S2x6144, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S1x1024x6144, .f32⟩
  | 49 => ⟨S1024x6144, .f32⟩
  | 50 => ⟨S1x6144, .f32⟩
  | 51 => ⟨S1x6144, .f32⟩
  | 52 => ⟨S6144, .f32⟩
  | 53 => ⟨S1x6144, .f32⟩
  | 54 => ⟨S1x6144, .f32⟩
  | 55 => ⟨S1024, .f32⟩
  | 56 => ⟨S1024, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S1x1024x6144, .f32⟩
  | 65 => ⟨S1024x6144, .f32⟩
  | 66 => ⟨S6144, .f32⟩
  | 67 => ⟨S1x6144, .f32⟩
  | 68 => ⟨S6144, .f32⟩
  | 69 => ⟨S6144, .f32⟩
  | 70 => ⟨S6144, .f32⟩
  | 71 => ⟨S1x6144, .f32⟩
  | 72 => ⟨S1x6144, .f32⟩
  | 73 => ⟨S2x6144, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S1x1024x6144, .f32⟩
  | 84 => ⟨S1024x6144, .f32⟩
  | 85 => ⟨S1x6144, .f32⟩
  | 86 => ⟨S1x6144, .f32⟩
  | 87 => ⟨S6144, .f32⟩
  | 88 => ⟨S1x6144, .f32⟩
  | 89 => ⟨S1x6144, .f32⟩
  | 90 => ⟨S1024, .f32⟩
  | 91 => ⟨S1024, .f32⟩
  | 92 => ⟨S_, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S1x1024x6144, .f32⟩
  | 100 => ⟨S1024x6144, .f32⟩
  | 101 => ⟨S6144, .f32⟩
  | 102 => ⟨S1x6144, .f32⟩
  | 103 => ⟨S6144, .f32⟩
  | 104 => ⟨S6144, .f32⟩
  | 105 => ⟨S6144, .f32⟩
  | 106 => ⟨S1x6144, .f32⟩
  | 107 => ⟨S1x6144, .f32⟩
  | 108 => ⟨S2x6144, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S1x1024x6144, .f32⟩
  | 119 => ⟨S1024x6144, .f32⟩
  | 120 => ⟨S1x6144, .f32⟩
  | 121 => ⟨S1x6144, .f32⟩
  | 122 => ⟨S6144, .f32⟩
  | 123 => ⟨S1x6144, .f32⟩
  | 124 => ⟨S1x6144, .f32⟩
  | 125 => ⟨S1024, .f32⟩
  | 126 => ⟨S1024, .f32⟩
  | 127 => ⟨S_, .f32⟩
  | _ => ⟨S1x1024, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1x1024x6144, .f32⟩
  | 7 => ⟨S1024x6144, .f32⟩
  | 8 => ⟨S6144, .f32⟩
  | 9 => ⟨S1x6144, .f32⟩
  | 10 => ⟨S6144, .f32⟩
  | 11 => ⟨S6144, .f32⟩
  | 12 => ⟨S6144, .f32⟩
  | 13 => ⟨S1x6144, .f32⟩
  | 14 => ⟨S1x6144, .f32⟩
  | 15 => ⟨S2x6144, .f32⟩
  | 16 => ⟨S1x2x6144, .f32⟩
  | 17 => ⟨S1x2x6144, .f32⟩
  | 18 => ⟨S1x2x6144, .f32⟩
  | 19 => ⟨S1x2x6144, .f32⟩
  | 20 => ⟨S4x2x6144, .f32⟩
  | 21 => ⟨S4x2x6x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call4_v0 : Ref sig .tc := ⟨.hbm, 74, rfl⟩
abbrev main_call4_v1 : Ref sig .tc := ⟨.hbm, 75, rfl⟩
abbrev main_call4_cst : Ref sig .tc := ⟨.hbm, 76, rfl⟩
abbrev main_call4_v2 : Ref sig .tc := ⟨.hbm, 77, rfl⟩
abbrev main_call4_v3 : Ref sig .tc := ⟨.hbm, 78, rfl⟩
abbrev main_call4_cst_0 : Ref sig .tc := ⟨.hbm, 79, rfl⟩
abbrev main_call4_v4 : Ref sig .tc := ⟨.hbm, 80, rfl⟩
abbrev main_call4_v5 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_call5_v0 : Ref sig .tc := ⟨.hbm, 90, rfl⟩
abbrev main_call5_v1 : Ref sig .tc := ⟨.hbm, 91, rfl⟩
abbrev main_call5_cst : Ref sig .tc := ⟨.hbm, 92, rfl⟩
abbrev main_call5_v2 : Ref sig .tc := ⟨.hbm, 93, rfl⟩
abbrev main_call5_v3 : Ref sig .tc := ⟨.hbm, 94, rfl⟩
abbrev main_call5_cst_0 : Ref sig .tc := ⟨.hbm, 95, rfl⟩
abbrev main_call5_v4 : Ref sig .tc := ⟨.hbm, 96, rfl⟩
abbrev main_call5_v5 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_call7_v0 : Ref sig .tc := ⟨.hbm, 125, rfl⟩
abbrev main_call7_v1 : Ref sig .tc := ⟨.hbm, 126, rfl⟩
abbrev main_call7_cst : Ref sig .tc := ⟨.hbm, 127, rfl⟩
abbrev main_call7_v2 : Ref sig .tc := ⟨.hbm, 128, rfl⟩
abbrev main_call7_v3 : Ref sig .tc := ⟨.hbm, 129, rfl⟩
abbrev main_call7_cst_0 : Ref sig .tc := ⟨.hbm, 130, rfl⟩
abbrev main_call7_v4 : Ref sig .tc := ⟨.hbm, 131, rfl⟩
abbrev main_call7_v5 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]
-- ==== ShortConv.lean ====
abbrev S16640x4608 : Shape := ⟨2, ![16640, 4608]⟩
abbrev S3x1536 : Shape := ⟨2, ![3, 1536]⟩
abbrev S1536 : Shape := ⟨1, ![1536]⟩
abbrev S1x1536 : Shape := ⟨2, ![1, 1536]⟩
abbrev S16640x512 : Shape := ⟨2, ![16640, 512]⟩
abbrev S256x1536 : Shape := ⟨2, ![256, 1536]⟩
abbrev S8x1536 : Shape := ⟨2, ![8, 1536]⟩
abbrev S256x512 : Shape := ⟨2, ![256, 512]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S16640x4608, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S16640x512, .f32⟩
  | .hbm, ⟨5, _⟩ => ⟨S16640x512, .f32⟩
  | .hbm, ⟨6, _⟩ => ⟨S16640x512, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S3x1536, .f32⟩
  | .local _ .vmem, ⟨7, _⟩ => ⟨S1x1536, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S16640x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ShortConvRefIdeal.lean ====
abbrev S16640x4608 : Shape := ⟨2, ![16640, 4608]⟩
abbrev S3x1536 : Shape := ⟨2, ![3, 1536]⟩
abbrev S1536 : Shape := ⟨1, ![1536]⟩
abbrev S16640x1536 : Shape := ⟨2, ![16640, 1536]⟩
abbrev S16384x1536 : Shape := ⟨2, ![16384, 1536]⟩
abbrev S_ : Shape := ⟨0, ![]⟩
abbrev S16386x1536 : Shape := ⟨2, ![16386, 1536]⟩
abbrev S1x1536 : Shape := ⟨2, ![1, 1536]⟩
abbrev S256x1536 : Shape := ⟨2, ![256, 1536]⟩
abbrev S258x1536 : Shape := ⟨2, ![258, 1536]⟩
abbrev S16640x512 : Shape := ⟨2, ![16640, 512]⟩

abbrev nBuf : Space → Nat
  | .hbm => 62
  | .vmem => 0
  | .smem => 0
  | _ => 0

abbrev bufTy : (tb : Table) → Fin (tcTables nBuf tb) → BufTy
  | .hbm, ⟨0, _⟩ => ⟨S16640x4608, .f32⟩
  | .hbm, ⟨1, _⟩ => ⟨S3x1536, .f32⟩
  | .hbm, ⟨2, _⟩ => ⟨S1536, .f32⟩
  | .hbm, ⟨3, _⟩ => ⟨S16640x1536, .f32⟩
  | .hbm, ⟨4, _⟩ => ⟨S16384x1536, .f32⟩
  | .hbm, ⟨5, _⟩ => ⟨S_, .i32⟩
  | .hbm, ⟨6, _⟩ => ⟨S_, .f32⟩
  | .hbm, ⟨7, _⟩ => ⟨S16386x1536, .f32⟩
  | .hbm, ⟨8, _⟩ => ⟨S16384x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S16384x1536, .f32⟩
  | .hbm, ⟨19, _⟩ => ⟨S16384x1536, .f32⟩
  | .hbm, ⟨20, _⟩ => ⟨S16384x1536, .f32⟩
  | .hbm, ⟨21, _⟩ => ⟨S16384x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S16384x1536, .f32⟩
  | .hbm, ⟨26, _⟩ => ⟨S16384x1536, .f32⟩
  | .hbm, ⟨27, _⟩ => ⟨S16384x1536, .f32⟩
  | .hbm, ⟨28, _⟩ => ⟨S1x1536, .f32⟩
  | .hbm, ⟨29, _⟩ => ⟨S16384x1536, .f32⟩
  | .hbm, ⟨30, _⟩ => ⟨S16384x1536, .f32⟩
  | .hbm, ⟨31, _⟩ => ⟨S256x1536, .f32⟩
  | .hbm, ⟨32, _⟩ => ⟨S_, .i32⟩
  | .hbm, ⟨33, _⟩ => ⟨S_, .f32⟩
  | .hbm, ⟨34, _⟩ => ⟨S258x1536, .f32⟩
  | .hbm, ⟨35, _⟩ => ⟨S256x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S256x1536, .f32⟩
  | .hbm, ⟨40, _⟩ => ⟨S256x1536, .f32⟩
  | .hbm, ⟨41, _⟩ => ⟨S256x1536, .f32⟩
  | .hbm, ⟨42, _⟩ => ⟨S1x1536, .f32⟩
  | .hbm, ⟨43, _⟩ => ⟨S1536, .f32⟩
  | .hbm, ⟨44, _⟩ => ⟨S1x1536, .f32⟩
  | .hbm, ⟨45, _⟩ => ⟨S256x1536, .f32⟩
  | .hbm, ⟨46, _⟩ => ⟨S256x1536, .f32⟩
  | .hbm, ⟨47, _⟩ => ⟨S256x1536, .f32⟩
  | .hbm, ⟨48, _⟩ => ⟨S256x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S256x1536, .f32⟩
  | .hbm, ⟨53, _⟩ => ⟨S256x1536, .f32⟩
  | .hbm, ⟨54, _⟩ => ⟨S256x1536, .f32⟩
  | .hbm, ⟨55, _⟩ => ⟨S1x1536, .f32⟩
  | .hbm, ⟨56, _⟩ => ⟨S256x1536, .f32⟩
  | .hbm, ⟨57, _⟩ => ⟨S256x1536, .f32⟩
  | .hbm, ⟨58, _⟩ => ⟨S16640x1536, .f32⟩
  | .hbm, ⟨59, _⟩ => ⟨S16640x512, .f32⟩
  | .hbm, ⟨60, _⟩ => ⟨S16640x512, .f32⟩
  | .hbm, ⟨61, _⟩ => ⟨S16640x512, .f32⟩
  | _, _ => ⟨S16640x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_0 : Ref sig .tc := ⟨.hbm, 32, rfl⟩
abbrev main_call1_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩

abbrev nD : Nat := 1
abbrev τ : Topo := Topo.v7x

variable {F : FTy → Type} [FloatOps F]
-- ==== Proof.IdealRun.lean ====
/-
  The kernel's body run once, at any float instance: from whole buffers to its return. The body zeroes the
  accumulator, then takes the lazy pass over the key chunks, and after it looks at a number it has computed
  itself to decide whether the exact pass runs as well. The run therefore ends in one of two contents of the
  output block, `o1` (the lazy pass alone) and `o2` (the exact pass over it); both are found by the run and
  neither is chosen here. `runPlain` is a tile of latent queries only, `runMasked` the last tile, which also
  holds the context queries.
-/
module

public import proofs.«01_k».proof.Proof.Gen.KernelIdeal.Loops
public import Idealize.ShloMosaic.Lib.Tactic
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- Memref `M` held whole on core `c` at contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

abbrev sM : Memref sig .tc .vmem S2x1x1280 .f32 := Memref.whole cc0_scratch0
abbrev sE : Memref sig .tc .vmem S2x1x1280 .f32 := Memref.whole cc0_scratch1
abbrev sA : Memref sig .tc .vmem S2x144x1280 .f32 := Memref.whole cc0_scratch2

/-- A tile of latent queries: no mask. -/
def runPlain (c : Dev nD) (i : grid0.Coords) (h1 : k0_cond1 i = 1#1) (h3 : ¬ k0_cond3 i = 1#1)
    (a2 : Memref sig .tc .smem S1 .f32) (ha2 : a2.IsWhole) (a3 : Memref sig .tc .vmem S128x1280 .f32) (ha3 : a3.IsWhole)
    (a4 : Memref sig .tc .vmem S16640x128 .bf16) (ha4 : a4.IsWhole) (a5 : Memref sig .tc .vmem S144x16640 .bf16) (ha5 : a5.IsWhole)
    (a6 : Memref sig .tc .vmem S1x128 .f32) (ha6 : a6.IsWhole) (a7 : Memref sig .tc .vmem S1280x128 .bf16) (ha7 : a7.IsWhole)
    (a8 : Memref sig .tc .vmem S2x1x1280 .f32) (ha8 : a8.IsWhole) (a9 : Memref sig .tc .vmem S2x1x1280 .f32) (ha9 : a9.IsWhole)
    (a10 : Memref sig .tc .vmem S2x144x1280 .f32) (ha10 : a10.IsWhole)
    (X2 : BufTy.Contents (Elt F) a2.view.ty) (X3 : BufTy.Contents (Elt F) a3.view.ty)
    (X4 : BufTy.Contents (Elt F) a4.view.ty) (X5 : BufTy.Contents (Elt F) a5.view.ty)
    (X6 : BufTy.Contents (Elt F) a6.view.ty) (f7 : BufTy.Contents (Elt F) a7.view.ty)
    (f8 : BufTy.Contents (Elt F) a8.view.ty) (f9 : BufTy.Contents (Elt F) a9.view.ty)
    (f10 : BufTy.Contents (Elt F) a10.view.ty) :
    Σ' (o1 : BufTy.Contents (Elt F) a7.view.ty), { o2 : BufTy.Contents (Elt F) a7.view.ty //
      ∀ E : Set ℕ, iprop(pt c a2 X2 ∗ pt c a3 X3 ∗ pt c a4 X4 ∗ pt c a5 X5 ∗ pt c a6 X6 ∗ pt c a7 f7 ∗ pt c a8 f8 ∗ pt c a9 f9 ∗ pt c a10 f10)
      ⊢ wp frame (wpE (defs₀ (F := F)) Variants.none (c : Thread nD τ) none) E
          (cc0_diff_attention (F := F) i a2 ha2 a3 ha3 a4 ha4 a5 ha5 a6 ha6 a7 ha7 a8 ha8 a9 ha9 a10 ha10)
          (fun _ => iprop(pt c a2 X2 ∗ pt c a3 X3 ∗ pt c a4 X4 ∗ pt c a5 X5 ∗ pt c a6 X6
            ∗ (∃ f, pt c a8 f) ∗ (∃ f, pt c a9 f) ∗ (∃ f, pt c a10 f) ∗ (∃ f, pt c a7 f ∗ ⌜f = o1 ∨ f = o2⌝))) } := by
  refine ⟨?_, ?_, fun E => ?_⟩
  pick_goal 3
  simp only [cc0_diff_attention_eq_skeleton]
  unfold cc0_diff_attention_skel
  iintro ⟨H2, H3, H4, H5, H6, H7, H8, H9, H10⟩
  sl_exec
  by_cases hC : runPlain.sl.v83 c i h1 a2 ha2 a3 ha3 a4 ha4 a5 ha5 a6 ha6 a7 ha7 a8 ha8 a9 ha9 a10 ha10 X3 X4 X5 = 1#1
  sl_exec
  sl_step
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  iexists _
  isplitl [H7]; · iexact H7
  ipureintro
  right; rfl
  case neg =>
    sl_exec
    sl_step
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    iexists _
    isplitl [H7]; · iexact H7
    ipureintro
    left; rfl

/-- The tile that holds the context queries: its blocks are masked. -/
def runMasked (c : Dev nD) (i : grid0.Coords) (h1 : ¬ k0_cond1 i = 1#1) (h3 : k0_cond3 i = 1#1)
    (a2 : Memref sig .tc .smem S1 .f32) (ha2 : a2.IsWhole) (a3 : Memref sig .tc .vmem S128x1280 .f32) (ha3 : a3.IsWhole)
    (a4 : Memref sig .tc .vmem S16640x128 .bf16) (ha4 : a4.IsWhole) (a5 : Memref sig .tc .vmem S144x16640 .bf16) (ha5 : a5.IsWhole)
    (a6 : Memref sig .tc .vmem S1x128 .f32) (ha6 : a6.IsWhole) (a7 : Memref sig .tc .vmem S1280x128 .bf16) (ha7 : a7.IsWhole)
    (a8 : Memref sig .tc .vmem S2x1x1280 .f32) (ha8 : a8.IsWhole) (a9 : Memref sig .tc .vmem S2x1x1280 .f32) (ha9 : a9.IsWhole)
    (a10 : Memref sig .tc .vmem S2x144x1280 .f32) (ha10 : a10.IsWhole)
    (X2 : BufTy.Contents (Elt F) a2.view.ty) (X3 : BufTy.Contents (Elt F) a3.view.ty)
    (X4 : BufTy.Contents (Elt F) a4.view.ty) (X5 : BufTy.Contents (Elt F) a5.view.ty)
    (X6 : BufTy.Contents (Elt F) a6.view.ty) (f7 : BufTy.Contents (Elt F) a7.view.ty)
    (f8 : BufTy.Contents (Elt F) a8.view.ty) (f9 : BufTy.Contents (Elt F) a9.view.ty)
    (f10 : BufTy.Contents (Elt F) a10.view.ty) :
    Σ' (o1 : BufTy.Contents (Elt F) a7.view.ty), { o2 : BufTy.Contents (Elt F) a7.view.ty //
      ∀ E : Set ℕ, iprop(pt c a2 X2 ∗ pt c a3 X3 ∗ pt c a4 X4 ∗ pt c a5 X5 ∗ pt c a6 X6 ∗ pt c a7 f7 ∗ pt c a8 f8 ∗ pt c a9 f9 ∗ pt c a10 f10)
      ⊢ wp frame (wpE (defs₀ (F := F)) Variants.none (c : Thread nD τ) none) E
          (cc0_diff_attention (F := F) i a2 ha2 a3 ha3 a4 ha4 a5 ha5 a6 ha6 a7 ha7 a8 ha8 a9 ha9 a10 ha10)
          (fun _ => iprop(pt c a2 X2 ∗ pt c a3 X3 ∗ pt c a4 X4 ∗ pt c a5 X5 ∗ pt c a6 X6
            ∗ (∃ f, pt c a8 f) ∗ (∃ f, pt c a9 f) ∗ (∃ f, pt c a10 f) ∗ (∃ f, pt c a7 f ∗ ⌜f = o1 ∨ f = o2⌝))) } := by
  refine ⟨?_, ?_, fun E => ?_⟩
  pick_goal 3
  simp only [cc0_diff_attention_eq_skeleton]
  unfold cc0_diff_attention_skel
  iintro ⟨H2, H3, H4, H5, H6, H7, H8, H9, H10⟩
  sl_exec
  by_cases hC : runMasked.sl.v111 c i h3 a2 ha2 a3 ha3 a4 ha4 a5 ha5 a6 ha6 a7 ha7 a8 ha8 a9 ha9 a10 ha10 X3 X4 X5 = 1#1
  sl_exec
  sl_step
  isplitl [H2]; · iexact H2
  isplitl [H3]; · iexact H3
  isplitl [H4]; · iexact H4
  isplitl [H5]; · iexact H5
  isplitl [H6]; · iexact H6
  isplitl [H8]; · iexists _; iexact H8
  isplitl [H9]; · iexists _; iexact H9
  isplitl [H10]; · iexists _; iexact H10
  iexists _
  isplitl [H7]; · iexact H7
  ipureintro
  right; rfl
  case neg =>
    sl_exec
    sl_step
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    iexists _
    isplitl [H7]; · iexact H7
    ipureintro
    left; rfl

end Cert.KernelIdeal.Hand

end
-- ==== Proof.IdealFrame.lean ====
/-
  The kernel's whole run at any float instance. At a grid point the body is the run of `IdealRun`, on the point's
  staged blocks; what it leaves in the output block is named only by the run (`Leaves`). The frame claim forgets
  the output; the value claim will read it through `Leaves`.
-/
module

public import proofs.«01_k».proof.Proof.IdealRun
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- At every grid point exactly one of the two tile kinds applies. -/
theorem tile_kind (i : grid0.Coords) :
    (k0_cond1 i = 1#1 ∧ ¬ k0_cond3 i = 1#1) ∨ (¬ k0_cond1 i = 1#1 ∧ k0_cond3 i = 1#1) := by
  have h : ∀ n : Fin 13, (Scalar.cmpi .ne (Scalar.extui (Scalar.cmpi .ne (BitVec.ofNat 32 n.val) 12#32) : BitVec 32) 0#32 = 1#1
      ∧ ¬ Scalar.cmpi .ne (Scalar.extui (Scalar.cmpi .eq (BitVec.ofNat 32 n.val) 12#32) : BitVec 32) 0#32 = 1#1)
      ∨ (¬ Scalar.cmpi .ne (Scalar.extui (Scalar.cmpi .ne (BitVec.ofNat 32 n.val) 12#32) : BitVec 32) 0#32 = 1#1
      ∧ Scalar.cmpi .ne (Scalar.extui (Scalar.cmpi .eq (BitVec.ofNat 32 n.val) 12#32) : BitVec 32) 0#32 = 1#1) := by decide
  exact h (i 1)

/-- What the body may leave in the output's staging buffer, from input buffers that read as `x2 … x6`: one of the
    contents the run ends in. -/
def Leaves (c : Dev nD) (i : grid0.Coords)
    (a2 : Memref sig .tc .smem S1 .f32) (ha2 : a2.IsWhole) (a3 : Memref sig .tc .vmem S128x1280 .f32) (ha3 : a3.IsWhole)
    (a4 : Memref sig .tc .vmem S16640x128 .bf16) (ha4 : a4.IsWhole) (a5 : Memref sig .tc .vmem S144x16640 .bf16) (ha5 : a5.IsWhole)
    (a6 : Memref sig .tc .vmem S1x128 .f32) (ha6 : a6.IsWhole) (a7 : Memref sig .tc .vmem S1280x128 .bf16) (ha7 : a7.IsWhole)
    (x2 : Vec F S1 .f32) (x3 : Vec F S128x1280 .f32) (x4 : Vec F S16640x128 .bf16) (x5 : Vec F S144x16640 .bf16)
    (x6 : Vec F S1x128 .f32) (o : BufTy.Contents (Elt F) a7.view.ty) : Prop :=
  ∃ X2 X3 X4 X5 X6 f7 f8 f9 f10,
    a2.view.read (Elt F) X2 = x2 ∧ a3.view.read (Elt F) X3 = x3 ∧ a4.view.read (Elt F) X4 = x4
      ∧ a5.view.read (Elt F) X5 = x5 ∧ a6.view.read (Elt F) X6 = x6
      ∧ ((∃ h1 h3,
          o = (runPlain (F := F) c i h1 h3 a2 ha2 a3 ha3 a4 ha4 a5 ha5 a6 ha6 a7 ha7 sM (Memref.isWhole_whole _) sE
            (Memref.isWhole_whole _) sA (Memref.isWhole_whole _) X2 X3 X4 X5 X6 f7 f8 f9 f10).1
          ∨ o = (runPlain (F := F) c i h1 h3 a2 ha2 a3 ha3 a4 ha4 a5 ha5 a6 ha6 a7 ha7 sM (Memref.isWhole_whole _) sE
            (Memref.isWhole_whole _) sA (Memref.isWhole_whole _) X2 X3 X4 X5 X6 f7 f8 f9 f10).2.1)
        ∨ (∃ h1 h3,
          o = (runMasked (F := F) c i h1 h3 a2 ha2 a3 ha3 a4 ha4 a5 ha5 a6 ha6 a7 ha7 sM (Memref.isWhole_whole _) sE
            (Memref.isWhole_whole _) sA (Memref.isWhole_whole _) X2 X3 X4 X5 X6 f7 f8 f9 f10).1
          ∨ o = (runMasked (F := F) c i h1 h3 a2 ha2 a3 ha3 a4 ha4 a5 ha5 a6 ha6 a7 ha7 sM (Memref.isWhole_whole _) sE
            (Memref.isWhole_whole _) sA (Memref.isWhole_whole _) X2 X3 X4 X5 X6 f7 f8 f9 f10).2.1))

/-- The body's triple for any continuation: from the inputs' buffers, the output's and the scratch, to the inputs
    as they were, the output at what the run leaves, the scratch at something. -/
theorem kernelRun (c : Dev nD) (i : grid0.Coords)
    (a2 : Memref sig .tc .smem S1 .f32) (ha2 : a2.IsWhole) (a3 : Memref sig .tc .vmem S128x1280 .f32) (ha3 : a3.IsWhole)
    (a4 : Memref sig .tc .vmem S16640x128 .bf16) (ha4 : a4.IsWhole) (a5 : Memref sig .tc .vmem S144x16640 .bf16) (ha5 : a5.IsWhole)
    (a6 : Memref sig .tc .vmem S1x128 .f32) (ha6 : a6.IsWhole) (a7 : Memref sig .tc .vmem S1280x128 .bf16) (ha7 : a7.IsWhole)
    (x2 : Vec F S1 .f32) (x3 : Vec F S128x1280 .f32) (x4 : Vec F S16640x128 .bf16) (x5 : Vec F S144x16640 .bf16)
    (x6 : Vec F S1x128 .f32) (K : PUnit → sProp 𝕄) :
    iprop(owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ (∃ d, owns (c : Thread nD τ) a7 fullShare d)
        ∗ (∃ f, pt c sM f) ∗ (∃ f, pt c sE f) ∗ (∃ f, pt c sA f)
        ∗ (iprop(owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare x6
            ∗ (∃ o, ⌜Leaves c i a2 ha2 a3 ha3 a4 ha4 a5 ha5 a6 ha6 a7 ha7 x2 x3 x4 x5 x6 o⌝ ∗ pt c a7 o)
            ∗ (∃ f, pt c sM f) ∗ (∃ f, pt c sE f) ∗ (∃ f, pt c sA f)) -∗ K ⟨⟩))
      ⊢ wp frame (wpE (defs₀ (F := F)) Variants.none (c : Thread nD τ) none) Set.univ
          (cc0_diff_attention (F := F) i a2 ha2 a3 ha3 a4 ha4 a5 ha5 a6 ha6 a7 ha7 sM (Memref.isWhole_whole _) sE
            (Memref.isWhole_whole _) sA (Memref.isWhole_whole _)) K := by
  unfold owns
  iintro ⟨⟨%X2, %h2, H2⟩, ⟨%X3, %h3, H3⟩, ⟨%X4, %h4, H4⟩, ⟨%X5, %h5, H5⟩, ⟨%X6, %h6, H6⟩, ⟨%d7, %f7, -, H7⟩,
    ⟨%f8, H8⟩, ⟨%f9, H9⟩, ⟨%f10, H10⟩, Hk⟩
  rcases tile_kind i with ⟨hp1, hp3⟩ | ⟨hp1, hp3⟩
  · iapply (wp_wand_r Idealize.ShloMosaic.frame (wpE (defs₀ (F := F)) Variants.none (c : Thread nD τ) none) Set.univ)
    isplitl [H2 H3 H4 H5 H6 H7 H8 H9 H10]
    · iapply ((runPlain (F := F) c i hp1 hp3 a2 ha2 a3 ha3 a4 ha4 a5 ha5 a6 ha6 a7 ha7 sM (Memref.isWhole_whole _) sE
      (Memref.isWhole_whole _) sA (Memref.isWhole_whole _) X2 X3 X4 X5 X6 f7 f8 f9 f10).2.2 Set.univ)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, H8, H9, H10, ⟨%o, H7, %ho⟩⟩
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists o; isplitr; swap; · iexact H7
      ipureintro
      exact ⟨X2, X3, X4, X5, X6, f7, f8, f9, f10, h2, h3, h4, h5, h6, Or.inl ⟨hp1, hp3, ho⟩⟩
    isplitl [H8]; · iexact H8
    isplitl [H9]; · iexact H9
    iexact H10
  · iapply (wp_wand_r Idealize.ShloMosaic.frame (wpE (defs₀ (F := F)) Variants.none (c : Thread nD τ) none) Set.univ)
    isplitl [H2 H3 H4 H5 H6 H7 H8 H9 H10]
    · iapply ((runMasked (F := F) c i hp1 hp3 a2 ha2 a3 ha3 a4 ha4 a5 ha5 a6 ha6 a7 ha7 sM (Memref.isWhole_whole _) sE
      (Memref.isWhole_whole _) sA (Memref.isWhole_whole _) X2 X3 X4 X5 X6 f7 f8 f9 f10).2.2 Set.univ)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iintro %_ ⟨H2, H3, H4, H5, H6, H8, H9, H10, ⟨%o, H7, %ho⟩⟩
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists o; isplitr; swap; · iexact H7
      ipureintro
      exact ⟨X2, X3, X4, X5, X6, f7, f8, f9, f10, h2, h3, h4, h5, h6, Or.inr ⟨hp1, hp3, ho⟩⟩
    isplitl [H8]; · iexact H8
    isplitl [H9]; · iexact H9
    iexact H10

/-! ## The proof data and the body obligation, the output forgotten -/

variable (m : (ℓ : Loc nD τ sig) → Buf (Elt F) ℓ) (ρ : Dev nD → PrngReg)

/-- The one window whose contents nothing here reads: the output's. -/
def forgets0 : Fin 6 → Bool := fun w => decide (w = 5)

/-- The proof data on core `c`: the arrays as the region finds them, the inputs' blocks left in place, the output
    unnamed; the scratch owned at anything between points; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant between points: the three scratch buffers at some contents, the generator register at some state. -/
theorem PhiA0_eq (c : Dev nD) :
    (Pipeline.ΦA spec0 c : sProp 𝕄)
      = iprop(((∃ f, pt c sM f) ∗ (∃ f, pt c sE f) ∗ (∃ f, pt c sA f)) ∗ (∃ r, prngReg c r)) := by
  unfold Pipeline.ΦA
  rw [scopedRest0_eq]
  simp only [pt, sM, sE, sA, Memref.view_whole, View.set_whole]
  try rfl

/-- What the body leaves at point `t`, from the blocks there. -/
def LeavesAt (c : Dev nD) (t : Fin cfg0.N) (o : BufTy.Contents (Elt F) (st0_5 t).view.ty) : Prop :=
  Leaves c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (iblk m c 0 t) (iblk m c 1 t) (iblk m c 2 t) (iblk m c 3 t) (iblk m c 4 t) o

/-- The body at point `t` from its blocks: what both obligations, the one that forgets the output and the one that
    names it, follow from. -/
theorem body_leaves (c : Dev nD) (t : Fin cfg0.N) (K : PUnit → sProp 𝕄) :
    iprop(Pipeline.ΦA spec0 c
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ (∃ d, owns (c : Thread nD τ) (st0_5 t) fullShare d)
        ∗ (iprop(Pipeline.ΦA spec0 c
            ∗ owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (iblk m c 4 t)
            ∗ (∃ o, ⌜LeavesAt m c t o⌝ ∗ pt c (st0_5 t) o)) -∗ K ⟨⟩))
      ⊢ wp frame (wpE (defs₀ (F := F)) Variants.none (c : Thread nD τ) none) Set.univ (bodyAt0 t) K := by
  unfold bodyAt0
  rw [PhiA0_eq]
  iintro ⟨⟨⟨H8, H9, H10⟩, Hg⟩, H0, H1, H2, H3, H4, H5, Hk⟩
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (iblk m c 0 t) (iblk m c 1 t) (iblk m c 2 t) (iblk m c 3 t) (iblk m c 4 t) K)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H10]; · iexact H10
  iintro ⟨H0, H1, H2, H3, H4, H5, H8, H9, H10⟩
  iapply Hk
  isplitl [H8 H9 H10 Hg]
  · isplitl [H8 H9 H10]
    · isplitl [H8]; · iexact H8
      isplitl [H9]; · iexact H9
      iexact H10
    iexact Hg
  isplitl [H0]; · iexact H0
  isplitl [H1]; · iexact H1
  isplitl [H2]; · iexact H2
  isplitl [H3]; · iexact H3
  isplitl [H4]; · iexact H4
  iexact H5

/-- What the body is called with at point `t`, and what it returns, the output forgotten. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3, before0_4, after0_0, after0_1, after0_2, after0_3, after0_4]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl]
  iintro ⟨HΦ, HO, ⟨%d0, H0⟩, ⟨%d1, H1⟩, ⟨%d2, H2⟩, ⟨%d3, H3⟩, ⟨%d4, H4⟩, H5⟩
  iapply (body_leaves m c t _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iintro ⟨HΦ, H0, H1, H2, H3, H4, ⟨%o, -, H5⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  unfold owns
  iexists _, o
  isplitr; swap; · iexact H5
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every weakly fair execution terminates; every unscoped buffer that is no window's array is as the region found
    it, and every semaphore counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: after every run each argument array is as it was launched and every counter is at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.KernelIdeal.Hand

end
-- ==== Proof.Reference.lean ====
/-
  What the reference computes, in the steps of its mathematics.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value

variable {F : FTy → Type} [FloatOps F]

/-- The weight of the second softmax. -/
def lamV (x : (⟨S4x64, .f32⟩ : BufTy).Contents (Elt F)) : (⟨S_, .f32⟩ : BufTy).Contents (Elt F) :=
  addf (subf
    (Host.exp (Host.reduceAdd (mulf
      (shapeCast S64 (extractStridedSlice S1x64 ![0, 0] x slices_S4x64_S1x64_0_0) shapeCasts_S1x64_S64)
      (shapeCast S64 (extractStridedSlice S1x64 ![1, 0] x slices_S4x64_S1x64_1_0) shapeCasts_S1x64_S64))
      (constant S_ .f32 0x00000000#32) reducesTo_S64_S_d0 h_S_))
    (Host.exp (Host.reduceAdd (mulf
      (shapeCast S64 (extractStridedSlice S1x64 ![2, 0] x slices_S4x64_S1x64_2_0) shapeCasts_S1x64_S64)
      (shapeCast S64 (extractStridedSlice S1x64 ![3, 0] x slices_S4x64_S1x64_3_0) shapeCasts_S1x64_S64))
      (constant S_ .f32 0x00000000#32) reducesTo_S64_S_d0 h_S_)))
    (constant S_ .f32 0x3EB60549#32)

/-! ### L queries -/

/-- The scores. -/
def sL (q k : (⟨S16640x1024, .f32⟩ : BufTy).Contents (Elt F)) : (⟨S8x2x16384x16640, .f32⟩ : BufTy).Contents (Elt F) :=
  mulf (Host.dotGeneral dot_S16384x8x2x64_S16640x8x2x64_S8x2x16384x16640_3_3_0_0_12_12 none
      (extractStridedSlice S16384x8x2x64 ![0, 0, 0, 0] (shapeCast _ q shapeCasts_S16640x1024_S16640x8x2x64)
        slices_S16640x8x2x64_S16384x8x2x64_0_0_0_0) (shapeCast _ k shapeCasts_S16640x1024_S16640x8x2x64))
    (broadcastInDim S8x2x16384x16640 ![] bcast_S_S8x2x16384x16640 (constant S_ .f32 0x3E000000#32))

/-- The greatest score of each query. -/
def tL (s : (⟨S8x2x16384x16640, .f32⟩ : BufTy).Contents (Elt F)) : (⟨S8x2x16384, .f32⟩ : BufTy).Contents (Elt F) :=
  Host.reduce FloatOps.maximumf s (constant S_ .f32 0xFF800000#32) reducesTo_S8x2x16384x16640_S8x2x16384_d3 h_S_

/-- The maxima of the scores, one for each query, repeated along the keys. -/
def mL (t : (⟨S8x2x16384, .f32⟩ : BufTy).Contents (Elt F)) : (⟨S8x2x16384x16640, .f32⟩ : BufTy).Contents (Elt F) :=
  broadcastInDim S8x2x16384x16640 ![0, 1, 2, 3] bcast_S8x2x16384x1_S8x2x16384x16640_0_1_2_3
    (broadcastInDim S8x2x16384x1 ![0, 1, 2] bcast_S8x2x16384_S8x2x16384x1_0_1_2
      (maximumf (broadcastInDim S8x2x16384 ![] bcast_S_S8x2x16384 (constant S_ .f32 0xFF800000#32)) t))

/-- The exponentials. -/
def eL (s : (⟨S8x2x16384x16640, .f32⟩ : BufTy).Contents (Elt F)) : (⟨S8x2x16384x16640, .f32⟩ : BufTy).Contents (Elt F) :=
  Host.exp (subf s (mL (tL s)))

/-- The softmax of the scores. -/
def pL (e : (⟨S8x2x16384x16640, .f32⟩ : BufTy).Contents (Elt F)) : (⟨S8x2x16384x16640, .f32⟩ : BufTy).Contents (Elt F) :=
  Host.divf e (broadcastInDim S8x2x16384x16640 ![0, 1, 2, 3] bcast_S8x2x16384x1_S8x2x16384x16640_0_1_2_3
    (broadcastInDim S8x2x16384x1 ![0, 1, 2] bcast_S8x2x16384_S8x2x16384x1_0_1_2
      (Host.reduceAdd e (constant S_ .f32 0x00000000#32) reducesTo_S8x2x16384x16640_S8x2x16384_d3 h_S_)))

/-- The weighted difference of the two softmaxes. -/
def wL (p : (⟨S8x2x16384x16640, .f32⟩ : BufTy).Contents (Elt F)) (g : (⟨S_, .f32⟩ : BufTy).Contents (Elt F)) :
    (⟨S8x16384x16640, .f32⟩ : BufTy).Contents (Elt F) :=
  subf (shapeCast _ (extractStridedSlice S8x1x16384x16640 ![0, 0, 0, 0] p slices_S8x2x16384x16640_S8x1x16384x16640_0_0_0_0)
      shapeCasts_S8x1x16384x16640_S8x16384x16640)
    (mulf (broadcastInDim S8x16384x16640 ![] bcast_S_S8x16384x16640 g)
      (shapeCast _ (extractStridedSlice S8x1x16384x16640 ![0, 1, 0, 0] p slices_S8x2x16384x16640_S8x1x16384x16640_0_1_0_0)
        shapeCasts_S8x1x16384x16640_S8x16384x16640))

/-- What the heads gather. -/
def oL (v : (⟨S16640x1024, .f32⟩ : BufTy).Contents (Elt F)) (w : (⟨S8x16384x16640, .f32⟩ : BufTy).Contents (Elt F)) :
    (⟨S16384x8x128, .f32⟩ : BufTy).Contents (Elt F) :=
  transpose S16384x8x128 [2, 0, 1] (Host.dotGeneral dot_S16640x8x128_S8x16384x16640_S8x128x16384_0_2_2_1_1_0 none
    (shapeCast _ v shapeCasts_S16640x1024_S16640x8x128) w) transposes_S8x128x16384_S16384x8x128_2_0_1

/-! ### C queries -/

/-- The scores. -/
def sC (q k : (⟨S16640x1024, .f32⟩ : BufTy).Contents (Elt F)) : (⟨S8x2x256x256, .f32⟩ : BufTy).Contents (Elt F) :=
  mulf (Host.dotGeneral dot_S256x8x2x64_S256x8x2x64_S8x2x256x256_3_3_0_0_12_12 none
      (extractStridedSlice S256x8x2x64 ![16384, 0, 0, 0] (shapeCast _ q shapeCasts_S16640x1024_S16640x8x2x64)
        slices_S16640x8x2x64_S256x8x2x64_16384_0_0_0) (extractStridedSlice S256x8x2x64 ![16384, 0, 0, 0] (shapeCast _ k shapeCasts_S16640x1024_S16640x8x2x64)
        slices_S16640x8x2x64_S256x8x2x64_16384_0_0_0))
    (broadcastInDim S8x2x256x256 ![] bcast_S_S8x2x256x256 (constant S_ .f32 0x3E000000#32))

/-- The greatest score of each query. -/
def tC (s : (⟨S8x2x256x256, .f32⟩ : BufTy).Contents (Elt F)) : (⟨S8x2x256, .f32⟩ : BufTy).Contents (Elt F) :=
  Host.reduce FloatOps.maximumf s (constant S_ .f32 0xFF800000#32) reducesTo_S8x2x256x256_S8x2x256_d3 h_S_

/-- The maxima of the scores, one for each query, repeated along the keys. -/
def mC (t : (⟨S8x2x256, .f32⟩ : BufTy).Contents (Elt F)) : (⟨S8x2x256x256, .f32⟩ : BufTy).Contents (Elt F) :=
  broadcastInDim S8x2x256x256 ![0, 1, 2, 3] bcast_S8x2x256x1_S8x2x256x256_0_1_2_3
    (broadcastInDim S8x2x256x1 ![0, 1, 2] bcast_S8x2x256_S8x2x256x1_0_1_2
      (maximumf (broadcastInDim S8x2x256 ![] bcast_S_S8x2x256 (constant S_ .f32 0xFF800000#32)) t))

/-- The exponentials. -/
def eC (s : (⟨S8x2x256x256, .f32⟩ : BufTy).Contents (Elt F)) : (⟨S8x2x256x256, .f32⟩ : BufTy).Contents (Elt F) :=
  Host.exp (subf s (mC (tC s)))

/-- The softmax of the scores. -/
def pC (e : (⟨S8x2x256x256, .f32⟩ : BufTy).Contents (Elt F)) : (⟨S8x2x256x256, .f32⟩ : BufTy).Contents (Elt F) :=
  Host.divf e (broadcastInDim S8x2x256x256 ![0, 1, 2, 3] bcast_S8x2x256x1_S8x2x256x256_0_1_2_3
    (broadcastInDim S8x2x256x1 ![0, 1, 2] bcast_S8x2x256_S8x2x256x1_0_1_2
      (Host.reduceAdd e (constant S_ .f32 0x00000000#32) reducesTo_S8x2x256x256_S8x2x256_d3 h_S_)))

/-- The weighted difference of the two softmaxes. -/
def wC (p : (⟨S8x2x256x256, .f32⟩ : BufTy).Contents (Elt F)) (g : (⟨S_, .f32⟩ : BufTy).Contents (Elt F)) :
    (⟨S8x256x256, .f32⟩ : BufTy).Contents (Elt F) :=
  subf (shapeCast _ (extractStridedSlice S8x1x256x256 ![0, 0, 0, 0] p slices_S8x2x256x256_S8x1x256x256_0_0_0_0)
      shapeCasts_S8x1x256x256_S8x256x256)
    (mulf (broadcastInDim S8x256x256 ![] bcast_S_S8x256x256 g)
      (shapeCast _ (extractStridedSlice S8x1x256x256 ![0, 1, 0, 0] p slices_S8x2x256x256_S8x1x256x256_0_1_0_0)
        shapeCasts_S8x1x256x256_S8x256x256))

/-- What the heads gather. -/
def oC (v : (⟨S16640x1024, .f32⟩ : BufTy).Contents (Elt F)) (w : (⟨S8x256x256, .f32⟩ : BufTy).Contents (Elt F)) :
    (⟨S256x8x128, .f32⟩ : BufTy).Contents (Elt F) :=
  transpose S256x8x128 [2, 0, 1] (Host.dotGeneral dot_S256x8x128_S8x256x256_S8x128x256_0_2_2_1_1_0 none
    (extractStridedSlice S256x8x128 ![16384, 0, 0] (shapeCast _ v shapeCasts_S16640x1024_S16640x8x128) slices_S16640x8x128_S256x8x128_16384_0_0) w) transposes_S8x128x256_S256x8x128_2_0_1

/-! ### The norm -/

/-- Both kinds of queries, one after the other. -/
def both (a : (⟨S16384x8x128, .f32⟩ : BufTy).Contents (Elt F)) (b : (⟨S256x8x128, .f32⟩ : BufTy).Contents (Elt F)) :
    (⟨S16640x8x128, .f32⟩ : BufTy).Contents (Elt F) :=
  concatenate S16640x8x128 0 [⟨S16384x8x128, a⟩, ⟨S256x8x128, b⟩] concatenates_S16384x8x128_S256x8x128_S16640x8x128_d0

/-- The root-mean-square norm of each head, its scale and the last constant factor. -/
def normR (o : (⟨S16640x8x128, .f32⟩ : BufTy).Contents (Elt F)) (sub : (⟨S128, .f32⟩ : BufTy).Contents (Elt F)) :
    (⟨S16640x1024, .bf16⟩ : BufTy).Contents (Elt F) :=
  truncf .bf16 (shapeCast _ (mulf (mulf (mulf o
      (broadcastInDim S16640x8x128 ![0, 1, 2] bcast_S16640x8x1_S16640x8x128_0_1_2
        (Host.rsqrt (addf (Host.divf (broadcastInDim S16640x8x1 ![0, 1] bcast_S16640x8_S16640x8x1_0_1
            (Host.reduceAdd (mulf o o) (constant S_ .f32 0x00000000#32) reducesTo_S16640x8x128_S16640x8_d2 h_S_))
          (broadcastInDim S16640x8x1 ![] bcast_S_S16640x8x1 (constant S_ .f32 0x43000000#32)))
          (broadcastInDim S16640x8x1 ![] bcast_S_S16640x8x1 (constant S_ .f32 0x3727C5AC#32))))))
      (broadcastInDim S16640x8x128 ![0, 1, 2] bcast_S1x1x128_S16640x8x128_0_1_2
        (broadcastInDim S1x1x128 ![2] bcast_S128_S1x1x128_2 sub)))
      (broadcastInDim S16640x8x128 ![] bcast_S_S16640x8x128 (constant S_ .f32 0x3F24FD5C#32)))
    shapeCasts_S16640x8x128_S16640x1024) bitsLt_bf16_f32

/-- The reference is these steps. -/
theorem res_eq (m : (ℓ : Loc nD τ sig) → Buf (Elt F) ℓ) (c : Dev nD) :
    res_main_v86 m c = normR (both
      (oL (m ((c.tc : Thread nD τ).loc main_arg2)) (wL (pL (eL (sL (m ((c.tc : Thread nD τ).loc main_arg0))
        (m ((c.tc : Thread nD τ).loc main_arg1))))) (lamV (m ((c.tc : Thread nD τ).loc main_arg3)))))
      (oC (m ((c.tc : Thread nD τ).loc main_arg2)) (wC (pC (eC (sC (m ((c.tc : Thread nD τ).loc main_arg0))
        (m ((c.tc : Thread nD τ).loc main_arg1))))) (lamV (m ((c.tc : Thread nD τ).loc main_arg3))))))
      (m ((c.tc : Thread nD τ).loc main_arg4)) := by
  unfold res_main_v86
  rfl

end Cert.ReferenceIdeal.Hand

end
-- ==== Proof.Online.lean ====
/-
  The online softmax on one query, over the extended reals. The scores `S k` are real or −∞ (a masked key), the
  values real. The carried maximum and the carried weighted sums meet the invariant `Inv`: after the keys below `n`
  the sums are `Σ w k · 2^(S k − m)`. Both ways of taking a chunk of keys keep it: `lazy` (powers taken against the
  maximum before the chunk) and `exact` (against the maximum after it).
-/
module

public import Idealize.ShloMosaic.Lib.Pointwise

@[expose] public section

noncomputable section

namespace Attn

open Idealize.ShloMosaic

/-- Real, or −∞. -/
def Low (x : EReal) : Prop := x = ⊥ ∨ ∃ r : ℝ, x = (r : EReal)

/-- The weight `2^(s − m)` of a score, zero for a masked key. -/
def wt (s m : EReal) : ℝ := if s = ⊥ then 0 else Real.rpow 2 (s.toReal - m.toReal)

theorem Low.ne_top {x : EReal} (h : Low x) : x ≠ ⊤ := by
  rcases h with rfl | ⟨r, rfl⟩
  · exact bot_ne_top
  · exact EReal.coe_ne_top r

theorem low_of_ne_top {x : EReal} (h : x ≠ ⊤) : Low x := by
  induction x using EReal.rec with
  | bot => exact Or.inl rfl
  | coe r => exact Or.inr ⟨r, rfl⟩
  | top => exact absurd rfl h

theorem Low.max {x y : EReal} (hx : Low x) (hy : Low y) : Low (max x y) := by
  rcases max_choice x y with h | h <;> rw [h] <;> assumption

theorem wt_bot (m : EReal) : wt ⊥ m = 0 := if_pos rfl

theorem wt_coe (s m : ℝ) : wt s m = Real.rpow 2 (s - m) := if_neg (EReal.coe_ne_bot s)

theorem exp2_sub {s m : EReal} (hs : Low s) (hm : Low m) (h : m = ⊥ → s = ⊥) :
    Ideal.exp2 (s - m) = (wt s m : EReal) := by
  rcases hm with rfl | ⟨m, rfl⟩
  · rw [h rfl, wt_bot]; rfl
  · rcases hs with rfl | ⟨s, rfl⟩
    · rw [wt_bot]; rfl
    · rw [wt_coe, ← EReal.coe_sub, Ideal.exp2_coe]

theorem wt_rescale {s m m' : EReal} (hs : Low s) (hm : Low m) (hm' : Low m') (h : m = ⊥ → s = ⊥)
    (hmm : m ≤ m') : wt m m' * wt s m = wt s m' := by
  rcases hs with rfl | ⟨s, rfl⟩
  · simp only [wt_bot, mul_zero]
  rcases hm with rfl | ⟨m, rfl⟩
  · exact absurd (h rfl) (EReal.coe_ne_bot s)
  rcases hm' with rfl | ⟨m', rfl⟩
  · exact absurd (le_bot_iff.mp hmm) (EReal.coe_ne_bot m)
  rw [wt_coe, wt_coe, wt_coe]
  show (2 : ℝ) ^ (m - m') * (2 : ℝ) ^ (s - m) = (2 : ℝ) ^ (s - m')
  rw [← Real.rpow_add two_pos]; congr 1; ring

theorem coe_sum {ι : Type*} (t : Finset ι) (f : ι → ℝ) : ((∑ i ∈ t, f i : ℝ) : EReal) = ∑ i ∈ t, (f i : EReal) := by
  classical
  induction t using Finset.induction_on with
  | empty => simp only [Finset.sum_empty, EReal.coe_zero]
  | insert a s ha ih => rw [Finset.sum_insert ha, Finset.sum_insert ha, EReal.coe_add, ih]

/-- The maximum of a chunk of scores, from −∞. -/
def chunkMax {N : ℕ} (s : Fin N → EReal) : EReal := Finset.univ.fold max ⊥ s

theorem le_chunkMax {N : ℕ} (s : Fin N → EReal) (j : Fin N) : s j ≤ chunkMax s :=
  (Finset.le_fold_max (s j)).mpr (Or.inr ⟨j, Finset.mem_univ j, le_rfl⟩)

theorem chunkMax_low {N : ℕ} {s : Fin N → EReal} (hs : ∀ j, Low (s j)) : Low (chunkMax s) := by
  refine low_of_ne_top (lt_top_iff_ne_top.mp ?_)
  refine (Finset.fold_max_lt ⊤).mpr ⟨bot_lt_top, fun j _ => lt_top_iff_ne_top.mpr (hs j).ne_top⟩

theorem chunkMax_real {N : ℕ} {s : Fin N → EReal} (j : Fin N) (hs : ∀ j, Low (s j)) (hj : s j ≠ ⊥) :
    ∃ r : ℝ, chunkMax s = (r : EReal) := by
  rcases chunkMax_low hs with h | h
  · exact absurd (le_bot_iff.mp (h ▸ le_chunkMax s j)) hj
  · exact h

/-- One query's carried values after the keys below `n`. -/
structure Inv {E : Type} (S : ℕ → EReal) (w : E → ℕ → ℝ) (n : ℕ) (m : EReal) (a : E → EReal) : Prop where
  low : Low m
  seen : m = ⊥ → ∀ k < n, S k = ⊥
  sums : ∀ e, a e = ((∑ k ∈ Finset.range n, w e k * wt (S k) m : ℝ) : EReal)

section Steps

variable {E : Type} {S : ℕ → EReal} {w : E → ℕ → ℝ} {n N : ℕ} {m m' : EReal} {a a' : E → EReal}

theorem inv_start (hm : Low m) (ha : ∀ e, a e = 0) : Inv S w 0 m a :=
  ⟨hm, fun _ k hk => absurd hk (Nat.not_lt_zero k), fun e => by rw [ha e, Finset.range_zero, Finset.sum_empty]; rfl⟩

theorem Inv.seen' (h : Inv S w n m a) (hm' : m' = max m (chunkMax fun j : Fin N => S (n + j))) (hb : m' = ⊥) :
    ∀ k < n + N, S k = ⊥ := by
  intro k hk
  have hm : m = ⊥ := le_bot_iff.mp ((le_max_left _ _).trans (hm' ▸ hb).le)
  by_cases h1 : k < n
  · exact h.seen hm k h1
  · have h2 := (le_chunkMax (fun j : Fin N => S (n + j)) ⟨k - n, by omega⟩).trans
      ((le_max_right m _).trans (hm' ▸ hb).le)
    have h3 : n + (k - n) = k := by omega
    simpa only [h3] using le_bot_iff.mp h2

theorem Inv.rescaled (h : Inv S w n m a) (hS : ∀ k, Low (S k)) (hm' : Low m') (hle : m ≤ m') (e : E) :
    (wt m m' : EReal) * a e = ((∑ k ∈ Finset.range n, w e k * wt (S k) m' : ℝ) : EReal) := by
  rw [h.sums e, ← EReal.coe_mul, Finset.mul_sum]
  congr 1
  refine Finset.sum_congr rfl fun k hk => ?_
  rw [← wt_rescale (hS k) h.low hm' (fun hb => h.seen hb k (Finset.mem_range.mp hk)) hle]
  ring

/-- A chunk of keys with the powers taken against the maximum after it. -/
theorem Inv.exact (h : Inv S w n m a) (hS : ∀ k, Low (S k))
    (hm' : m' = max m (chunkMax fun j : Fin N => S (n + j)))
    (ha' : ∀ e, a' e = Ideal.exp2 (m - m') * a e
      + ∑ j : Fin N, (w e (n + j) : EReal) * Ideal.exp2 (S (n + j) - m')) :
    Inv S w (n + N) m' a' := by
  have hl : Low m' := hm' ▸ h.low.max (chunkMax_low fun j => hS _)
  have hle : m ≤ m' := hm' ▸ le_max_left _ _
  have hseen := h.seen' hm'
  refine ⟨hl, hseen, fun e => ?_⟩
  rw [ha' e, exp2_sub h.low hl fun hb => le_bot_iff.mp (hb ▸ hle), h.rescaled hS hl hle e]
  rw [Finset.sum_range_add, EReal.coe_add]
  congr 1
  rw [Finset.sum_range, coe_sum]
  refine Finset.sum_congr rfl fun j _ => ?_
  rw [exp2_sub (hS _) hl fun hb => hseen hb _ (by have := j.isLt; omega), EReal.coe_mul]

/-- A chunk of keys with the powers taken against the maximum before it, which is real. -/
theorem Inv.lazy (h : Inv S w n m a) (hS : ∀ k, Low (S k)) (hr : m ≠ ⊥)
    (hm' : m' = max m (chunkMax fun j : Fin N => S (n + j)))
    (ha' : ∀ e, a' e = Ideal.exp2 (m - m')
      * (a e + ∑ j : Fin N, (w e (n + j) : EReal) * Ideal.exp2 (S (n + j) - m))) :
    Inv S w (n + N) m' a' := by
  have hl : Low m' := hm' ▸ h.low.max (chunkMax_low fun j => hS _)
  have hle : m ≤ m' := hm' ▸ le_max_left _ _
  have hseen := h.seen' hm'
  have h1 : Inv S w (n + N) m fun e => a e + ∑ j : Fin N, (w e (n + j) : EReal) * Ideal.exp2 (S (n + j) - m) := by
    refine ⟨h.low, fun hb => absurd hb hr, fun e => ?_⟩
    rw [h.sums e, Finset.sum_range_add, EReal.coe_add]
    congr 1
    rw [Finset.sum_range, coe_sum]
    refine Finset.sum_congr rfl fun j _ => ?_
    rw [exp2_sub (hS _) h.low fun hb => absurd hb hr, EReal.coe_mul]
  refine ⟨hl, hseen, fun e => ?_⟩
  rw [ha' e, exp2_sub h.low hl fun hb => le_bot_iff.mp (hb ▸ hle)]
  exact h1.rescaled hS hl hle e

end Steps

/-- The softmax-weighted mean of `w` at scores `S`, over the keys below `n`. -/
def mean (S : ℕ → EReal) (w : ℕ → ℝ) (n : ℕ) : ℝ :=
  (∑ k ∈ Finset.range n, w k * wt (S k) 0) / ∑ k ∈ Finset.range n, wt (S k) 0

theorem wt_zero_pos {s : EReal} (h : s ≠ ⊥) : 0 < wt s 0 := by
  rw [wt, if_neg h]; exact Real.rpow_pos_of_pos two_pos _

theorem wt_nonneg (s m : EReal) : 0 ≤ wt s m := by
  unfold wt; split
  · exact le_rfl
  · exact (Real.rpow_pos_of_pos two_pos _).le

/-- The quotient of two carried sums, the second one's values being one, is the softmax-weighted mean. -/
theorem Inv.quotient {E : Type} {S : ℕ → EReal} {w : E → ℕ → ℝ} {n : ℕ} {m : EReal} {a : E → EReal}
    (h : Inv S w n m a) (hS : ∀ k, Low (S k)) (hk : ∃ k < n, S k ≠ ⊥) (e o : E) (ho : ∀ k < n, w o k = 1) :
    Ideal.div (a e) (a o) = (mean S (w e) n : EReal) := by
  obtain ⟨k0, hk0, hs0⟩ := hk
  rcases h.low with rfl | ⟨m, rfl⟩
  · exact absurd (h.seen rfl k0 hk0) hs0
  have hf : ∀ k, wt (S k) m = Real.rpow 2 (-m) * wt (S k) 0 := by
    intro k
    rcases hS k with hb | ⟨s, hs⟩
    · rw [hb, wt_bot, wt_bot, mul_zero]
    · rw [hs, wt_coe, show (0 : EReal) = ((0 : ℝ) : EReal) from rfl, wt_coe]
      show (2 : ℝ) ^ (s - m) = (2 : ℝ) ^ (-m) * (2 : ℝ) ^ (s - 0)
      rw [← Real.rpow_add two_pos]; congr 1; ring
  have hp : 0 < Real.rpow 2 (-m) := Real.rpow_pos_of_pos two_pos _
  have hsum : 0 < ∑ k ∈ Finset.range n, wt (S k) 0 :=
    Finset.sum_pos' (fun k _ => wt_nonneg _ _) ⟨k0, Finset.mem_range.mpr hk0, wt_zero_pos hs0⟩
  have h1 : ∑ k ∈ Finset.range n, w e k * wt (S k) m
      = Real.rpow 2 (-m) * ∑ k ∈ Finset.range n, w e k * wt (S k) 0 := by
    rw [Finset.mul_sum]; exact Finset.sum_congr rfl fun k _ => by rw [hf k]; ring
  have h2 : ∑ k ∈ Finset.range n, w o k * wt (S k) m
      = Real.rpow 2 (-m) * ∑ k ∈ Finset.range n, wt (S k) 0 := by
    rw [Finset.mul_sum]
    exact Finset.sum_congr rfl fun k hk => by rw [hf k, ho k (Finset.mem_range.mp hk), one_mul]
  rw [h.sums e, h.sums o, h1, h2, Ideal.div_coe (mul_pos hp hsum).ne', ← EReal.coe_mul]
  congr 1
  rw [mean, mul_one_div, mul_div_mul_left _ _ hp.ne']

end Attn

end
-- ==== Proof.Scores.lean ====
/-
  The scores of one staged block: for a half `c` of a head, a lane (query) `l` and a key `k`, read off the staged
  queries (transposed) and keys; and what a block of scores, carried maxima and carried sums become in one step.
-/
module

public import proofs.«01_k».proof.Proof.Online
public import proofs.«01_k».proof.Proof.Gen.KernelIdeal.Skeleton

@[expose] public section

set_option maxRecDepth 16384

noncomputable section

namespace Attn

open Idealize.ShloMosaic
open Cert.KernelIdeal Cert.KernelIdeal.Gen

/-- The scale of the scores: the reference's `1/8`, in powers of two. -/
def scale : EReal := (((Real.log 2)⁻¹ * (1 / 8) : ℝ) : EReal)

theorem named_scale : Named.named (F := Ideal) κ (φ := .f32) "scale" 0x3E38AA3B#32 = scale := rfl

theorem named_mask : Named.named (F := Ideal) κ (φ := .f32) "mask" 0xF149F2CA#32 = (⊥ : EReal) := rfl

theorem ofBits_neg_inf : Ideal.ofBits .f32 0xFF800000#32 = ⊥ := by
  simp [Ideal.ofBits, Ideal.ieee]

/-- The column of half `c`'s feature `d`. -/
def col (c : Fin 2) (d : Fin 64) : Fin 128 := ⟨64 * c.val + d.val, by have := c.isLt; have := d.isLt; omega⟩

/-- Entry `d` of key `k` (zero past the last key). -/
def kAt (x4 : S16640x128.Idx → EReal) (k : ℕ) (d : Fin 128) : EReal :=
  if h : k < 16640 then x4 (ix2 ⟨k, h⟩ d) else 0

/-- Entry `e` of the value row of key `k` (zero past the last key). -/
def vAt (x5 : S144x16640.Idx → EReal) (e : Fin 144) (k : ℕ) : EReal :=
  if h : k < 16640 then x5 (ix2 e ⟨k, h⟩) else 0

/-- The score of key `k` on lane `l`. -/
def plainScore (x3 : S128x1280.Idx → EReal) (x4 : S16640x128.Idx → EReal) (c : Fin 2) (l : Fin 1280) (k : ℕ) : EReal :=
  ∑ d : Fin 64, kAt x4 k (col c d) * (x3 (ix2 (col c d) l) * scale)

/-- What the mask adds: −∞ to a latent key on a context lane. -/
def maskTerm (l : Fin 1280) (k : ℕ) : EReal := if 1024 ≤ l.val ∧ k < 16384 then ⊥ else 0

/-- The score with the mask. -/
def maskedScore (x3 : S128x1280.Idx → EReal) (x4 : S16640x128.Idx → EReal) (c : Fin 2) (l : Fin 1280) (k : ℕ) : EReal :=
  plainScore x3 x4 c l k + maskTerm l k

abbrev Scores := Fin 2 → Fin 1280 → ℕ → EReal
abbrev Maxima := Fin 2 → Fin 1280 → EReal
abbrev Sums := Fin 2 → Fin 144 → Fin 1280 → EReal

/-- The maximum after the 1280 keys from `n`. -/
def newMax (S : ℕ → EReal) (n : ℕ) (m : EReal) : EReal := max m (chunkMax fun j : Fin 1280 => S (n + j))

/-- The sum after those keys, powers taken against the maximum before them. -/
def lazySum (S V : ℕ → EReal) (n : ℕ) (m a : EReal) : EReal :=
  Ideal.exp2 (m - newMax S n m) * (a + ∑ j : Fin 1280, V (n + j) * Ideal.exp2 (S (n + j) - m))

/-- The sum after those keys, powers taken against the maximum after them. -/
def exactSum (S V : ℕ → EReal) (n : ℕ) (m a : EReal) : EReal :=
  Ideal.exp2 (m - newMax S n m) * a + ∑ j : Fin 1280, V (n + j) * Ideal.exp2 (S (n + j) - newMax S n m)

/-- One lazy step on every half and lane. -/
def LazyStep (S : Scores) (v : Fin 144 → ℕ → EReal) (n : ℕ) (m m' : Maxima) (a a' : Sums) : Prop :=
  ∀ c l, m' c l = newMax (S c l) n (m c l) ∧ ∀ e, a' c e l = lazySum (S c l) (v e) n (m c l) (a c e l)

/-- One exact step on every half and lane. -/
def ExactStep (S : Scores) (v : Fin 144 → ℕ → EReal) (n : ℕ) (m m' : Maxima) (a a' : Sums) : Prop :=
  ∀ c l, m' c l = newMax (S c l) n (m c l) ∧ ∀ e, a' c e l = exactSum (S c l) (v e) n (m c l) (a c e l)

/-- The carried maxima of a scratch buffer. -/
def maxOf (x : S2x1x1280.Idx → EReal) : Maxima := fun c l => x (ix3 c 0 l)

/-- The carried sums of a scratch buffer. -/
def sumOf (x : S2x144x1280.Idx → EReal) : Sums := fun c e l => x (ix3 c e l)

theorem kAt_lt (x4 : S16640x128.Idx → EReal) {k : ℕ} (h : k < 16640) (d : Fin 128) :
    kAt x4 k d = x4 (ix2 ⟨k, h⟩ d) := dif_pos h

theorem vAt_lt (x5 : S144x16640.Idx → EReal) (e : Fin 144) {k : ℕ} (h : k < 16640) :
    vAt x5 e k = x5 (ix2 e ⟨k, h⟩) := dif_pos h

end Attn

end
-- ==== Proof.Steps.lean ====
/-
  What each printed step of the four key loops computes at a lane: the new maximum and the new sums, in the terms of
  `Scores`. The vectors a step reads are given by their entries.
-/
module

public import proofs.«01_k».proof.Proof.Scores

@[expose] public section

set_option maxRecDepth 16384

noncomputable section

namespace Attn

open Idealize.ShloMosaic
open Cert.KernelIdeal Cert.KernelIdeal.Gen

theorem toInt_small (n : ℕ) (h : n < 2 ^ 31) : (BitVec.ofNat 32 n).toInt = n := by
  have h1 : (BitVec.ofNat 32 n).toNat = n := by rw [BitVec.toNat_ofNat]; exact Nat.mod_eq_of_lt (by omega)
  rw [BitVec.toInt_eq_toNat_of_lt (by rw [h1]; omega), h1]

theorem mask_words (l : Fin 1280) (k : Fin 13) (j : Fin 1280) :
    Scalar.select (IntOp.cmpi CmpIPredicate.sge (BitVec.ofNat 32 l.val) 1024#32)
        (Scalar.select
          (IntOp.cmpi CmpIPredicate.slt (IntOp.addi (Scalar.muli (Scf.iv 0#32 1#32 k.val) 1280#32) (BitVec.ofNat 32 j.val))
            16384#32) (⊥ : EReal) 0) 0 = maskTerm l (1280 * k.val + j.val) := by
  have h1 : ∀ k : Fin 13, Scalar.muli (Scf.iv 0#32 1#32 k.val) 1280#32 = BitVec.ofNat 32 (1280 * k.val) := by decide
  rw [h1]
  have h2 : IntOp.cmpi CmpIPredicate.sge (BitVec.ofNat 32 l.val) 1024#32 = BitVec.ofBool (decide (1024 ≤ l.val)) := by
    have hb : l.val < 2 ^ 31 := by have := l.isLt; omega
    have e1 : (BitVec.ofNat 32 l.val).toInt = l.val := by
      exact toInt_small _ hb
    show BitVec.ofBool (BitVec.sle 1024#32 (BitVec.ofNat 32 l.val)) = _
    congr 1
    rw [Bool.eq_iff_iff, BitVec.sle_iff_toInt_le, e1, decide_eq_true_iff]
    show (1024 : ℤ) ≤ _ ↔ _
    omega
  have h3 : IntOp.cmpi CmpIPredicate.slt (IntOp.addi (BitVec.ofNat 32 (1280 * k.val)) (BitVec.ofNat 32 j.val)) 16384#32
      = BitVec.ofBool (decide (1280 * k.val + j.val < 16384)) := by
    have hb : 1280 * k.val + j.val < 2 ^ 31 := by have := k.isLt; have := j.isLt; omega
    have e1 : (BitVec.ofNat 32 (1280 * k.val + j.val)).toInt = ((1280 * k.val + j.val : ℕ) : ℤ) := by
      exact toInt_small _ hb
    show BitVec.ofBool (BitVec.slt (BitVec.ofNat 32 (1280 * k.val) + BitVec.ofNat 32 j.val) 16384#32) = _
    congr 1
    rw [← BitVec.ofNat_add, Bool.eq_iff_iff, BitVec.slt_iff_toInt_lt, e1, decide_eq_true_iff]
    show _ < (16384 : ℤ) ↔ _
    omega
  rw [h2, h3, maskTerm]
  by_cases h4 : 1024 ≤ l.val <;> by_cases h5 : 1280 * k.val + j.val < 16384 <;> simp [h4, h5, Scalar.select]

section

variable {x3 : S128x1280.Idx → EReal} {x4 : S16640x128.Idx → EReal} {x5 : S144x16640.Idx → EReal} {n : ℕ} {c : Fin 2}
  {q : Vec Ideal S64x1280 .f32} {k : Vec Ideal S1280x64 .bf16} {v : Vec Ideal S144x1280 .bf16}
  {m : Vec Ideal S1x1x1280 .f32} {a : Vec Ideal S1x144x1280 .f32}

/-- The vectors of a step hold the block's entries, for half `c` and the keys from `n`. -/
structure Reads (x3 : S128x1280.Idx → EReal) (x4 : S16640x128.Idx → EReal) (x5 : S144x16640.Idx → EReal) (n : ℕ)
    (c : Fin 2) (q : Vec Ideal S64x1280 .f32) (k : Vec Ideal S1280x64 .bf16) (v : Vec Ideal S144x1280 .bf16) : Prop where
  q : ∀ (d : Fin 64) (l : Fin 1280), q (ix2 d l) = x3 (ix2 (col c d) l)
  k : ∀ (j : Fin 1280) (d : Fin 64), k (ix2 j d) = kAt x4 (n + j.val) (col c d)
  v : ∀ (e : Fin 144) (j : Fin 1280), v (ix2 e j) = vAt x5 e (n + j.val)

theorem score1 (h : Reads x3 x4 x5 n c q k v) (j l : Fin 1280) :
    k0_pay2 (F := Ideal) q k (ix2 j l) = plainScore x3 x4 c l (n + j.val) := by
  pointwise [k0_pay2]
  simp only [h.q, h.k, named_scale, plainScore]

theorem score1' (h : Reads x3 x4 x5 n c q k v) (j l : Fin 1280) :
    k0_pay9 (F := Ideal) q k (ix2 j l) = plainScore x3 x4 c l (n + j.val) := by
  pointwise [k0_pay9]
  simp only [h.q, h.k, named_scale, plainScore]

theorem lazy1 (h : Reads x3 x4 x5 n c q k v) (l : Fin 1280) :
    k0_pay7 (F := Ideal) q k m (ix3 0 0 l) = newMax (plainScore x3 x4 c l) n (m (ix3 0 0 l)) ∧
    ∀ e : Fin 144, k0_pay6 (F := Ideal) q k m v a (ix3 0 e l)
      = lazySum (plainScore x3 x4 c l) (vAt x5 e) n (m (ix3 0 0 l)) (a (ix3 0 e l)) := by
  refine ⟨?_, fun e => ?_⟩
  · pointwise [k0_pay7, k0_pay5, k0_pay3, k0_pay4]
    simp only [score1 h, ofBits_neg_inf, newMax, chunkMax]
  · pointwise [k0_pay6, k0_pay5, k0_pay3, k0_pay4]
    simp only [score1 h, ofBits_neg_inf, lazySum, newMax, chunkMax, h.v]
    rfl

theorem lazy1' (h : Reads x3 x4 x5 n c q k v) (l : Fin 1280) :
    k0_pay56 (k0_pay12 (F := Ideal) q k m) (ix3 0 0 l) = newMax (plainScore x3 x4 c l) n (m (ix3 0 0 l)) ∧
    ∀ e : Fin 144, k0_pay55 (k0_pay13 (F := Ideal) q k m v a) (ix3 0 e l)
      = lazySum (plainScore x3 x4 c l) (vAt x5 e) n (m (ix3 0 0 l)) (a (ix3 0 e l)) := by
  refine ⟨?_, fun e => ?_⟩
  · pointwise [k0_pay56, k0_pay12, k0_pay10, k0_pay11]
    simp only [score1' h, ofBits_neg_inf, newMax, chunkMax]
  · pointwise [k0_pay55, k0_pay13, k0_pay12, k0_pay10, k0_pay11]
    simp only [score1' h, ofBits_neg_inf, lazySum, newMax, chunkMax, h.v]
    rfl

theorem score2 (h : Reads x3 x4 x5 n c q k v) (j l : Fin 1280) :
    k0_pay14 (F := Ideal) q k (ix2 j l) = plainScore x3 x4 c l (n + j.val) := by
  pointwise [k0_pay14]
  simp only [h.q, h.k, named_scale, plainScore]

theorem score2' (h : Reads x3 x4 x5 n c q k v) (j l : Fin 1280) :
    k0_pay61 (F := Ideal) q k (ix2 j l) = plainScore x3 x4 c l (n + j.val) := by
  pointwise [k0_pay61]
  simp only [h.q, h.k, named_scale, plainScore]

theorem exact2 (h : Reads x3 x4 x5 n c q k v) (l : Fin 1280) :
    k0_pay18 (F := Ideal) q k m (ix3 0 0 l) = newMax (plainScore x3 x4 c l) n (m (ix3 0 0 l)) ∧
    ∀ e : Fin 144, k0_pay17 (F := Ideal) q k m a v (ix3 0 e l)
      = exactSum (plainScore x3 x4 c l) (vAt x5 e) n (m (ix3 0 0 l)) (a (ix3 0 e l)) := by
  refine ⟨?_, fun e => ?_⟩
  · pointwise [k0_pay18, k0_pay16, k0_pay15]
    simp only [score2 h, ofBits_neg_inf, newMax, chunkMax]
  · pointwise [k0_pay17, k0_pay16, k0_pay15]
    simp only [score2 h, ofBits_neg_inf, exactSum, newMax, chunkMax, h.v]
    rfl

theorem exact2' (h : Reads x3 x4 x5 n c q k v) (l : Fin 1280) :
    k0_pay65 (F := Ideal) q k m (ix3 0 0 l) = newMax (plainScore x3 x4 c l) n (m (ix3 0 0 l)) ∧
    ∀ e : Fin 144, k0_pay64 (F := Ideal) q k m a v (ix3 0 e l)
      = exactSum (plainScore x3 x4 c l) (vAt x5 e) n (m (ix3 0 0 l)) (a (ix3 0 e l)) := by
  refine ⟨?_, fun e => ?_⟩
  · pointwise [k0_pay65, k0_pay63, k0_pay62]
    simp only [score2' h, ofBits_neg_inf, newMax, chunkMax]
  · pointwise [k0_pay64, k0_pay63, k0_pay62]
    simp only [score2' h, ofBits_neg_inf, exactSum, newMax, chunkMax, h.v]
    rfl

/-- The lanes' numbers. -/
abbrev lanes : IVec S1x1280 32 := iota .tc S1x1280 32 [1] iota_S1x1280_d1_w32

/-- The number of trip `t`'s first key, as the loop computes it. -/
abbrev firstKey (t : ℕ) : BitVec 32 := Scalar.muli (Scf.iv 0#32 1#32 t) 1280#32

theorem score3 {t : Fin k0_t3_loop.trips} (h : Reads x3 x4 x5 (1280 * t.val) c q k v) (j l : Fin 1280) :
    k0_pay22 (F := Ideal) 0#32 1#32 t q k (ix2 j l) = maskedScore x3 x4 c l (1280 * t.val + j.val) := by
  pointwise [k0_pay22]
  simp only [h.q, h.k, named_scale, named_mask]
  exact congrArg (_ + ·) (mask_words l t j)

theorem score3' {t : Fin k0_t3_loop.trips} (h : Reads x3 x4 x5 (1280 * t.val) c q k v) (j l : Fin 1280) :
    k0_pay32 (k0_pay30 (F := Ideal) q k) lanes (k0_pay31 (firstKey t.val)) (ix2 j l) = maskedScore x3 x4 c l (1280 * t.val + j.val) := by
  pointwise [k0_pay32, k0_pay30, k0_pay31]
  simp only [h.q, h.k, named_scale, named_mask]
  exact congrArg (_ + ·) (mask_words l t j)

theorem score4 {t : Fin k0_t4_loop.trips} (h : Reads x3 x4 x5 (1280 * t.val) c q k v) (j l : Fin 1280) :
    k0_pay38 (F := Ideal) 0#32 1#32 t q k (ix2 j l) = maskedScore x3 x4 c l (1280 * t.val + j.val) := by
  pointwise [k0_pay38]
  simp only [h.q, h.k, named_scale, named_mask]
  exact congrArg (_ + ·) (mask_words l t j)

theorem score4' {t : Fin k0_t4_loop.trips} (h : Reads x3 x4 x5 (1280 * t.val) c q k v) (j l : Fin 1280) :
    k0_pay68 (k0_pay45 (F := Ideal) q k) k0_pay46 (k0_pay47 (firstKey t.val)) (ix2 j l) = maskedScore x3 x4 c l (1280 * t.val + j.val) := by
  pointwise [k0_pay68, k0_pay45, k0_pay46, k0_pay47]
  simp only [h.q, h.k, named_scale, named_mask]
  exact congrArg (_ + ·) (mask_words l t j)

theorem lazy3 {t : Fin k0_t3_loop.trips} (h : Reads x3 x4 x5 (1280 * t.val) c q k v) (l : Fin 1280) :
    k0_pay28 (k0_pay23 (F := Ideal) m) (k0_pay24 0#32 1#32 t q k) (ix3 0 0 l)
      = newMax (maskedScore x3 x4 c l) (1280 * t.val) (m (ix3 0 0 l)) ∧
    ∀ e : Fin 144, k0_pay27 (k0_pay23 (F := Ideal) m) (k0_pay24 0#32 1#32 t q k) (k0_pay25 0#32 1#32 t q k m v) a (ix3 0 e l)
      = lazySum (maskedScore x3 x4 c l) (vAt x5 e) (1280 * t.val) (m (ix3 0 0 l)) (a (ix3 0 e l)) := by
  refine ⟨?_, fun e => ?_⟩
  · pointwise [k0_pay28, k0_pay26, k0_pay23, k0_pay24]
    simp only [score3 h, ofBits_neg_inf, newMax, chunkMax]
  · pointwise [k0_pay27, k0_pay26, k0_pay23, k0_pay24, k0_pay25]
    simp only [score3 h, ofBits_neg_inf, lazySum, newMax, chunkMax, h.v]
    rfl

theorem lazy3' {t : Fin k0_t3_loop.trips} (h : Reads x3 x4 x5 (1280 * t.val) c q k v) (l : Fin 1280) :
    k0_pay37 (k0_pay30 (F := Ideal) q k) lanes (k0_pay31 (firstKey t.val)) m (ix3 0 0 l)
      = newMax (maskedScore x3 x4 c l) (1280 * t.val) (m (ix3 0 0 l)) ∧
    ∀ e : Fin 144, k0_pay36 (k0_pay30 (F := Ideal) q k) lanes (k0_pay31 (firstKey t.val)) m v a (ix3 0 e l)
      = lazySum (maskedScore x3 x4 c l) (vAt x5 e) (1280 * t.val) (m (ix3 0 0 l)) (a (ix3 0 e l)) := by
  refine ⟨?_, fun e => ?_⟩
  · pointwise [k0_pay37, k0_pay35, k0_pay34, k0_pay33]
    simp only [score3' h, ofBits_neg_inf, newMax, chunkMax]
  · pointwise [k0_pay36, k0_pay35, k0_pay34, k0_pay33]
    simp only [score3' h, ofBits_neg_inf, lazySum, newMax, chunkMax, h.v]
    rfl

theorem exact4 {t : Fin k0_t4_loop.trips} (h : Reads x3 x4 x5 (1280 * t.val) c q k v) (l : Fin 1280) :
    k0_pay44 (k0_pay40 (F := Ideal) 0#32 1#32 t q k m) (ix3 0 0 l)
      = newMax (maskedScore x3 x4 c l) (1280 * t.val) (m (ix3 0 0 l)) ∧
    ∀ e : Fin 144, k0_pay43 (k0_pay41 (F := Ideal) 0#32 1#32 t q k m) (k0_pay42 0#32 1#32 t q k m) a v (ix3 0 e l)
      = exactSum (maskedScore x3 x4 c l) (vAt x5 e) (1280 * t.val) (m (ix3 0 0 l)) (a (ix3 0 e l)) := by
  refine ⟨?_, fun e => ?_⟩
  · pointwise [k0_pay44, k0_pay40, k0_pay39]
    simp only [score4 h, ofBits_neg_inf, newMax, chunkMax]
  · pointwise [k0_pay43, k0_pay41, k0_pay42, k0_pay40, k0_pay39]
    simp only [score4 h, ofBits_neg_inf, exactSum, newMax, chunkMax, h.v]
    rfl

theorem exact4' {t : Fin k0_t4_loop.trips} (h : Reads x3 x4 x5 (1280 * t.val) c q k v) (l : Fin 1280) :
    k0_pay72 (k0_pay45 (F := Ideal) q k) k0_pay46 (k0_pay47 (firstKey t.val)) m (ix3 0 0 l)
      = newMax (maskedScore x3 x4 c l) (1280 * t.val) (m (ix3 0 0 l)) ∧
    ∀ e : Fin 144, k0_pay71 (k0_pay45 (F := Ideal) q k) k0_pay46 (k0_pay47 (firstKey t.val)) m a v (ix3 0 e l)
      = exactSum (maskedScore x3 x4 c l) (vAt x5 e) (1280 * t.val) (m (ix3 0 0 l)) (a (ix3 0 e l)) := by
  refine ⟨?_, fun e => ?_⟩
  · pointwise [k0_pay72, k0_pay70, k0_pay69]
    simp only [score4' h, ofBits_neg_inf, newMax, chunkMax]
  · pointwise [k0_pay71, k0_pay70, k0_pay69]
    simp only [score4' h, ofBits_neg_inf, exactSum, newMax, chunkMax, h.v]
    rfl

end

end Attn

end
-- ==== Proof.Trips.lean ====
/-
  The four key loops, one trip each: whatever the scratch buffers hold before a trip, after it the carried maxima and
  sums are the step's (`LazyStep`, `ExactStep`) at the trip's keys.
-/
module

public import proofs.«01_k».proof.Proof.Steps
public import proofs.«01_k».proof.Proof.Gen.KernelIdeal.Loops
public import Idealize.ShloMosaic.Lib.WritesUnit

@[expose] public section

set_option maxRecDepth 16384

noncomputable section

namespace Attn

open Idealize.ShloMosaic Idealize.ShloMosaic.Tactic
open Cert.KernelIdeal Cert.KernelIdeal.Gen

theorem off1_eq : ∀ k : Fin k0_t1_loop.trips, k0_off1 k = ![1280 * k.val, 64 * (0 : Fin 2).val] := by decide
theorem off3_eq : ∀ k : Fin k0_t1_loop.trips, k0_off3 k = ![1280 * k.val, 64 * (1 : Fin 2).val] := by decide
theorem off2_eq : ∀ k : Fin k0_t1_loop.trips, k0_off2 k = ![0, 1280 * k.val] := by decide
theorem off4_eq : ∀ k : Fin k0_t2_loop.trips, k0_off4 k = ![1280 * k.val, 64 * (0 : Fin 2).val] := by decide
theorem off6_eq : ∀ k : Fin k0_t2_loop.trips, k0_off6 k = ![1280 * k.val, 64 * (1 : Fin 2).val] := by decide
theorem off5_eq : ∀ k : Fin k0_t2_loop.trips, k0_off5 k = ![0, 1280 * k.val] := by decide
theorem off7_eq : ∀ k : Fin k0_t3_loop.trips, k0_off7 k = ![1280 * k.val, 64 * (0 : Fin 2).val] := by decide
theorem off9_eq : ∀ k : Fin k0_t3_loop.trips, k0_off9 k = ![1280 * k.val, 64 * (1 : Fin 2).val] := by decide
theorem off8_eq : ∀ k : Fin k0_t3_loop.trips, k0_off8 k = ![0, 1280 * k.val] := by decide
theorem off10_eq : ∀ k : Fin k0_t4_loop.trips, k0_off10 k = ![1280 * k.val, 64 * (0 : Fin 2).val] := by decide
theorem off12_eq : ∀ k : Fin k0_t4_loop.trips, k0_off12 k = ![1280 * k.val, 64 * (1 : Fin 2).val] := by decide
theorem off11_eq : ∀ k : Fin k0_t4_loop.trips, k0_off11 k = ![0, 1280 * k.val] := by decide

/-- The entries read through a chunk's three rectangles. -/
theorem reads (x3 : Vec Ideal S128x1280 .f32) (x4 : Vec Ideal S16640x128 .bf16) (x5 : Vec Ideal S144x16640 .bf16)
    {oq ok ov : Fin 2 → ℕ} (iq : ∀ a, oq a + S64x1280.size a ≤ S128x1280.size a)
    (ik : ∀ a, ok a + S1280x64.size a ≤ S16640x128.size a) (iv : ∀ a, ov a + S144x1280.size a ≤ S144x16640.size a)
    (n : ℕ) (hn : n + 1280 ≤ 16640) (c : Fin 2) (hq : oq = ![64 * c.val, 0]) (hk : ok = ![n, 64 * c.val])
    (hv : ov = ![0, n]) :
    Reads x3 x4 x5 n c (View.ld x3 (Rect.unit (s := S128x1280) oq S64x1280.size iq))
      (View.ld x4 (Rect.unit (s := S16640x128) ok S1280x64.size ik))
      (View.ld x5 (Rect.unit (s := S144x16640) ov S144x1280.size iv)) := by
  subst hq hk hv
  refine ⟨fun d l => ?_, fun j d => ?_, fun e j => ?_⟩
  · pointwise; rfl
  · rw [kAt_lt x4 (by have := j.isLt; omega)]; pointwise; rfl
  · rw [vAt_lt x5 e (by have := j.isLt; omega)]; pointwise

section Pieces

variable {κ : Kind} {sp : Space}

/-- A load of half `c`'s row of the maxima. -/
theorem ld_max (x : Vec Ideal S2x1x1280 .f32) (c : Fin 2) {off : Fin 3 → ℕ} (inb) (h : off = ![c.val, 0, 0])
    (l : Fin 1280) :
    View.ld x (Rect.unit (s := S2x1x1280) off S1x1x1280.size inb) (ix3 0 0 l) = maxOf x c l := by
  subst h; unfold maxOf; pointwise

/-- A load of half `c`'s rows of the sums. -/
theorem ld_sum (x : Vec Ideal S2x144x1280 .f32) (c : Fin 2) {off : Fin 3 → ℕ} (inb) (h : off = ![c.val, 0, 0])
    (e : Fin 144) (l : Fin 1280) :
    View.ld x (Rect.unit (s := S2x144x1280) off S1x144x1280.size inb) (ix3 0 e l) = sumOf x c e l := by
  subst h; unfold sumOf; pointwise

variable (v : View sig κ sp S2x1x1280 .f32) (f : v.ty.Contents (Elt Ideal)) (u : View sig κ sp S2x144x1280 .f32)
  (g : u.ty.Contents (Elt Ideal))

theorem max_zero (i1 i0) (w1 w0 : Vec Ideal S1x1x1280 .f32) (l : Fin 1280) :
    maxOf (v.read (Elt Ideal) (v.writes (Elt Ideal) f [⟨Rect.unit ![1, 0, 0] S1x1x1280.size i1, w1⟩, ⟨Rect.unit ![0, 0, 0] S1x1x1280.size i0, w0⟩]))
      0 l = w0 (ix3 0 0 l) := by
  unfold maxOf
  refine (View.read_writes_cons_unit_of_not_mem v _ _ _ _ _ rfl 0 (Or.inl (Nat.zero_lt_one))).trans ?_
  refine View.read_writes_cons_unit_of_mem v _ _ _ _ _ (ix3 0 0 l) rfl ?_
  intro a; fin_cases a
  · rfl
  · rfl
  · exact (Nat.zero_add _).symm

theorem max_one (i1 i0) (w1 w0 : Vec Ideal S1x1x1280 .f32) (l : Fin 1280) :
    maxOf (v.read (Elt Ideal) (v.writes (Elt Ideal) f [⟨Rect.unit ![1, 0, 0] S1x1x1280.size i1, w1⟩, ⟨Rect.unit ![0, 0, 0] S1x1x1280.size i0, w0⟩]))
      1 l = w1 (ix3 0 0 l) := by
  unfold maxOf
  refine View.read_writes_cons_unit_of_mem v _ _ _ _ _ (ix3 0 0 l) rfl ?_
  intro a; fin_cases a
  · rfl
  · rfl
  · exact (Nat.zero_add _).symm

theorem sum_zero (i1 i0) (w1 w0 : Vec Ideal S1x144x1280 .f32) (e : Fin 144) (l : Fin 1280) :
    sumOf (u.read (Elt Ideal) (u.writes (Elt Ideal) g [⟨Rect.unit ![1, 0, 0] S1x144x1280.size i1, w1⟩, ⟨Rect.unit ![0, 0, 0] S1x144x1280.size i0, w0⟩]))
      0 e l = w0 (ix3 0 e l) := by
  unfold sumOf
  refine (View.read_writes_cons_unit_of_not_mem u _ _ _ _ _ rfl 0 (Or.inl (Nat.zero_lt_one))).trans ?_
  refine View.read_writes_cons_unit_of_mem u _ _ _ _ _ (ix3 0 e l) rfl ?_
  intro a; fin_cases a
  · rfl
  · exact (Nat.zero_add _).symm
  · exact (Nat.zero_add _).symm

theorem sum_one (i1 i0) (w1 w0 : Vec Ideal S1x144x1280 .f32) (e : Fin 144) (l : Fin 1280) :
    sumOf (u.read (Elt Ideal) (u.writes (Elt Ideal) g [⟨Rect.unit ![1, 0, 0] S1x144x1280.size i1, w1⟩, ⟨Rect.unit ![0, 0, 0] S1x144x1280.size i0, w0⟩]))
      1 e l = w1 (ix3 0 e l) := by
  unfold sumOf
  refine View.read_writes_cons_unit_of_mem u _ _ _ _ _ (ix3 0 e l) rfl ?_
  intro a; fin_cases a
  · rfl
  · exact (Nat.zero_add _).symm
  · exact (Nat.zero_add _).symm

end Pieces

section Trips

variable (c : Dev nD) (i : grid0.Coords) (a2 : Memref sig .tc .smem S1 .f32) (h2 : a2.IsWhole)
  (a3 : Memref sig .tc .vmem S128x1280 .f32) (h3 : a3.IsWhole) (a4 : Memref sig .tc .vmem S16640x128 .bf16)
  (h4 : a4.IsWhole) (a5 : Memref sig .tc .vmem S144x16640 .bf16) (h5 : a5.IsWhole)
  (a6 : Memref sig .tc .vmem S1x128 .f32) (h6 : a6.IsWhole) (a7 : Memref sig .tc .vmem S1280x128 .bf16)
  (h7 : a7.IsWhole) (a8 : Memref sig .tc .vmem S2x1x1280 .f32) (h8 : a8.IsWhole)
  (a9 : Memref sig .tc .vmem S2x1x1280 .f32) (h9 : a9.IsWhole) (a10 : Memref sig .tc .vmem S2x144x1280 .f32)
  (h10 : a10.IsWhole)

/-- One trip of loop 1. -/
theorem trip1 (h : k0_cond1 i = 1#1) (X3 : BufTy.Contents (Elt Ideal) a3.view.ty) (X4 : BufTy.Contents (Elt Ideal) a4.view.ty)
    (X5 : BufTy.Contents (Elt Ideal) a5.view.ty) (k : Fin k0_t1_loop.trips) (f8 : BufTy.Contents (Elt Ideal) a8.view.ty)
    (f9 : BufTy.Contents (Elt Ideal) a9.view.ty) (f10 : BufTy.Contents (Elt Ideal) a10.view.ty)
    (L : List (View.Piece (Elt Ideal) S2x1x1280 .f32) × List (View.Piece (Elt Ideal) S2x1x1280 .f32) × List (View.Piece (Elt Ideal) S2x144x1280 .f32))
    (hL : L = tripL_k0_t1 (F := Ideal) Variants.none c none i a2 h2 a3 h3 a4 h4 a5 h5 a6 h6 a7 h7 a8 h8 a9 h9 a10 h10 h (0#32) X3 X4 X5 k f8 f9 f10) :
    LazyStep (plainScore (a3.view.read _ X3) (a4.view.read _ X4)) (vAt (a5.view.read _ X5)) (1280 * k.val)
      (maxOf (a8.view.read _ f8)) (maxOf (a8.view.read _ (a8.view.writes (Elt Ideal) f8 L.1)))
      (sumOf (a10.view.read _ f10)) (sumOf (a10.view.read _ (a10.view.writes (Elt Ideal) f10 L.2.2))) := by
  have hk : 1280 * k.val + 1280 ≤ 16640 := by
    have h13 : k0_t1_loop.trips = 13 := by decide
    have := k.isLt
    omega
  unfold tripL_k0_t1 trip_k0_t1 at hL
  dsimp only at hL
  subst hL
  intro c' l
  fin_cases c'
  · have hs := lazy1 (m := View.ld (a8.view.read _ f8) (Rect.unit (s := S2x1x1280) ![0, 0, 0] S1x1x1280.size inb_S2x1x1280_S1x1x1280_0_0_0))
      (a := View.ld (a10.view.read _ f10) (Rect.unit (s := S2x144x1280) ![0, 0, 0] S1x144x1280.size inb_S2x144x1280_S1x144x1280_0_0_0))
      (reads (a3.view.read _ X3) (a4.view.read _ X4) (a5.view.read _ X5) inb_S128x1280_S64x1280_0_0
      (k0_off1_inb i k h) (k0_off2_inb i k h) _ hk 0 rfl (off1_eq k) (off2_eq k)) l
    refine ⟨(max_zero _ _ _ _ _ _ _).trans (hs.1.trans ?_), fun e => (sum_zero _ _ _ _ _ _ _ _).trans ((hs.2 e).trans ?_)⟩
    · exact congrArg (newMax _ _) (ld_max _ 0 _ rfl l)
    · exact congrArg₂ (lazySum _ _ _) (ld_max _ 0 _ rfl l) (ld_sum _ 0 _ rfl e l)
  · have hs := lazy1' (m := View.ld (a8.view.read _ f8) (Rect.unit (s := S2x1x1280) ![1, 0, 0] S1x1x1280.size inb_S2x1x1280_S1x1x1280_1_0_0))
      (a := View.ld (a10.view.read _ f10) (Rect.unit (s := S2x144x1280) ![1, 0, 0] S1x144x1280.size inb_S2x144x1280_S1x144x1280_1_0_0))
      (reads (a3.view.read _ X3) (a4.view.read _ X4) (a5.view.read _ X5) inb_S128x1280_S64x1280_64_0
      (k0_off3_inb i k h) (k0_off2_inb i k h) _ hk 1 rfl (off3_eq k) (off2_eq k)) l
    refine ⟨(max_one _ _ _ _ _ _ _).trans (hs.1.trans ?_), fun e => (sum_one _ _ _ _ _ _ _ _).trans ((hs.2 e).trans ?_)⟩
    · exact congrArg (newMax _ _) (ld_max _ 1 _ rfl l)
    · exact congrArg₂ (lazySum _ _ _) (ld_max _ 1 _ rfl l) (ld_sum _ 1 _ rfl e l)

/-- One trip of loop 2. -/
theorem trip2 (h : k0_cond1 i = 1#1) (X3 : BufTy.Contents (Elt Ideal) a3.view.ty) (X4 : BufTy.Contents (Elt Ideal) a4.view.ty)
    (X5 : BufTy.Contents (Elt Ideal) a5.view.ty) (k : Fin k0_t2_loop.trips) (f8 : BufTy.Contents (Elt Ideal) a8.view.ty)
    (f10 : BufTy.Contents (Elt Ideal) a10.view.ty)
    (L : List (View.Piece (Elt Ideal) S2x1x1280 .f32) × List (View.Piece (Elt Ideal) S2x144x1280 .f32))
    (hL : L = tripL_k0_t2 (F := Ideal) Variants.none c none i a2 h2 a3 h3 a4 h4 a5 h5 a6 h6 a7 h7 a8 h8 a9 h9 a10 h10 h X3 X4 X5 k f8 f10) :
    ExactStep (plainScore (a3.view.read _ X3) (a4.view.read _ X4)) (vAt (a5.view.read _ X5)) (1280 * k.val)
      (maxOf (a8.view.read _ f8)) (maxOf (a8.view.read _ (a8.view.writes (Elt Ideal) f8 L.1)))
      (sumOf (a10.view.read _ f10)) (sumOf (a10.view.read _ (a10.view.writes (Elt Ideal) f10 L.2))) := by
  have hk : 1280 * k.val + 1280 ≤ 16640 := by
    have h13 : k0_t2_loop.trips = 13 := by decide
    have := k.isLt
    omega
  unfold tripL_k0_t2 trip_k0_t2 at hL
  dsimp only at hL
  subst hL
  intro c' l
  fin_cases c'
  · have hs := exact2 (m := View.ld (a8.view.read _ f8) (Rect.unit (s := S2x1x1280) ![0, 0, 0] S1x1x1280.size inb_S2x1x1280_S1x1x1280_0_0_0))
      (a := View.ld (a10.view.read _ f10) (Rect.unit (s := S2x144x1280) ![0, 0, 0] S1x144x1280.size inb_S2x144x1280_S1x144x1280_0_0_0))
      (reads (a3.view.read _ X3) (a4.view.read _ X4) (a5.view.read _ X5) inb_S128x1280_S64x1280_0_0
      (k0_off4_inb i k h) (k0_off5_inb i k h) _ hk 0 rfl (off4_eq k) (off5_eq k)) l
    refine ⟨(max_zero _ _ _ _ _ _ _).trans (hs.1.trans ?_), fun e => (sum_zero _ _ _ _ _ _ _ _).trans ((hs.2 e).trans ?_)⟩
    · exact congrArg (newMax _ _) (ld_max _ 0 _ rfl l)
    · exact congrArg₂ (exactSum _ _ _) (ld_max _ 0 _ rfl l) (ld_sum _ 0 _ rfl e l)
  · have hs := exact2' (m := View.ld (a8.view.read _ f8) (Rect.unit (s := S2x1x1280) ![1, 0, 0] S1x1x1280.size inb_S2x1x1280_S1x1x1280_1_0_0))
      (a := View.ld (a10.view.read _ f10) (Rect.unit (s := S2x144x1280) ![1, 0, 0] S1x144x1280.size inb_S2x144x1280_S1x144x1280_1_0_0))
      (reads (a3.view.read _ X3) (a4.view.read _ X4) (a5.view.read _ X5) inb_S128x1280_S64x1280_64_0
      (k0_off6_inb i k h) (k0_off5_inb i k h) _ hk 1 rfl (off6_eq k) (off5_eq k)) l
    refine ⟨(max_one _ _ _ _ _ _ _).trans (hs.1.trans ?_), fun e => (sum_one _ _ _ _ _ _ _ _).trans ((hs.2 e).trans ?_)⟩
    · exact congrArg (newMax _ _) (ld_max _ 1 _ rfl l)
    · exact congrArg₂ (exactSum _ _ _) (ld_max _ 1 _ rfl l) (ld_sum _ 1 _ rfl e l)

/-- One trip of loop 3. -/
theorem trip3 (h : k0_cond3 i = 1#1) (v79 : FVec Ideal S16x1280 .f32) (X3 : BufTy.Contents (Elt Ideal) a3.view.ty) (X4 : BufTy.Contents (Elt Ideal) a4.view.ty)
    (X5 : BufTy.Contents (Elt Ideal) a5.view.ty) (k : Fin k0_t3_loop.trips) (f8 : BufTy.Contents (Elt Ideal) a8.view.ty)
    (f9 : BufTy.Contents (Elt Ideal) a9.view.ty) (f10 : BufTy.Contents (Elt Ideal) a10.view.ty)
    (L : List (View.Piece (Elt Ideal) S2x1x1280 .f32) × List (View.Piece (Elt Ideal) S2x1x1280 .f32) × List (View.Piece (Elt Ideal) S2x144x1280 .f32))
    (hL : L = tripL_k0_t3 (F := Ideal) Variants.none c none i a2 h2 a3 h3 a4 h4 a5 h5 a6 h6 a7 h7 a8 h8 a9 h9 a10 h10 h v79 X3 X4 X5 k f8 f9 f10) :
    LazyStep (maskedScore (a3.view.read _ X3) (a4.view.read _ X4)) (vAt (a5.view.read _ X5)) (1280 * k.val)
      (maxOf (a8.view.read _ f8)) (maxOf (a8.view.read _ (a8.view.writes (Elt Ideal) f8 L.1)))
      (sumOf (a10.view.read _ f10)) (sumOf (a10.view.read _ (a10.view.writes (Elt Ideal) f10 L.2.2))) := by
  have hk : 1280 * k.val + 1280 ≤ 16640 := by
    have h13 : k0_t3_loop.trips = 13 := by decide
    have := k.isLt
    omega
  unfold tripL_k0_t3 trip_k0_t3 at hL
  dsimp only at hL
  subst hL
  intro c' l
  fin_cases c'
  · have hs := lazy3 (m := View.ld (a8.view.read _ f8) (Rect.unit (s := S2x1x1280) ![0, 0, 0] S1x1x1280.size inb_S2x1x1280_S1x1x1280_0_0_0))
      (a := View.ld (a10.view.read _ f10) (Rect.unit (s := S2x144x1280) ![0, 0, 0] S1x144x1280.size inb_S2x144x1280_S1x144x1280_0_0_0))
      (reads (a3.view.read _ X3) (a4.view.read _ X4) (a5.view.read _ X5) inb_S128x1280_S64x1280_0_0
      (k0_off7_inb i k h) (k0_off8_inb i k h) _ hk 0 rfl (off7_eq k) (off8_eq k)) l
    refine ⟨(max_zero _ _ _ _ _ _ _).trans (hs.1.trans ?_), fun e => (sum_zero _ _ _ _ _ _ _ _).trans ((hs.2 e).trans ?_)⟩
    · exact congrArg (newMax _ _) (ld_max _ 0 _ rfl l)
    · exact congrArg₂ (lazySum _ _ _) (ld_max _ 0 _ rfl l) (ld_sum _ 0 _ rfl e l)
  · have hs := lazy3' (m := View.ld (a8.view.read _ f8) (Rect.unit (s := S2x1x1280) ![1, 0, 0] S1x1x1280.size inb_S2x1x1280_S1x1x1280_1_0_0))
      (a := View.ld (a10.view.read _ f10) (Rect.unit (s := S2x144x1280) ![1, 0, 0] S1x144x1280.size inb_S2x144x1280_S1x144x1280_1_0_0))
      (reads (a3.view.read _ X3) (a4.view.read _ X4) (a5.view.read _ X5) inb_S128x1280_S64x1280_64_0
      (k0_off9_inb i k h) (k0_off8_inb i k h) _ hk 1 rfl (off9_eq k) (off8_eq k)) l
    refine ⟨(max_one _ _ _ _ _ _ _).trans (hs.1.trans ?_), fun e => (sum_one _ _ _ _ _ _ _ _).trans ((hs.2 e).trans ?_)⟩
    · exact congrArg (newMax _ _) (ld_max _ 1 _ rfl l)
    · exact congrArg₂ (lazySum _ _ _) (ld_max _ 1 _ rfl l) (ld_sum _ 1 _ rfl e l)

/-- One trip of loop 4. -/
theorem trip4 (h : k0_cond3 i = 1#1) (X3 : BufTy.Contents (Elt Ideal) a3.view.ty) (X4 : BufTy.Contents (Elt Ideal) a4.view.ty)
    (X5 : BufTy.Contents (Elt Ideal) a5.view.ty) (k : Fin k0_t4_loop.trips) (f8 : BufTy.Contents (Elt Ideal) a8.view.ty)
    (f10 : BufTy.Contents (Elt Ideal) a10.view.ty)
    (L : List (View.Piece (Elt Ideal) S2x1x1280 .f32) × List (View.Piece (Elt Ideal) S2x144x1280 .f32))
    (hL : L = tripL_k0_t4 (F := Ideal) Variants.none c none i a2 h2 a3 h3 a4 h4 a5 h5 a6 h6 a7 h7 a8 h8 a9 h9 a10 h10 h X3 X4 X5 k f8 f10) :
    ExactStep (maskedScore (a3.view.read _ X3) (a4.view.read _ X4)) (vAt (a5.view.read _ X5)) (1280 * k.val)
      (maxOf (a8.view.read _ f8)) (maxOf (a8.view.read _ (a8.view.writes (Elt Ideal) f8 L.1)))
      (sumOf (a10.view.read _ f10)) (sumOf (a10.view.read _ (a10.view.writes (Elt Ideal) f10 L.2))) := by
  have hk : 1280 * k.val + 1280 ≤ 16640 := by
    have h13 : k0_t4_loop.trips = 13 := by decide
    have := k.isLt
    omega
  unfold tripL_k0_t4 trip_k0_t4 at hL
  dsimp only at hL
  subst hL
  intro c' l
  fin_cases c'
  · have hs := exact4 (m := View.ld (a8.view.read _ f8) (Rect.unit (s := S2x1x1280) ![0, 0, 0] S1x1x1280.size inb_S2x1x1280_S1x1x1280_0_0_0))
      (a := View.ld (a10.view.read _ f10) (Rect.unit (s := S2x144x1280) ![0, 0, 0] S1x144x1280.size inb_S2x144x1280_S1x144x1280_0_0_0))
      (reads (a3.view.read _ X3) (a4.view.read _ X4) (a5.view.read _ X5) inb_S128x1280_S64x1280_0_0
      (k0_off10_inb i k h) (k0_off11_inb i k h) _ hk 0 rfl (off10_eq k) (off11_eq k)) l
    refine ⟨(max_zero _ _ _ _ _ _ _).trans (hs.1.trans ?_), fun e => (sum_zero _ _ _ _ _ _ _ _).trans ((hs.2 e).trans ?_)⟩
    · exact congrArg (newMax _ _) (ld_max _ 0 _ rfl l)
    · exact congrArg₂ (exactSum _ _ _) (ld_max _ 0 _ rfl l) (ld_sum _ 0 _ rfl e l)
  · have hs := exact4' (m := View.ld (a8.view.read _ f8) (Rect.unit (s := S2x1x1280) ![1, 0, 0] S1x1x1280.size inb_S2x1x1280_S1x1x1280_1_0_0))
      (a := View.ld (a10.view.read _ f10) (Rect.unit (s := S2x144x1280) ![1, 0, 0] S1x144x1280.size inb_S2x144x1280_S1x144x1280_1_0_0))
      (reads (a3.view.read _ X3) (a4.view.read _ X4) (a5.view.read _ X5) inb_S128x1280_S64x1280_64_0
      (k0_off12_inb i k h) (k0_off11_inb i k h) _ hk 1 rfl (off12_eq k) (off11_eq k)) l
    refine ⟨(max_one _ _ _ _ _ _ _).trans (hs.1.trans ?_), fun e => (sum_one _ _ _ _ _ _ _ _).trans ((hs.2 e).trans ?_)⟩
    · exact congrArg (newMax _ _) (ld_max _ 1 _ rfl l)
    · exact congrArg₂ (exactSum _ _ _) (ld_max _ 1 _ rfl l) (ld_sum _ 1 _ rfl e l)

end Trips

end Attn

end
-- ==== Proof.Loops.lean ====
/-
  The four key loops as a whole: after the thirteen trips the carried maxima and sums meet the invariant of `Online`
  at all 16640 keys, on every half and lane. The lazy loops start at real maxima, the exact ones at −∞; both at zero
  sums.
-/
module

public import proofs.«01_k».proof.Proof.Trips

@[expose] public section

set_option maxRecDepth 16384

noncomputable section

namespace Attn

open Idealize.ShloMosaic Idealize.ShloMosaic.Tactic
open Cert.KernelIdeal Cert.KernelIdeal.Gen

/-- The invariant on every half and lane. -/
def AllInv (S : Scores) (w : Fin 144 → ℕ → ℝ) (n : ℕ) (m : Maxima) (a : Sums) : Prop :=
  ∀ c l, Inv (S c l) w n (m c l) fun e => a c e l

section Abstract

variable {S : Scores} {V : Fin 144 → ℕ → EReal} {w : Fin 144 → ℕ → ℝ} (hS : ∀ c l k, Low (S c l k))
  (hV : ∀ e k, V e k = (w e k : EReal)) (M : ℕ → Maxima) (A : ℕ → Sums) (hA : ∀ c e l, A 0 c e l = 0)
include hS hV hA

theorem lazy_loop (hM : ∀ c l, ∃ r : ℝ, M 0 c l = (r : EReal))
    (h : ∀ k < 13, LazyStep S V (1280 * k) (M k) (M (k + 1)) (A k) (A (k + 1))) :
    AllInv S w 16640 (M 13) (A 13) := by
  have h1 : ∀ k ≤ 13, AllInv S w (1280 * k) (M k) (A k) ∧ ∀ c l, M k c l ≠ ⊥ := by
    intro k
    induction k with
    | zero =>
      refine fun _ => ⟨fun c l => inv_start (Or.inr (hM c l)) fun e => hA c e l, fun c l => ?_⟩
      obtain ⟨r, hr⟩ := hM c l
      rw [hr]; exact EReal.coe_ne_bot r
    | succ k ih =>
      intro hk
      obtain ⟨hi, hb⟩ := ih (by omega)
      refine ⟨fun c l => ?_, fun c l hc => hb c l ?_⟩
      · obtain ⟨hm, ha⟩ := h k (by omega) c l
        refine (hi c l).lazy (hS c l) (hb c l) hm fun e => (ha e).trans ?_
        rw [hm]
        simp only [lazySum, hV]
      · have hm := (h k (by omega) c l).1
        rw [hc] at hm
        exact le_bot_iff.mp ((le_max_left _ _).trans hm.symm.le)
  exact (h1 13 le_rfl).1

theorem exact_loop (hM : ∀ c l, M 0 c l = ⊥)
    (h : ∀ k < 13, ExactStep S V (1280 * k) (M k) (M (k + 1)) (A k) (A (k + 1))) :
    AllInv S w 16640 (M 13) (A 13) := by
  have h1 : ∀ k ≤ 13, AllInv S w (1280 * k) (M k) (A k) := by
    intro k
    induction k with
    | zero => exact fun _ c l => inv_start (Or.inl (hM c l)) fun e => hA c e l
    | succ k ih =>
      intro hk c l
      obtain ⟨hm, ha⟩ := h k (by omega) c l
      refine (ih (by omega) c l).exact (hS c l) hm fun e => (ha e).trans ?_
      rw [hm]
      simp only [exactSum, hV]
  exact h1 13 le_rfl

end Abstract

section Loops

variable (c : Dev nD) (i : grid0.Coords) (a2 : Memref sig .tc .smem S1 .f32) (h2 : a2.IsWhole)
  (a3 : Memref sig .tc .vmem S128x1280 .f32) (h3 : a3.IsWhole) (a4 : Memref sig .tc .vmem S16640x128 .bf16)
  (h4 : a4.IsWhole) (a5 : Memref sig .tc .vmem S144x16640 .bf16) (h5 : a5.IsWhole)
  (a6 : Memref sig .tc .vmem S1x128 .f32) (h6 : a6.IsWhole) (a7 : Memref sig .tc .vmem S1280x128 .bf16)
  (h7 : a7.IsWhole) (a8 : Memref sig .tc .vmem S2x1x1280 .f32) (h8 : a8.IsWhole)
  (a9 : Memref sig .tc .vmem S2x1x1280 .f32) (h9 : a9.IsWhole) (a10 : Memref sig .tc .vmem S2x144x1280 .f32)
  (h10 : a10.IsWhole)

/-- Loop 1. -/
theorem loop1 (h : k0_cond1 i = 1#1) (X3 : BufTy.Contents (Elt Ideal) a3.view.ty) (X4 : BufTy.Contents (Elt Ideal) a4.view.ty)
    (X5 : BufTy.Contents (Elt Ideal) a5.view.ty) (g8 : BufTy.Contents (Elt Ideal) a8.view.ty)
    (g9 : BufTy.Contents (Elt Ideal) a9.view.ty) (g10 : BufTy.Contents (Elt Ideal) a10.view.ty) (w : Fin 144 → ℕ → ℝ)
    (hS : ∀ c l k, Low (plainScore (a3.view.read _ X3) (a4.view.read _ X4) c l k))
    (hV : ∀ e k, vAt (a5.view.read _ X5) e k = (w e k : EReal))
    (hM : ∀ c l, ∃ r : ℝ, maxOf (a8.view.read _ g8) c l = (r : EReal)) (hA : ∀ c e l, sumOf (a10.view.read _ g10) c e l = 0) :
    AllInv (plainScore (a3.view.read _ X3) (a4.view.read _ X4)) w 16640
      (maxOf (a8.view.read _ (a8.view.writes (Elt Ideal) g8 (pb_k0_t1 (F := Ideal) Variants.none c none i a2 h2 a3 h3 a4 h4 a5 h5 a6 h6 a7 h7 a8 h8 a9 h9 a10 h10 h (0#32) X3 X4 X5 g8 g9 g10 13).1)))
      (sumOf (a10.view.read _ (a10.view.writes (Elt Ideal) g10 (pb_k0_t1 (F := Ideal) Variants.none c none i a2 h2 a3 h3 a4 h4 a5 h5 a6 h6 a7 h7 a8 h8 a9 h9 a10 h10 h (0#32) X3 X4 X5 g8 g9 g10 13).2.2))) := by
  refine lazy_loop hS hV
    (fun k => maxOf (a8.view.read _ (a8.view.writes (Elt Ideal) g8 (pb_k0_t1 (F := Ideal) Variants.none c none i a2 h2 a3 h3 a4 h4 a5 h5 a6 h6 a7 h7 a8 h8 a9 h9 a10 h10 h (0#32) X3 X4 X5 g8 g9 g10 k).1)))
    (fun k => sumOf (a10.view.read _ (a10.view.writes (Elt Ideal) g10 (pb_k0_t1 (F := Ideal) Variants.none c none i a2 h2 a3 h3 a4 h4 a5 h5 a6 h6 a7 h7 a8 h8 a9 h9 a10 h10 h (0#32) X3 X4 X5 g8 g9 g10 k).2.2)))
    hA hM fun k hk => ?_
  have h13 : k0_t1_loop.trips = 13 := by decide
  have ht := trip1 c i a2 h2 a3 h3 a4 h4 a5 h5 a6 h6 a7 h7 a8 h8 a9 h9 a10 h10 h X3 X4 X5 ⟨k, h13 ▸ hk⟩ (a8.view.writes (Elt Ideal) g8 (pb_k0_t1 (F := Ideal) Variants.none c none i a2 h2 a3 h3 a4 h4 a5 h5 a6 h6 a7 h7 a8 h8 a9 h9 a10 h10 h (0#32) X3 X4 X5 g8 g9 g10 k).1)
    (a9.view.writes (Elt Ideal) g9 (pb_k0_t1 (F := Ideal) Variants.none c none i a2 h2 a3 h3 a4 h4 a5 h5 a6 h6 a7 h7 a8 h8 a9 h9 a10 h10 h (0#32) X3 X4 X5 g8 g9 g10 k).2.1) (a10.view.writes (Elt Ideal) g10 (pb_k0_t1 (F := Ideal) Variants.none c none i a2 h2 a3 h3 a4 h4 a5 h5 a6 h6 a7 h7 a8 h8 a9 h9 a10 h10 h (0#32) X3 X4 X5 g8 g9 g10 k).2.2) _ rfl
  have hs := pb_k0_t1_succ (F := Ideal) Variants.none c none i a2 h2 a3 h3 a4 h4 a5 h5 a6 h6 a7 h7 a8 h8 a9 h9 a10 h10 h (0#32) X3 X4 X5 g8 g9 g10 ⟨k, h13 ▸ hk⟩
  have h8 := congrArg (fun L => maxOf (a8.view.read _ (a8.view.writes (Elt Ideal) g8 L.1))) hs
  have h10 := congrArg (fun L => sumOf (a10.view.read _ (a10.view.writes (Elt Ideal) g10 L.2.2))) hs
  dsimp only at h8 h10
  rw [View.writes_append] at h8 h10
  rw [h8, h10]
  exact ht

/-- Loop 2. -/
theorem loop2 (h : k0_cond1 i = 1#1) (X3 : BufTy.Contents (Elt Ideal) a3.view.ty) (X4 : BufTy.Contents (Elt Ideal) a4.view.ty)
    (X5 : BufTy.Contents (Elt Ideal) a5.view.ty) (g8 : BufTy.Contents (Elt Ideal) a8.view.ty)
    (g10 : BufTy.Contents (Elt Ideal) a10.view.ty) (w : Fin 144 → ℕ → ℝ)
    (hS : ∀ c l k, Low (plainScore (a3.view.read _ X3) (a4.view.read _ X4) c l k))
    (hV : ∀ e k, vAt (a5.view.read _ X5) e k = (w e k : EReal))
    (hM : ∀ c l, maxOf (a8.view.read _ g8) c l = ⊥) (hA : ∀ c e l, sumOf (a10.view.read _ g10) c e l = 0) :
    AllInv (plainScore (a3.view.read _ X3) (a4.view.read _ X4)) w 16640
      (maxOf (a8.view.read _ (a8.view.writes (Elt Ideal) g8 (pb_k0_t2 (F := Ideal) Variants.none c none i a2 h2 a3 h3 a4 h4 a5 h5 a6 h6 a7 h7 a8 h8 a9 h9 a10 h10 h X3 X4 X5 g8 g10 13).1)))
      (sumOf (a10.view.read _ (a10.view.writes (Elt Ideal) g10 (pb_k0_t2 (F := Ideal) Variants.none c none i a2 h2 a3 h3 a4 h4 a5 h5 a6 h6 a7 h7 a8 h8 a9 h9 a10 h10 h X3 X4 X5 g8 g10 13).2))) := by
  refine exact_loop hS hV
    (fun k => maxOf (a8.view.read _ (a8.view.writes (Elt Ideal) g8 (pb_k0_t2 (F := Ideal) Variants.none c none i a2 h2 a3 h3 a4 h4 a5 h5 a6 h6 a7 h7 a8 h8 a9 h9 a10 h10 h X3 X4 X5 g8 g10 k).1)))
    (fun k => sumOf (a10.view.read _ (a10.view.writes (Elt Ideal) g10 (pb_k0_t2 (F := Ideal) Variants.none c none i a2 h2 a3 h3 a4 h4 a5 h5 a6 h6 a7 h7 a8 h8 a9 h9 a10 h10 h X3 X4 X5 g8 g10 k).2)))
    hA hM fun k hk => ?_
  have h13 : k0_t2_loop.trips = 13 := by decide
  have ht := trip2 c i a2 h2 a3 h3 a4 h4 a5 h5 a6 h6 a7 h7 a8 h8 a9 h9 a10 h10 h X3 X4 X5 ⟨k, h13 ▸ hk⟩ (a8.view.writes (Elt Ideal) g8 (pb_k0_t2 (F := Ideal) Variants.none c none i a2 h2 a3 h3 a4 h4 a5 h5 a6 h6 a7 h7 a8 h8 a9 h9 a10 h10 h X3 X4 X5 g8 g10 k).1)
     (a10.view.writes (Elt Ideal) g10 (pb_k0_t2 (F := Ideal) Variants.none c none i a2 h2 a3 h3 a4 h4 a5 h5 a6 h6 a7 h7 a8 h8 a9 h9 a10 h10 h X3 X4 X5 g8 g10 k).2) _ rfl
  have hs := pb_k0_t2_succ (F := Ideal) Variants.none c none i a2 h2 a3 h3 a4 h4 a5 h5 a6 h6 a7 h7 a8 h8 a9 h9 a10 h10 h X3 X4 X5 g8 g10 ⟨k, h13 ▸ hk⟩
  have h8 := congrArg (fun L => maxOf (a8.view.read _ (a8.view.writes (Elt Ideal) g8 L.1))) hs
  have h10 := congrArg (fun L => sumOf (a10.view.read _ (a10.view.writes (Elt Ideal) g10 L.2))) hs
  dsimp only at h8 h10
  rw [View.writes_append] at h8 h10
  rw [h8, h10]
  exact ht

/-- Loop 3. -/
theorem loop3 (h : k0_cond3 i = 1#1) (v79 : FVec Ideal S16x1280 .f32) (X3 : BufTy.Contents (Elt Ideal) a3.view.ty) (X4 : BufTy.Contents (Elt Ideal) a4.view.ty)
    (X5 : BufTy.Contents (Elt Ideal) a5.view.ty) (g8 : BufTy.Contents (Elt Ideal) a8.view.ty)
    (g9 : BufTy.Contents (Elt Ideal) a9.view.ty) (g10 : BufTy.Contents (Elt Ideal) a10.view.ty) (w : Fin 144 → ℕ → ℝ)
    (hS : ∀ c l k, Low (maskedScore (a3.view.read _ X3) (a4.view.read _ X4) c l k))
    (hV : ∀ e k, vAt (a5.view.read _ X5) e k = (w e k : EReal))
    (hM : ∀ c l, ∃ r : ℝ, maxOf (a8.view.read _ g8) c l = (r : EReal)) (hA : ∀ c e l, sumOf (a10.view.read _ g10) c e l = 0) :
    AllInv (maskedScore (a3.view.read _ X3) (a4.view.read _ X4)) w 16640
      (maxOf (a8.view.read _ (a8.view.writes (Elt Ideal) g8 (pb_k0_t3 (F := Ideal) Variants.none c none i a2 h2 a3 h3 a4 h4 a5 h5 a6 h6 a7 h7 a8 h8 a9 h9 a10 h10 h v79 X3 X4 X5 g8 g9 g10 13).1)))
      (sumOf (a10.view.read _ (a10.view.writes (Elt Ideal) g10 (pb_k0_t3 (F := Ideal) Variants.none c none i a2 h2 a3 h3 a4 h4 a5 h5 a6 h6 a7 h7 a8 h8 a9 h9 a10 h10 h v79 X3 X4 X5 g8 g9 g10 13).2.2))) := by
  refine lazy_loop hS hV
    (fun k => maxOf (a8.view.read _ (a8.view.writes (Elt Ideal) g8 (pb_k0_t3 (F := Ideal) Variants.none c none i a2 h2 a3 h3 a4 h4 a5 h5 a6 h6 a7 h7 a8 h8 a9 h9 a10 h10 h v79 X3 X4 X5 g8 g9 g10 k).1)))
    (fun k => sumOf (a10.view.read _ (a10.view.writes (Elt Ideal) g10 (pb_k0_t3 (F := Ideal) Variants.none c none i a2 h2 a3 h3 a4 h4 a5 h5 a6 h6 a7 h7 a8 h8 a9 h9 a10 h10 h v79 X3 X4 X5 g8 g9 g10 k).2.2)))
    hA hM fun k hk => ?_
  have h13 : k0_t3_loop.trips = 13 := by decide
  have ht := trip3 c i a2 h2 a3 h3 a4 h4 a5 h5 a6 h6 a7 h7 a8 h8 a9 h9 a10 h10 h v79 X3 X4 X5 ⟨k, h13 ▸ hk⟩ (a8.view.writes (Elt Ideal) g8 (pb_k0_t3 (F := Ideal) Variants.none c none i a2 h2 a3 h3 a4 h4 a5 h5 a6 h6 a7 h7 a8 h8 a9 h9 a10 h10 h v79 X3 X4 X5 g8 g9 g10 k).1)
    (a9.view.writes (Elt Ideal) g9 (pb_k0_t3 (F := Ideal) Variants.none c none i a2 h2 a3 h3 a4 h4 a5 h5 a6 h6 a7 h7 a8 h8 a9 h9 a10 h10 h v79 X3 X4 X5 g8 g9 g10 k).2.1) (a10.view.writes (Elt Ideal) g10 (pb_k0_t3 (F := Ideal) Variants.none c none i a2 h2 a3 h3 a4 h4 a5 h5 a6 h6 a7 h7 a8 h8 a9 h9 a10 h10 h v79 X3 X4 X5 g8 g9 g10 k).2.2) _ rfl
  have hs := pb_k0_t3_succ (F := Ideal) Variants.none c none i a2 h2 a3 h3 a4 h4 a5 h5 a6 h6 a7 h7 a8 h8 a9 h9 a10 h10 h v79 X3 X4 X5 g8 g9 g10 ⟨k, h13 ▸ hk⟩
  have h8 := congrArg (fun L => maxOf (a8.view.read _ (a8.view.writes (Elt Ideal) g8 L.1))) hs
  have h10 := congrArg (fun L => sumOf (a10.view.read _ (a10.view.writes (Elt Ideal) g10 L.2.2))) hs
  dsimp only at h8 h10
  rw [View.writes_append] at h8 h10
  rw [h8, h10]
  exact ht

/-- Loop 4. -/
theorem loop4 (h : k0_cond3 i = 1#1) (X3 : BufTy.Contents (Elt Ideal) a3.view.ty) (X4 : BufTy.Contents (Elt Ideal) a4.view.ty)
    (X5 : BufTy.Contents (Elt Ideal) a5.view.ty) (g8 : BufTy.Contents (Elt Ideal) a8.view.ty)
    (g10 : BufTy.Contents (Elt Ideal) a10.view.ty) (w : Fin 144 → ℕ → ℝ)
    (hS : ∀ c l k, Low (maskedScore (a3.view.read _ X3) (a4.view.read _ X4) c l k))
    (hV : ∀ e k, vAt (a5.view.read _ X5) e k = (w e k : EReal))
    (hM : ∀ c l, maxOf (a8.view.read _ g8) c l = ⊥) (hA : ∀ c e l, sumOf (a10.view.read _ g10) c e l = 0) :
    AllInv (maskedScore (a3.view.read _ X3) (a4.view.read _ X4)) w 16640
      (maxOf (a8.view.read _ (a8.view.writes (Elt Ideal) g8 (pb_k0_t4 (F := Ideal) Variants.none c none i a2 h2 a3 h3 a4 h4 a5 h5 a6 h6 a7 h7 a8 h8 a9 h9 a10 h10 h X3 X4 X5 g8 g10 13).1)))
      (sumOf (a10.view.read _ (a10.view.writes (Elt Ideal) g10 (pb_k0_t4 (F := Ideal) Variants.none c none i a2 h2 a3 h3 a4 h4 a5 h5 a6 h6 a7 h7 a8 h8 a9 h9 a10 h10 h X3 X4 X5 g8 g10 13).2))) := by
  refine exact_loop hS hV
    (fun k => maxOf (a8.view.read _ (a8.view.writes (Elt Ideal) g8 (pb_k0_t4 (F := Ideal) Variants.none c none i a2 h2 a3 h3 a4 h4 a5 h5 a6 h6 a7 h7 a8 h8 a9 h9 a10 h10 h X3 X4 X5 g8 g10 k).1)))
    (fun k => sumOf (a10.view.read _ (a10.view.writes (Elt Ideal) g10 (pb_k0_t4 (F := Ideal) Variants.none c none i a2 h2 a3 h3 a4 h4 a5 h5 a6 h6 a7 h7 a8 h8 a9 h9 a10 h10 h X3 X4 X5 g8 g10 k).2)))
    hA hM fun k hk => ?_
  have h13 : k0_t4_loop.trips = 13 := by decide
  have ht := trip4 c i a2 h2 a3 h3 a4 h4 a5 h5 a6 h6 a7 h7 a8 h8 a9 h9 a10 h10 h X3 X4 X5 ⟨k, h13 ▸ hk⟩ (a8.view.writes (Elt Ideal) g8 (pb_k0_t4 (F := Ideal) Variants.none c none i a2 h2 a3 h3 a4 h4 a5 h5 a6 h6 a7 h7 a8 h8 a9 h9 a10 h10 h X3 X4 X5 g8 g10 k).1)
     (a10.view.writes (Elt Ideal) g10 (pb_k0_t4 (F := Ideal) Variants.none c none i a2 h2 a3 h3 a4 h4 a5 h5 a6 h6 a7 h7 a8 h8 a9 h9 a10 h10 h X3 X4 X5 g8 g10 k).2) _ rfl
  have hs := pb_k0_t4_succ (F := Ideal) Variants.none c none i a2 h2 a3 h3 a4 h4 a5 h5 a6 h6 a7 h7 a8 h8 a9 h9 a10 h10 h X3 X4 X5 g8 g10 ⟨k, h13 ▸ hk⟩
  have h8 := congrArg (fun L => maxOf (a8.view.read _ (a8.view.writes (Elt Ideal) g8 L.1))) hs
  have h10 := congrArg (fun L => sumOf (a10.view.read _ (a10.view.writes (Elt Ideal) g10 L.2))) hs
  dsimp only at h8 h10
  rw [View.writes_append] at h8 h10
  rw [h8, h10]
  exact ht

end Loops

end Attn

end
-- ==== Proof.Ends.lean ====
/-
  The two ends of a tile: the maxima the loops start from (real numbers, when queries and keys are real), and what the
  last lines make of the sums: the two quotients, their difference, and its root-mean-square norm.
-/
module

public import proofs.«01_k».proof.Proof.Loops

@[expose] public section

set_option maxRecDepth 16384

noncomputable section

namespace Attn

open Idealize.ShloMosaic Idealize.ShloMosaic.Tactic
open Cert.KernelIdeal Cert.KernelIdeal.Gen

/-- `x` is a real number. -/
def IsReal (x : EReal) : Prop := ∃ r : ℝ, x = (r : EReal)

theorem IsReal.low {x : EReal} (h : IsReal x) : Low x := Or.inr h

theorem IsReal.ne_bot {x : EReal} (h : IsReal x) : x ≠ ⊥ := by
  obtain ⟨r, rfl⟩ := h; exact EReal.coe_ne_bot r

theorem IsReal.of_eq {x y : EReal} (h : x = y) (hy : IsReal y) : IsReal x := h ▸ hy

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (t : Finset ι) {f : ι → EReal} (h : ∀ i, IsReal (f i)) : IsReal (∑ i ∈ t, f i) := by
  choose g hg using h
  exact ⟨∑ i ∈ t, g i, by rw [coe_sum]; exact Finset.sum_congr rfl fun i _ => hg i⟩

theorem scale_real : IsReal scale := ⟨_, rfl⟩

/-- The maximum of sixteen real scores is real. -/
theorem first_max {q : Fin 64 → EReal} {k : Fin 16 → Fin 64 → EReal} (hq : ∀ d, IsReal (q d)) (hk : ∀ x d, IsReal (k x d)) :
    IsReal (Finset.fold max (Ideal.ofBits FTy.f32 4286578688#32) (fun x => ∑ d, k x d * (q d * scale)) Finset.univ) := by
  have h : ∀ x, IsReal (∑ d, k x d * (q d * scale)) := fun x =>
    IsReal.sum _ fun d => (hk x d).mul ((hq d).mul scale_real)
  rw [ofBits_neg_inf]
  exact chunkMax_real (0 : Fin 16) (fun x => (h x).low) (h 0).ne_bot

section Start

variable (q q' : Vec Ideal S64x1280 .f32) (k k' : Vec Ideal S16x64 .bf16) (hq : ∀ y, IsReal (q y))
  (hk : ∀ y, IsReal (k y))
include hq hk

theorem start19 (l : Fin 1280) : IsReal (k0_pay19 (F := Ideal) q k (ix3 0 0 l)) := by
  have h := first_max (q := fun d => q (ix2 d l)) (k := fun x d => k (ix2 x d)) (fun _ => hq _) (fun _ _ => hk _)
  pointwise [k0_pay19]
  exact h

theorem start20 (l : Fin 1280) : IsReal (k0_pay20 (F := Ideal) q k (ix3 0 0 l)) := by
  have h := first_max (q := fun d => q (ix2 d l)) (k := fun x d => k (ix2 x d)) (fun _ => hq _) (fun _ _ => hk _)
  pointwise [k0_pay20]
  exact h

variable (hq' : ∀ y, IsReal (q' y)) (hk' : ∀ y, IsReal (k' y))
include hq' hk'

theorem start48 (l : Fin 1280) : IsReal (k0_pay48 (F := Ideal) q k q' k' (ix3 0 0 l)) := by
  have h := first_max (q := fun d => q (ix2 d l)) (k := fun x d => k (ix2 x d)) (fun _ => hq _) (fun _ _ => hk _)
  have h' := first_max (q := fun d => q' (ix2 d l)) (k := fun x d => k' (ix2 x d)) (fun _ => hq' _) (fun _ _ => hk' _)
  pointwise [k0_pay48]
  unfold Scalar.select
  split_ifs
  · exact h'
  · exact h

theorem start50 (l : Fin 1280) : IsReal (k0_pay50 (F := Ideal) (k0_pay49 (F := Ideal) q k) q' k' (ix3 0 0 l)) := by
  have h := first_max (q := fun d => q (ix2 d l)) (k := fun x d => k (ix2 x d)) (fun _ => hq _) (fun _ _ => hk _)
  have h' := first_max (q := fun d => q' (ix2 d l)) (k := fun x d => k' (ix2 x d)) (fun _ => hq' _) (fun _ _ => hk' _)
  pointwise [k0_pay50, k0_pay49]
  unfold Scalar.select
  split_ifs
  · exact h'
  · exact h

end Start

theorem zeros54 (y : S2x144x1280.Idx) : k0_pay54 (F := Ideal) y = 0 := by pointwise [k0_pay54]
theorem zeros60 (y : S2x144x1280.Idx) : k0_pay60 (F := Ideal) y = 0 := by pointwise [k0_pay60]
theorem zeros67 (y : S2x144x1280.Idx) : k0_pay67 (F := Ideal) y = 0 := by pointwise [k0_pay67]
theorem masks59 (y : S2x1x1280.Idx) : k0_pay59 (F := Ideal) y = ⊥ := by pointwise [k0_pay59]; rfl
theorem masks66 (y : S2x1x1280.Idx) : k0_pay66 (F := Ideal) y = ⊥ := by pointwise [k0_pay66]; rfl

/-- A buffer whose last store covered it reads as that store. -/
theorem read_last {S : Shape} {sp : Space} (v : View sig .tc sp S .f32) (f : v.ty.Contents (Elt Ideal))
    {off : Fin S.rank → ℕ} (hoff : ∀ a, off a = 0) (inb : ∀ a, off a + S.size a ≤ S.size a)
    (w : Vec Ideal S .f32) (L : List (View.Piece (Elt Ideal) S .f32)) (y : S.Idx) :
    v.read (Elt Ideal) (v.writes (Elt Ideal) f (⟨Rect.unit off S.size inb, w⟩ :: L)) y = w y :=
  View.read_writes_cons_unit_of_mem v f inb w L y y rfl fun a => by rw [hoff a]; exact (Nat.zero_add _).symm

/-- Row `e` of the values among the 144 staged rows. -/
def row (e : Fin 128) : Fin 144 := ⟨e.val, by have := e.isLt; omega⟩

/-- The row of ones. -/
def ones : Fin 144 := ⟨128, by decide⟩

/-- The root-mean-square norm of a row `d`, times the weight `s`, times the output's constant, at entry `l`. -/
def normed (d : Fin 128 → EReal) (s : EReal) (l : Fin 128) : EReal :=
  d l * Ideal.rsqrt (Ideal.div (∑ x, d x * d x) (Ideal.ofBits .f32 0x43000000#32) + Ideal.ofBits .f32 0x3727C5AC#32) * s
    * Ideal.ofBits .f32 0x3F24FD5C#32

theorem finish (v10 v16 : Vec Ideal S1x128x1280 .f32) (v12 v18 : Vec Ideal S1x1x1280 .f32) (lam : Elt Ideal .f32)
    (sub : Vec Ideal S1x128 .f32) (j : Fin 1280) (l : Fin 128) :
    k0_pay1 (F := Ideal) (k0_pay73 (F := Ideal) v10 v12 v16 v18 lam) (k0_pay74 (F := Ideal) v10 v12 v16 v18 lam) sub (ix2 j l)
      = normed (fun e => Ideal.div (v10 (ix3 0 e j)) (v12 (ix3 0 0 j)) - lam * Ideal.div (v16 (ix3 0 e j)) (v18 (ix3 0 0 j)))
          (sub (ix2 0 l)) l := by
  have h73 : ∀ e, k0_pay73 (F := Ideal) v10 v12 v16 v18 lam (ix2 j e)
      = Ideal.div (v10 (ix3 0 e j)) (v12 (ix3 0 0 j)) - lam * Ideal.div (v16 (ix3 0 e j)) (v18 (ix3 0 0 j)) := by
    intro e; pointwise [k0_pay73]
  have h74 : k0_pay74 (F := Ideal) v10 v12 v16 v18 lam (ix2 j 0)
      = Ideal.div (∑ x, k0_pay73 (F := Ideal) v10 v12 v16 v18 lam (ix2 j x) * k0_pay73 (F := Ideal) v10 v12 v16 v18 lam (ix2 j x))
          (Ideal.ofBits .f32 0x43000000#32) := by
    pointwise [k0_pay74]
  have h1 : ∀ (a : FVec Ideal S1280x128 .f32) (b : FVec Ideal S1280x1 .f32), k0_pay1 (F := Ideal) a b sub (ix2 j l)
      = a (ix2 j l) * Ideal.rsqrt (b (ix2 j 0) + Ideal.ofBits .f32 0x3727C5AC#32) * sub (ix2 0 l)
          * Ideal.ofBits .f32 0x3F24FD5C#32 := by
    intro a b; pointwise [k0_pay1]
  rw [h1, h74]
  simp only [h73]
  rfl

/-- A load of the value rows of half `c`. -/
theorem ld_rows (x : Vec Ideal S2x144x1280 .f32) (c : Fin 2) {off : Fin 3 → ℕ} (inb) (h : off = ![c.val, 0, 0])
    (e : Fin 128) (j : Fin 1280) :
    View.ld x (Rect.unit (s := S2x144x1280) off S1x128x1280.size inb) (ix3 0 e j) = sumOf x c (row e) j := by
  subst h; unfold sumOf row; pointwise

/-- A load of the row of ones' sums of half `c`. -/
theorem ld_ones (x : Vec Ideal S2x144x1280 .f32) (c : Fin 2) {off : Fin 3 → ℕ} (inb) (h : off = ![c.val, 128, 0])
    (j : Fin 1280) :
    View.ld x (Rect.unit (s := S2x144x1280) off S1x1x1280.size inb) (ix3 0 0 j) = sumOf x c ones j := by
  subst h; unfold sumOf ones; pointwise

end Attn

end
-- ==== Proof.Block.lean ====
/-
  One tile's output block: whichever of the two passes the sums come from, each entry is the normed difference of the
  two softmax means of the values.
-/
module

public import proofs.«01_k».proof.Proof.Ends
public import proofs.«01_k».proof.Proof.IdealRun

@[expose] public section

set_option maxRecDepth 16384

noncomputable section

namespace Attn

open Idealize.ShloMosaic Idealize.ShloMosaic.Tactic
open Cert.KernelIdeal Cert.KernelIdeal.Gen Cert.KernelIdeal.Hand

/-- The difference of the two means for query `j`, value entry `e`. -/
def diff (S : Scores) (w : Fin 144 → ℕ → ℝ) (lam : EReal) (j : Fin 1280) (e : Fin 128) : EReal :=
  (mean (S 0 j) (w (row e)) 16640 : EReal) - lam * (mean (S 1 j) (w (row e)) 16640 : EReal)

section Sums

variable {S : Scores} {w : Fin 144 → ℕ → ℝ} {sp sp2 sp6 : Space} (u : View sig .tc sp S2x144x1280 .f32)
  (L : List (View.Piece (Elt Ideal) S2x144x1280 .f32)) (v2 : View sig .tc sp2 S1 .f32) (X2 : v2.ty.Contents (Elt Ideal))
  (v6 : View sig .tc sp6 S1x128 .f32) (X6 : v6.ty.Contents (Elt Ideal))
  (hI : ∃ m, AllInv S w 16640 m (sumOf (u.read (Elt Ideal) (u.writes (Elt Ideal) u.junk L))))
  (hS : ∀ c l k, Low (S c l k)) (hk : ∀ c l, ∃ k < 16640, S c l k ≠ ⊥) (ho : ∀ k < 16640, w ones k = 1)
include hI hS hk ho

/-- The last lines from the sums. -/
theorem of_sums (i10 i12 i16 i18 i2 h2 i6) (j : Fin 1280) (l : Fin 128) :
    k0_pay1 (F := Ideal)
      (k0_pay73 (F := Ideal) (u.readCov L (Rect.unit (s := S2x144x1280) ![0, 0, 0] S1x128x1280.size i10).toLoadRect)
        (u.readCov L (Rect.unit (s := S2x144x1280) ![0, 128, 0] S1x1x1280.size i12).toLoadRect)
        (u.readCov L (Rect.unit (s := S2x144x1280) ![1, 0, 0] S1x128x1280.size i16).toLoadRect)
        (u.readCov L (Rect.unit (s := S2x144x1280) ![1, 128, 0] S1x1x1280.size i18).toLoadRect)
        (v2.readAt (Elt Ideal) (Rect.unit ![0] S1.size i2).toLoadRect X2 (Shape.Idx.first h2)))
      (k0_pay74 (F := Ideal) (u.readCov L (Rect.unit (s := S2x144x1280) ![0, 0, 0] S1x128x1280.size i10).toLoadRect)
        (u.readCov L (Rect.unit (s := S2x144x1280) ![0, 128, 0] S1x1x1280.size i12).toLoadRect)
        (u.readCov L (Rect.unit (s := S2x144x1280) ![1, 0, 0] S1x128x1280.size i16).toLoadRect)
        (u.readCov L (Rect.unit (s := S2x144x1280) ![1, 128, 0] S1x1x1280.size i18).toLoadRect)
        (v2.readAt (Elt Ideal) (Rect.unit ![0] S1.size i2).toLoadRect X2 (Shape.Idx.first h2)))
      (v6.readAt (Elt Ideal) (Rect.unit ![0, 0] S1x128.size i6).toLoadRect X6) (ix2 j l)
      = normed (diff S w (v2.read (Elt Ideal) X2 (ix1 0)) j) (v6.read (Elt Ideal) X6 (ix2 0 l)) l := by
  obtain ⟨m, hI⟩ := hI
  rw [finish]
  have hlam : v2.readAt (Elt Ideal) (Rect.unit ![0] S1.size i2).toLoadRect X2 (Shape.Idx.first h2)
      = v2.read (Elt Ideal) X2 (ix1 0) :=
    congrArg (v2.read (Elt Ideal) X2) (funext fun a => Fin.ext (by fin_cases a; rfl))
  have hsub : v6.readAt (Elt Ideal) (Rect.unit ![0, 0] S1x128.size i6).toLoadRect X6 (ix2 0 l)
      = v6.read (Elt Ideal) X6 (ix2 0 l) := by
    refine congrArg (v6.read (Elt Ideal) X6) (funext fun a => Fin.ext ?_)
    fin_cases a
    · rfl
    · exact (Nat.zero_add _).trans (Nat.one_mul _)
  rw [hlam, hsub]
  refine congrArg (fun d => normed d (v6.read (Elt Ideal) X6 (ix2 0 l)) l) (funext fun e => ?_)
  have h := fun c => (hI c j).quotient (hS c j) (hk c j) (row e) ones ho
  refine (congrArg₂ (fun a b => a - v2.read (Elt Ideal) X2 (ix1 0) * b) (congrArg₂ Ideal.div ?_ ?_) (congrArg₂ Ideal.div ?_ ?_)).trans
    (congrArg₂ (fun a b => a - v2.read (Elt Ideal) X2 (ix1 0) * b) (h 0) (h 1))
  · exact ld_rows _ 0 i10 rfl e j
  · exact ld_ones _ 0 i12 rfl j
  · exact ld_rows _ 1 i16 rfl e j
  · exact ld_ones _ 1 i18 rfl j

end Sums

theorem zeros3 : ∀ a : Fin 3, (![0, 0, 0] : Fin 3 → ℕ) a = 0 := by decide

section Tiles

variable (c : Dev nD) (i : grid0.Coords) (a2 : Memref sig .tc .smem S1 .f32) (h2 : a2.IsWhole)
  (a3 : Memref sig .tc .vmem S128x1280 .f32) (h3 : a3.IsWhole) (a4 : Memref sig .tc .vmem S16640x128 .bf16)
  (h4 : a4.IsWhole) (a5 : Memref sig .tc .vmem S144x16640 .bf16) (h5 : a5.IsWhole)
  (a6 : Memref sig .tc .vmem S1x128 .f32) (h6 : a6.IsWhole) (a7 : Memref sig .tc .vmem S1280x128 .bf16)
  (h7 : a7.IsWhole) (a8 : Memref sig .tc .vmem S2x1x1280 .f32) (h8 : a8.IsWhole)
  (a9 : Memref sig .tc .vmem S2x1x1280 .f32) (h9 : a9.IsWhole) (a10 : Memref sig .tc .vmem S2x144x1280 .f32)
  (h10 : a10.IsWhole)
  (X2 : BufTy.Contents (Elt Ideal) a2.view.ty) (X3 : BufTy.Contents (Elt Ideal) a3.view.ty) (X4 : BufTy.Contents (Elt Ideal) a4.view.ty)
  (X5 : BufTy.Contents (Elt Ideal) a5.view.ty) (X6 : BufTy.Contents (Elt Ideal) a6.view.ty)
  (f7 : BufTy.Contents (Elt Ideal) a7.view.ty) (f8 : BufTy.Contents (Elt Ideal) a8.view.ty) (f9 : BufTy.Contents (Elt Ideal) a9.view.ty) (f10 : BufTy.Contents (Elt Ideal) a10.view.ty)
  (w : Fin 144 → ℕ → ℝ) (hq : ∀ y, IsReal (a3.view.read (Elt Ideal) X3 y)) (hkey : ∀ y, IsReal (a4.view.read (Elt Ideal) X4 y))
  (hV : ∀ e k, vAt (a5.view.read _ X5) e k = (w e k : EReal)) (ho : ∀ k < 16640, w ones k = 1)

include hq hkey hV ho in
/-- `runPlain` when only the lazy pass ran. -/
theorem runPlain_lazy (hc1 : k0_cond1 i = 1#1) (hc3 : ¬ k0_cond3 i = 1#1) (hS : ∀ c l k, Low (plainScore (a3.view.read _ X3) (a4.view.read _ X4) c l k))
    (hk : ∀ c l, ∃ k < 16640, plainScore (a3.view.read _ X3) (a4.view.read _ X4) c l k ≠ ⊥)
    (j : Fin 1280) (l : Fin 128) :
    a7.view.read (Elt Ideal) (runPlain (F := Ideal) c i hc1 hc3 a2 h2 a3 h3 a4 h4 a5 h5 a6 h6 a7 h7 a8 h8 a9 h9 a10 h10
        X2 X3 X4 X5 X6 f7 f8 f9 f10).1 (ix2 j l)
      = normed (diff (plainScore (a3.view.read _ X3) (a4.view.read _ X4)) w (a2.view.read (Elt Ideal) X2 (ix1 0)) j)
          (a6.view.read (Elt Ideal) X6 (ix2 0 l)) l := by
  unfold runPlain
  dsimp only
  sl_unfold_words
  refine (View.read_writes_cons_unit_of_mem a7.view _ _ _ _ (ix2 j l) (ix2 j l) rfl ?_).trans ?_
  · intro a; fin_cases a <;> exact (Nat.zero_add _).symm
  · refine of_sums a10.view _ a2.view X2 a6.view X6 ?_ hS hk ho _ _ _ _ _ _ _ j l
    rw [View.writes_append]
    refine ⟨_, loop1 c i a2 h2 a3 h3 a4 h4 a5 h5 a6 h6 a7 h7 a8 h8 a9 h9 a10 h10 hc1 X3 X4 X5 _ _ _ w hS hV ?_ ?_⟩
    · intro c' l
      fin_cases c'
      · exact IsReal.of_eq (max_zero _ _ _ _ _ _ l) (start19 _ _ (fun _ => hq _) (fun _ => hkey _) l)
      · exact IsReal.of_eq (max_one _ _ _ _ _ _ l) (start20 _ _ (fun _ => hq _) (fun _ => hkey _) l)
    · intro c' e l
      exact (read_last a10.view _ zeros3 _ _ _ _).trans (zeros54 _)

include hq hkey hV ho in
/-- `runPlain` when the exact pass ran too. -/
theorem runPlain_exact (hc1 : k0_cond1 i = 1#1) (hc3 : ¬ k0_cond3 i = 1#1) (hS : ∀ c l k, Low (plainScore (a3.view.read _ X3) (a4.view.read _ X4) c l k))
    (hk : ∀ c l, ∃ k < 16640, plainScore (a3.view.read _ X3) (a4.view.read _ X4) c l k ≠ ⊥)
    (j : Fin 1280) (l : Fin 128) :
    a7.view.read (Elt Ideal) (runPlain (F := Ideal) c i hc1 hc3 a2 h2 a3 h3 a4 h4 a5 h5 a6 h6 a7 h7 a8 h8 a9 h9 a10 h10
        X2 X3 X4 X5 X6 f7 f8 f9 f10).2.1 (ix2 j l)
      = normed (diff (plainScore (a3.view.read _ X3) (a4.view.read _ X4)) w (a2.view.read (Elt Ideal) X2 (ix1 0)) j)
          (a6.view.read (Elt Ideal) X6 (ix2 0 l)) l := by
  unfold runPlain
  dsimp only
  sl_unfold_words
  refine (View.read_writes_cons_unit_of_mem a7.view _ _ _ _ (ix2 j l) (ix2 j l) rfl ?_).trans ?_
  · intro a; fin_cases a <;> exact (Nat.zero_add _).symm
  · refine of_sums a10.view _ a2.view X2 a6.view X6 ?_ hS hk ho _ _ _ _ _ _ _ j l
    rw [View.writes_append]
    refine ⟨_, loop2 c i a2 h2 a3 h3 a4 h4 a5 h5 a6 h6 a7 h7 a8 h8 a9 h9 a10 h10 hc1 X3 X4 X5 _ _ w hS hV ?_ ?_⟩
    · intro c' l
      exact (read_last a8.view _ zeros3 _ _ _ _).trans (masks59 _)
    · intro c' e l
      exact (read_last a10.view _ zeros3 _ _ _ _).trans (zeros60 _)

include hq hkey hV ho in
/-- `runMasked` when only the lazy pass ran. -/
theorem runMasked_lazy (hc1 : ¬ k0_cond1 i = 1#1) (hc3 : k0_cond3 i = 1#1) (hS : ∀ c l k, Low (maskedScore (a3.view.read _ X3) (a4.view.read _ X4) c l k))
    (hk : ∀ c l, ∃ k < 16640, maskedScore (a3.view.read _ X3) (a4.view.read _ X4) c l k ≠ ⊥)
    (j : Fin 1280) (l : Fin 128) :
    a7.view.read (Elt Ideal) (runMasked (F := Ideal) c i hc1 hc3 a2 h2 a3 h3 a4 h4 a5 h5 a6 h6 a7 h7 a8 h8 a9 h9 a10 h10
        X2 X3 X4 X5 X6 f7 f8 f9 f10).1 (ix2 j l)
      = normed (diff (maskedScore (a3.view.read _ X3) (a4.view.read _ X4)) w (a2.view.read (Elt Ideal) X2 (ix1 0)) j)
          (a6.view.read (Elt Ideal) X6 (ix2 0 l)) l := by
  unfold runMasked
  dsimp only
  sl_unfold_words
  refine (View.read_writes_cons_unit_of_mem a7.view _ _ _ _ (ix2 j l) (ix2 j l) rfl ?_).trans ?_
  · intro a; fin_cases a <;> exact (Nat.zero_add _).symm
  · refine of_sums a10.view _ a2.view X2 a6.view X6 ?_ hS hk ho _ _ _ _ _ _ _ j l
    rw [View.writes_append]
    refine ⟨_, loop3 c i a2 h2 a3 h3 a4 h4 a5 h5 a6 h6 a7 h7 a8 h8 a9 h9 a10 h10 hc3 _ X3 X4 X5 _ _ _ w hS hV ?_ ?_⟩
    · intro c' l
      fin_cases c'
      · exact IsReal.of_eq (max_zero _ _ _ _ _ _ l) (start48 _ _ _ _ (fun _ => hq _) (fun _ => hkey _) (fun _ => hq _) (fun _ => hkey _) l)
      · exact IsReal.of_eq (max_one _ _ _ _ _ _ l) (start50 _ _ _ _ (fun _ => hq _) (fun _ => hkey _) (fun _ => hq _) (fun _ => hkey _) l)
    · intro c' e l
      exact (read_last a10.view _ zeros3 _ _ _ _).trans (zeros54 _)

include hq hkey hV ho in
/-- `runMasked` when the exact pass ran too. -/
theorem runMasked_exact (hc1 : ¬ k0_cond1 i = 1#1) (hc3 : k0_cond3 i = 1#1) (hS : ∀ c l k, Low (maskedScore (a3.view.read _ X3) (a4.view.read _ X4) c l k))
    (hk : ∀ c l, ∃ k < 16640, maskedScore (a3.view.read _ X3) (a4.view.read _ X4) c l k ≠ ⊥)
    (j : Fin 1280) (l : Fin 128) :
    a7.view.read (Elt Ideal) (runMasked (F := Ideal) c i hc1 hc3 a2 h2 a3 h3 a4 h4 a5 h5 a6 h6 a7 h7 a8 h8 a9 h9 a10 h10
        X2 X3 X4 X5 X6 f7 f8 f9 f10).2.1 (ix2 j l)
      = normed (diff (maskedScore (a3.view.read _ X3) (a4.view.read _ X4)) w (a2.view.read (Elt Ideal) X2 (ix1 0)) j)
          (a6.view.read (Elt Ideal) X6 (ix2 0 l)) l := by
  unfold runMasked
  dsimp only
  sl_unfold_words
  refine (View.read_writes_cons_unit_of_mem a7.view _ _ _ _ (ix2 j l) (ix2 j l) rfl ?_).trans ?_
  · intro a; fin_cases a <;> exact (Nat.zero_add _).symm
  · refine of_sums a10.view _ a2.view X2 a6.view X6 ?_ hS hk ho _ _ _ _ _ _ _ j l
    rw [View.writes_append]
    refine ⟨_, loop4 c i a2 h2 a3 h3 a4 h4 a5 h5 a6 h6 a7 h7 a8 h8 a9 h9 a10 h10 hc3 X3 X4 X5 _ _ w hS hV ?_ ?_⟩
    · intro c' l
      exact (read_last a8.view _ zeros3 _ _ _ _).trans (masks66 _)
    · intro c' e l
      exact (read_last a10.view _ zeros3 _ _ _ _).trans (zeros67 _)

end Tiles

end Attn

end
-- ==== Proof.Launched.lean ====
/-
  The launch with its result named: if at every point each content the body may leave reads as the point's block of one
  array `G`, the result array ends as `G`.
-/
module

public import proofs.«01_k».proof.Proof.IdealFrame
public import Idealize.ShloMosaic.Lib.Pipeline.Value
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Where the blocks lie -/

theorem idx0_1 : ∀ t : Fin cfg0.N, win0_1.index t (0 : Fin 2) = t.val / 13 ∧ win0_1.index t (1 : Fin 2) = t.val % 13 :=
  (by decide +kernel : ∀ t : Fin grid0.N, _)
theorem idx0_2 : ∀ t : Fin cfg0.N, win0_2.index t (0 : Fin 2) = 0 ∧ win0_2.index t (1 : Fin 2) = t.val / 13 :=
  (by decide +kernel : ∀ t : Fin grid0.N, _)
theorem idx0_3 : ∀ t : Fin cfg0.N, win0_3.index t (0 : Fin 2) = t.val / 13 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = t.val % 13 ∧ win0_5.index t (1 : Fin 2) = t.val / 13 :=
  (by decide +kernel : ∀ t : Fin grid0.N, _)

theorem lt_points (t : Fin cfg0.N) : t.val < 104 := lt_of_lt_of_eq t.isLt (by decide)

/-- The head of a point, and its tile of queries. -/
def headOf (t : Fin cfg0.N) : Fin 8 := ⟨t.val / 13, by have := lt_points t; omega⟩
def tileOf (t : Fin cfg0.N) : Fin 13 := ⟨t.val % 13, by omega⟩

/-- Entry `d` of head `h`'s 128, among the 1024. -/
def feat (h : Fin 8) (d : Fin 128) : Fin 1024 := ⟨128 * h.val + d.val, by have := h.isLt; have := d.isLt; omega⟩
/-- Row `e` of head `h`'s 144, among the 1152. -/
def vrow (h : Fin 8) (e : Fin 144) : Fin 1152 := ⟨144 * h.val + e.val, by have := h.isLt; have := e.isLt; omega⟩
/-- Query `l` of tile `i`, among the 16640. -/
def query (i : Fin 13) (l : Fin 1280) : Fin 16640 := ⟨1280 * i.val + l.val, by have := i.isLt; have := l.isLt; omega⟩

theorem emb0_1 (t : Fin cfg0.N) (d : Fin 128) (l : Fin 1280) :
    ((cfg0.win 1).blk t).view.emb (ix2 d l) = (ix2 (feat (headOf t) d) (query (tileOf t) l) : S1024x16640.Idx) := by
  obtain ⟨e0, e1⟩ := idx0_1 t
  funext a; apply Fin.ext
  match a with
  | ⟨0, _⟩ => show win0_1.index t (0 : Fin 2) * 128 + 1 * d.val = 128 * (t.val / 13) + d.val; omega
  | ⟨1, _⟩ => show win0_1.index t (1 : Fin 2) * 1280 + 1 * l.val = 1280 * (t.val % 13) + l.val; omega

theorem emb0_2 (t : Fin cfg0.N) (k : Fin 16640) (d : Fin 128) :
    ((cfg0.win 2).blk t).view.emb (ix2 k d) = (ix2 k (feat (headOf t) d) : S16640x1024.Idx) := by
  obtain ⟨e0, e1⟩ := idx0_2 t
  funext a; apply Fin.ext
  match a with
  | ⟨0, _⟩ => show win0_2.index t (0 : Fin 2) * 16640 + 1 * k.val = k.val; omega
  | ⟨1, _⟩ => show win0_2.index t (1 : Fin 2) * 128 + 1 * d.val = 128 * (t.val / 13) + d.val; omega

theorem emb0_3 (t : Fin cfg0.N) (e : Fin 144) (k : Fin 16640) :
    ((cfg0.win 3).blk t).view.emb (ix2 e k) = (ix2 (vrow (headOf t) e) k : S1152x16640.Idx) := by
  obtain ⟨e0, e1⟩ := idx0_3 t
  funext a; apply Fin.ext
  match a with
  | ⟨0, _⟩ => show win0_3.index t (0 : Fin 2) * 144 + 1 * e.val = 144 * (t.val / 13) + e.val; omega
  | ⟨1, _⟩ => show win0_3.index t (1 : Fin 2) * 16640 + 1 * k.val = k.val; omega

theorem emb0_4 (t : Fin cfg0.N) (z : Fin 1) (l : Fin 128) :
    ((cfg0.win 4).blk t).view.emb (ix2 z l) = (ix2 z l : S1x128.Idx) := by
  obtain ⟨e0, e1⟩ := idx0_4 t
  funext a; apply Fin.ext
  match a with
  | ⟨0, _⟩ => show win0_4.index t (0 : Fin 2) * 1 + 1 * z.val = z.val; omega
  | ⟨1, _⟩ => show win0_4.index t (1 : Fin 2) * 128 + 1 * l.val = l.val; omega

theorem emb0_5 (t : Fin cfg0.N) (j : Fin 1280) (l : Fin 128) :
    ((cfg0.win 5).blk t).view.emb (ix2 j l) = (ix2 (query (tileOf t) j) (feat (headOf t) l) : S16640x1024.Idx) := by
  obtain ⟨e0, e1⟩ := idx0_5 t
  funext a; apply Fin.ext
  match a with
  | ⟨0, _⟩ => show win0_5.index t (0 : Fin 2) * 1280 + 1 * j.val = 1280 * (t.val % 13) + j.val; omega
  | ⟨1, _⟩ => show win0_5.index t (1 : Fin 2) * 128 + 1 * l.val = 128 * (t.val / 13) + l.val; omega

theorem mem_blk (t : Fin cfg0.N) (y : S16640x1024.Idx) :
    y ∈ ((cfg0.win 5).blk t).view.set ↔ ∀ a : Fin 2,
      win0_5.index t a * S1280x128.size a ≤ (y a).val ∧ (y a).val < win0_5.index t a * S1280x128.size a + S1280x128.size a := by
  show y ∈ ((View.whole main_v26).slice (win0_5.rect t)).set ↔ _
  rw [View.set_slice_whole, Rect.mem_set_unit]
  exact Iff.rfl

/-- The blocks written back tile the result. -/
theorem cover (y : S16640x1024.Idx) :
    ∃ t : Fin cfg0.N, (cfg0.win 5).flush t = true ∧ y ∈ ((cfg0.win 5).blk t).view.set := by
  have h0 : (y 0).val < 16640 := (y 0).isLt
  have h1 : (y 1).val < 1024 := (y 1).isLt
  have hN : cfg0.N = 104 := by decide
  refine ⟨⟨(y 1).val / 128 * 13 + (y 0).val / 1280, by omega⟩, flush0_5 _, ?_⟩
  rw [mem_blk]
  obtain ⟨e0, e1⟩ := idx0_5 ⟨(y 1).val / 128 * 13 + (y 0).val / 1280, by omega⟩
  intro a
  match a with
  | ⟨0, _⟩ =>
    show win0_5.index _ (0 : Fin 2) * 1280 ≤ (y 0).val ∧ (y 0).val < win0_5.index _ (0 : Fin 2) * 1280 + 1280
    rw [e0]; dsimp only; omega
  | ⟨1, _⟩ =>
    show win0_5.index _ (1 : Fin 2) * 128 ≤ (y 1).val ∧ (y 1).val < win0_5.index _ (1 : Fin 2) * 128 + 128
    rw [e1]; dsimp only; omega

/-! ## The run -/

variable (m : (ℓ : Loc nD τ sig) → Buf (Elt F) ℓ) (ρ : Dev nD → PrngReg)
  (G : (c : Dev nD) → Vec F S16640x1024 .bf16)

/-- The point's block of `G`. -/
def gblk (c : Dev nD) (t : Fin cfg0.N) : Vec F S1280x128 .bf16 := ((cfg0.win 5).blk t).view.read (Elt F) (G c)

/-- The proof data with the output's block named. -/
def vdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => gblk G c t
  Φ _ := Pipeline.ΦA spec0 c
  q _ := fullShare
  owed _ := 0

theorem vA_eq (c : Dev nD) (w : Fin cfg0.W) : (vdats m G 0 c).A w = V m c (Pipeline.arrRef spec0 w) := by dsimp only [vdats]
theorem vafter0_0 (c : Dev nD) (t : Fin cfg0.N) : (vdats m G 0 c).after 0 t = iblk m c 0 t := by dsimp only [vdats]
theorem vbefore0_0 (c : Dev nD) (t : Fin cfg0.N) (d) : (vdats m G 0 c).before 0 t d = iblk m c 0 t :=
  before0_0_of m (vdats m G 0 c) (vA_eq m G c 0) (vafter0_0 m G c) t d
theorem vafter0_1 (c : Dev nD) (t : Fin cfg0.N) : (vdats m G 0 c).after 1 t = iblk m c 1 t := by dsimp only [vdats]
theorem vbefore0_1 (c : Dev nD) (t : Fin cfg0.N) (d) : (vdats m G 0 c).before 1 t d = iblk m c 1 t :=
  before0_1_of m (vdats m G 0 c) (vA_eq m G c 1) (vafter0_1 m G c) t d
theorem vafter0_2 (c : Dev nD) (t : Fin cfg0.N) : (vdats m G 0 c).after 2 t = iblk m c 2 t := by dsimp only [vdats]
theorem vbefore0_2 (c : Dev nD) (t : Fin cfg0.N) (d) : (vdats m G 0 c).before 2 t d = iblk m c 2 t :=
  before0_2_of m (vdats m G 0 c) (vA_eq m G c 2) (vafter0_2 m G c) t d
theorem vafter0_3 (c : Dev nD) (t : Fin cfg0.N) : (vdats m G 0 c).after 3 t = iblk m c 3 t := by dsimp only [vdats]
theorem vbefore0_3 (c : Dev nD) (t : Fin cfg0.N) (d) : (vdats m G 0 c).before 3 t d = iblk m c 3 t :=
  before0_3_of m (vdats m G 0 c) (vA_eq m G c 3) (vafter0_3 m G c) t d
theorem vafter0_4 (c : Dev nD) (t : Fin cfg0.N) : (vdats m G 0 c).after 4 t = iblk m c 4 t := by dsimp only [vdats]
theorem vbefore0_4 (c : Dev nD) (t : Fin cfg0.N) (d) : (vdats m G 0 c).before 4 t d = iblk m c 4 t :=
  before0_4_of m (vdats m G 0 c) (vA_eq m G c 4) (vafter0_4 m G c) t d
theorem vafter0_5 (c : Dev nD) (t : Fin cfg0.N) : (vdats m G 0 c).after 5 t = gblk G c t := by dsimp only [vdats]

/-- What the body is called with at point `t`, and what it returns. -/
def vbodyPre (c : Dev nD) (t : Fin cfg0.N) : sProp 𝕄 :=
  iprop((vdats m G 0 c).Φ t.castSucc ∗ (vdats m G 0 c).owesAt () t.castSucc
    ∗ (∃ d, owns (c : Thread nD τ) (st0_0 t) fullShare ((vdats m G 0 c).before 0 t d))
    ∗ (∃ d, owns (c : Thread nD τ) (st0_1 t) fullShare ((vdats m G 0 c).before 1 t d))
    ∗ (∃ d, owns (c : Thread nD τ) (st0_2 t) fullShare ((vdats m G 0 c).before 2 t d))
    ∗ (∃ d, owns (c : Thread nD τ) (st0_3 t) fullShare ((vdats m G 0 c).before 3 t d))
    ∗ (∃ d, owns (c : Thread nD τ) (st0_4 t) fullShare ((vdats m G 0 c).before 4 t d))
    ∗ (∃ d, owns (c : Thread nD τ) (st0_5 t) fullShare ((vdats m G 0 c).before 5 t d)))
def vbodyPost (c : Dev nD) (t : Fin cfg0.N) : sProp 𝕄 :=
  iprop((vdats m G 0 c).Φ t.succ ∗ (vdats m G 0 c).owesAt () t.succ
    ∗ owns (c : Thread nD τ) (st0_0 t) fullShare ((vdats m G 0 c).after 0 t)
    ∗ owns (c : Thread nD τ) (st0_1 t) fullShare ((vdats m G 0 c).after 1 t)
    ∗ owns (c : Thread nD τ) (st0_2 t) fullShare ((vdats m G 0 c).after 2 t)
    ∗ owns (c : Thread nD τ) (st0_3 t) fullShare ((vdats m G 0 c).after 3 t)
    ∗ owns (c : Thread nD τ) (st0_4 t) fullShare ((vdats m G 0 c).after 4 t)
    ∗ owns (c : Thread nD τ) (st0_5 t) fullShare ((vdats m G 0 c).after 5 t))

variable (hG : ∀ c t o, LeavesAt m c t o → (st0_5 t).view.read (Elt F) o = gblk G c t)
include hG

theorem vsound_body (c : Dev nD) (t : Fin cfg0.N) :
    vbodyPre m G c t ⊢ wp Idealize.ShloMosaic.frame (wpE (defs₀ (F := F)) Variants.none (c : Thread nD τ) none) Set.univ (bodyAt0 t) (fun _ => vbodyPost m G c t) := by
  unfold vbodyPre vbodyPost
  simp only [vbefore0_0, vbefore0_1, vbefore0_2, vbefore0_3, vbefore0_4, vafter0_0, vafter0_1, vafter0_2, vafter0_3, vafter0_4, vafter0_5]
  rw [show (vdats m G 0 c).Φ t.succ = Pipeline.ΦA spec0 c from rfl,
    show (vdats m G 0 c).owesAt () t.succ = (vdats m G 0 c).owesAt () t.castSucc from rfl,
    show (vdats m G 0 c).Φ t.castSucc = Pipeline.ΦA spec0 c from rfl]
  iintro ⟨HΦ, HO, ⟨%d0, H0⟩, ⟨%d1, H1⟩, ⟨%d2, H2⟩, ⟨%d3, H3⟩, ⟨%d4, H4⟩, ⟨%d5, H5⟩⟩
  iapply (body_leaves m c t _)
  isplitl [HΦ]; · iexact HΦ
  isplitl [H0]; · iexact H0
  isplitl [H1]; · iexact H1
  isplitl [H2]; · iexact H2
  isplitl [H3]; · iexact H3
  isplitl [H4]; · iexact H4
  isplitl [H5]
  · iexists _; iexact H5
  iintro ⟨HΦ, H0, H1, H2, H3, H4, ⟨%o, %ho, H5⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  unfold owns
  iexists o
  isplitr; swap; · iexact H5
  ipureintro; exact hG c t o ho

theorem vbody_obligation (c : Dev nD) :
    BodyObligation (vdats (F := F) m G 0 c) (defs₀ (F := F)) Variants.none () Set.univ := fun t => by
  rw [bigSep_W0, bigSep_W0, defs₀_row]
  exact triple_restated (vsound_body m G hG c t) rfl .rfl fun _ => .rfl

set_option backward.isDefEq.respectTransparency.types false in
theorem vrun_main :
    θ_run defs (onTc (τ := τ) (main (F := F))) (s₀ m ρ) (Pipeline.FramePost cfgs (vdats m G) 0 (V m)) :=
  Pipeline.θ_run_frame cfgs (vdats m G) (0 : Fin 1) launch0 defs₀ Variants.none m ρ main
    (hbody := fun c => (vbody_obligation m G hG c).loose) (hshare := fun c => (vdats m G 0 c).share_full fun _ => rfl)
    (howed := fun _ _ => rfl) (V := V m) (hmain := hmain m Variants.none) (hA := vA_eq m G) (hΦ := fun _ _ => rfl)

omit hG in
/-- The result array after the run. -/
theorem final (c : Dev nD) : (vdats m G 0 c).arrAt 5 cfg0.N = G c :=
  (vdats m G 0 c).arrAt_eq_of_cover 5 (G c) (fun t _ => rfl) cover

/-- The run: the result is `G`, the arguments are as launched. -/
theorem vrun :
    θ_run defs (onTc (τ := τ) (main (F := F))) ⟨m, fun _ => 0, ρ⟩ (fun r => ∀ c : Dev nD,
      r.2.mem ((c.tc : Thread nD τ).loc main_v26) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final m G c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (vrun_main m ρ G hG)

end Cert.KernelIdeal.Hand

end
-- ==== Proof.Host.lean ====
/-
  What the host lines hand to the launch, entry by entry: the queries transposed, the keys, each head's values
  transposed with sixteen rows of ones below, the difference of the two exponentials, the norm's weights.
-/
module

public import proofs.«01_k».proof.Proof.Launched
public import Idealize.ShloMosaic.Lib.Tactic.CleanTypes

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The difference of the exponentials of the two products of the lambda vectors, and the reference's constant. -/
def lamOf (x : S4x64.Idx → EReal) : EReal :=
  Ideal.exp (∑ d, x (ix2 0 d) * x (ix2 1 d)) - Ideal.exp (∑ d, x (ix2 2 d) * x (ix2 3 d)) + Ideal.ofBits .f32 0x3EB60549#32

variable (m : (ℓ : Loc nD τ sig) → Buf (Elt Ideal) ℓ) (c : Dev nD)

/-- The five arguments as arrays. -/
abbrev argQ : S16640x1024.Idx → EReal := m ((c : Thread nD τ).loc main_arg0)
abbrev argK : S16640x1024.Idx → EReal := m ((c : Thread nD τ).loc main_arg1)
abbrev argV : S16640x1024.Idx → EReal := m ((c : Thread nD τ).loc main_arg2)
abbrev argL : S4x64.Idx → EReal := m ((c : Thread nD τ).loc main_arg3)
abbrev argS : S128.Idx → EReal := m ((c : Thread nD τ).loc main_arg4)

theorem qt_at (d : Fin 1024) (l : Fin 16640) : (V m c main_v0 : S1024x16640.Idx → EReal) (ix2 d l) = argQ m c (ix2 l d) := by
  unfold V
  after_results
  pointwise

theorem k_at (k : Fin 16640) (d : Fin 1024) : (V m c main_v23 : S16640x1024.Idx → EReal) (ix2 k d) = argK m c (ix2 k d) := by
  unfold V
  after_results
  pointwise

theorem vt_at (h : Fin 8) (e : Fin 128) (k : Fin 16640) :
    (V m c main_v6 : S1152x16640.Idx → EReal) (ix2 (vrow h ⟨e.val, by omega⟩) k) = argV m c (ix2 k (feat h e)) := by
  unfold V
  after_results
  clean_types
  unfold vrow feat
  pointwise
  have he := e.isLt
  have h1 : (144 * h.val + e.val) % 144 = e.val := by omega
  have h2 : (144 * h.val + e.val) / 144 = h.val := by omega
  rw [dif_pos (by omega)]
  refine congrArg (fun x => argV m c (ix2 k x)) (Fin.ext ?_)
  show (144 * h.val + e.val) / 144 * 128 + (144 * h.val + e.val) % 144 = 128 * h.val + e.val
  rw [h1, h2]; omega

theorem one_at (h : Fin 8) (e : Fin 16) (k : Fin 16640) :
    (V m c main_v6 : S1152x16640.Idx → EReal) (ix2 (vrow h ⟨128 + e.val, by omega⟩) k) = (1 : EReal) := by
  unfold V
  after_results
  clean_types
  unfold vrow
  pointwise
  have he := e.isLt
  exact dif_neg (by omega)

theorem lam_at : (V m c main_v24 : S1.Idx → EReal) (ix1 0) = lamOf (argL m c) := by
  unfold V
  after_results
  clean_types
  unfold lamOf
  pointwise

theorem sub_at (z : Fin 1) (l : Fin 128) : (V m c main_v25 : S1x128.Idx → EReal) (ix2 z l) = argS m c (ix1 l) := by
  unfold V
  after_results
  clean_types
  pointwise

/-! ## The staged blocks at a point -/

variable (t : Fin cfg0.N)

theorem blk_lam : (iblk m c 0 t : S1.Idx → EReal) (ix1 0) = lamOf (argL m c) := by
  refine Eq.trans ?_ (lam_at m c)
  show V m c main_v24 (((cfg0.win 0).blk t).view.emb (ix1 0)) = V m c main_v24 (ix1 0)
  refine congrArg (V m c main_v24) (funext fun a => Fin.ext ?_)
  have h1 := (((cfg0.win 0).blk t).view.emb (ix1 0) a).isLt
  match a with
  | ⟨0, _⟩ => exact Nat.lt_one_iff.mp h1

theorem blk_q (d : Fin 128) (l : Fin 1280) :
    (iblk m c 1 t : S128x1280.Idx → EReal) (ix2 d l) = argQ m c (ix2 (query (tileOf t) l) (feat (headOf t) d)) := by
  refine Eq.trans ?_ (qt_at m c _ _)
  show V m c main_v0 (((cfg0.win 1).blk t).view.emb (ix2 d l)) = _
  rw [emb0_1]

theorem blk_k (k : Fin 16640) (d : Fin 128) :
    (iblk m c 2 t : S16640x128.Idx → EReal) (ix2 k d) = argK m c (ix2 k (feat (headOf t) d)) := by
  refine Eq.trans ?_ (k_at m c _ _)
  show V m c main_v23 (((cfg0.win 2).blk t).view.emb (ix2 k d)) = _
  rw [emb0_2]

theorem blk_v (e : Fin 128) (k : Fin 16640) :
    (iblk m c 3 t : S144x16640.Idx → EReal) (ix2 ⟨e.val, by omega⟩ k) = argV m c (ix2 k (feat (headOf t) e)) := by
  refine Eq.trans ?_ (vt_at m c _ _ _)
  show V m c main_v6 (((cfg0.win 3).blk t).view.emb (ix2 ⟨e.val, by omega⟩ k)) = _
  rw [emb0_3]

theorem blk_one (e : Fin 16) (k : Fin 16640) :
    (iblk m c 3 t : S144x16640.Idx → EReal) (ix2 ⟨128 + e.val, by omega⟩ k) = (1 : EReal) := by
  refine Eq.trans ?_ (one_at m c (headOf t) e k)
  show V m c main_v6 (((cfg0.win 3).blk t).view.emb (ix2 ⟨128 + e.val, by omega⟩ k)) = _
  rw [emb0_3]

theorem blk_sub (l : Fin 128) : (iblk m c 4 t : S1x128.Idx → EReal) (ix2 0 l) = argS m c (ix1 l) := by
  refine Eq.trans ?_ (sub_at m c 0 l)
  show V m c main_v25 (((cfg0.win 4).blk t).view.emb (ix2 0 l)) = _
  rw [emb0_4]

end Cert.KernelIdeal.Hand

end
-- ==== Proof.Tile.lean ====
/-
  The array the kernel leaves, as a function of the five arguments: each query's normed difference of the two softmax
  means of its head's values; and that every tile leaves its block of it.
-/
module

public import proofs.«01_k».proof.Proof.Block
public import proofs.«01_k».proof.Proof.Host

@[expose] public section

set_option maxRecDepth 16384

noncomputable section

namespace Attn

open Idealize.ShloMosaic Idealize.ShloMosaic.TcCoe Idealize.ShloMosaic.Tactic
open Cert.KernelIdeal Cert.KernelIdeal.Gen Cert.KernelIdeal.Hand

/-- Entry `d` of row `n` of an array of rows (zero past the last row). -/
def rowAt (x : S16640x1024.Idx → EReal) (n : ℕ) (d : Fin 1024) : EReal :=
  if h : n < 16640 then x (ix2 ⟨n, h⟩ d) else 0

/-- The score of key `n` for query `r`, in half `c` of head `h`, in powers of two; −∞ where query `r` may not read it. -/
def score (q k : S16640x1024.Idx → EReal) (h : Fin 8) (r : Fin 16640) (c : Fin 2) (n : ℕ) : EReal :=
  (∑ d : Fin 64, rowAt k n (feat h (col c d)) * (q (ix2 r (feat h (col c d))) * scale))
    + if 16384 ≤ r.val ∧ n < 16384 then ⊥ else 0

/-- The values of head `h` as real numbers. -/
def val (v : S16640x1024.Idx → EReal) (h : Fin 8) (e : Fin 128) (n : ℕ) : ℝ := (rowAt v n (feat h e)).toReal

/-- The difference of the two means. -/
def delta (q k v : S16640x1024.Idx → EReal) (lam : EReal) (r : Fin 16640) (h : Fin 8) (e : Fin 128) : EReal :=
  (mean (score q k h r 0) (val v h e) 16640 : EReal) - lam * (mean (score q k h r 1) (val v h e) 16640 : EReal)

/-- The head of an output column, and its place in the head. -/
def headCol (n : Fin 1024) : Fin 8 := ⟨n.val / 128, by have := n.isLt; omega⟩
def entryCol (n : Fin 1024) : Fin 128 := ⟨n.val % 128, by omega⟩

/-- The whole result. -/
def result (q k v : S16640x1024.Idx → EReal) (lam : S4x64.Idx → EReal) (sub : S128.Idx → EReal) :
    S16640x1024.Idx → EReal :=
  fun y => normed (delta q k v (lamOf lam) (y 0) (headCol (y 1))) (sub (ix1 (entryCol (y 1)))) (entryCol (y 1))

theorem headCol_feat (h : Fin 8) (e : Fin 128) : headCol (feat h e) = h :=
  Fin.ext (by show (128 * h.val + e.val) / 128 = h.val; have := e.isLt; omega)
theorem entryCol_feat (h : Fin 8) (e : Fin 128) : entryCol (feat h e) = e :=
  Fin.ext (by show (128 * h.val + e.val) % 128 = e.val; have := e.isLt; omega)

theorem result_at (q k v : S16640x1024.Idx → EReal) (lam : S4x64.Idx → EReal) (sub : S128.Idx → EReal)
    (r : Fin 16640) (h : Fin 8) (e : Fin 128) :
    result q k v lam sub (ix2 r (feat h e)) = normed (delta q k v (lamOf lam) r h) (sub (ix1 e)) e := by
  show normed (delta q k v (lamOf lam) r (headCol (feat h e))) (sub (ix1 (entryCol (feat h e)))) (entryCol (feat h e)) = _
  rw [headCol_feat, entryCol_feat]

/-! ## Real scores -/

section Real

variable (x3 : S128x1280.Idx → EReal) (x4 : S16640x128.Idx → EReal) (hq : ∀ y, IsReal (x3 y)) (hk : ∀ y, IsReal (x4 y))
include hq hk

theorem plain_real (c : Fin 2) (l : Fin 1280) (n : ℕ) : IsReal (plainScore x3 x4 c l n) := by
  refine IsReal.sum _ fun d => IsReal.mul ?_ ((hq _).mul scale_real)
  unfold kAt
  split_ifs
  · exact hk _
  · exact ⟨0, EReal.coe_zero.symm⟩

theorem plain_some (c : Fin 2) (l : Fin 1280) : ∃ n < 16640, plainScore x3 x4 c l n ≠ ⊥ :=
  ⟨0, by omega, (plain_real x3 x4 hq hk c l 0).ne_bot⟩

theorem masked_low (c : Fin 2) (l : Fin 1280) (n : ℕ) : Low (maskedScore x3 x4 c l n) := by
  unfold maskedScore maskTerm
  split_ifs
  · exact Or.inl (EReal.add_bot _)
  · rw [add_zero]; exact (plain_real x3 x4 hq hk c l n).low

theorem masked_some (c : Fin 2) (l : Fin 1280) : ∃ n < 16640, maskedScore x3 x4 c l n ≠ ⊥ := by
  refine ⟨16384, by omega, ?_⟩
  unfold maskedScore maskTerm
  rw [if_neg (by omega), add_zero]
  exact (plain_real x3 x4 hq hk c l _).ne_bot

end Real

/-! ## The tiles -/

theorem plain_tile : ∀ t : Fin cfg0.N, k0_cond1 (grid0.coords t) = 1#1 → t.val % 13 < 12 :=
  (by decide +kernel : ∀ t : Fin grid0.N, _)
theorem masked_tile : ∀ t : Fin cfg0.N, k0_cond3 (grid0.coords t) = 1#1 → t.val % 13 = 12 :=
  (by decide +kernel : ∀ t : Fin grid0.N, _)

section Tile

variable (m : (ℓ : Loc nD τ sig) → Buf (Elt Ideal) ℓ) (c : Dev nD) (t : Fin cfg0.N)

theorem blk_plain (cc : Fin 2) (l : Fin 1280) (n : ℕ) :
    plainScore (iblk m c 1 t) (iblk m c 2 t) cc l n
      = ∑ d : Fin 64, rowAt (argK m c) n (feat (headOf t) (col cc d))
          * (argQ m c (ix2 (query (tileOf t) l) (feat (headOf t) (col cc d))) * scale) := by
  unfold plainScore
  refine Finset.sum_congr rfl fun d _ => congrArg₂ (· * ·) ?_ (congrArg (· * scale) (blk_q m c t (col cc d) l))
  unfold kAt rowAt
  split_ifs
  · exact blk_k m c t _ _
  · rfl

theorem score_plain (ht : t.val % 13 < 12) (cc : Fin 2) (l : Fin 1280) :
    plainScore (iblk m c 1 t) (iblk m c 2 t) cc l = score (argQ m c) (argK m c) (headOf t) (query (tileOf t) l) cc := by
  funext n
  rw [blk_plain]
  unfold score
  have hl := l.isLt
  have hr : (query (tileOf t) l).val = 1280 * (t.val % 13) + l.val := rfl
  rw [if_neg (by omega), add_zero]

theorem score_masked (ht : t.val % 13 = 12) (cc : Fin 2) (l : Fin 1280) :
    maskedScore (iblk m c 1 t) (iblk m c 2 t) cc l = score (argQ m c) (argK m c) (headOf t) (query (tileOf t) l) cc := by
  funext n
  unfold maskedScore maskTerm
  rw [blk_plain]
  unfold score
  have hl := l.isLt
  have hr : (query (tileOf t) l).val = 1280 * (t.val % 13) + l.val := rfl
  refine congrArg _ (if_congr ?_ rfl rfl)
  rw [hr]
  omega

/-- The values staged at the point, and the rows of ones, as real numbers. -/
def staged (e : Fin 144) (n : ℕ) : ℝ := (vAt (iblk m c 3 t) e n).toReal

theorem staged_row (e : Fin 128) : staged m c t (row e) = val (argV m c) (headOf t) e := by
  funext n
  unfold staged val vAt rowAt
  congr 1
  split_ifs
  · exact blk_v m c t e _
  · rfl

theorem staged_ones (n : ℕ) (hn : n < 16640) : staged m c t ones n = 1 := by
  unfold staged
  rw [vAt_lt _ _ hn]
  exact (congrArg EReal.toReal (blk_one m c t 0 ⟨n, hn⟩)).trans EReal.toReal_one

variable (hq : ∀ y, IsReal (argQ m c y)) (hk : ∀ y, IsReal (argK m c y)) (hv : ∀ y, IsReal (argV m c y))
include hv

theorem staged_real (e : Fin 144) (n : ℕ) : vAt (iblk m c 3 t) e n = (staged m c t e n : EReal) := by
  have h : IsReal (vAt (iblk m c 3 t) e n) := by
    unfold vAt
    split_ifs with hn
    · by_cases he : e.val < 128
      · exact IsReal.of_eq (blk_v m c t ⟨e.val, he⟩ ⟨n, hn⟩) (hv _)
      · have hl := e.isLt
        refine IsReal.of_eq (Eq.trans (congrArg (fun z => iblk m c 3 t (ix2 z ⟨n, hn⟩)) (Fin.ext ?_))
          (blk_one m c t ⟨e.val - 128, by omega⟩ ⟨n, hn⟩)) ⟨1, EReal.coe_one.symm⟩
        show e.val = 128 + (e.val - 128)
        omega
    · exact ⟨0, EReal.coe_zero.symm⟩
  obtain ⟨r, hr⟩ := h
  unfold staged
  rw [hr, EReal.toReal_coe]

omit hv in
theorem diff_eq (S : Scores) (j : Fin 1280)
    (hS : ∀ cc, S cc j = score (argQ m c) (argK m c) (headOf t) (query (tileOf t) j) cc) (lam : EReal) :
    diff S (staged m c t) lam j = delta (argQ m c) (argK m c) (argV m c) lam (query (tileOf t) j) (headOf t) := by
  funext e
  unfold diff delta
  rw [hS, hS, staged_row]

include hq hk

/-- Whatever the body may leave at the point reads as the point's block of the result. -/
theorem tile_block (o : BufTy.Contents (Elt Ideal) (st0_5 t).view.ty) (ho : LeavesAt m c t o) :
    (st0_5 t).view.read (Elt Ideal) o
      = gblk (fun c => result (argQ m c) (argK m c) (argV m c) (argL m c) (argS m c)) c t := by
  have hq' : ∀ y : S128x1280.Idx, IsReal (iblk m c 1 t y) := fun _ => hq _
  have hk' : ∀ y : S16640x128.Idx, IsReal (iblk m c 2 t y) := fun _ => hk _
  have one : ∀ j l, (st0_5 t).view.read (Elt Ideal) o (ix2 j l)
      = normed (delta (argQ m c) (argK m c) (argV m c) (lamOf (argL m c)) (query (tileOf t) j) (headOf t))
          (argS m c (ix1 l)) l := by
    intro j l
    obtain ⟨X2, X3, X4, X5, X6, f7, f8, f9, f10, e2, e3, e4, e5, e6, hcase⟩ := ho
    have hQ : ∀ y, IsReal ((st0_1 t).view.read (Elt Ideal) X3 y) := fun y => by rw [e3]; exact hq' y
    have hK : ∀ y, IsReal ((st0_2 t).view.read (Elt Ideal) X4 y) := fun y => by rw [e4]; exact hk' y
    have hV : ∀ e n, vAt ((st0_3 t).view.read (Elt Ideal) X5) e n = (staged m c t e n : EReal) := fun e n => by
      rw [e5]; exact staged_real m c t hv e n
    have hP : ∀ cc l n, Low (plainScore ((st0_1 t).view.read (Elt Ideal) X3) ((st0_2 t).view.read (Elt Ideal) X4) cc l n) :=
      fun cc l n => (plain_real _ _ hQ hK cc l n).low
    rcases hcase with ⟨h1, h3, hcase⟩ | ⟨h1, h3, hcase⟩
    · have hd := fun lam => diff_eq m c t (plainScore (iblk m c 1 t) (iblk m c 2 t)) j
        (fun cc => score_plain m c t (plain_tile t h1) cc j) lam
      rcases hcase with rfl | rfl
      · refine (runPlain_lazy _ _ _ _ _ _ _ _ _ _ _ _ _ _ _ _ _ _ _ _ X2 X3 X4 X5 X6 f7 f8 f9 f10 (staged m c t)
          hQ hK hV (staged_ones m c t) h1 h3 hP (plain_some _ _ hQ hK) j l).trans ?_
        rw [e2, e3, e4, e6, hd, blk_lam, blk_sub]
      · refine (runPlain_exact _ _ _ _ _ _ _ _ _ _ _ _ _ _ _ _ _ _ _ _ X2 X3 X4 X5 X6 f7 f8 f9 f10 (staged m c t)
          hQ hK hV (staged_ones m c t) h1 h3 hP (plain_some _ _ hQ hK) j l).trans ?_
        rw [e2, e3, e4, e6, hd, blk_lam, blk_sub]
    · have hd := fun lam => diff_eq m c t (maskedScore (iblk m c 1 t) (iblk m c 2 t)) j
        (fun cc => score_masked m c t (masked_tile t h3) cc j) lam
      rcases hcase with rfl | rfl
      · refine (runMasked_lazy _ _ _ _ _ _ _ _ _ _ _ _ _ _ _ _ _ _ _ _ X2 X3 X4 X5 X6 f7 f8 f9 f10 (staged m c t)
          hQ hK hV (staged_ones m c t) h1 h3 (masked_low _ _ hQ hK) (masked_some _ _ hQ hK) j l).trans ?_
        rw [e2, e3, e4, e6, hd, blk_lam, blk_sub]
      · refine (runMasked_exact _ _ _ _ _ _ _ _ _ _ _ _ _ _ _ _ _ _ _ _ X2 X3 X4 X5 X6 f7 f8 f9 f10 (staged m c t)
          hQ hK hV (staged_ones m c t) h1 h3 (masked_low _ _ hQ hK) (masked_some _ _ hQ hK) j l).trans ?_
        rw [e2, e3, e4, e6, hd, blk_lam, blk_sub]
  funext y
  idx_vars y
  refine (one _ _).trans (Eq.symm ?_)
  unfold gblk
  refine Eq.trans (congrArg (result (argQ m c) (argK m c) (argV m c) (argL m c) (argS m c)) (emb0_5 t _ _)) ?_
  exact result_at _ _ _ _ _ _ _ _

end Tile

end Attn

end
-- ==== Proof.Read.lean ====
/-
  The reference's steps read at an entry.
-/
module

public import proofs.«01_k».proof.Proof.Reference
public import proofs.«01_k».proof.Proof.Tile

@[expose] public section

set_option maxRecDepth 16384

noncomputable section

namespace Attn

open Idealize.ShloMosaic Idealize.ShloMosaic.TcCoe Idealize.ShloMosaic.Tactic
open Cert.ReferenceIdeal Cert.ReferenceIdeal.Gen Cert.ReferenceIdeal.Hand
open Cert.KernelIdeal.Hand (feat lamOf)

/-- A maximum over the last of four axes. -/
theorem reduce_max {a b R N : ℕ} (x : (⟨4, ![a, b, R, N]⟩ : Shape).Idx → EReal) {u : Shape}
    (h : (⟨4, ![a, b, R, N]⟩ : Shape).ReducesTo [3] ⟨3, ![a, b, R]⟩) (hu : 0 < u.numel) (i : Fin a) (j : Fin b) (r : Fin R) :
    Host.reduce (FloatOps.maximumf (F := Ideal) (φ := .f32)) x (constant (F := Ideal) u .f32 0xFF800000#32) h hu (ix3 i j r)
      = chunkMax fun n : Fin N => x (ix4 i j r n) := by
  refine (Host.reduce_eq_fold _ x _ h hu (ix3 i j r)).trans ?_
  refine (h.fold_fiber_r4_a3 (ix3 i j r) max _ x).trans ?_
  show Finset.fold max (Ideal.ofBits .f32 0xFF800000#32) _ _ = _
  rw [ofBits_neg_inf]
  rfl

/-- The column of entry `d` of half `c` in head `h`, and of entry `e` of head `h`. -/
theorem col_eq (h : Fin 8) (c : Fin 2) (d : Fin 64) (p) : (⟨h.val * 128 + c.val * 64 + d.val, p⟩ : Fin 1024) = feat h (col c d) :=
  Fin.ext (by show h.val * 128 + c.val * 64 + d.val = 128 * h.val + (64 * c.val + d.val); omega)
theorem feat_eq (h : Fin 8) (e : Fin 128) (p) : (⟨h.val * 128 + e.val, p⟩ : Fin 1024) = feat h e :=
  Fin.ext (by show h.val * 128 + e.val = 128 * h.val + e.val; omega)

theorem lam_at (x : S4x64.Idx → EReal) : lamV (F := Ideal) x ix0 = lamOf x := by
  pointwise [lamV, lamOf]

/-! ### Queries that read all keys -/

theorem sL_at (q k : S16640x1024.Idx → EReal) (h : Fin 8) (c : Fin 2) (r : Fin 16384) (n : Fin 16640) :
    sL (F := Ideal) q k (ix4 h c r n)
      = (∑ d : Fin 64, q (ix2 ⟨r.val, by have := r.isLt; omega⟩ (feat h (col c d))) * k (ix2 n (feat h (col c d))))
        * Ideal.ofBits .f32 0x3E000000#32 := by
  pointwise [sL]
  simp only [col_eq]

theorem tL_at (s : S8x2x16384x16640.Idx → EReal) (h : Fin 8) (c : Fin 2) (r : Fin 16384) :
    tL (F := Ideal) s (ix3 h c r) = chunkMax fun n => s (ix4 h c r n) :=
  reduce_max s _ _ h c r

theorem mL_at (t : S8x2x16384.Idx → EReal) (h : Fin 8) (c : Fin 2) (r : Fin 16384) (n : Fin 16640) :
    mL (F := Ideal) t (ix4 h c r n) = max ⊥ (t (ix3 h c r)) := by
  rw [← ofBits_neg_inf]
  pointwise [mL]

theorem expL_at (s m : S8x2x16384x16640.Idx → EReal) (j : S8x2x16384x16640.Idx) :
    (Host.exp (F := Ideal) (φ := .f32) (subf (F := Ideal) s m)) j = Ideal.exp (s j - m j) := rfl

theorem eL_at (s : S8x2x16384x16640.Idx → EReal) (h : Fin 8) (c : Fin 2) (r : Fin 16384) (n : Fin 16640) :
    eL (F := Ideal) s (ix4 h c r n) = Ideal.exp (s (ix4 h c r n) - max ⊥ (chunkMax fun n => s (ix4 h c r n))) := by
  rw [← tL_at, ← mL_at (tL (F := Ideal) s) h c r n]
  exact expL_at s _ _

theorem pL_at (e : S8x2x16384x16640.Idx → EReal) (h : Fin 8) (c : Fin 2) (r : Fin 16384) (n : Fin 16640) :
    pL (F := Ideal) e (ix4 h c r n) = Ideal.div (e (ix4 h c r n)) (∑ x, e (ix4 h c r x)) := by
  pointwise [pL]

theorem wL_at (p : S8x2x16384x16640.Idx → EReal) (g : S_.Idx → EReal) (h : Fin 8) (r : Fin 16384) (n : Fin 16640) :
    wL (F := Ideal) p g (ix3 h r n) = p (ix4 h 0 r n) - g ix0 * p (ix4 h 1 r n) := by
  pointwise [wL]

theorem oL_at (v : S16640x1024.Idx → EReal) (w : S8x16384x16640.Idx → EReal) (h : Fin 8) (r : Fin 16384) (e : Fin 128) :
    oL (F := Ideal) v w (ix3 r h e) = ∑ n : Fin 16640, v (ix2 n (feat h e)) * w (ix3 h r n) := by
  pointwise [oL]
  simp only [feat_eq]

/-! ### Queries that read the last keys -/

theorem sC_at (q k : S16640x1024.Idx → EReal) (h : Fin 8) (c : Fin 2) (r : Fin 256) (n : Fin 256) :
    sC (F := Ideal) q k (ix4 h c r n)
      = (∑ d : Fin 64, q (ix2 ⟨16384 + r.val, by have := r.isLt; omega⟩ (feat h (col c d))) * k (ix2 ⟨16384 + n.val, by have := n.isLt; omega⟩ (feat h (col c d))))
        * Ideal.ofBits .f32 0x3E000000#32 := by
  pointwise [sC]
  simp only [col_eq]

theorem tC_at (s : S8x2x256x256.Idx → EReal) (h : Fin 8) (c : Fin 2) (r : Fin 256) :
    tC (F := Ideal) s (ix3 h c r) = chunkMax fun n => s (ix4 h c r n) :=
  reduce_max s _ _ h c r

theorem mC_at (t : S8x2x256.Idx → EReal) (h : Fin 8) (c : Fin 2) (r : Fin 256) (n : Fin 256) :
    mC (F := Ideal) t (ix4 h c r n) = max ⊥ (t (ix3 h c r)) := by
  rw [← ofBits_neg_inf]
  pointwise [mC]

theorem expC_at (s m : S8x2x256x256.Idx → EReal) (j : S8x2x256x256.Idx) :
    (Host.exp (F := Ideal) (φ := .f32) (subf (F := Ideal) s m)) j = Ideal.exp (s j - m j) := rfl

theorem eC_at (s : S8x2x256x256.Idx → EReal) (h : Fin 8) (c : Fin 2) (r : Fin 256) (n : Fin 256) :
    eC (F := Ideal) s (ix4 h c r n) = Ideal.exp (s (ix4 h c r n) - max ⊥ (chunkMax fun n => s (ix4 h c r n))) := by
  rw [← tC_at, ← mC_at (tC (F := Ideal) s) h c r n]
  exact expC_at s _ _

theorem pC_at (e : S8x2x256x256.Idx → EReal) (h : Fin 8) (c : Fin 2) (r : Fin 256) (n : Fin 256) :
    pC (F := Ideal) e (ix4 h c r n) = Ideal.div (e (ix4 h c r n)) (∑ x, e (ix4 h c r x)) := by
  pointwise [pC]

theorem wC_at (p : S8x2x256x256.Idx → EReal) (g : S_.Idx → EReal) (h : Fin 8) (r : Fin 256) (n : Fin 256) :
    wC (F := Ideal) p g (ix3 h r n) = p (ix4 h 0 r n) - g ix0 * p (ix4 h 1 r n) := by
  pointwise [wC]

theorem oC_at (v : S16640x1024.Idx → EReal) (w : S8x256x256.Idx → EReal) (h : Fin 8) (r : Fin 256) (e : Fin 128) :
    oC (F := Ideal) v w (ix3 r h e) = ∑ n : Fin 256, v (ix2 ⟨16384 + n.val, by have := n.isLt; omega⟩ (feat h e)) * w (ix3 h r n) := by
  pointwise [oC]
  simp only [feat_eq]

/-! ### The rest -/

theorem both_at (a : S16384x8x128.Idx → EReal) (b : S256x8x128.Idx → EReal) (h : Fin 8) (r : Fin 16640) (e : Fin 128) :
    both (F := Ideal) a b (ix3 r h e)
      = if hr : r.val < 16384 then a (ix3 ⟨r.val, hr⟩ h e)
        else b (ix3 ⟨r.val - 16384, by have := r.isLt; omega⟩ h e) := by
  pointwise [both]

theorem norm_at (o : S16640x8x128.Idx → EReal) (sub : S128.Idx → EReal) (r : Fin 16640) (n : Fin 1024) :
    normR (F := Ideal) o sub (ix2 r n)
      = normed (fun e => o (ix3 r (headCol n) e)) (sub (ix1 (entryCol n))) (entryCol n) := by
  pointwise [normR]
  rfl

end Attn

end
-- ==== Proof.Softmax.lean ====
/-
  The softmax as its reference writes it, as a quotient of real sums; a mean weighted by powers of two as the same quotient.
-/
module

public import proofs.«01_k».proof.Proof.Scores

@[expose] public section

noncomputable section

namespace Attn

open Idealize.ShloMosaic

/-- The exponentials of the scores less their maximum, over their sum. -/
theorem soft {N : ℕ} (s : Fin N → EReal) (z : Fin N → ℝ) (hs : ∀ n, s n = (z n : EReal)) (n : Fin N) :
    Ideal.div (Ideal.exp (s n - max ⊥ (chunkMax s))) (∑ x, Ideal.exp (s x - max ⊥ (chunkMax s)))
      = ((Real.exp (z n) / ∑ x, Real.exp (z x) : ℝ) : EReal) := by
  obtain ⟨M, hM⟩ := chunkMax_real n (fun j => Or.inr ⟨_, hs j⟩) (by rw [hs]; exact EReal.coe_ne_bot _)
  have hmax : max ⊥ (chunkMax s) = (M : EReal) := by rw [hM]; exact max_eq_right bot_le
  have he : ∀ x, Ideal.exp (s x - max ⊥ (chunkMax s)) = ((Real.exp (z x) * Real.exp (-M) : ℝ) : EReal) := by
    intro x
    rw [hmax, hs, ← EReal.coe_sub, Ideal.exp_coe, sub_eq_add_neg, Real.exp_add]
  have hpos : 0 < ∑ x, Real.exp (z x) := Finset.sum_pos (fun x _ => Real.exp_pos _) ⟨n, Finset.mem_univ n⟩
  have hM0 : Real.exp (-M) ≠ 0 := (Real.exp_pos _).ne'
  have hsum : ∑ x, Real.exp (z x) * Real.exp (-M) ≠ 0 := by
    rw [← Finset.sum_mul]; exact mul_ne_zero hpos.ne' hM0
  simp only [he]
  rw [← coe_sum, Ideal.div_coe hsum, ← EReal.coe_mul, ← Finset.sum_mul]
  congr 1
  have := hpos.ne'
  field_simp

/-- The weight of a score in powers of two is the exponential of the score in powers of `e`. -/
theorem wt_log (z : ℝ) : wt ((z / Real.log 2 : ℝ) : EReal) 0 = Real.exp z := by
  have h2 : Real.log 2 ≠ 0 := (Real.log_pos one_lt_two).ne'
  rw [← EReal.coe_zero, wt_coe, sub_zero]
  show (2 : ℝ) ^ (z / Real.log 2) = _
  rw [Real.rpow_def_of_pos two_pos, mul_div_cancel₀ _ h2]

/-- A mean over keys of which the first `b` are masked. -/
theorem mean_tail (S : ℕ → EReal) (w : ℕ → ℝ) {N : ℕ} (b : ℕ) (z u : Fin N → ℝ) (hb : ∀ n < b, S n = ⊥)
    (hS : ∀ n : Fin N, S (b + n) = ((z n / Real.log 2 : ℝ) : EReal)) (hw : ∀ n : Fin N, w (b + n) = u n) :
    mean S w (b + N) = (∑ n, u n * Real.exp (z n)) / ∑ n, Real.exp (z n) := by
  have h0 : ∀ n ∈ Finset.range b, wt (S n) 0 = 0 := fun n hn => by rw [hb n (Finset.mem_range.mp hn), wt_bot]
  unfold mean
  rw [Finset.sum_range_add, Finset.sum_range_add, Finset.sum_eq_zero h0,
    Finset.sum_eq_zero (fun n hn => by rw [h0 n hn, mul_zero]), zero_add, zero_add, Finset.sum_range, Finset.sum_range]
  simp only [hS, hw, wt_log]

/-- The values gathered with the weighted difference of two softmaxes: the difference of the two means. -/
theorem gather {N : ℕ} (v p0 p1 : Fin N → EReal) (u z0 z1 : Fin N → ℝ) (g : ℝ) (hv : ∀ n, v n = (u n : EReal))
    (h0 : ∀ n, p0 n = ((Real.exp (z0 n) / ∑ x, Real.exp (z0 x) : ℝ) : EReal))
    (h1 : ∀ n, p1 n = ((Real.exp (z1 n) / ∑ x, Real.exp (z1 x) : ℝ) : EReal)) :
    ∑ n, v n * (p0 n - (g : EReal) * p1 n)
      = (((∑ n, u n * Real.exp (z0 n)) / ∑ n, Real.exp (z0 n) : ℝ) : EReal)
        - (g : EReal) * (((∑ n, u n * Real.exp (z1 n)) / ∑ n, Real.exp (z1 n) : ℝ) : EReal) := by
  simp only [hv, h0, h1, ← EReal.coe_mul, ← EReal.coe_sub, ← coe_sum]
  congr 1
  rw [Finset.sum_div, Finset.sum_div, Finset.mul_sum, ← Finset.sum_sub_distrib]
  refine Finset.sum_congr rfl fun n _ => ?_
  ring

end Attn

end
-- ==== Proof.Equation.lean ====
/-
  The reference's result is the kernel's: at every query the difference of two softmax means, normed.
-/
module

public import proofs.«01_k».proof.Proof.Read
public import proofs.«01_k».proof.Proof.Softmax

@[expose] public section

set_option maxRecDepth 16384

noncomputable section

namespace Attn

open Idealize.ShloMosaic Idealize.ShloMosaic.TcCoe Idealize.ShloMosaic.Tactic
open Cert.ReferenceIdeal Cert.ReferenceIdeal.Gen Cert.ReferenceIdeal.Hand
open Cert.KernelIdeal.Hand (feat lamOf)

theorem ofBits_eighth : Ideal.ofBits .f32 0x3E000000#32 = ((1 / 8 : ℝ) : EReal) := by
  simp [Ideal.ofBits, Ideal.ieee]
  rw [← EReal.coe_mul]
  norm_num

/-- The score of key `n` for query `r` in half `c` of head `h`. -/
def dot (Q K : S16640x1024.Idx → ℝ) (h : Fin 8) (r : Fin 16640) (c : Fin 2) (n : Fin 16640) : ℝ :=
  (∑ d : Fin 64, Q (ix2 r (feat h (col c d))) * K (ix2 n (feat h (col c d)))) * (1 / 8)

section

variable (q k v : S16640x1024.Idx → EReal) (Q K V : S16640x1024.Idx → ℝ)
  (hQ : ∀ y, q y = (Q y : EReal)) (hK : ∀ y, k y = (K y : EReal)) (hV : ∀ y, v y = (V y : EReal))

include hQ hK

/-- The scaled product of a query and a key, as the reference writes it. -/
theorem dot_real (h : Fin 8) (r : Fin 16640) (c : Fin 2) (n : Fin 16640) :
    (∑ d : Fin 64, q (ix2 r (feat h (col c d))) * k (ix2 n (feat h (col c d)))) * Ideal.ofBits .f32 0x3E000000#32
      = (dot Q K h r c n : EReal) := by
  simp only [hQ, hK, ofBits_eighth, ← EReal.coe_mul, ← coe_sum]
  rfl

theorem score_real (h : Fin 8) (r : Fin 16640) (c : Fin 2) (n : ℕ) (hn : n < 16640) (ho : ¬ (16384 ≤ r.val ∧ n < 16384)) :
    score q k h r c n = ((dot Q K h r c ⟨n, hn⟩ / Real.log 2 : ℝ) : EReal) := by
  unfold score
  rw [if_neg ho, add_zero]
  simp only [rowAt, dif_pos hn, hQ, hK, scale, ← EReal.coe_mul, ← coe_sum]
  congr 1
  unfold dot
  rw [Finset.sum_mul, Finset.sum_div]
  refine Finset.sum_congr rfl fun d _ => ?_
  ring

omit hQ hK in
theorem score_masked_out (h : Fin 8) (r : Fin 16640) (c : Fin 2) (n : ℕ) (ho : 16384 ≤ r.val ∧ n < 16384) :
    score q k h r c n = ⊥ := by
  unfold score
  rw [if_pos ho]
  exact EReal.add_bot _

include hV

/-- The kernel's difference of means, over the keys `b … 16639` that the query reads. -/
theorem delta_eq {N : ℕ} (b : ℕ) (hb : b + N = 16640) (r : Fin 16640) (h : Fin 8) (e : Fin 128)
    (hm : b = 0 ∧ r.val < 16384 ∨ b = 16384 ∧ 16384 ≤ r.val) (g : ℝ) :
    delta q k v (g : EReal) r h e
      = (((∑ n : Fin N, V (ix2 ⟨b + n.val, by omega⟩ (feat h e)) * Real.exp (dot Q K h r 0 ⟨b + n.val, by omega⟩))
            / ∑ n : Fin N, Real.exp (dot Q K h r 0 ⟨b + n.val, by omega⟩) : ℝ) : EReal)
        - (g : EReal) * (((∑ n : Fin N, V (ix2 ⟨b + n.val, by omega⟩ (feat h e)) * Real.exp (dot Q K h r 1 ⟨b + n.val, by omega⟩))
            / ∑ n : Fin N, Real.exp (dot Q K h r 1 ⟨b + n.val, by omega⟩) : ℝ) : EReal) := by
  have hmean : ∀ c, mean (score q k h r c) (val v h e) 16640
      = (∑ n : Fin N, V (ix2 ⟨b + n.val, by omega⟩ (feat h e)) * Real.exp (dot Q K h r c ⟨b + n.val, by omega⟩))
            / ∑ n : Fin N, Real.exp (dot Q K h r c ⟨b + n.val, by omega⟩) := by
    intro c
    refine (congrArg (mean _ _) hb.symm).trans ?_
    refine mean_tail _ _ b _ _ (fun n hn => score_masked_out q k h r c n (by omega))
      (fun n => score_real q k Q K hQ hK h r c _ (by omega) (by omega)) (fun n => ?_)
    have hn : b + n.val < 16640 := by omega
    unfold val rowAt
    rw [dif_pos hn, hV, EReal.toReal_coe]
  unfold delta
  rw [hmean, hmean]

/-- A query that reads all keys. -/
theorem all_keys (lam : S4x64.Idx → EReal) (g : ℝ) (hg : lamOf lam = (g : EReal)) (r : Fin 16640) (hr : r.val < 16384)
    (h : Fin 8) (e : Fin 128) :
    oL (F := Ideal) v (wL (F := Ideal) (pL (F := Ideal) (eL (F := Ideal) (sL (F := Ideal) q k))) (lamV (F := Ideal) lam))
        (ix3 ⟨r.val, hr⟩ h e)
      = delta q k v (lamOf lam) r h e := by
  have en : ∀ n : Fin 16640, (⟨0 + n.val, by omega⟩ : Fin 16640) = n := fun n => Fin.ext (Nat.zero_add _)
  have hp : ∀ (c : Fin 2) (n : Fin 16640),
      pL (F := Ideal) (eL (F := Ideal) (sL (F := Ideal) q k)) (ix4 h c ⟨r.val, hr⟩ n)
        = ((Real.exp (dot Q K h r c ⟨0 + n.val, by omega⟩)
            / ∑ x : Fin 16640, Real.exp (dot Q K h r c ⟨0 + x.val, by omega⟩) : ℝ) : EReal) := by
    intro c n
    rw [pL_at]
    simp only [eL_at]
    refine soft (fun n => sL (F := Ideal) q k (ix4 h c ⟨r.val, hr⟩ n)) (fun n => dot Q K h r c ⟨0 + n.val, by omega⟩) (fun n => ?_) n
    rw [en]
    exact (sL_at q k h c _ n).trans (dot_real q k Q K hQ hK h r c n)
  rw [oL_at, hg, delta_eq q k v Q K V hQ hK hV (N := 16640) 0 rfl r h e (Or.inl ⟨rfl, hr⟩) g]
  simp only [wL_at, lam_at, hg]
  refine gather _ _ _ _ _ _ g (fun n => ?_) (hp 0) (hp 1)
  rw [en]
  exact hV _

/-- A query that reads the last keys only. -/
theorem last_keys (lam : S4x64.Idx → EReal) (g : ℝ) (hg : lamOf lam = (g : EReal)) (r : Fin 16640) (hr : ¬ r.val < 16384)
    (h : Fin 8) (e : Fin 128) :
    oC (F := Ideal) v (wC (F := Ideal) (pC (F := Ideal) (eC (F := Ideal) (sC (F := Ideal) q k))) (lamV (F := Ideal) lam))
        (ix3 ⟨r.val - 16384, by have := r.isLt; omega⟩ h e)
      = delta q k v (lamOf lam) r h e := by
  have er : ∀ p, (⟨16384 + (r.val - 16384), p⟩ : Fin 16640) = r := fun _ => Fin.ext (by show 16384 + (r.val - 16384) = r.val; omega)
  have hp : ∀ (c : Fin 2) (n : Fin 256),
      pC (F := Ideal) (eC (F := Ideal) (sC (F := Ideal) q k)) (ix4 h c ⟨r.val - 16384, by have := r.isLt; omega⟩ n)
        = ((Real.exp (dot Q K h r c ⟨16384 + n.val, by omega⟩)
            / ∑ x : Fin 256, Real.exp (dot Q K h r c ⟨16384 + x.val, by omega⟩) : ℝ) : EReal) := by
    intro c n
    rw [pC_at]
    simp only [eC_at]
    refine soft (fun n => sC (F := Ideal) q k (ix4 h c ⟨r.val - 16384, by have := r.isLt; omega⟩ n))
      (fun n => dot Q K h r c ⟨16384 + n.val, by omega⟩) (fun n => ?_) n
    refine (sC_at q k h c _ n).trans ?_
    simp only [er]
    exact dot_real q k Q K hQ hK h r c _
  rw [oC_at, hg, delta_eq q k v Q K V hQ hK hV (N := 256) 16384 rfl r h e (Or.inr ⟨rfl, by omega⟩) g]
  simp only [wC_at, lam_at, hg]
  exact gather _ _ _ _ _ _ g (fun n => hV _) (hp 0) (hp 1)

end

/-- On real queries, keys, values and a real weight the reference's result is the kernel's. -/
theorem reference_result (q k v : S16640x1024.Idx → EReal) (lam : S4x64.Idx → EReal) (sub : S128.Idx → EReal)
    (hq : ∀ y, IsReal (q y)) (hk : ∀ y, IsReal (k y)) (hv : ∀ y, IsReal (v y)) (hl : IsReal (lamOf lam)) :
    normR (F := Ideal) (both (F := Ideal)
        (oL (F := Ideal) v (wL (F := Ideal) (pL (F := Ideal) (eL (F := Ideal) (sL (F := Ideal) q k))) (lamV (F := Ideal) lam)))
        (oC (F := Ideal) v (wC (F := Ideal) (pC (F := Ideal) (eC (F := Ideal) (sC (F := Ideal) q k))) (lamV (F := Ideal) lam)))) sub
      = result q k v lam sub := by
  choose Q hQ using hq
  choose K hK using hk
  choose V hV using hv
  obtain ⟨g, hg⟩ := hl
  funext y
  idx_vars y
  rw [norm_at]
  unfold result
  refine congrArg (fun d => normed d _ _) (funext fun e => ?_)
  rw [both_at]
  split_ifs with hr
  · exact all_keys q k v Q K V hQ hK hV lam g hg _ hr _ e
  · exact last_keys q k v Q K V hQ hK hV lam g hg _ hr _ e

end Attn

end
-- ==== Proof.Finite.lean ====
/-
  The precondition opened: the queries, the keys, the values and the lambda vectors are real numbers.
-/
module

public import proofs.«01_k».proof.Pre_finite_args
public import proofs.«01_k».proof.Proof.Host
public import proofs.«01_k».proof.Proof.Ends
public import Idealize.ShloMosaic.Lib.Pointwise

@[expose] public section

set_option maxRecDepth 16384

noncomputable section

namespace Attn

open Idealize.ShloMosaic Idealize.ShloMosaic.Tactic
open Cert.KernelIdeal.Hand (lamOf)

/-- The shapes of the precondition's broadcasts. -/
theorem finite_facts : Cert.Pre_finite_args.Facts := ⟨by decide, by decide⟩

theorem ofBits_inf : Ideal.ofBits .f32 0x7F800000#32 = ⊤ := by
  simp [Ideal.ofBits, Ideal.ieee]

/-- A number whose absolute value is below infinity is real. -/
theorem real_of_abs {x : EReal} (h : Ideal.cmp .olt (max x (-x)) (Ideal.ofBits .f32 0x7F800000#32) = 1#1) : IsReal x := by
  rw [ofBits_inf] at h
  have hlt : max x (-x) < ⊤ := by
    by_contra hn
    exact absurd (h.symm.trans (congrArg BitVec.ofBool (decide_eq_false hn))) (by decide)
  induction x using EReal.rec with
  | bot => exact absurd hlt (by simp)
  | coe r => exact ⟨r, rfl⟩
  | top => exact absurd hlt (by simp)

section

variable [Cert.Pre_finite_args.Facts] (a0 a1 a2 : Cert.Pre_finite_args.S16640x1024.Idx → EReal)
  (a3 : Cert.Pre_finite_args.S4x64.Idx → EReal) (a4 : Cert.Pre_finite_args.S128.Idx → EReal)

theorem real_0 (h : (Cert.Pre_finite_args.fn (F := Ideal) a0 a1 a2 a3 a4).1 = fun _ => 1#1) (y) : IsReal (a0 y) :=
  real_of_abs (congrFun h y)
theorem real_1 (h : (Cert.Pre_finite_args.fn (F := Ideal) a0 a1 a2 a3 a4).2.1 = fun _ => 1#1) (y) : IsReal (a1 y) :=
  real_of_abs (congrFun h y)
theorem real_2 (h : (Cert.Pre_finite_args.fn (F := Ideal) a0 a1 a2 a3 a4).2.2.1 = fun _ => 1#1) (y) : IsReal (a2 y) :=
  real_of_abs (congrFun h y)
theorem real_3 (h : (Cert.Pre_finite_args.fn (F := Ideal) a0 a1 a2 a3 a4).2.2.2 = fun _ => 1#1) (y) : IsReal (a3 y) :=
  real_of_abs (congrFun h y)

end

theorem IsReal.exp {x : EReal} (h : IsReal x) : IsReal (Ideal.exp x) := by
  obtain ⟨r, rfl⟩ := h; exact ⟨Real.exp r, rfl⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩

/-- The constant added to the difference of the exponentials is real. -/
theorem ofBits_init : IsReal (Ideal.ofBits .f32 0x3EB60549#32) := by
  simp only [Ideal.ofBits, Ideal.ieee]
  simp
  exact ⟨_, (EReal.coe_mul _ _).symm⟩

/-- The weight of the second softmax is real. -/
theorem lam_real (x : Cert.KernelIdeal.S4x64.Idx → EReal) (h : ∀ y, IsReal (x y)) : IsReal (lamOf x) := by
  unfold lamOf
  exact ((IsReal.sum _ fun d => (h _).mul (h _)).exp.sub (IsReal.sum _ fun d => (h _).mul (h _)).exp).add ofBits_init

end Attn

end
-- ==== Proof.DaIn.lean ====
/-
  The in-projection of the attention layer: each block of rows and columns is the product of the block's rows and the
  block's columns, and so is the reference's product.
-/
module

public import proofs.«01_k».proof.Proof.Gen.DaInIdeal.Value
public import proofs.«01_k».proof.Proof.Gen.DaInRefIdeal.Run
public import Idealize.ShloMosaic.Lib.Pointwise
public import Idealize.ShloMosaic.Lib.Tactic.CleanTypes

@[expose] public section

set_option maxRecDepth 16384

noncomputable section

namespace Cert.DaInIdeal.Hand

open Idealize.ShloMosaic Idealize.ShloMosaic.TcCoe Idealize.ShloMosaic.Tactic Idealize.SL.Sem
open Cert.DaInIdeal Cert.DaInIdeal.Gen
open Idealize.ShloMosaic.Pipeline (Dat)

/-- The product of the rows and the weights. -/
def result (h : S16640x1024.Idx → EReal) (w : S1024x3072.Idx → EReal) : S16640x3072.Idx → EReal :=
  fun i => ∑ d : Fin 1024, h (ix2 (i 0) d) * w (ix2 d (i 1))

variable (m : (ℓ : Loc nD τ sig) → Buf (Elt Ideal) ℓ) (c : Dev nD)

/-- The two arguments as arrays. -/
abbrev argH : S16640x1024.Idx → EReal := m ((c : Thread nD τ).loc main_arg0)
abbrev argW : S1024x3072.Idx → EReal := m ((c : Thread nD τ).loc main_arg1)

theorem h_at (i : Fin 16640) (d : Fin 1024) : (V m c main_v0 : S16640x1024.Idx → EReal) (ix2 i d) = argH m c (ix2 i d) := by
  unfold V
  after_results
  pointwise

theorem w_at (d : Fin 1024) (j : Fin 3072) : (V m c main_v1 : S1024x3072.Idx → EReal) (ix2 d j) = argW m c (ix2 d j) := by
  unfold V
  after_results
  pointwise

/-! ## Where the blocks lie -/

theorem idx0_0 : ∀ t : Fin cfg0.N, win0_0.index t (0 : Fin 2) = t.val / 6 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = t.val % 6 :=
  (by decide +kernel : ∀ t : Fin grid0.N, _)
theorem idx0_2 : ∀ t : Fin cfg0.N, win0_2.index t (0 : Fin 2) = t.val / 6 ∧ win0_2.index t (1 : Fin 2) = t.val % 6 :=
  (by decide +kernel : ∀ t : Fin grid0.N, _)

theorem lt_points (t : Fin cfg0.N) : t.val < 78 := lt_of_lt_of_eq t.isLt (by decide)

/-- Row `r` of a point's rows, and column `j` of its columns. -/
def row (t : Fin cfg0.N) (r : Fin 1280) : Fin 16640 := ⟨1280 * (t.val / 6) + r.val, by have := lt_points t; have := r.isLt; omega⟩
def col (t : Fin cfg0.N) (j : Fin 512) : Fin 3072 := ⟨512 * (t.val % 6) + j.val, by have := j.isLt; omega⟩

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * (t.val / 6) + r.val; omega
  | ⟨1, _⟩ => show win0_0.index t (1 : Fin 2) * 1024 + 1 * d.val = d.val; omega

theorem emb0_1 (t : Fin cfg0.N) (d : Fin 1024) (j : Fin 512) :
    ((cfg0.win 1).blk t).view.emb (ix2 d j) = (ix2 d (col t j) : S1024x3072.Idx) := by
  obtain ⟨e0, e1⟩ := idx0_1 t
  funext a; apply Fin.ext
  match a with
  | ⟨0, _⟩ => show win0_1.index t (0 : Fin 2) * 1024 + 1 * d.val = d.val; omega
  | ⟨1, _⟩ => show win0_1.index t (1 : Fin 2) * 512 + 1 * j.val = 512 * (t.val % 6) + j.val; omega

theorem emb0_2 (t : Fin cfg0.N) (r : Fin 1280) (j : Fin 512) :
    ((cfg0.win 2).blk t).view.emb (ix2 r j) = (ix2 (row t r) (col t j) : S16640x3072.Idx) := by
  obtain ⟨e0, e1⟩ := idx0_2 t
  funext a; apply Fin.ext
  match a with
  | ⟨0, _⟩ => show win0_2.index t (0 : Fin 2) * 1280 + 1 * r.val = 1280 * (t.val / 6) + r.val; omega
  | ⟨1, _⟩ => show win0_2.index t (1 : Fin 2) * 512 + 1 * j.val = 512 * (t.val % 6) + j.val; omega

theorem mem_blk (t : Fin cfg0.N) (y : S16640x3072.Idx) :
    y ∈ ((cfg0.win 2).blk t).view.set ↔ ∀ a : Fin 2,
      win0_2.index t a * S1280x512.size a ≤ (y a).val ∧ (y a).val < win0_2.index t a * S1280x512.size a + S1280x512.size a := by
  show y ∈ ((View.whole main_v2).slice (win0_2.rect t)).set ↔ _
  rw [View.set_slice_whole, Rect.mem_set_unit]
  exact Iff.rfl

/-- The blocks written back tile the result. -/
theorem cover (y : S16640x3072.Idx) :
    ∃ t : Fin cfg0.N, (cfg0.win 2).flush t = true ∧ y ∈ ((cfg0.win 2).blk t).view.set := by
  have h0 : (y 0).val < 16640 := (y 0).isLt
  have h1 : (y 1).val < 3072 := (y 1).isLt
  have hN : cfg0.N = 78 := by decide
  refine ⟨⟨(y 0).val / 1280 * 6 + (y 1).val / 512, by omega⟩, flush0_2 _, ?_⟩
  rw [mem_blk]
  obtain ⟨e0, e1⟩ := idx0_2 ⟨(y 0).val / 1280 * 6 + (y 1).val / 512, by omega⟩
  intro a
  match a with
  | ⟨0, _⟩ =>
    show win0_2.index _ (0 : Fin 2) * 1280 ≤ (y 0).val ∧ (y 0).val < win0_2.index _ (0 : Fin 2) * 1280 + 1280
    rw [e0]; dsimp only; omega
  | ⟨1, _⟩ =>
    show win0_2.index _ (1 : Fin 2) * 512 ≤ (y 1).val ∧ (y 1).val < win0_2.index _ (1 : Fin 2) * 512 + 512
    rw [e1]; dsimp only; omega

/-! ## The blocks -/

theorem blk_h (t : Fin cfg0.N) (r : Fin 1280) (d : Fin 1024) :
    (iblk m c 0 t : S1280x1024.Idx → EReal) (ix2 r d) = argH m c (ix2 (row t r) d) :=
  (congrArg (V m c main_v0 : S16640x1024.Idx → EReal) (emb0_0 t r d)).trans (h_at m c _ _)

theorem blk_w (t : Fin cfg0.N) (d : Fin 1024) (j : Fin 512) :
    (iblk m c 1 t : S1024x512.Idx → EReal) (ix2 d j) = argW m c (ix2 d (col t j)) :=
  (congrArg (V m c main_v1 : S1024x3072.Idx → EReal) (emb0_1 t d j)).trans (w_at m c _ _)

/-- What the body leaves, entry by entry, from the blocks it finds. -/
theorem body_at (x0 : S1280x1024.Idx → EReal) (x1 : S1024x512.Idx → EReal) (r : Fin 1280) (j : Fin 512) :
    out0_2 (F := Ideal) x0 x1 (ix2 r j) = ∑ d : Fin 1024, x0 (ix2 r d) * x1 (ix2 d j) := by
  have z : (![0, 0] : Fin 2 → ℕ) = fun _ => 0 := by funext a; fin_cases a <;> rfl
  unfold out0_2
  rw [View.canon_unit_zero z, View.ld_unit_zero z, View.ld_unit_zero z]
  pointwise [k0_pay1]

theorem block_eq (t : Fin cfg0.N) :
    (dats m 0 c).flushed 2 t = ((cfg0.win 2).blk t).view.read (Elt Ideal) (result (argH m c) (argW m c)) := by
  rw [Value.flushed2]
  refine funext fun y => ?_
  obtain ⟨r, j, rfl⟩ : ∃ r j, y = (ix2 r j : S1280x512.Idx) := ⟨y 0, y 1, by funext a; fin_cases a <;> rfl⟩
  refine (body_at _ _ r j).trans (Eq.trans ?_ (congrArg (result (argH m c) (argW m c)) (emb0_2 t r j)).symm)
  exact Finset.sum_congr rfl fun d _ => congrArg₂ (· * ·) (blk_h m c t r d) (blk_w m c t d j)

theorem array_eq : (dats m 0 c).arrAt 2 cfg0.N = result (argH m c) (argW m c) :=
  (dats m 0 c).arrAt_eq_of_cover 2 _ (fun t _ => block_eq m c t) cover

theorem reference_eq (h : S16640x1024.Idx → EReal) (w : S1024x3072.Idx → EReal) :
    Host.dotGeneral (F := Ideal) (φ₁ := .f32) (φ₂ := .f32) Cert.DaInRefIdeal.dot_S16640x1024_S1024x3072_S16640x3072_1_0_0_1_n_n none h w = result h w := by
  funext i
  obtain ⟨r, j, rfl⟩ : ∃ r j, i = (ix2 r j : S16640x3072.Idx) := ⟨i 0, i 1, by funext a; fin_cases a <;> rfl⟩
  unfold result
  pointwise

end Cert.DaInIdeal.Hand

end
-- ==== Proof.DaOut.lean ====
/-
  The out-projection of the attention layer, with the gated step of the stream that takes it: a block's entry is the
  stream's entry plus the gate of the row's kind times the product's entry.
-/
module

public import proofs.«01_k».proof.Proof.Gen.DaOutIdeal.Value
public import proofs.«01_k».proof.Proof.Gen.DaOutRefIdeal.Run
public import Idealize.ShloMosaic.Lib.Pointwise
public import Idealize.ShloMosaic.Lib.Tactic.CleanTypes

@[expose] public section

set_option maxRecDepth 16384

noncomputable section

namespace Cert.DaOutIdeal.Hand

open Idealize.ShloMosaic Idealize.ShloMosaic.TcCoe Idealize.ShloMosaic.Tactic Idealize.SL.Sem
open Cert.DaOutIdeal Cert.DaOutIdeal.Gen
open Idealize.ShloMosaic.Pipeline (Dat)

/-- The gate of column `j`: the latent rows', or the context rows' from row 16384 on. -/
def gate (mc : S6144.Idx → EReal) (mx : S1x6144.Idx → EReal) (i : Fin 16640) (j : Fin 1024) : EReal :=
  if i.val < 16384 then mx (ix2 0 ⟨2048 + j.val, by have := j.isLt; omega⟩) else mc (ix1 ⟨2048 + j.val, by have := j.isLt; omega⟩)

/-- The stream plus the gated product. -/
def result (x o : S16640x1024.Idx → EReal) (w : S1024x1024.Idx → EReal) (mc : S6144.Idx → EReal) (mx : S1x6144.Idx → EReal) :
    S16640x1024.Idx → EReal :=
  fun i => x i + gate mc mx (i 0) (i 1) * ∑ d : Fin 1024, o (ix2 (i 0) d) * w (ix2 d (i 1))

variable (m : (ℓ : Loc nD τ sig) → Buf (Elt Ideal) ℓ) (c : Dev nD)

/-- The five arguments as arrays. -/
abbrev argX : S16640x1024.Idx → EReal := m ((c : Thread nD τ).loc main_arg0)
abbrev argO : S16640x1024.Idx → EReal := m ((c : Thread nD τ).loc main_arg1)
abbrev argW : S1024x1024.Idx → EReal := m ((c : Thread nD τ).loc main_arg2)
abbrev argC : S6144.Idx → EReal := m ((c : Thread nD τ).loc main_arg3)
abbrev argL : S1x6144.Idx → EReal := m ((c : Thread nD τ).loc main_arg4)

theorem o_at (i : Fin 16640) (d : Fin 1024) : (V m c main_v0 : S16640x1024.Idx → EReal) (ix2 i d) = argO m c (ix2 i d) := by
  unfold V
  after_results
  pointwise

theorem w_at (d : Fin 1024) (j : Fin 1024) : (V m c main_v1 : S1024x1024.Idx → EReal) (ix2 d j) = argW m c (ix2 d j) := by
  unfold V
  after_results
  pointwise

/-- The context's gate is in the first plane of the modulations. -/
theorem ctx_at (j : Fin 1024) :
    (V m c main_v4 : S2x6x1024.Idx → EReal) (ix3 0 2 j) = argC m c (ix1 ⟨2048 + j.val, by have := j.isLt; omega⟩) := by
  unfold V
  after_results
  clean_types
  pointwise

/-- The latents' gate is in the second. -/
theorem lat_at (j : Fin 1024) :
    (V m c main_v4 : S2x6x1024.Idx → EReal) (ix3 1 2 j) = argL m c (ix2 0 ⟨2048 + j.val, by have := j.isLt; omega⟩) := by
  unfold V
  after_results
  clean_types
  pointwise

/-! ## Where the blocks lie -/

theorem idx0_0 : ∀ t : Fin cfg0.N, win0_0.index t (0 : Fin 2) = t.val / 2 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = t.val % 2 :=
  (by decide +kernel : ∀ t : Fin grid0.N, _)
theorem idx0_2 : ∀ t : Fin cfg0.N, win0_2.index t (0 : Fin 2) = t.val / 2 ∧ win0_2.index t (1 : Fin 2) = t.val % 2 :=
  (by decide +kernel : ∀ t : Fin grid0.N, _)
theorem idx0_3 : ∀ t : Fin cfg0.N, win0_3.index t (0 : Fin 3) = 0 ∧ win0_3.index t (1 : Fin 3) = 0 ∧ win0_3.index t (2 : Fin 3) = t.val % 2 :=
  (by decide +kernel : ∀ t : Fin grid0.N, _)
theorem idx0_4 : ∀ t : Fin cfg0.N, win0_4.index t (0 : Fin 2) = t.val / 2 ∧ win0_4.index t (1 : Fin 2) = t.val % 2 :=
  (by decide +kernel : ∀ t : Fin grid0.N, _)
theorem coord0 : ∀ t : Fin cfg0.N, ((grid0.coords t) 0).val = t.val / 2 :=
  (by decide +kernel : ∀ t : Fin grid0.N, _)

theorem lt_points (t : Fin cfg0.N) : t.val < 26 := lt_of_lt_of_eq t.isLt (by decide)

/-- Row `r` of a point's rows, and column `j` of its columns. -/
def row (t : Fin cfg0.N) (r : Fin 1280) : Fin 16640 := ⟨1280 * (t.val / 2) + r.val, by have := lt_points t; have := r.isLt; omega⟩
def col (t : Fin cfg0.N) (j : Fin 512) : Fin 1024 := ⟨512 * (t.val % 2) + j.val, by have := j.isLt; omega⟩

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * (t.val / 2) + r.val; omega
  | ⟨1, _⟩ => show win0_0.index t (1 : Fin 2) * 1024 + 1 * d.val = d.val; omega

theorem emb0_1 (t : Fin cfg0.N) (d : Fin 1024) (j : Fin 512) :
    ((cfg0.win 1).blk t).view.emb (ix2 d j) = (ix2 d (col t j) : S1024x1024.Idx) := by
  obtain ⟨e0, e1⟩ := idx0_1 t
  funext a; apply Fin.ext
  match a with
  | ⟨0, _⟩ => show win0_1.index t (0 : Fin 2) * 1024 + 1 * d.val = d.val; omega
  | ⟨1, _⟩ => show win0_1.index t (1 : Fin 2) * 512 + 1 * j.val = 512 * (t.val % 2) + j.val; omega

theorem emb0_2 (t : Fin cfg0.N) (r : Fin 1280) (j : Fin 512) :
    ((cfg0.win 2).blk t).view.emb (ix2 r j) = (ix2 (row t r) (col t j) : S16640x1024.Idx) := by
  obtain ⟨e0, e1⟩ := idx0_2 t
  funext a; apply Fin.ext
  match a with
  | ⟨0, _⟩ => show win0_2.index t (0 : Fin 2) * 1280 + 1 * r.val = 1280 * (t.val / 2) + r.val; omega
  | ⟨1, _⟩ => show win0_2.index t (1 : Fin 2) * 512 + 1 * j.val = 512 * (t.val % 2) + j.val; omega

theorem emb0_3 (t : Fin cfg0.N) (p : Fin 2) (q : Fin 6) (j : Fin 512) :
    ((cfg0.win 3).blk t).view.emb (ix3 p q j) = (ix3 p q (col t j) : S2x6x1024.Idx) := by
  obtain ⟨e0, e1, e2⟩ := idx0_3 t
  funext a; apply Fin.ext
  match a with
  | ⟨0, _⟩ => show win0_3.index t (0 : Fin 3) * 2 + 1 * p.val = p.val; omega
  | ⟨1, _⟩ => show win0_3.index t (1 : Fin 3) * 6 + 1 * q.val = q.val; omega
  | ⟨2, _⟩ => show win0_3.index t (2 : Fin 3) * 512 + 1 * j.val = 512 * (t.val % 2) + j.val; omega

theorem emb0_4 (t : Fin cfg0.N) (r : Fin 1280) (j : Fin 512) :
    ((cfg0.win 4).blk t).view.emb (ix2 r j) = (ix2 (row t r) (col t j) : S16640x1024.Idx) := by
  obtain ⟨e0, e1⟩ := idx0_4 t
  funext a; apply Fin.ext
  match a with
  | ⟨0, _⟩ => show win0_4.index t (0 : Fin 2) * 1280 + 1 * r.val = 1280 * (t.val / 2) + r.val; omega
  | ⟨1, _⟩ => show win0_4.index t (1 : Fin 2) * 512 + 1 * j.val = 512 * (t.val % 2) + j.val; omega

theorem mem_blk (t : Fin cfg0.N) (y : S16640x1024.Idx) :
    y ∈ ((cfg0.win 4).blk t).view.set ↔ ∀ a : Fin 2,
      win0_4.index t a * S1280x512.size a ≤ (y a).val ∧ (y a).val < win0_4.index t a * S1280x512.size a + S1280x512.size a := by
  show y ∈ ((View.whole main_v5).slice (win0_4.rect t)).set ↔ _
  rw [View.set_slice_whole, Rect.mem_set_unit]
  exact Iff.rfl

/-- The blocks written back tile the result. -/
theorem cover (y : S16640x1024.Idx) :
    ∃ t : Fin cfg0.N, (cfg0.win 4).flush t = true ∧ y ∈ ((cfg0.win 4).blk t).view.set := by
  have h0 : (y 0).val < 16640 := (y 0).isLt
  have h1 : (y 1).val < 1024 := (y 1).isLt
  have hN : cfg0.N = 26 := by decide
  refine ⟨⟨(y 0).val / 1280 * 2 + (y 1).val / 512, by omega⟩, flush0_4 _, ?_⟩
  rw [mem_blk]
  obtain ⟨e0, e1⟩ := idx0_4 ⟨(y 0).val / 1280 * 2 + (y 1).val / 512, by omega⟩
  intro a
  match a with
  | ⟨0, _⟩ =>
    show win0_4.index _ (0 : Fin 2) * 1280 ≤ (y 0).val ∧ (y 0).val < win0_4.index _ (0 : Fin 2) * 1280 + 1280
    rw [e0]; dsimp only; omega
  | ⟨1, _⟩ =>
    show win0_4.index _ (1 : Fin 2) * 512 ≤ (y 1).val ∧ (y 1).val < win0_4.index _ (1 : Fin 2) * 512 + 512
    rw [e1]; dsimp only; omega

/-! ## The blocks -/

theorem blk_o (t : Fin cfg0.N) (r : Fin 1280) (d : Fin 1024) :
    (iblk m c 0 t : S1280x1024.Idx → EReal) (ix2 r d) = argO m c (ix2 (row t r) d) :=
  (congrArg (V m c main_v0 : S16640x1024.Idx → EReal) (emb0_0 t r d)).trans (o_at m c _ _)

theorem blk_w (t : Fin cfg0.N) (d : Fin 1024) (j : Fin 512) :
    (iblk m c 1 t : S1024x512.Idx → EReal) (ix2 d j) = argW m c (ix2 d (col t j)) :=
  (congrArg (V m c main_v1 : S1024x1024.Idx → EReal) (emb0_1 t d j)).trans (w_at m c _ _)

theorem blk_x (t : Fin cfg0.N) (r : Fin 1280) (j : Fin 512) :
    (iblk m c 2 t : S1280x512.Idx → EReal) (ix2 r j) = argX m c (ix2 (row t r) (col t j)) :=
  (congrArg (V m c main_arg0 : S16640x1024.Idx → EReal) (emb0_2 t r j)).trans (congrFun (V_main_arg0 m c) _)

theorem blk_ctx (t : Fin cfg0.N) (j : Fin 512) :
    (iblk m c 3 t : S2x6x512.Idx → EReal) (ix3 0 2 j) = argC m c (ix1 ⟨2048 + (col t j).val, by have := (col t j).isLt; omega⟩) :=
  (congrArg (V m c main_v4 : S2x6x1024.Idx → EReal) (emb0_3 t 0 2 j)).trans (ctx_at m c _)

theorem blk_lat (t : Fin cfg0.N) (j : Fin 512) :
    (iblk m c 3 t : S2x6x512.Idx → EReal) (ix3 1 2 j) = argL m c (ix2 0 ⟨2048 + (col t j).val, by have := (col t j).isLt; omega⟩) :=
  (congrArg (V m c main_v4 : S2x6x1024.Idx → EReal) (emb0_3 t 1 2 j)).trans (lat_at m c _)

/-- The row's kind, as the body decides it on words. -/
theorem is_ctx (a r : ℕ) (ha : a < 13) (hr : r < 1280) :
    IntOp.cmpi .sge (IntOp.addi (Scalar.muli (BitVec.ofNat 32 a) 1280#32) (BitVec.ofNat 32 r)) 16384#32
      = if 1280 * a + r < 16384 then 0#1 else 1#1 := by
  have e : IntOp.addi (Scalar.muli (BitVec.ofNat 32 a) 1280#32) (BitVec.ofNat 32 r) = BitVec.ofNat 32 (1280 * a + r) := by
    show BitVec.ofNat 32 a * 1280#32 + BitVec.ofNat 32 r = _
    apply BitVec.eq_of_toNat_eq
    simp
    omega
  rw [e]
  have hm : (1280 * a + r) % 4294967296 = 1280 * a + r := by omega
  have hi : (BitVec.ofNat 32 (1280 * a + r)).toInt = ((1280 * a + r : ℕ) : ℤ) := by
    rw [BitVec.toInt_eq_toNat_of_lt] <;> rw [BitVec.toNat_ofNat, hm]
    omega
  show BitVec.ofBool (BitVec.sle 16384#32 (BitVec.ofNat 32 (1280 * a + r))) = _
  have hk : (16384#32 : BitVec 32).toInt = 16384 := rfl
  unfold BitVec.sle
  rw [hi, hk]
  split
  · rw [decide_eq_false (by omega)]; rfl
  · rw [decide_eq_true (by omega)]; rfl

/-- What the body leaves, entry by entry, from the blocks it finds. -/
theorem body_at (t : Fin cfg0.N) (x0 : S1280x1024.Idx → EReal) (x1 : S1024x512.Idx → EReal) (x2 : S1280x512.Idx → EReal)
    (x3 : S2x6x512.Idx → EReal) (r : Fin 1280) (j : Fin 512) :
    out0_4 (F := Ideal) (grid0.coords t) x0 x1 x2 x3 (ix2 r j)
      = x2 (ix2 r j) + (if (row t r).val < 16384 then x3 (ix3 1 2 j) else x3 (ix3 0 2 j)) * ∑ d : Fin 1024, x0 (ix2 r d) * x1 (ix2 d j) := by
  have z : (![0, 0] : Fin 2 → ℕ) = fun _ => 0 := by funext a; fin_cases a <;> rfl
  unfold out0_4
  rw [View.canon_unit_zero z, View.ld_unit_zero z, View.ld_unit_zero z, View.ld_unit_zero z]
  pointwise [k0_pay1]
  rw [is_ctx _ _ ((grid0.coords t) 0).isLt r.isLt, coord0 t]
  show _ + Scalar.select (if (row t r).val < 16384 then 0#1 else 1#1) _ _ * _ = _
  split <;> rfl

theorem block_eq (t : Fin cfg0.N) :
    (dats m 0 c).flushed 4 t
      = ((cfg0.win 4).blk t).view.read (Elt Ideal) (result (argX m c) (argO m c) (argW m c) (argC m c) (argL m c)) := by
  rw [Value.flushed4]
  refine funext fun y => ?_
  obtain ⟨r, j, rfl⟩ : ∃ r j, y = (ix2 r j : S1280x512.Idx) := ⟨y 0, y 1, by funext a; fin_cases a <;> rfl⟩
  refine (body_at t _ _ _ _ r j).trans (Eq.trans ?_
    (congrArg (result (argX m c) (argO m c) (argW m c) (argC m c) (argL m c)) (emb0_4 t r j)).symm)
  refine congrArg₂ (· + ·) (blk_x m c t r j) (congrArg₂ (· * ·) ?_ ?_)
  · show (if _ then _ else _) = gate _ _ (row t r) (col t j)
    unfold gate
    rw [blk_ctx, blk_lat]
  · exact Finset.sum_congr rfl fun d _ => congrArg₂ (· * ·) (blk_o m c t r d) (blk_w m c t d j)

theorem array_eq : (dats m 0 c).arrAt 4 cfg0.N = result (argX m c) (argO m c) (argW m c) (argC m c) (argL m c) :=
  (dats m 0 c).arrAt_eq_of_cover 4 _ (fun t _ => block_eq m c t) cover

end Cert.DaOutIdeal.Hand

namespace Cert.DaOutRefIdeal.Hand

open Idealize.ShloMosaic Idealize.ShloMosaic.TcCoe Idealize.ShloMosaic.Tactic
open Cert.DaOutRefIdeal Cert.DaOutRefIdeal.Gen

variable {F : FTy → Type} [FloatOps F]

/-- The latent rows of the stream after the step. -/
def latent (x y : (⟨S16640x1024, .f32⟩ : BufTy).Contents (Elt F)) (mx : (⟨S1x6144, .f32⟩ : BufTy).Contents (Elt F)) :
    (⟨S16384x1024, .f32⟩ : BufTy).Contents (Elt F) :=
  addf (extractStridedSlice S16384x1024 ![0, 0] x slices_S16640x1024_S16384x1024_0_0)
    (mulf (broadcastInDim S16384x1024 ![0, 1] bcast_S1x1024_S16384x1024_0_1
        (extractStridedSlice S1x1024 ![0, 2048] mx slices_S1x6144_S1x1024_0_2048))
      (extractStridedSlice S16384x1024 ![0, 0] y slices_S16640x1024_S16384x1024_0_0))

/-- The context rows of the stream after the step. -/
def context (x y : (⟨S16640x1024, .f32⟩ : BufTy).Contents (Elt F)) (mc : (⟨S6144, .f32⟩ : BufTy).Contents (Elt F)) :
    (⟨S256x1024, .f32⟩ : BufTy).Contents (Elt F) :=
  addf (extractStridedSlice S256x1024 ![16384, 0] x slices_S16640x1024_S256x1024_16384_0)
    (mulf (broadcastInDim S256x1024 ![0, 1] bcast_S1x1024_S256x1024_0_1
        (broadcastInDim S1x1024 ![1] bcast_S1024_S1x1024_1 (extractStridedSlice S1024 ![2048] mc slices_S6144_S1024_2048)))
      (extractStridedSlice S256x1024 ![16384, 0] y slices_S16640x1024_S256x1024_16384_0))

/-- The whole stream after the step. -/
def stream (x y : (⟨S16640x1024, .f32⟩ : BufTy).Contents (Elt F)) (mc : (⟨S6144, .f32⟩ : BufTy).Contents (Elt F))
    (mx : (⟨S1x6144, .f32⟩ : BufTy).Contents (Elt F)) : (⟨S16640x1024, .f32⟩ : BufTy).Contents (Elt F) :=
  concatenate S16640x1024 0 [⟨S16384x1024, latent x y mx⟩, ⟨S256x1024, context x y mc⟩] concatenates_S16384x1024_S256x1024_S16640x1024_d0

/-- The product. -/
def product (o : (⟨S16640x1024, .f32⟩ : BufTy).Contents (Elt F)) (w : (⟨S1024x1024, .f32⟩ : BufTy).Contents (Elt F)) :
    (⟨S16640x1024, .f32⟩ : BufTy).Contents (Elt F) :=
  Host.dotGeneral dot_S16640x1024_S1024x1024_S16640x1024_1_0_0_1_n_n none o w

theorem product_at (o : S16640x1024.Idx → EReal) (w : S1024x1024.Idx → EReal) (r : Fin 16640) (j : Fin 1024) :
    product (F := Ideal) o w (ix2 r j) = ∑ d : Fin 1024, o (ix2 r d) * w (ix2 d j) := by
  pointwise [product]

theorem stream_at (x y : S16640x1024.Idx → EReal) (mc : S6144.Idx → EReal) (mx : S1x6144.Idx → EReal) (r : Fin 16640) (j : Fin 1024) :
    stream (F := Ideal) x y mc mx (ix2 r j) = x (ix2 r j) + Cert.DaOutIdeal.Hand.gate mc mx r j * y (ix2 r j) := by
  unfold Cert.DaOutIdeal.Hand.gate
  pointwise [stream, latent, context]
  split
  · rfl
  · have e : ∀ hh, (⟨16384 + (r.val - 16384), hh⟩ : Fin 16640) = r := fun _ => Fin.ext (by have := r.isLt; dsimp only; omega)
    rw [e]

theorem reference_eq (x o : S16640x1024.Idx → EReal) (w : S1024x1024.Idx → EReal) (mc : S6144.Idx → EReal) (mx : S1x6144.Idx → EReal) :
    stream (F := Ideal) x (product o w) mc mx = Cert.DaOutIdeal.Hand.result x o w mc mx := by
  funext i
  obtain ⟨r, j, rfl⟩ : ∃ r j, i = (ix2 r j : S16640x1024.Idx) := ⟨i 0, i 1, by funext a; fin_cases a <;> rfl⟩
  exact (stream_at _ _ _ _ r j).trans (congrArg (fun y => x (ix2 r j) + Cert.DaOutIdeal.Hand.gate mc mx r j * y) (product_at o w r j))

end Cert.DaOutRefIdeal.Hand

end
-- ==== Proof.AbOut.lean ====
/-
  The out-projection of the retention and Hyena layer, with the gated step of the stream that takes it: the two products
  of the two parts of the weights added are the product over the two inputs side by side.
-/
module

public import proofs.«01_k».proof.Proof.DaOut
public import proofs.«01_k».proof.Proof.Gen.AbOutIdeal.Value
public import proofs.«01_k».proof.Proof.Gen.AbOutRefIdeal.Run
public import Idealize.ShloMosaic.Lib.Pointwise
public import Idealize.ShloMosaic.Lib.Tactic.CleanTypes

@[expose] public section

set_option maxRecDepth 16384

noncomputable section

namespace Cert.AbOutIdeal.Hand

open Idealize.ShloMosaic Idealize.ShloMosaic.TcCoe Idealize.ShloMosaic.Tactic Idealize.SL.Sem
open Cert.AbOutIdeal Cert.AbOutIdeal.Gen
open Idealize.ShloMosaic.Pipeline (Dat)
open Cert.DaOutIdeal.Hand (gate is_ctx)

/-- Two products added: the first 1024 rows of the weights meet one input, the last 512 the other. -/
def product (a : S16640x1024.Idx → EReal) (b : S16640x512.Idx → EReal) (w : S1536x1024.Idx → EReal) (i : Fin 16640) (j : Fin 1024) : EReal :=
  ∑ d : Fin 1024, a (ix2 i d) * w (ix2 ⟨d.val, by have := d.isLt; omega⟩ j)
    + ∑ d : Fin 512, b (ix2 i d) * w (ix2 ⟨1024 + d.val, by have := d.isLt; omega⟩ j)

/-- The stream plus the gated product. -/
def result (x a : S16640x1024.Idx → EReal) (b : S16640x512.Idx → EReal) (w : S1536x1024.Idx → EReal) (mc : S6144.Idx → EReal)
    (mx : S1x6144.Idx → EReal) : S16640x1024.Idx → EReal :=
  fun i => x i + gate mc mx (i 0) (i 1) * product a b w (i 0) (i 1)

variable (m : (ℓ : Loc nD τ sig) → Buf (Elt Ideal) ℓ) (c : Dev nD)

/-- The six arguments as arrays. -/
abbrev argX : S16640x1024.Idx → EReal := m ((c : Thread nD τ).loc main_arg0)
abbrev argA : S16640x1024.Idx → EReal := m ((c : Thread nD τ).loc main_arg1)
abbrev argB : S16640x512.Idx → EReal := m ((c : Thread nD τ).loc main_arg2)
abbrev argW : S1536x1024.Idx → EReal := m ((c : Thread nD τ).loc main_arg3)
abbrev argC : S6144.Idx → EReal := m ((c : Thread nD τ).loc main_arg4)
abbrev argL : S1x6144.Idx → EReal := m ((c : Thread nD τ).loc main_arg5)

theorem a_at (i : Fin 16640) (d : Fin 1024) : (V m c main_v1 : S16640x1024.Idx → EReal) (ix2 i d) = argA m c (ix2 i d) := by
  unfold V
  after_results
  pointwise

theorem wa_at (d : Fin 1024) (j : Fin 1024) :
    (V m c main_v2 : S1024x1024.Idx → EReal) (ix2 d j) = argW m c (ix2 ⟨d.val, by have := d.isLt; omega⟩ j) := by
  unfold V
  after_results
  pointwise

theorem wb_at (d : Fin 512) (j : Fin 1024) :
    (V m c main_v3 : S512x1024.Idx → EReal) (ix2 d j) = argW m c (ix2 ⟨1024 + d.val, by have := d.isLt; omega⟩ j) := by
  unfold V
  after_results
  pointwise

/-- The context's gate is in the first plane of the modulations. -/
theorem ctx_at (j : Fin 1024) :
    (V m c main_v6 : S2x6x1024.Idx → EReal) (ix3 0 2 j) = argC m c (ix1 ⟨2048 + j.val, by have := j.isLt; omega⟩) := by
  unfold V
  after_results
  clean_types
  pointwise

/-- The latents' gate is in the second. -/
theorem lat_at (j : Fin 1024) :
    (V m c main_v6 : S2x6x1024.Idx → EReal) (ix3 1 2 j) = argL m c (ix2 0 ⟨2048 + j.val, by have := j.isLt; omega⟩) := by
  unfold V
  after_results
  clean_types
  pointwise

/-! ## Where the blocks lie -/

theorem idx0_0 : ∀ t : Fin cfg0.N, win0_0.index t (0 : Fin 2) = t.val / 2 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = t.val % 2 :=
  (by decide +kernel : ∀ t : Fin grid0.N, _)
theorem idx0_2 : ∀ t : Fin cfg0.N, win0_2.index t (0 : Fin 2) = t.val / 2 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = t.val % 2 :=
  (by decide +kernel : ∀ t : Fin grid0.N, _)
theorem idx0_4 : ∀ t : Fin cfg0.N, win0_4.index t (0 : Fin 2) = t.val / 2 ∧ win0_4.index t (1 : Fin 2) = t.val % 2 :=
  (by decide +kernel : ∀ t : Fin grid0.N, _)
theorem idx0_5 : ∀ t : Fin cfg0.N, win0_5.index t (0 : Fin 3) = 0 ∧ win0_5.index t (1 : Fin 3) = 0 ∧ win0_5.index t (2 : Fin 3) = t.val % 2 :=
  (by decide +kernel : ∀ t : Fin grid0.N, _)
theorem idx0_6 : ∀ t : Fin cfg0.N, win0_6.index t (0 : Fin 2) = t.val / 2 ∧ win0_6.index t (1 : Fin 2) = t.val % 2 :=
  (by decide +kernel : ∀ t : Fin grid0.N, _)
theorem coord0 : ∀ t : Fin cfg0.N, ((grid0.coords t) 0).val = t.val / 2 :=
  (by decide +kernel : ∀ t : Fin grid0.N, _)

theorem lt_points (t : Fin cfg0.N) : t.val < 26 := lt_of_lt_of_eq t.isLt (by decide)

/-- Row `r` of a point's rows, and column `j` of its columns. -/
def row (t : Fin cfg0.N) (r : Fin 1280) : Fin 16640 := ⟨1280 * (t.val / 2) + r.val, by have := lt_points t; have := r.isLt; omega⟩
def col (t : Fin cfg0.N) (j : Fin 512) : Fin 1024 := ⟨512 * (t.val % 2) + j.val, by have := j.isLt; omega⟩

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * (t.val / 2) + r.val; omega
  | ⟨1, _⟩ => show win0_0.index t (1 : Fin 2) * 1024 + 1 * d.val = d.val; omega

theorem emb0_1 (t : Fin cfg0.N) (d : Fin 1024) (j : Fin 512) :
    ((cfg0.win 1).blk t).view.emb (ix2 d j) = (ix2 d (col t j) : S1024x1024.Idx) := by
  obtain ⟨e0, e1⟩ := idx0_1 t
  funext a; apply Fin.ext
  match a with
  | ⟨0, _⟩ => show win0_1.index t (0 : Fin 2) * 1024 + 1 * d.val = d.val; omega
  | ⟨1, _⟩ => show win0_1.index t (1 : Fin 2) * 512 + 1 * j.val = 512 * (t.val % 2) + j.val; omega

theorem emb0_2 (t : Fin cfg0.N) (r : Fin 1280) (d : Fin 512) :
    ((cfg0.win 2).blk t).view.emb (ix2 r d) = (ix2 (row t r) d : S16640x512.Idx) := by
  obtain ⟨e0, e1⟩ := idx0_2 t
  funext a; apply Fin.ext
  match a with
  | ⟨0, _⟩ => show win0_2.index t (0 : Fin 2) * 1280 + 1 * r.val = 1280 * (t.val / 2) + r.val; omega
  | ⟨1, _⟩ => show win0_2.index t (1 : Fin 2) * 512 + 1 * d.val = d.val; omega

theorem emb0_3 (t : Fin cfg0.N) (d : Fin 512) (j : Fin 512) :
    ((cfg0.win 3).blk t).view.emb (ix2 d j) = (ix2 d (col t j) : S512x1024.Idx) := by
  obtain ⟨e0, e1⟩ := idx0_3 t
  funext a; apply Fin.ext
  match a with
  | ⟨0, _⟩ => show win0_3.index t (0 : Fin 2) * 512 + 1 * d.val = d.val; omega
  | ⟨1, _⟩ => show win0_3.index t (1 : Fin 2) * 512 + 1 * j.val = 512 * (t.val % 2) + j.val; omega

theorem emb0_4 (t : Fin cfg0.N) (r : Fin 1280) (j : Fin 512) :
    ((cfg0.win 4).blk t).view.emb (ix2 r j) = (ix2 (row t r) (col t j) : S16640x1024.Idx) := by
  obtain ⟨e0, e1⟩ := idx0_4 t
  funext a; apply Fin.ext
  match a with
  | ⟨0, _⟩ => show win0_4.index t (0 : Fin 2) * 1280 + 1 * r.val = 1280 * (t.val / 2) + r.val; omega
  | ⟨1, _⟩ => show win0_4.index t (1 : Fin 2) * 512 + 1 * j.val = 512 * (t.val % 2) + j.val; omega

theorem emb0_5 (t : Fin cfg0.N) (p : Fin 2) (q : Fin 6) (j : Fin 512) :
    ((cfg0.win 5).blk t).view.emb (ix3 p q j) = (ix3 p q (col t j) : S2x6x1024.Idx) := by
  obtain ⟨e0, e1, e2⟩ := idx0_5 t
  funext a; apply Fin.ext
  match a with
  | ⟨0, _⟩ => show win0_5.index t (0 : Fin 3) * 2 + 1 * p.val = p.val; omega
  | ⟨1, _⟩ => show win0_5.index t (1 : Fin 3) * 6 + 1 * q.val = q.val; omega
  | ⟨2, _⟩ => show win0_5.index t (2 : Fin 3) * 512 + 1 * j.val = 512 * (t.val % 2) + j.val; omega

theorem emb0_6 (t : Fin cfg0.N) (r : Fin 1280) (j : Fin 512) :
    ((cfg0.win 6).blk t).view.emb (ix2 r j) = (ix2 (row t r) (col t j) : S16640x1024.Idx) := by
  obtain ⟨e0, e1⟩ := idx0_6 t
  funext a; apply Fin.ext
  match a with
  | ⟨0, _⟩ => show win0_6.index t (0 : Fin 2) * 1280 + 1 * r.val = 1280 * (t.val / 2) + r.val; omega
  | ⟨1, _⟩ => show win0_6.index t (1 : Fin 2) * 512 + 1 * j.val = 512 * (t.val % 2) + j.val; omega

theorem mem_blk (t : Fin cfg0.N) (y : S16640x1024.Idx) :
    y ∈ ((cfg0.win 6).blk t).view.set ↔ ∀ a : Fin 2,
      win0_6.index t a * S1280x512.size a ≤ (y a).val ∧ (y a).val < win0_6.index t a * S1280x512.size a + S1280x512.size a := by
  show y ∈ ((View.whole main_v7).slice (win0_6.rect t)).set ↔ _
  rw [View.set_slice_whole, Rect.mem_set_unit]
  exact Iff.rfl

/-- The blocks written back tile the result. -/
theorem cover (y : S16640x1024.Idx) :
    ∃ t : Fin cfg0.N, (cfg0.win 6).flush t = true ∧ y ∈ ((cfg0.win 6).blk t).view.set := by
  have h0 : (y 0).val < 16640 := (y 0).isLt
  have h1 : (y 1).val < 1024 := (y 1).isLt
  have hN : cfg0.N = 26 := by decide
  refine ⟨⟨(y 0).val / 1280 * 2 + (y 1).val / 512, by omega⟩, flush0_6 _, ?_⟩
  rw [mem_blk]
  obtain ⟨e0, e1⟩ := idx0_6 ⟨(y 0).val / 1280 * 2 + (y 1).val / 512, by omega⟩
  intro a
  match a with
  | ⟨0, _⟩ =>
    show win0_6.index _ (0 : Fin 2) * 1280 ≤ (y 0).val ∧ (y 0).val < win0_6.index _ (0 : Fin 2) * 1280 + 1280
    rw [e0]; dsimp only; omega
  | ⟨1, _⟩ =>
    show win0_6.index _ (1 : Fin 2) * 512 ≤ (y 1).val ∧ (y 1).val < win0_6.index _ (1 : Fin 2) * 512 + 512
    rw [e1]; dsimp only; omega

/-! ## The blocks -/

theorem blk_a (t : Fin cfg0.N) (r : Fin 1280) (d : Fin 1024) :
    (iblk m c 0 t : S1280x1024.Idx → EReal) (ix2 r d) = argA m c (ix2 (row t r) d) :=
  (congrArg (V m c main_v1 : S16640x1024.Idx → EReal) (emb0_0 t r d)).trans (a_at m c _ _)

theorem blk_wa (t : Fin cfg0.N) (d : Fin 1024) (j : Fin 512) :
    (iblk m c 1 t : S1024x512.Idx → EReal) (ix2 d j) = argW m c (ix2 ⟨d.val, by have := d.isLt; omega⟩ (col t j)) :=
  (congrArg (V m c main_v2 : S1024x1024.Idx → EReal) (emb0_1 t d j)).trans (wa_at m c _ _)

theorem blk_b (t : Fin cfg0.N) (r : Fin 1280) (d : Fin 512) :
    (iblk m c 2 t : S1280x512.Idx → EReal) (ix2 r d) = argB m c (ix2 (row t r) d) :=
  (congrArg (V m c main_arg2 : S16640x512.Idx → EReal) (emb0_2 t r d)).trans (congrFun (V_main_arg2 m c) _)

theorem blk_wb (t : Fin cfg0.N) (d : Fin 512) (j : Fin 512) :
    (iblk m c 3 t : S512x512.Idx → EReal) (ix2 d j) = argW m c (ix2 ⟨1024 + d.val, by have := d.isLt; omega⟩ (col t j)) :=
  (congrArg (V m c main_v3 : S512x1024.Idx → EReal) (emb0_3 t d j)).trans (wb_at m c _ _)

theorem blk_x (t : Fin cfg0.N) (r : Fin 1280) (j : Fin 512) :
    (iblk m c 4 t : S1280x512.Idx → EReal) (ix2 r j) = argX m c (ix2 (row t r) (col t j)) :=
  (congrArg (V m c main_arg0 : S16640x1024.Idx → EReal) (emb0_4 t r j)).trans (congrFun (V_main_arg0 m c) _)

theorem blk_ctx (t : Fin cfg0.N) (j : Fin 512) :
    (iblk m c 5 t : S2x6x512.Idx → EReal) (ix3 0 2 j) = argC m c (ix1 ⟨2048 + (col t j).val, by have := (col t j).isLt; omega⟩) :=
  (congrArg (V m c main_v6 : S2x6x1024.Idx → EReal) (emb0_5 t 0 2 j)).trans (ctx_at m c _)

theorem blk_lat (t : Fin cfg0.N) (j : Fin 512) :
    (iblk m c 5 t : S2x6x512.Idx → EReal) (ix3 1 2 j) = argL m c (ix2 0 ⟨2048 + (col t j).val, by have := (col t j).isLt; omega⟩) :=
  (congrArg (V m c main_v6 : S2x6x1024.Idx → EReal) (emb0_5 t 1 2 j)).trans (lat_at m c _)

/-- What the body leaves, entry by entry, from the blocks it finds. -/
theorem body_at (t : Fin cfg0.N) (x0 : S1280x1024.Idx → EReal) (x1 : S1024x512.Idx → EReal) (x2 : S1280x512.Idx → EReal)
    (x3 : S512x512.Idx → EReal) (x4 : S1280x512.Idx → EReal) (x5 : S2x6x512.Idx → EReal) (r : Fin 1280) (j : Fin 512) :
    out0_6 (F := Ideal) (grid0.coords t) x0 x1 x2 x3 x4 x5 (ix2 r j)
      = x4 (ix2 r j) + (if (row t r).val < 16384 then x5 (ix3 1 2 j) else x5 (ix3 0 2 j))
          * (∑ d : Fin 1024, x0 (ix2 r d) * x1 (ix2 d j) + ∑ d : Fin 512, x2 (ix2 r d) * x3 (ix2 d j)) := by
  have z : (![0, 0] : Fin 2 → ℕ) = fun _ => 0 := by funext a; fin_cases a <;> rfl
  unfold out0_6
  rw [View.canon_unit_zero z, View.ld_unit_zero z, View.ld_unit_zero z, View.ld_unit_zero z, View.ld_unit_zero z, View.ld_unit_zero z]
  pointwise [k0_pay1]
  rw [is_ctx _ _ ((grid0.coords t) 0).isLt r.isLt, coord0 t]
  show _ + Scalar.select (if (row t r).val < 16384 then 0#1 else 1#1) _ _ * _ = _
  split <;> rfl

theorem block_eq (t : Fin cfg0.N) :
    (dats m 0 c).flushed 6 t = ((cfg0.win 6).blk t).view.read (Elt Ideal)
      (result (argX m c) (argA m c) (argB m c) (argW m c) (argC m c) (argL m c)) := by
  rw [Value.flushed6]
  refine funext fun y => ?_
  obtain ⟨r, j, rfl⟩ : ∃ r j, y = (ix2 r j : S1280x512.Idx) := ⟨y 0, y 1, by funext a; fin_cases a <;> rfl⟩
  refine (body_at t _ _ _ _ _ _ r j).trans (Eq.trans ?_
    (congrArg (result (argX m c) (argA m c) (argB m c) (argW m c) (argC m c) (argL m c)) (emb0_6 t r j)).symm)
  refine congrArg₂ (· + ·) (blk_x m c t r j) (congrArg₂ (· * ·) ?_ (congrArg₂ (· + ·) ?_ ?_))
  · show (if _ then _ else _) = gate _ _ (row t r) (col t j)
    unfold gate
    rw [blk_ctx, blk_lat]
  · exact Finset.sum_congr rfl fun d _ => congrArg₂ (· * ·) (blk_a m c t r d) (blk_wa m c t d j)
  · exact Finset.sum_congr rfl fun d _ => congrArg₂ (· * ·) (blk_b m c t r d) (blk_wb m c t d j)

theorem array_eq : (dats m 0 c).arrAt 6 cfg0.N = result (argX m c) (argA m c) (argB m c) (argW m c) (argC m c) (argL m c) :=
  (dats m 0 c).arrAt_eq_of_cover 6 _ (fun t _ => block_eq m c t) cover

end Cert.AbOutIdeal.Hand

namespace Cert.AbOutRefIdeal.Hand

open Idealize.ShloMosaic Idealize.ShloMosaic.TcCoe Idealize.ShloMosaic.Tactic
open Cert.AbOutRefIdeal Cert.AbOutRefIdeal.Gen

variable {F : FTy → Type} [FloatOps F]

/-- The product over the two inputs side by side. -/
def product (a : (⟨S16640x1024, .f32⟩ : BufTy).Contents (Elt F)) (b : (⟨S16640x512, .f32⟩ : BufTy).Contents (Elt F))
    (w : (⟨S1536x1024, .f32⟩ : BufTy).Contents (Elt F)) : (⟨S16640x1024, .f32⟩ : BufTy).Contents (Elt F) :=
  Host.dotGeneral dot_S16640x1536_S1536x1024_S16640x1024_1_0_0_1_n_n none
    (concatenate S16640x1536 1 [⟨S16640x1024, a⟩, ⟨S16640x512, b⟩] concatenates_S16640x1024_S16640x512_S16640x1536_d1) w

theorem product_at (a : S16640x1024.Idx → EReal) (b : S16640x512.Idx → EReal) (w : S1536x1024.Idx → EReal) (r : Fin 16640) (j : Fin 1024) :
    product (F := Ideal) a b w (ix2 r j) = Cert.AbOutIdeal.Hand.product a b w r j := by
  unfold Cert.AbOutIdeal.Hand.product
  pointwise [product]

theorem reference_eq (x a : S16640x1024.Idx → EReal) (b : S16640x512.Idx → EReal) (w : S1536x1024.Idx → EReal) (mc : S6144.Idx → EReal)
    (mx : S1x6144.Idx → EReal) :
    Cert.DaOutRefIdeal.Hand.stream (F := Ideal) x (product a b w) mc mx = Cert.AbOutIdeal.Hand.result x a b w mc mx := by
  funext i
  obtain ⟨r, j, rfl⟩ : ∃ r j, i = (ix2 r j : S16640x1024.Idx) := ⟨i 0, i 1, by funext a; fin_cases a <;> rfl⟩
  exact (Cert.DaOutRefIdeal.Hand.stream_at _ _ _ _ r j).trans
    (congrArg (fun y => x (ix2 r j) + Cert.DaOutIdeal.Hand.gate mc mx r j * y) (product_at a b w r j))

end Cert.AbOutRefIdeal.Hand

end
-- ==== Proof.AbInBody.lean ====
/-
  The body of the retention and Hyena layer's in-projection: at a block of its nine blocks of columns it stores the
  block's product; at the first (the queries) turned by the rotation tables, four heads of 128 lanes one by one; at the
  second (the keys) turned and scaled.
-/
module

public import proofs.«01_k».proof.Proof.Gen.AbInIdeal.Value
public import Idealize.ShloMosaic.Lib.Pointwise
public import Idealize.ShloMosaic.Lib.Pipeline.ValueKit
public import Idealize.ShloMosaic.Lib.Tactic.CleanTypes

@[expose] public section

set_option maxRecDepth 16384

noncomputable section

namespace Cert.AbInIdeal.Hand

open Idealize.ShloMosaic Idealize.ShloMosaic.TcCoe Idealize.ShloMosaic.Tactic Idealize.SL.Sem
open Cert.AbInIdeal Cert.AbInIdeal.Gen

/-- A column's place in its head, and the column half a head away in the same head. -/
def lane (j : Fin 512) : Fin 128 := ⟨j.val % 128, by omega⟩
def partner (j : Fin 512) : Fin 512 := ⟨128 * (j.val / 128) + (j.val + 64) % 128, by have := j.isLt; omega⟩

/-- The factor of the keys, 128^(-1/2) as the program rounds it. -/
def scale : EReal := Ideal.ofBits .f32 0x3DB504F3#32

variable (x0 : S1280x1024.Idx → EReal) (x1 : S1024x512.Idx → EReal) (x2 x3 : S1280x128.Idx → EReal)

/-- The product of a block of rows and a block of columns. -/
def blockProduct (r : Fin 1280) (j : Fin 512) : EReal := ∑ d : Fin 1024, x0 (ix2 r d) * x1 (ix2 d j)

/-- The product turned by the two tables. -/
def blockTurned (r : Fin 1280) (j : Fin 512) : EReal :=
  blockProduct x0 x1 r j * x2 (ix2 r (lane j)) + blockProduct x0 x1 r (partner j) * x3 (ix2 r (lane j))

theorem lane_at {o : ℕ} (ho : o % 128 = 0) (l : Fin 128) (h : o + l.val < 512) : lane ⟨o + l.val, h⟩ = l := by
  apply Fin.ext; show (o + l.val) % 128 = l.val; have := l.isLt; omega

theorem partner_at {o : ℕ} (ho : o % 128 = 0) (l : Fin 128) (h : o + l.val < 512) (h' : o + (l.val + 128 - 64) % 128 < 512) :
    partner ⟨o + l.val, h⟩ = ⟨o + (l.val + 128 - 64) % 128, h'⟩ := by
  apply Fin.ext
  show 128 * ((o + l.val) / 128) + (o + l.val + 64) % 128 = o + (l.val + 128 - 64) % 128
  have := l.isLt; omega

theorem pay1_at (r : Fin 1280) (j : Fin 512) : k0_pay1 (F := Ideal) x0 x1 (ix2 r j) = blockProduct x0 x1 r j := by
  unfold blockProduct
  pointwise [k0_pay1]

theorem pay4_at (r : Fin 1280) (l : Fin 128) :
    k0_pay4 (F := Ideal) x0 x1 x2 x3 (ix2 r l) = blockTurned x0 x1 x2 x3 r ⟨0 + l.val, by have := l.isLt; omega⟩ := by
  unfold blockTurned blockProduct
  rw [lane_at (by decide) l, partner_at (by decide) l _ (by omega)]
  pointwise [k0_pay4, k0_pay1, k0_pay2, k0_pay3]

theorem pay5_at (r : Fin 1280) (l : Fin 128) :
    k0_pay5 (F := Ideal) x0 x1 x2 x3 (ix2 r l) = blockTurned x0 x1 x2 x3 r ⟨128 + l.val, by have := l.isLt; omega⟩ := by
  unfold blockTurned blockProduct
  rw [lane_at (by decide) l, partner_at (by decide) l _ (by omega)]
  pointwise [k0_pay5, k0_pay1, k0_pay2, k0_pay3]

theorem pay6_at (r : Fin 1280) (l : Fin 128) :
    k0_pay6 (F := Ideal) x0 x1 x2 x3 (ix2 r l) = blockTurned x0 x1 x2 x3 r ⟨256 + l.val, by have := l.isLt; omega⟩ := by
  unfold blockTurned blockProduct
  rw [lane_at (by decide) l, partner_at (by decide) l _ (by omega)]
  pointwise [k0_pay6, k0_pay1, k0_pay2, k0_pay3]

theorem pay7_at (r : Fin 1280) (l : Fin 128) :
    k0_pay7 (F := Ideal) x0 x1 x2 x3 (ix2 r l) = blockTurned x0 x1 x2 x3 r ⟨384 + l.val, by have := l.isLt; omega⟩ := by
  unfold blockTurned blockProduct
  rw [lane_at (by decide) l, partner_at (by decide) l _ (by omega)]
  pointwise [k0_pay7, k0_pay1, k0_pay2, k0_pay3]

theorem pay8_at (r : Fin 1280) (l : Fin 128) :
    k0_pay8 (F := Ideal) x0 x1 x2 x3 (ix2 r l) = blockTurned x0 x1 x2 x3 r ⟨0 + l.val, by have := l.isLt; omega⟩ * scale := by
  unfold blockTurned blockProduct scale
  rw [lane_at (by decide) l, partner_at (by decide) l _ (by omega)]
  pointwise [k0_pay8, k0_pay1, k0_pay2, k0_pay3]

theorem pay9_at (r : Fin 1280) (l : Fin 128) :
    k0_pay9 (F := Ideal) x0 x1 x2 x3 (ix2 r l) = blockTurned x0 x1 x2 x3 r ⟨128 + l.val, by have := l.isLt; omega⟩ * scale := by
  unfold blockTurned blockProduct scale
  rw [lane_at (by decide) l, partner_at (by decide) l _ (by omega)]
  pointwise [k0_pay9, k0_pay1, k0_pay2, k0_pay3]

theorem pay10_at (r : Fin 1280) (l : Fin 128) :
    k0_pay10 (F := Ideal) x0 x1 x2 x3 (ix2 r l) = blockTurned x0 x1 x2 x3 r ⟨256 + l.val, by have := l.isLt; omega⟩ * scale := by
  unfold blockTurned blockProduct scale
  rw [lane_at (by decide) l, partner_at (by decide) l _ (by omega)]
  pointwise [k0_pay10, k0_pay1, k0_pay2, k0_pay3]

theorem pay11_at (r : Fin 1280) (l : Fin 128) :
    k0_pay11 (F := Ideal) x0 x1 x2 x3 (ix2 r l) = blockTurned x0 x1 x2 x3 r ⟨384 + l.val, by have := l.isLt; omega⟩ * scale := by
  unfold blockTurned blockProduct scale
  rw [lane_at (by decide) l, partner_at (by decide) l _ (by omega)]
  pointwise [k0_pay11, k0_pay1, k0_pay2, k0_pay3]

/-! ## Whole loads, and stores of one head -/

theorem zero2 : (![0, 0] : Fin 2 → ℕ) = fun _ => 0 := by funext a; fin_cases a <;> rfl

omit x1 x2 x3 in
theorem load0 : View.ld (Val := Elt Ideal) (e' := .bf16) x0 (Rect.unit (s := S1280x1024) ![0, 0] S1280x1024.size inb_S1280x1024_S1280x1024_0_0) = x0 :=
  View.ld_unit_zero zero2 _ _
omit x0 x2 x3 in
theorem load1 : View.ld (Val := Elt Ideal) (e' := .bf16) x1 (Rect.unit (s := S1024x512) ![0, 0] S1024x512.size inb_S1024x512_S1024x512_0_0) = x1 :=
  View.ld_unit_zero zero2 _ _
omit x0 x1 x3 in
theorem load2 : View.ld (Val := Elt Ideal) (e' := .f32) x2 (Rect.unit (s := S1280x128) ![0, 0] S1280x128.size inb_S1280x128_S1280x128_0_0) = x2 :=
  View.ld_unit_zero zero2 _ _
omit x0 x1 x2 in
theorem load3 : View.ld (Val := Elt Ideal) (e' := .f32) x3 (Rect.unit (s := S1280x128) ![0, 0] S1280x128.size inb_S1280x128_S1280x128_0_0) = x3 :=
  View.ld_unit_zero zero2 _ _

omit x0 x1 x2 x3 in
/-- A store of 128 lanes, head by head, of one function of the block's rows and columns. -/
theorem piece_at {o : ℕ} (inb : ∀ a, (![0, o] : Fin 2 → ℕ) a + S1280x128.size a ≤ S1280x512.size a) (w : S1280x128.Idx → EReal)
    (G : Fin 1280 → Fin 512 → EReal) (hw : ∀ (r : Fin 1280) (l : Fin 128) (h : o + l.val < 512), w (ix2 r l) = G r ⟨o + l.val, h⟩)
    (x : S1280x128.Idx) :
    w x = G ((Rect.unit (s := S1280x512) ![0, o] S1280x128.size inb).emb x 0) ((Rect.unit (s := S1280x512) ![0, o] S1280x128.size inb).emb x 1) := by
  obtain ⟨r, l, rfl⟩ : ∃ r l, x = (ix2 r l : S1280x128.Idx) := ⟨x 0, x 1, by funext a; fin_cases a <;> rfl⟩
  have hb : o + 128 ≤ 512 := inb 1
  refine (hw r l (by have := l.isLt; omega)).trans (congrArg₂ G (Fin.ext ?_) (Fin.ext ?_))
  · show r.val = 0 + 1 * r.val; omega
  · show o + l.val = o + 1 * l.val; omega

omit x0 x1 x2 x3 in
/-- A store of the whole block. -/
theorem whole_at (inb : ∀ a, (![0, 0] : Fin 2 → ℕ) a + S1280x512.size a ≤ S1280x512.size a) (w : S1280x512.Idx → EReal)
    (G : Fin 1280 → Fin 512 → EReal) (hw : ∀ (r : Fin 1280) (l : Fin 512), w (ix2 r l) = G r l) (x : S1280x512.Idx) :
    w x = G ((Rect.unit (s := S1280x512) ![0, 0] S1280x512.size inb).emb x 0) ((Rect.unit (s := S1280x512) ![0, 0] S1280x512.size inb).emb x 1) := by
  obtain ⟨r, l, rfl⟩ : ∃ r l, x = (ix2 r l : S1280x512.Idx) := ⟨x 0, x 1, by funext a; fin_cases a <;> rfl⟩
  refine (hw r l).trans (congrArg₂ G (Fin.ext ?_) (Fin.ext ?_))
  · show r.val = 0 + 1 * r.val; omega
  · show l.val = 0 + 1 * l.val; omega

/-! ## What the body leaves in each case -/

/-- The queries' block: the product turned. -/
theorem out_A (c : Dev nD) (i : grid0.Coords)
    (arg2 : Memref sig .tc .vmem S1280x1024 .bf16) (harg2 : arg2.IsWhole) (arg3 : Memref sig .tc .vmem S1024x512 .bf16) (harg3 : arg3.IsWhole)
    (arg4 : Memref sig .tc .vmem S1280x128 .f32) (harg4 : arg4.IsWhole) (arg5 : Memref sig .tc .vmem S1280x128 .f32) (harg5 : arg5.IsWhole)
    (arg6 : Memref sig .tc .vmem S1280x512 .f32) (harg6 : arg6.IsWhole) (hc0 : ¬cond0_0 i) (hc1 : cond0_1 i) (hc2 : ¬cond0_2 i) (r : Fin 1280) (j : Fin 512) :
    out0_A_4 (F := Ideal) c i arg2 harg2 arg3 harg3 arg4 harg4 arg5 harg5 arg6 harg6 hc0 hc1 hc2 x0 x1 x2 x3 (ix2 r j) = blockTurned x0 x1 x2 x3 r j := by
  have cov := cover0_A_4 (F := Ideal) c i arg2 harg2 arg3 harg3 arg4 harg4 arg5 harg5 arg6 harg6 hc0 hc1 hc2 x0 x1 x2 x3
  unfold out0_A_4
  rw [View.read_writes_eq_canon _ _ _ cov]
  refine (View.canon_apply_of_pieces (S := S1280x512) (fun y => blockTurned x0 x1 x2 x3 (y 0) (y 1)) _ ?_ _ (cov _)).trans rfl
  unfold kernelRun0_A
  dsimp only
  simp only [View.readAt_eq_ld, Memref.IsWhole.read_unread]
  rw [load0, load1, load2, load3]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact piece_at inb_S1280x512_S1280x128_0_384 _ (fun r j => blockTurned x0 x1 x2 x3 r j) fun r l _ => pay7_at x0 x1 x2 x3 r l
  · exact piece_at inb_S1280x512_S1280x128_0_256 _ (fun r j => blockTurned x0 x1 x2 x3 r j) fun r l _ => pay6_at x0 x1 x2 x3 r l
  · exact piece_at inb_S1280x512_S1280x128_0_128 _ (fun r j => blockTurned x0 x1 x2 x3 r j) fun r l _ => pay5_at x0 x1 x2 x3 r l
  · exact piece_at inb_S1280x512_S1280x128_0_0 _ (fun r j => blockTurned x0 x1 x2 x3 r j) fun r l _ => pay4_at x0 x1 x2 x3 r l

/-- The keys' block: the product turned, then scaled. -/
theorem out_B (c : Dev nD) (i : grid0.Coords)
    (arg2 : Memref sig .tc .vmem S1280x1024 .bf16) (harg2 : arg2.IsWhole) (arg3 : Memref sig .tc .vmem S1024x512 .bf16) (harg3 : arg3.IsWhole)
    (arg4 : Memref sig .tc .vmem S1280x128 .f32) (harg4 : arg4.IsWhole) (arg5 : Memref sig .tc .vmem S1280x128 .f32) (harg5 : arg5.IsWhole)
    (arg6 : Memref sig .tc .vmem S1280x512 .f32) (harg6 : arg6.IsWhole) (hc0 : ¬cond0_0 i) (hc1 : ¬cond0_1 i) (hc2 : cond0_2 i) (r : Fin 1280) (j : Fin 512) :
    out0_B_4 (F := Ideal) c i arg2 harg2 arg3 harg3 arg4 harg4 arg5 harg5 arg6 harg6 hc0 hc1 hc2 x0 x1 x2 x3 (ix2 r j) = blockTurned x0 x1 x2 x3 r j * scale := by
  have cov := cover0_B_4 (F := Ideal) c i arg2 harg2 arg3 harg3 arg4 harg4 arg5 harg5 arg6 harg6 hc0 hc1 hc2 x0 x1 x2 x3
  unfold out0_B_4
  rw [View.read_writes_eq_canon _ _ _ cov]
  refine (View.canon_apply_of_pieces (S := S1280x512) (fun y => blockTurned x0 x1 x2 x3 (y 0) (y 1) * scale) _ ?_ _ (cov _)).trans rfl
  unfold kernelRun0_B
  dsimp only
  simp only [View.readAt_eq_ld, Memref.IsWhole.read_unread]
  rw [load0, load1, load2, load3]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact piece_at inb_S1280x512_S1280x128_0_384 _ (fun r j => blockTurned x0 x1 x2 x3 r j * scale) fun r l _ => pay11_at x0 x1 x2 x3 r l
  · exact piece_at inb_S1280x512_S1280x128_0_256 _ (fun r j => blockTurned x0 x1 x2 x3 r j * scale) fun r l _ => pay10_at x0 x1 x2 x3 r l
  · exact piece_at inb_S1280x512_S1280x128_0_128 _ (fun r j => blockTurned x0 x1 x2 x3 r j * scale) fun r l _ => pay9_at x0 x1 x2 x3 r l
  · exact piece_at inb_S1280x512_S1280x128_0_0 _ (fun r j => blockTurned x0 x1 x2 x3 r j * scale) fun r l _ => pay8_at x0 x1 x2 x3 r l

/-- Any other block: the product. -/
theorem out_C (c : Dev nD) (i : grid0.Coords)
    (arg2 : Memref sig .tc .vmem S1280x1024 .bf16) (harg2 : arg2.IsWhole) (arg3 : Memref sig .tc .vmem S1024x512 .bf16) (harg3 : arg3.IsWhole)
    (arg4 : Memref sig .tc .vmem S1280x128 .f32) (harg4 : arg4.IsWhole) (arg5 : Memref sig .tc .vmem S1280x128 .f32) (harg5 : arg5.IsWhole)
    (arg6 : Memref sig .tc .vmem S1280x512 .f32) (harg6 : arg6.IsWhole) (hc0 : cond0_0 i) (hc1 : ¬cond0_1 i) (hc2 : ¬cond0_2 i) (r : Fin 1280) (j : Fin 512) :
    out0_C_4 (F := Ideal) c i arg2 harg2 arg3 harg3 arg4 harg4 arg5 harg5 arg6 harg6 hc0 hc1 hc2 x0 x1 x2 x3 (ix2 r j) = blockProduct x0 x1 r j := by
  have cov := cover0_C_4 (F := Ideal) c i arg2 harg2 arg3 harg3 arg4 harg4 arg5 harg5 arg6 harg6 hc0 hc1 hc2 x0 x1 x2 x3
  unfold out0_C_4
  rw [View.read_writes_eq_canon _ _ _ cov]
  refine (View.canon_apply_of_pieces (S := S1280x512) (fun y => blockProduct x0 x1 (y 0) (y 1)) _ ?_ _ (cov _)).trans rfl
  unfold kernelRun0_C
  dsimp only
  simp only [View.readAt_eq_ld, Memref.IsWhole.read_unread]
  rw [load0, load1]
  refine List.forall_mem_cons.mpr ⟨?_, fun p hp => absurd hp List.not_mem_nil⟩
  exact whole_at inb_S1280x512_S1280x512_0_0 _ (blockProduct x0 x1) (pay1_at x0 x1)

end Cert.AbInIdeal.Hand

end
-- ==== Proof.AbIn.lean ====
/-
  The in-projection of the retention and Hyena layer: the product of the rows and the weights, its first 512 columns
  (the queries) turned by the rotation tables and the next 512 (the keys) turned and scaled, head by head; context rows
  are turned by the tables' ones and zeros, which leave them as they are.
-/
module

public import proofs.«01_k».proof.Proof.AbInBody

@[expose] public section

set_option maxRecDepth 16384

noncomputable section

namespace Cert.AbInIdeal.Hand

open Idealize.ShloMosaic Idealize.ShloMosaic.TcCoe Idealize.ShloMosaic.Tactic Idealize.SL.Sem
open Cert.AbInIdeal Cert.AbInIdeal.Gen
open Idealize.ShloMosaic.Pipeline (Dat)

/-- A column's place in its head, and the column half a head away in the same head. -/
def place (j : Fin 4608) : Fin 128 := ⟨j.val % 128, by omega⟩
def other (j : Fin 4608) : Fin 4608 := ⟨128 * (j.val / 128) + (j.val + 64) % 128, by have := j.isLt; omega⟩

/-- The cosines as the kernel's table lays them out: both halves of a head alike, ones at the context rows. -/
def cosine (cs : S16384x64.Idx → EReal) (i : Fin 16640) (l : Fin 128) : EReal :=
  if hi : i.val < 16384 then
    if hl : l.val < 64 then cs (ix2 ⟨i.val, hi⟩ ⟨l.val, hl⟩) else cs (ix2 ⟨i.val, hi⟩ ⟨l.val - 64, by have := l.isLt; omega⟩)
  else 1

/-- The sines: the first half of a head with the sign changed, zeros at the context rows. -/
def sine (sn : S16384x64.Idx → EReal) (i : Fin 16640) (l : Fin 128) : EReal :=
  if hi : i.val < 16384 then
    if hl : l.val < 64 then -sn (ix2 ⟨i.val, hi⟩ ⟨l.val, hl⟩) else sn (ix2 ⟨i.val, hi⟩ ⟨l.val - 64, by have := l.isLt; omega⟩)
  else 0

/-- The product of the rows and the weights. -/
def product (h : S16640x1024.Idx → EReal) (w : S1024x4608.Idx → EReal) (i : Fin 16640) (j : Fin 4608) : EReal :=
  ∑ d : Fin 1024, h (ix2 i d) * w (ix2 d j)

/-- A row turned: every column times its cosine, plus the column half a head away times its sine. -/
def turned (cs sn : S16384x64.Idx → EReal) (p : Fin 4608 → EReal) (i : Fin 16640) (j : Fin 4608) : EReal :=
  p j * cosine cs i (place j) + p (other j) * sine sn i (place j)

/-- The result: queries turned, keys turned and scaled, the other columns plain. -/
def result (h : S16640x1024.Idx → EReal) (w : S1024x4608.Idx → EReal) (cs sn : S16384x64.Idx → EReal) : S16640x4608.Idx → EReal :=
  fun i => if (i 1).val < 512 then turned cs sn (product h w (i 0)) (i 0) (i 1)
    else if (i 1).val < 1024 then turned cs sn (product h w (i 0)) (i 0) (i 1) * scale
    else product h w (i 0) (i 1)

variable (m : (ℓ : Loc nD τ sig) → Buf (Elt Ideal) ℓ) (c : Dev nD)

/-- The four arguments as arrays. -/
abbrev argH : S16640x1024.Idx → EReal := m ((c : Thread nD τ).loc main_arg0)
abbrev argW : S1024x4608.Idx → EReal := m ((c : Thread nD τ).loc main_arg1)
abbrev argC : S16384x64.Idx → EReal := m ((c : Thread nD τ).loc main_arg2)
abbrev argS : S16384x64.Idx → EReal := m ((c : Thread nD τ).loc main_arg3)

theorem h_at (i : Fin 16640) (d : Fin 1024) : (V m c main_v7 : S16640x1024.Idx → EReal) (ix2 i d) = argH m c (ix2 i d) := by
  unfold V
  after_results
  pointwise

theorem w_at (d : Fin 1024) (j : Fin 4608) : (V m c main_v8 : S1024x4608.Idx → EReal) (ix2 d j) = argW m c (ix2 d j) := by
  unfold V
  after_results
  pointwise

theorem cos_at (i : Fin 16640) (l : Fin 128) : (V m c main_v4 : S16640x128.Idx → EReal) (ix2 i l) = cosine (argC m c) i l := by
  unfold V cosine
  after_results
  clean_types
  pointwise

theorem sin_at (i : Fin 16640) (l : Fin 128) : (V m c main_v6 : S16640x128.Idx → EReal) (ix2 i l) = sine (argS m c) i l := by
  unfold V sine
  after_results
  clean_types
  pointwise

/-! ## Where the blocks lie -/

theorem idx0_0 : ∀ t : Fin cfg0.N, win0_0.index t (0 : Fin 2) = t.val / 9 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = t.val % 9 :=
  (by decide +kernel : ∀ t : Fin grid0.N, _)
theorem idx0_2 : ∀ t : Fin cfg0.N, win0_2.index t (0 : Fin 2) = t.val / 9 ∧ win0_2.index t (1 : Fin 2) = 0 :=
  (by decide +kernel : ∀ t : Fin grid0.N, _)
theorem idx0_3 : ∀ t : Fin cfg0.N, win0_3.index t (0 : Fin 2) = t.val / 9 ∧ win0_3.index t (1 : Fin 2) = 0 :=
  (by decide +kernel : ∀ t : Fin grid0.N, _)
theorem idx0_4 : ∀ t : Fin cfg0.N, win0_4.index t (0 : Fin 2) = t.val / 9 ∧ win0_4.index t (1 : Fin 2) = t.val % 9 :=
  (by decide +kernel : ∀ t : Fin grid0.N, _)

theorem lt_points (t : Fin cfg0.N) : t.val < 117 := lt_of_lt_of_eq t.isLt (by decide)

/-- Row `r` of a point's rows, and column `j` of its columns. -/
def row (t : Fin cfg0.N) (r : Fin 1280) : Fin 16640 := ⟨1280 * (t.val / 9) + r.val, by have := lt_points t; have := r.isLt; omega⟩
def col (t : Fin cfg0.N) (j : Fin 512) : Fin 4608 := ⟨512 * (t.val % 9) + j.val, by have := j.isLt; omega⟩

theorem place_col (t : Fin cfg0.N) (j : Fin 512) : place (col t j) = lane j := by
  apply Fin.ext; show (512 * (t.val % 9) + j.val) % 128 = j.val % 128; omega

theorem other_col (t : Fin cfg0.N) (j : Fin 512) : other (col t j) = col t (partner j) := by
  apply Fin.ext
  show 128 * ((512 * (t.val % 9) + j.val) / 128) + (512 * (t.val % 9) + j.val + 64) % 128
    = 512 * (t.val % 9) + (128 * (j.val / 128) + (j.val + 64) % 128)
  omega

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * (t.val / 9) + r.val; omega
  | ⟨1, _⟩ => show win0_0.index t (1 : Fin 2) * 1024 + 1 * d.val = d.val; omega

theorem emb0_1 (t : Fin cfg0.N) (d : Fin 1024) (j : Fin 512) :
    ((cfg0.win 1).blk t).view.emb (ix2 d j) = (ix2 d (col t j) : S1024x4608.Idx) := by
  obtain ⟨e0, e1⟩ := idx0_1 t
  funext a; apply Fin.ext
  match a with
  | ⟨0, _⟩ => show win0_1.index t (0 : Fin 2) * 1024 + 1 * d.val = d.val; omega
  | ⟨1, _⟩ => show win0_1.index t (1 : Fin 2) * 512 + 1 * j.val = 512 * (t.val % 9) + j.val; omega

theorem emb0_2 (t : Fin cfg0.N) (r : Fin 1280) (l : Fin 128) :
    ((cfg0.win 2).blk t).view.emb (ix2 r l) = (ix2 (row t r) l : S16640x128.Idx) := by
  obtain ⟨e0, e1⟩ := idx0_2 t
  funext a; apply Fin.ext
  match a with
  | ⟨0, _⟩ => show win0_2.index t (0 : Fin 2) * 1280 + 1 * r.val = 1280 * (t.val / 9) + r.val; omega
  | ⟨1, _⟩ => show win0_2.index t (1 : Fin 2) * 128 + 1 * l.val = l.val; omega

theorem emb0_3 (t : Fin cfg0.N) (r : Fin 1280) (l : Fin 128) :
    ((cfg0.win 3).blk t).view.emb (ix2 r l) = (ix2 (row t r) l : S16640x128.Idx) := by
  obtain ⟨e0, e1⟩ := idx0_3 t
  funext a; apply Fin.ext
  match a with
  | ⟨0, _⟩ => show win0_3.index t (0 : Fin 2) * 1280 + 1 * r.val = 1280 * (t.val / 9) + r.val; omega
  | ⟨1, _⟩ => show win0_3.index t (1 : Fin 2) * 128 + 1 * l.val = l.val; omega

theorem emb0_4 (t : Fin cfg0.N) (r : Fin 1280) (j : Fin 512) :
    ((cfg0.win 4).blk t).view.emb (ix2 r j) = (ix2 (row t r) (col t j) : S16640x4608.Idx) := by
  obtain ⟨e0, e1⟩ := idx0_4 t
  funext a; apply Fin.ext
  match a with
  | ⟨0, _⟩ => show win0_4.index t (0 : Fin 2) * 1280 + 1 * r.val = 1280 * (t.val / 9) + r.val; omega
  | ⟨1, _⟩ => show win0_4.index t (1 : Fin 2) * 512 + 1 * j.val = 512 * (t.val % 9) + j.val; omega

theorem mem_blk (t : Fin cfg0.N) (y : S16640x4608.Idx) :
    y ∈ ((cfg0.win 4).blk t).view.set ↔ ∀ a : Fin 2,
      win0_4.index t a * S1280x512.size a ≤ (y a).val ∧ (y a).val < win0_4.index t a * S1280x512.size a + S1280x512.size a := by
  show y ∈ ((View.whole main_v9).slice (win0_4.rect t)).set ↔ _
  rw [View.set_slice_whole, Rect.mem_set_unit]
  exact Iff.rfl

/-- The blocks written back tile the result. -/
theorem cover (y : S16640x4608.Idx) :
    ∃ t : Fin cfg0.N, (cfg0.win 4).flush t = true ∧ y ∈ ((cfg0.win 4).blk t).view.set := by
  have h0 : (y 0).val < 16640 := (y 0).isLt
  have h1 : (y 1).val < 4608 := (y 1).isLt
  have hN : cfg0.N = 117 := by decide
  refine ⟨⟨(y 0).val / 1280 * 9 + (y 1).val / 512, by omega⟩, flush0_4 _, ?_⟩
  rw [mem_blk]
  obtain ⟨e0, e1⟩ := idx0_4 ⟨(y 0).val / 1280 * 9 + (y 1).val / 512, by omega⟩
  intro a
  match a with
  | ⟨0, _⟩ =>
    show win0_4.index _ (0 : Fin 2) * 1280 ≤ (y 0).val ∧ (y 0).val < win0_4.index _ (0 : Fin 2) * 1280 + 1280
    rw [e0]; dsimp only; omega
  | ⟨1, _⟩ =>
    show win0_4.index _ (1 : Fin 2) * 512 ≤ (y 1).val ∧ (y 1).val < win0_4.index _ (1 : Fin 2) * 512 + 512
    rw [e1]; dsimp only; omega

/-! ## The blocks -/

theorem blk_h (t : Fin cfg0.N) (r : Fin 1280) (d : Fin 1024) :
    (iblk m c 0 t : S1280x1024.Idx → EReal) (ix2 r d) = argH m c (ix2 (row t r) d) :=
  (congrArg (V m c main_v7 : S16640x1024.Idx → EReal) (emb0_0 t r d)).trans (h_at m c _ _)

theorem blk_w (t : Fin cfg0.N) (d : Fin 1024) (j : Fin 512) :
    (iblk m c 1 t : S1024x512.Idx → EReal) (ix2 d j) = argW m c (ix2 d (col t j)) :=
  (congrArg (V m c main_v8 : S1024x4608.Idx → EReal) (emb0_1 t d j)).trans (w_at m c _ _)

theorem blk_cos (t : Fin cfg0.N) (r : Fin 1280) (l : Fin 128) :
    (iblk m c 2 t : S1280x128.Idx → EReal) (ix2 r l) = cosine (argC m c) (row t r) l :=
  (congrArg (V m c main_v4 : S16640x128.Idx → EReal) (emb0_2 t r l)).trans (cos_at m c _ _)

theorem blk_sin (t : Fin cfg0.N) (r : Fin 1280) (l : Fin 128) :
    (iblk m c 3 t : S1280x128.Idx → EReal) (ix2 r l) = sine (argS m c) (row t r) l :=
  (congrArg (V m c main_v6 : S16640x128.Idx → EReal) (emb0_3 t r l)).trans (sin_at m c _ _)

theorem blk_product (t : Fin cfg0.N) (r : Fin 1280) (j : Fin 512) :
    blockProduct (iblk m c 0 t) (iblk m c 1 t) r j = product (argH m c) (argW m c) (row t r) (col t j) :=
  Finset.sum_congr rfl fun d _ => congrArg₂ (· * ·) (blk_h m c t r d) (blk_w m c t d j)

theorem blk_turned (t : Fin cfg0.N) (r : Fin 1280) (j : Fin 512) :
    blockTurned (iblk m c 0 t) (iblk m c 1 t) (iblk m c 2 t) (iblk m c 3 t) r j
      = turned (argC m c) (argS m c) (product (argH m c) (argW m c) (row t r)) (row t r) (col t j) := by
  unfold blockTurned turned
  rw [place_col, other_col, blk_product, blk_product, blk_cos, blk_sin]

theorem block_eq (t : Fin cfg0.N) :
    (dats m 0 c).flushed 4 t = ((cfg0.win 4).blk t).view.read (Elt Ideal) (result (argH m c) (argW m c) (argC m c) (argS m c)) := by
  refine funext fun y => ?_
  obtain ⟨r, j, rfl⟩ : ∃ r j, y = (ix2 r j : S1280x512.Idx) := ⟨y 0, y 1, by funext a; fin_cases a <;> rfl⟩
  refine Eq.trans ?_ (congrArg (result (argH m c) (argW m c) (argC m c) (argS m c)) (emb0_4 t r j)).symm
  have hj := j.isLt
  have hc : (col t j).val = 512 * (t.val % 9) + j.val := rfl
  show _ = if (col t j).val < 512 then turned (argC m c) (argS m c) (product (argH m c) (argW m c) (row t r)) (row t r) (col t j)
    else if (col t j).val < 1024 then turned (argC m c) (argS m c) (product (argH m c) (argW m c) (row t r)) (row t r) (col t j) * scale
    else product (argH m c) (argW m c) (row t r) (col t j)
  by_cases h1 : t.val % 9 = 0
  · rw [if_pos (by omega), Value.flushed4_A m c t (by omega) h1 (by omega)]
    exact (out_A _ _ _ _ c _ _ _ _ _ _ _ _ _ _ _ _ _ _ r j).trans (blk_turned m c t r j)
  by_cases h2 : t.val % 9 = 1
  · rw [if_neg (by omega), if_pos (by omega), Value.flushed4_B m c t (by omega) h1 h2]
    exact (out_B _ _ _ _ c _ _ _ _ _ _ _ _ _ _ _ _ _ _ r j).trans (congrArg (· * scale) (blk_turned m c t r j))
  · rw [if_neg (by omega), if_neg (by omega), Value.flushed4_C m c t (by omega) h1 h2]
    exact (out_C _ _ _ _ c _ _ _ _ _ _ _ _ _ _ _ _ _ _ r j).trans (blk_product m c t r j)

theorem array_eq : (dats m 0 c).arrAt 4 cfg0.N = result (argH m c) (argW m c) (argC m c) (argS m c) :=
  (dats m 0 c).arrAt_eq_of_cover 4 _ (fun t _ => block_eq m c t) cover

end Cert.AbInIdeal.Hand

end
-- ==== Proof.AbInReference.lean ====
/-
  The reference of the retention and Hyena layer's in-projection, step by step: the two halves of a head turned against
  each other, the latent rows alone. It is the kernel's value: a table of ones and zeros leaves the context rows as they
  are, a product with a changed sign is a difference, and a positive real factor may be taken out of a sum.
-/
module

public import proofs.«01_k».proof.Proof.AbIn
public import proofs.«01_k».proof.Proof.Gen.AbInRefIdeal.Run

@[expose] public section

set_option maxRecDepth 16384

noncomputable section

namespace Cert.AbInRefIdeal.Hand

open Idealize.ShloMosaic Idealize.ShloMosaic.TcCoe Idealize.ShloMosaic.Tactic
open Cert.AbInRefIdeal Cert.AbInRefIdeal.Gen
open Cert.AbInIdeal.Hand (cosine sine scale place other turned)

variable {F : FTy → Type} [FloatOps F]

/-- A table's half head, the same at every head. -/
def table (x : (⟨S16384x64, .f32⟩ : BufTy).Contents (Elt F)) : (⟨S16384x4x64, .f32⟩ : BufTy).Contents (Elt F) :=
  broadcastInDim S16384x4x64 ![0, 1, 2] bcast_S16384x1x64_S16384x4x64_0_1_2
    (shapeCast S16384x1x64 x shapeCasts_S16384x64_S16384x1x64)

/-- The latent rows, and the two halves of their heads. -/
def latent (x : (⟨S16640x4x128, .f32⟩ : BufTy).Contents (Elt F)) : (⟨S16384x4x128, .f32⟩ : BufTy).Contents (Elt F) :=
  extractStridedSlice S16384x4x128 ![0, 0, 0] x slices_S16640x4x128_S16384x4x128_0_0_0
def firstHalf (x : (⟨S16640x4x128, .f32⟩ : BufTy).Contents (Elt F)) : (⟨S16384x4x64, .f32⟩ : BufTy).Contents (Elt F) :=
  extractStridedSlice S16384x4x64 ![0, 0, 0] (latent x) slices_S16384x4x128_S16384x4x64_0_0_0
def secondHalf (x : (⟨S16640x4x128, .f32⟩ : BufTy).Contents (Elt F)) : (⟨S16384x4x64, .f32⟩ : BufTy).Contents (Elt F) :=
  extractStridedSlice S16384x4x64 ![0, 0, 64] (latent x) slices_S16384x4x128_S16384x4x64_0_0_64

/-- The two halves after the rotation. -/
def firstTurned (x : (⟨S16640x4x128, .f32⟩ : BufTy).Contents (Elt F)) (cs sn : (⟨S16384x64, .f32⟩ : BufTy).Contents (Elt F)) :
    (⟨S16384x4x64, .f32⟩ : BufTy).Contents (Elt F) :=
  subf (mulf (firstHalf x) (table cs)) (mulf (secondHalf x) (table sn))
def secondTurned (x : (⟨S16640x4x128, .f32⟩ : BufTy).Contents (Elt F)) (cs sn : (⟨S16384x64, .f32⟩ : BufTy).Contents (Elt F)) :
    (⟨S16384x4x64, .f32⟩ : BufTy).Contents (Elt F) :=
  addf (mulf (secondHalf x) (table cs)) (mulf (firstHalf x) (table sn))

/-- Latent rows turned, context rows plain. -/
def rotated (x : (⟨S16640x4x128, .f32⟩ : BufTy).Contents (Elt F)) (cs sn : (⟨S16384x64, .f32⟩ : BufTy).Contents (Elt F)) :
    (⟨S16640x4x128, .f32⟩ : BufTy).Contents (Elt F) :=
  concatenate S16640x4x128 0
    [⟨S16384x4x128, concatenate S16384x4x128 2 [⟨S16384x4x64, firstTurned x cs sn⟩, ⟨S16384x4x64, secondTurned x cs sn⟩]
        concatenates_S16384x4x64_S16384x4x64_S16384x4x128_d2⟩,
      ⟨S256x4x128, extractStridedSlice S256x4x128 ![16384, 0, 0] x slices_S16640x4x128_S256x4x128_16384_0_0⟩]
    concatenates_S16384x4x128_S256x4x128_S16640x4x128_d0

/-- The product, its queries as heads, and its keys as heads, scaled. -/
def product (h : (⟨S16640x1024, .f32⟩ : BufTy).Contents (Elt F)) (w : (⟨S1024x4608, .f32⟩ : BufTy).Contents (Elt F)) :
    (⟨S16640x4608, .f32⟩ : BufTy).Contents (Elt F) :=
  Host.dotGeneral dot_S16640x1024_S1024x4608_S16640x4608_1_0_0_1_n_n none h w
def queries (p : (⟨S16640x4608, .f32⟩ : BufTy).Contents (Elt F)) : (⟨S16640x4x128, .f32⟩ : BufTy).Contents (Elt F) :=
  shapeCast S16640x4x128 (extractStridedSlice S16640x512 ![0, 0] p slices_S16640x4608_S16640x512_0_0) shapeCasts_S16640x512_S16640x4x128
def keys (p : (⟨S16640x4608, .f32⟩ : BufTy).Contents (Elt F)) : (⟨S16640x4x128, .f32⟩ : BufTy).Contents (Elt F) :=
  mulf (shapeCast S16640x4x128 (extractStridedSlice S16640x512 ![0, 512] p slices_S16640x4608_S16640x512_0_512) shapeCasts_S16640x512_S16640x4x128)
    (broadcastInDim S16640x4x128 ![] bcast_S_S16640x4x128 (constant S_ .f32 0x3DB504F3#32))

/-- The five parts side by side again. -/
def joined (q k : (⟨S16640x4x128, .f32⟩ : BufTy).Contents (Elt F)) (p : (⟨S16640x4608, .f32⟩ : BufTy).Contents (Elt F)) :
    (⟨S16640x4608, .f32⟩ : BufTy).Contents (Elt F) :=
  concatenate S16640x4608 1
    [⟨S16640x512, shapeCast S16640x512 q shapeCasts_S16640x4x128_S16640x512⟩,
      ⟨S16640x512, shapeCast S16640x512 k shapeCasts_S16640x4x128_S16640x512⟩,
      ⟨S16640x1024, extractStridedSlice S16640x1024 ![0, 1024] p slices_S16640x4608_S16640x1024_0_1024⟩,
      ⟨S16640x1024, extractStridedSlice S16640x1024 ![0, 2048] p slices_S16640x4608_S16640x1024_0_2048⟩,
      ⟨S16640x1536, extractStridedSlice S16640x1536 ![0, 3072] p slices_S16640x4608_S16640x1536_0_3072⟩]
    concatenates_S16640x512_S16640x512_S16640x1024_S16640x1024_S16640x1536_S16640x4608_d1

/-- The whole result. -/
def whole (h : (⟨S16640x1024, .f32⟩ : BufTy).Contents (Elt F)) (w : (⟨S1024x4608, .f32⟩ : BufTy).Contents (Elt F))
    (cs sn : (⟨S16384x64, .f32⟩ : BufTy).Contents (Elt F)) : (⟨S16640x4608, .f32⟩ : BufTy).Contents (Elt F) :=
  joined (rotated (queries (product h w)) cs sn) (rotated (keys (product h w)) cs sn) (product h w)

/-! ## Read at an index -/

theorem rotated_at (x : S16640x4x128.Idx → EReal) (cs sn : S16384x64.Idx → EReal) (i : Fin 16640) (a : Fin 4) (l : Fin 128) :
    rotated (F := Ideal) x cs sn (ix3 i a l)
      = x (ix3 i a l) * cosine cs i l + x (ix3 i a ⟨(l.val + 64) % 128, by omega⟩) * sine sn i l := by
  have hl := l.isLt
  have hi := i.isLt
  unfold cosine sine
  pointwise [rotated, firstTurned, secondTurned, firstHalf, secondHalf, latent, table]
  by_cases h1 : i.val < 16384
  · by_cases h2 : l.val < 64
    · have e : ∀ hh, (⟨(l.val + 64) % 128, hh⟩ : Fin 128) = ⟨64 + l.val, by omega⟩ := fun _ => Fin.ext (by dsimp only; omega)
      simp only [h1, h2, ↓reduceDIte, e]
      rw [mul_neg, sub_eq_add_neg]
    · have e : ∀ hh, (⟨(l.val + 64) % 128, hh⟩ : Fin 128) = ⟨l.val - 64, by omega⟩ := fun _ => Fin.ext (by dsimp only; omega)
      have e' : ∀ hh, (⟨64 + (l.val - 64), hh⟩ : Fin 128) = l := fun _ => Fin.ext (by dsimp only; omega)
      simp only [h1, h2, ↓reduceDIte, e, e']
  · have e : ∀ hh, (⟨16384 + (i.val - 16384), hh⟩ : Fin 16640) = i := fun _ => Fin.ext (by dsimp only; omega)
    simp only [h1, ↓reduceDIte, e, mul_one, mul_zero, add_zero]

theorem product_at (h : S16640x1024.Idx → EReal) (w : S1024x4608.Idx → EReal) (i : Fin 16640) (j : Fin 4608) :
    product (F := Ideal) h w (ix2 i j) = Cert.AbInIdeal.Hand.product h w i j := by
  unfold Cert.AbInIdeal.Hand.product
  pointwise [product]

theorem queries_at (p : S16640x4608.Idx → EReal) (i : Fin 16640) (a : Fin 4) (l : Fin 128) :
    queries (F := Ideal) p (ix3 i a l) = p (ix2 i ⟨128 * a.val + l.val, by have := a.isLt; have := l.isLt; omega⟩) := by
  pointwise [queries]
  exact congrArg (fun z => p (ix2 i z)) (Fin.ext (by dsimp only; omega))

theorem keys_at (p : S16640x4608.Idx → EReal) (i : Fin 16640) (a : Fin 4) (l : Fin 128) :
    keys (F := Ideal) p (ix3 i a l) = p (ix2 i ⟨512 + 128 * a.val + l.val, by have := a.isLt; have := l.isLt; omega⟩) * scale := by
  unfold scale
  pointwise [keys]
  exact congrArg (fun z => p (ix2 i z) * scale) (Fin.ext (by dsimp only; omega))

theorem joined_at (q k : S16640x4x128.Idx → EReal) (p : S16640x4608.Idx → EReal) (i : Fin 16640) (j : Fin 4608) :
    joined (F := Ideal) q k p (ix2 i j)
      = if hq : j.val < 512 then q (ix3 i ⟨j.val / 128, by omega⟩ ⟨j.val % 128, by omega⟩)
        else if hk : j.val < 1024 then k (ix3 i ⟨(j.val - 512) / 128, by omega⟩ ⟨(j.val - 512) % 128, by omega⟩)
        else p (ix2 i j) := by
  pointwise [joined]
  have hj := j.isLt
  by_cases h1 : j.val < 512
  · rw [dif_pos h1, dif_pos h1]
  by_cases h2 : j.val < 1024
  · rw [dif_neg h1, dif_neg h1, dif_pos (by omega), dif_pos h2]
  rw [dif_neg h1, dif_neg h1, dif_neg (by omega), dif_neg h2]
  split
  · exact congrArg (fun z => p (ix2 i z)) (Fin.ext (by dsimp only; omega))
  split
  · exact congrArg (fun z => p (ix2 i z)) (Fin.ext (by dsimp only; omega))
  · exact congrArg (fun z => p (ix2 i z)) (Fin.ext (by dsimp only; omega))

/-- The keys' factor is a nonnegative real. -/
theorem scale_nonneg : 0 ≤ scale := by
  unfold scale
  simp [Ideal.ofBits, Ideal.ieee]
  rw [← EReal.coe_mul]
  exact EReal.coe_nonneg.2 (by positivity)

theorem scale_ne_top : scale ≠ ⊤ := by
  unfold scale
  simp [Ideal.ofBits, Ideal.ieee]
  rw [← EReal.coe_mul]
  exact EReal.coe_ne_top _

/-! ## The kernel's value -/

/-- A rotated head of the reference, at a column of the array. -/
theorem rotated_eq (x : S16640x4x128.Idx → EReal) (cs sn : S16384x64.Idx → EReal) (p : Fin 4608 → EReal) (i : Fin 16640) (j : Fin 4608)
    (o : ℕ) (ho : o % 128 = 0) (h1 : o ≤ j.val) (h2 : j.val < o + 512)
    (hx : ∀ (a : Fin 4) (l : Fin 128) (h : o + 128 * a.val + l.val < 4608), x (ix3 i a l) = p ⟨o + 128 * a.val + l.val, h⟩) :
    rotated (F := Ideal) x cs sn (ix3 i ⟨(j.val - o) / 128, by omega⟩ ⟨(j.val - o) % 128, by omega⟩) = turned cs sn p i j := by
  have hj := j.isLt
  rw [rotated_at]
  unfold turned
  have e : place j = ⟨(j.val - o) % 128, by omega⟩ := Fin.ext (by show j.val % 128 = (j.val - o) % 128; omega)
  rw [e, hx _ _ (by dsimp only; omega), hx _ _ (by dsimp only; omega)]
  refine congrArg₂ (· + ·) (congrArg (fun z => p z * _) (Fin.ext ?_)) (congrArg (fun z => p z * _) (Fin.ext ?_))
  · dsimp only; omega
  · show o + 128 * ((j.val - o) / 128) + ((j.val - o) % 128 + 64) % 128 = 128 * (j.val / 128) + (j.val + 64) % 128
    omega

/-- A scaled row turned is the turned row scaled. -/
theorem turned_scaled (cs sn : S16384x64.Idx → EReal) (p : Fin 4608 → EReal) (i : Fin 16640) (j : Fin 4608) :
    turned cs sn (fun k => p k * scale) i j = turned cs sn p i j * scale := by
  unfold turned
  rw [EReal.right_distrib_of_nonneg_of_ne_top scale_nonneg scale_ne_top, mul_right_comm, mul_right_comm (p (other j))]

theorem reference_eq (h : S16640x1024.Idx → EReal) (w : S1024x4608.Idx → EReal) (cs sn : S16384x64.Idx → EReal) :
    whole (F := Ideal) h w cs sn = Cert.AbInIdeal.Hand.result h w cs sn := by
  funext i
  obtain ⟨r, j, rfl⟩ : ∃ r j, i = (ix2 r j : S16640x4608.Idx) := ⟨i 0, i 1, by funext a; fin_cases a <;> rfl⟩
  refine (joined_at _ _ _ r j).trans ?_
  show _ = if j.val < 512 then turned cs sn (Cert.AbInIdeal.Hand.product h w r) r j
    else if j.val < 1024 then turned cs sn (Cert.AbInIdeal.Hand.product h w r) r j * scale
    else Cert.AbInIdeal.Hand.product h w r j
  by_cases h1 : j.val < 512
  · rw [dif_pos h1, if_pos h1]
    refine rotated_eq _ cs sn _ r j 0 (by decide) (Nat.zero_le _) (by omega) fun a l hh => ?_
    refine (queries_at _ r a l).trans ((product_at h w r _).trans (congrArg (Cert.AbInIdeal.Hand.product h w r) (Fin.ext ?_)))
    dsimp only; omega
  by_cases h2 : j.val < 1024
  · rw [dif_neg h1, dif_pos h2, if_neg h1, if_pos h2, ← turned_scaled]
    refine rotated_eq _ cs sn _ r j 512 (by decide) (by omega) (by omega) fun a l hh => ?_
    exact (keys_at _ r a l).trans (congrArg (· * scale) (product_at h w r _))
  · rw [dif_neg h1, dif_neg h2, if_neg h1, if_neg h2]
    exact product_at h w r j

end Cert.AbInRefIdeal.Hand

end
-- ==== Proof.MoeOutBody.lean ====
/-
  The body of the call that ends the mixture of experts: at a block of 256 rows it forms the shared expert's output, adds
  the eight chosen experts' rows with their weights, and takes the gated step of the stream. It stores the left and the
  right half of the columns one by one; a word of an expert's row holds an entry of each half.
-/
module

public import proofs.«01_k».proof.Proof.Gen.MoeOutIdeal.Frame
public import Idealize.ShloMosaic.Lib.Pointwise
public import Idealize.ShloMosaic.Lib.Pipeline.ValueKit
public import Idealize.ShloMosaic.Lib.Tactic.CleanTypes

@[expose] public section

set_option maxRecDepth 16384

noncomputable section

namespace Cert.MoeOutIdeal.Hand

open Idealize.ShloMosaic Idealize.ShloMosaic.TcCoe Idealize.ShloMosaic.Tactic Idealize.SL.Sem
open Cert.MoeOutIdeal Cert.MoeOutIdeal.Gen

/-- The word that holds column `j`, and what it holds of it: its low half on the left, its high half on the right. -/
def word (j : Fin 1024) : Fin 512 := ⟨j.val % 512, by omega⟩
def half (w : BitVec 32) (j : Fin 1024) : EReal :=
  if j.val < 512 then Ideal.ofBits .f32 (IntOp.shli .vector w 16#32) else Ideal.ofBits .f32 (IntOp.andi w 4294901760#32)

/-- The shared expert: the gated hidden entry `f` of a row, from the row's two products. -/
def gateUp (a u : EReal) : EReal := a * Ideal.logistic a * u

variable (x0 : S8x256x512.Idx → BitVec 32) (x1 : S8x256.Idx → EReal) (x2 : S256x1024.Idx → EReal) (x3 x4 : S1024x256.Idx → EReal)
variable (x5 : S256x1024.Idx → EReal) (x6 : S256x1024.Idx → EReal) (x7 : S2x6x1024.Idx → EReal)

/-- A row's entry before the step: the shared expert's and the chosen experts'. -/
def blockSum (r : Fin 256) (j : Fin 1024) : EReal :=
  (∑ f : Fin 256, gateUp (∑ d : Fin 1024, x2 (ix2 r d) * x3 (ix2 d f)) (∑ d : Fin 1024, x2 (ix2 r d) * x4 (ix2 d f)) * x5 (ix2 f j))
    + ∑ k : Fin 8, x1 (ix2 k r) * half (x0 (ix3 k r (word j))) j

/-- The entry after the step, in the block of rows `b`. -/
def blockOut (b : ℕ) (r : Fin 256) (j : Fin 1024) : EReal :=
  x6 (ix2 r j) + (if 256 * b + r.val < 16384 then x7 (ix3 1 5 j) else x7 (ix3 0 5 j)) * blockSum x0 x1 x2 x3 x4 x5 r j

theorem word_left (l : Fin 512) (h : l.val < 1024) : word ⟨l.val, h⟩ = l := Fin.ext (Nat.mod_eq_of_lt l.isLt)
theorem word_right (l : Fin 512) (h : 512 + l.val < 1024) : word ⟨512 + l.val, h⟩ = l := by
  apply Fin.ext; show (512 + l.val) % 512 = l.val; have := l.isLt; omega
theorem half_left (w : BitVec 32) (l : Fin 512) (h : l.val < 1024) : half w ⟨l.val, h⟩ = Ideal.ofBits .f32 (IntOp.shli .vector w 16#32) :=
  if_pos l.isLt
theorem half_right (w : BitVec 32) (l : Fin 512) (h : 512 + l.val < 1024) :
    half w ⟨512 + l.val, h⟩ = Ideal.ofBits .f32 (IntOp.andi w 4294901760#32) :=
  if_neg (by show ¬ 512 + l.val < 512; omega)

/-- The row's kind, as the body decides it on words. -/
theorem is_ctx (o a r : ℕ) (ho : o ≤ 35) (ha : a < 35) (hr : r < 256) :
    IntOp.cmpi .sge (IntOp.addi (Scalar.muli (Scalar.addi (BitVec.ofNat 32 o) (BitVec.ofNat 32 a)) 256#32) (BitVec.ofNat 32 r)) 16384#32
      = if 256 * (o + a) + r < 16384 then 0#1 else 1#1 := by
  have e : IntOp.addi (Scalar.muli (Scalar.addi (BitVec.ofNat 32 o) (BitVec.ofNat 32 a)) 256#32) (BitVec.ofNat 32 r)
      = BitVec.ofNat 32 (256 * (o + a) + r) := by
    show (BitVec.ofNat 32 o + BitVec.ofNat 32 a) * 256#32 + BitVec.ofNat 32 r = _
    apply BitVec.eq_of_toNat_eq
    simp
    omega
  rw [e]
  have hm : (256 * (o + a) + r) % 4294967296 = 256 * (o + a) + r := by omega
  have hi : (BitVec.ofNat 32 (256 * (o + a) + r)).toInt = ((256 * (o + a) + r : ℕ) : ℤ) := by
    rw [BitVec.toInt_eq_toNat_of_lt] <;> rw [BitVec.toNat_ofNat, hm]
    omega
  show BitVec.ofBool (BitVec.sle 16384#32 (BitVec.ofNat 32 (256 * (o + a) + r))) = _
  have hk : (16384#32 : BitVec 32).toInt = 16384 := rfl
  unfold BitVec.sle
  rw [hi, hk]
  split
  · rw [decide_eq_false (by omega)]; rfl
  · rw [decide_eq_true (by omega)]; rfl

/-- A store of 512 columns, half by half, of one function of the block's rows and columns. -/
theorem piece_at {o : ℕ} (inb : ∀ a, (![0, o] : Fin 2 → ℕ) a + S256x512.size a ≤ S256x1024.size a) (w : S256x512.Idx → EReal)
    (G : Fin 256 → Fin 1024 → EReal) (hw : ∀ (r : Fin 256) (l : Fin 512) (h : o + l.val < 1024), w (ix2 r l) = G r ⟨o + l.val, h⟩)
    (x : S256x512.Idx) :
    w x = G ((Rect.unit (s := S256x1024) ![0, o] S256x512.size inb).emb x 0) ((Rect.unit (s := S256x1024) ![0, o] S256x512.size inb).emb x 1) := by
  obtain ⟨r, l, rfl⟩ : ∃ r l, x = (ix2 r l : S256x512.Idx) := ⟨x 0, x 1, by funext a; fin_cases a <;> rfl⟩
  have hb : o + 512 ≤ 1024 := inb 1
  refine (hw r l (by have := l.isLt; omega)).trans (congrArg₂ G (Fin.ext ?_) (Fin.ext ?_))
  · show r.val = 0 + 1 * r.val; omega
  · show o + l.val = o + 1 * l.val; omega

/-- The modulation's row a row takes, as the body decides it and in words. -/
theorem gate (o a r : ℕ) (ho : o ≤ 35) (ha : a < 35) (hr : r < 256) (u v : EReal) :
    Scalar.select (IntOp.cmpi .sge (IntOp.addi (Scalar.muli (Scalar.addi (BitVec.ofNat 32 o) (BitVec.ofNat 32 a)) 256#32) (BitVec.ofNat 32 r)) 16384#32) u v
      = if 256 * (o + a) + r < 16384 then v else u := by
  rw [is_ctx o a r ho ha hr]
  by_cases h : 256 * (o + a) + r < 16384
  · rw [if_pos h, if_pos h]; rfl
  · rw [if_neg h, if_neg h]; rfl

/-- The first call's block. -/
theorem out_first (i : grid0.Coords) (r : Fin 256) (j : Fin 1024) :
    out0_8 (F := Ideal) i x0 x1 x2 x3 x4 x5 x6 x7 (ix2 r j) = blockOut x0 x1 x2 x3 x4 x5 x6 x7 (0 + (i 0).val) r j := by
  unfold_out out0_8
  refine (View.canon_apply_of_pieces (S := S256x1024) (fun y => blockOut x0 x1 x2 x3 x4 x5 x6 x7 (0 + (i 0).val) (y 0) (y 1)) _ ?_ _ (cover0_8 _ _ _)).trans rfl
  refine List.forall_mem_cons.mpr ⟨?_, List.forall_mem_cons.mpr ⟨?_, fun p hp => absurd hp List.not_mem_nil⟩⟩
  · refine piece_at inb_S256x1024_S256x512_0_512 _ (fun r j => blockOut x0 x1 x2 x3 x4 x5 x6 x7 (0 + (i 0).val) r j) fun r l h => ?_
    unfold blockOut blockSum gateUp
    simp only [word_right, half_right, Fin.sum_univ_eight, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    exact congrArg₂ (· + ·) rfl (congrArg₂ (· * ·) ((gate 0 _ _ (by decide) (lt_of_lt_of_le (i 0).isLt (by decide)) r.isLt _ _).trans (by simp)) rfl)
  · refine piece_at inb_S256x1024_S256x512_0_0 _ (fun r j => blockOut x0 x1 x2 x3 x4 x5 x6 x7 (0 + (i 0).val) r j) fun r l h => ?_
    refine Eq.trans ?_ (congrArg (fun j => blockOut x0 x1 x2 x3 x4 x5 x6 x7 (0 + (i 0).val) r j) (Fin.ext (Nat.zero_add l.val).symm : (⟨l.val, by omega⟩ : Fin 1024) = ⟨0 + l.val, h⟩))
    show _ = blockOut x0 x1 x2 x3 x4 x5 x6 x7 (0 + (i 0).val) r ⟨l.val, _⟩
    unfold blockOut blockSum gateUp
    simp only [word_left, half_left, Fin.sum_univ_eight, ← add_assoc]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
    exact congrArg₂ (· + ·) rfl (congrArg₂ (· * ·) ((gate 0 _ _ (by decide) (lt_of_lt_of_le (i 0).isLt (by decide)) r.isLt _ _).trans (by simp)) rfl)

/-- The second call's block: it starts 35 blocks further down. -/
theorem out_rest (c : Dev nD) (i : grid1.Coords) (arg1 : Memref sig .tc .vmem S8x256x512 .i32) (harg1 : arg1.IsWhole) (arg2 : Memref sig .tc .vmem S8x256 .f32) (harg2 : arg2.IsWhole) (arg3 : Memref sig .tc .vmem S256x1024 .bf16) (harg3 : arg3.IsWhole)
    (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole)
    (arg7 : Memref sig .tc .vmem S256x1024 .f32) (harg7 : arg7.IsWhole) (arg8 : Memref sig .tc .vmem S2x6x1024 .f32) (harg8 : arg8.IsWhole) (arg10 : Memref sig .tc .vmem S256x1024 .f32) (harg10 : arg10.IsWhole)
    (r : Fin 256) (j : Fin 1024) :
    out1_A_8 (F := Ideal) c i arg1 harg1 arg2 harg2 arg3 harg3 arg4 harg4 arg5 harg5 arg6 harg6 arg7 harg7 arg8 harg8 arg10 harg10 x0 x1 x2 x3 x4 x5 x6 x7 (ix2 r j) = blockOut x0 x1 x2 x3 x4 x5 x6 x7 (35 + (i 0).val) r j := by
  have cov := cover1_A_8 (F := Ideal) c i arg1 harg1 arg2 harg2 arg3 harg3 arg4 harg4 arg5 harg5 arg6 harg6 arg7 harg7 arg8 harg8 arg10 harg10 x0 x1 x2 x3 x4 x5 x6 x7
  unfold out1_A_8
  rw [View.read_writes_eq_canon _ _ _ cov]
  refine (View.canon_apply_of_pieces (S := S256x1024) (fun y => blockOut x0 x1 x2 x3 x4 x5 x6 x7 (35 + (i 0).val) (y 0) (y 1)) _ ?_ _ (cov _)).trans rfl
  unfold kernelRun1_A
  dsimp only
  simp only [kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10,
    View.readAt_eq_ld, Memref.IsWhole.read_unread]
  refine List.forall_mem_cons.mpr ⟨?_, List.forall_mem_cons.mpr ⟨?_, fun p hp => absurd hp List.not_mem_nil⟩⟩
  · refine piece_at inb_S256x1024_S256x512_0_512 _ (fun r j => blockOut x0 x1 x2 x3 x4 x5 x6 x7 (35 + (i 0).val) r j) fun r l h => ?_
    unfold blockOut blockSum gateUp
    simp only [word_right, half_right, Fin.sum_univ_eight, ← add_assoc]
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21]
    exact congrArg₂ (· + ·) rfl (congrArg₂ (· * ·) ((gate 35 _ _ (by decide) (lt_of_lt_of_le (i 0).isLt (by decide)) r.isLt _ _).trans (by simp)) rfl)
  · refine piece_at inb_S256x1024_S256x512_0_0 _ (fun r j => blockOut x0 x1 x2 x3 x4 x5 x6 x7 (35 + (i 0).val) r j) fun r l h => ?_
    refine Eq.trans ?_ (congrArg (fun j => blockOut x0 x1 x2 x3 x4 x5 x6 x7 (35 + (i 0).val) r j) (Fin.ext (Nat.zero_add l.val).symm : (⟨l.val, by omega⟩ : Fin 1024) = ⟨0 + l.val, h⟩))
    show _ = blockOut x0 x1 x2 x3 x4 x5 x6 x7 (35 + (i 0).val) r ⟨l.val, _⟩
    unfold blockOut blockSum gateUp
    simp only [word_left, half_left, Fin.sum_univ_eight, ← add_assoc]
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21]
    exact congrArg₂ (· + ·) rfl (congrArg₂ (· * ·) ((gate 35 _ _ (by decide) (lt_of_lt_of_le (i 0).isLt (by decide)) r.isLt _ _).trans (by simp)) rfl)

end Cert.MoeOutIdeal.Hand

end
-- ==== Proof.MoeOut.lean ====
/-
  The end of the mixture of experts over the whole stream. The first call writes rows 0 to 8959, the second writes the rows
  from 8960 on into the first one's result; both compute one function of the arguments, row by row.
-/
module

public import proofs.«01_k».proof.Proof.MoeOutBody

@[expose] public section

set_option maxRecDepth 16384

noncomputable section

namespace Cert.MoeOutIdeal.Hand

open Idealize.ShloMosaic Idealize.ShloMosaic.TcCoe Idealize.ShloMosaic.Tactic Idealize.SL.Sem
open Cert.MoeOutIdeal Cert.MoeOutIdeal.Gen
open Idealize.ShloMosaic.Pipeline (Dat)

/-- The gate of column `j`: the latent rows', or the context rows' from row 16384 on. -/
def rowGate (mc : S6144.Idx → EReal) (mx : S1x6144.Idx → EReal) (i : Fin 16640) (j : Fin 1024) : EReal :=
  if i.val < 16384 then mx (ix2 0 ⟨5120 + j.val, by have := j.isLt; omega⟩) else mc (ix1 ⟨5120 + j.val, by have := j.isLt; omega⟩)

/-- The shared expert's entry of a row. -/
def shared (h : S16640x1024.Idx → EReal) (wg wu : S1024x256.Idx → EReal) (wd : S256x1024.Idx → EReal) (i : Fin 16640) (j : Fin 1024) : EReal :=
  ∑ f : Fin 256, gateUp (∑ d : Fin 1024, h (ix2 i d) * wg (ix2 d f)) (∑ d : Fin 1024, h (ix2 i d) * wu (ix2 d f)) * wd (ix2 f j)

/-- The chosen experts' rows with their weights. -/
def chosen (y : S8x16640x512.Idx → BitVec 32) (w : S8x16640.Idx → EReal) (i : Fin 16640) (j : Fin 1024) : EReal :=
  ∑ k : Fin 8, w (ix2 k i) * half (y (ix3 k i (word j))) j

/-- The stream plus the gated sum of the experts. -/
def result (x h : S16640x1024.Idx → EReal) (y : S8x16640x512.Idx → BitVec 32) (w : S8x16640.Idx → EReal) (wg wu : S1024x256.Idx → EReal)
    (wd : S256x1024.Idx → EReal) (mc : S6144.Idx → EReal) (mx : S1x6144.Idx → EReal) : S16640x1024.Idx → EReal :=
  fun i => x i + rowGate mc mx (i 0) (i 1) * (shared h wg wu wd (i 0) (i 1) + chosen y w (i 0) (i 1))

/-- A block of 256 rows of the result, from the blocks of the arguments at the same rows. -/
theorem block_of (x h : S16640x1024.Idx → EReal) (y : S8x16640x512.Idx → BitVec 32) (w : S8x16640.Idx → EReal) (wg wu : S1024x256.Idx → EReal)
    (wd : S256x1024.Idx → EReal) (mc : S6144.Idx → EReal) (mx : S1x6144.Idx → EReal)
    {x0 : S8x256x512.Idx → BitVec 32} {x1 : S8x256.Idx → EReal} {x2 : S256x1024.Idx → EReal} {x3 x4 : S1024x256.Idx → EReal}
    {x5 x6 : S256x1024.Idx → EReal} {x7 : S2x6x1024.Idx → EReal} (b : ℕ) (r : Fin 256) (j : Fin 1024) (i : Fin 16640) (hi : i.val = 256 * b + r.val)
    (e0 : ∀ k l, x0 (ix3 k r l) = y (ix3 k i l)) (e1 : ∀ k, x1 (ix2 k r) = w (ix2 k i)) (e2 : ∀ d, x2 (ix2 r d) = h (ix2 i d))
    (e3 : ∀ d f, x3 (ix2 d f) = wg (ix2 d f)) (e4 : ∀ d f, x4 (ix2 d f) = wu (ix2 d f)) (e5 : ∀ f, x5 (ix2 f j) = wd (ix2 f j))
    (e6 : x6 (ix2 r j) = x (ix2 i j)) (ec : x7 (ix3 0 5 j) = mc (ix1 ⟨5120 + j.val, by have := j.isLt; omega⟩))
    (el : x7 (ix3 1 5 j) = mx (ix2 0 ⟨5120 + j.val, by have := j.isLt; omega⟩)) :
    blockOut x0 x1 x2 x3 x4 x5 x6 x7 b r j = result x h y w wg wu wd mc mx (ix2 i j) := by
  show _ = x (ix2 i j) + rowGate mc mx i j * (shared h wg wu wd i j + chosen y w i j)
  unfold blockOut blockSum rowGate shared chosen
  simp only [e0, e1, e2, e3, e4, e5, e6, ec, el, hi]

variable (m : (ℓ : Loc nD τ sig) → Buf (Elt Ideal) ℓ) (ρ : Dev nD → PrngReg) (c : Dev nD)

/-- The nine arguments as arrays. -/
abbrev argX : S16640x1024.Idx → EReal := m ((c : Thread nD τ).loc main_arg0)
abbrev argH : S16640x1024.Idx → EReal := m ((c : Thread nD τ).loc main_arg1)
abbrev argY : S8x16640x512.Idx → BitVec 32 := m ((c : Thread nD τ).loc main_arg2)
abbrev argW : S8x16640.Idx → EReal := m ((c : Thread nD τ).loc main_arg3)
abbrev argG : S1024x256.Idx → EReal := m ((c : Thread nD τ).loc main_arg4)
abbrev argU : S1024x256.Idx → EReal := m ((c : Thread nD τ).loc main_arg5)
abbrev argD : S256x1024.Idx → EReal := m ((c : Thread nD τ).loc main_arg6)
abbrev argC : S6144.Idx → EReal := m ((c : Thread nD τ).loc main_arg7)
abbrev argL : S1x6144.Idx → EReal := m ((c : Thread nD τ).loc main_arg8)

/-- What both calls end with. -/
abbrev out : S16640x1024.Idx → EReal :=
  result (argX m c) (argH m c) (argY m c) (argW m c) (argG m c) (argU m c) (argD m c) (argC m c) (argL m c)

/-! ## What the calls are given -/

theorem h_at (i : Fin 16640) (d : Fin 1024) : (V1 m ρ c main_v0 : S16640x1024.Idx → EReal) (ix2 i d) = argH m c (ix2 i d) := by
  unfold V1 W1
  after_results
  clean_types
  pointwise

theorem g_at (d : Fin 1024) (f : Fin 256) : (V1 m ρ c main_v1 : S1024x256.Idx → EReal) (ix2 d f) = argG m c (ix2 d f) := by
  unfold V1 W1
  after_results
  clean_types
  pointwise

theorem u_at (d : Fin 1024) (f : Fin 256) : (V1 m ρ c main_v2 : S1024x256.Idx → EReal) (ix2 d f) = argU m c (ix2 d f) := by
  unfold V1 W1
  after_results
  clean_types
  pointwise

theorem d_at (f : Fin 256) (j : Fin 1024) : (V1 m ρ c main_v3 : S256x1024.Idx → EReal) (ix2 f j) = argD m c (ix2 f j) := by
  unfold V1 W1
  after_results
  clean_types
  pointwise

theorem ctx_at (j : Fin 1024) : (V1 m ρ c main_v6 : S2x6x1024.Idx → EReal) (ix3 0 5 j) = argC m c (ix1 ⟨5120 + j.val, by have := j.isLt; omega⟩) := by
  unfold V1 W1
  after_results
  clean_types
  pointwise

theorem lat_at (j : Fin 1024) : (V1 m ρ c main_v6 : S2x6x1024.Idx → EReal) (ix3 1 5 j) = argL m c (ix2 0 ⟨5120 + j.val, by have := j.isLt; omega⟩) := by
  unfold V1 W1
  after_results
  clean_types
  pointwise

theorem y_at (k : Fin 8) (i : Fin 8960) (l : Fin 512) : (V1 m ρ c main_v7 : S8x8960x512.Idx → BitVec 32) (ix3 k i l) = argY m c (ix3 k ⟨i.val, by have := i.isLt; omega⟩ l) := by
  unfold V1 W1
  after_results
  clean_types
  pointwise

theorem w_at (k : Fin 8) (i : Fin 8960) : (V1 m ρ c main_v8 : S8x8960.Idx → EReal) (ix2 k i) = argW m c (ix2 k ⟨i.val, by have := i.isLt; omega⟩) := by
  unfold V1 W1
  after_results
  clean_types
  pointwise

/-- The first call leaves what it is given, apart from its result; the operations between the calls write three arrays only. -/
theorem kept (r : Ref sig .tc) (h1 : r ∉ hostOps1_W) (h0 : ∀ w : Fin cfg0.W, Pipeline.arrRef spec0 w = r → (cfg0.win w).isOut = false) :
    W3 m ρ c (Proc.devRef .tc r) = W1 m ρ c (Proc.devRef .tc r) :=
  (W3_of m ρ c r h1).trans (W2_of m ρ c r h0)

theorem between_y : (V3 m ρ c main_v10 : S8x7680x512.Idx → BitVec 32)
    = extractStridedSlice S8x7680x512 ![0, 8960, 0] (argY m c) slices_S8x16640x512_S8x7680x512_0_8960_0 := by
  unfold V3 W3
  after_results
  rw [W2_args m ρ c main_arg2 (by decide)]

theorem between_w : (V3 m ρ c main_v11 : S8x7680.Idx → EReal)
    = extractStridedSlice S8x7680 ![0, 8960] (argW m c) slices_S8x16640_S8x7680_0_8960 := by
  unfold V3 W3
  after_results
  rw [W2_args m ρ c main_arg3 (by decide)]

theorem between_x : (V3 m ρ c main_v12 : S16640x1024.Idx → EReal) = W2 m ρ c (Proc.devRef .tc main_v9) := by
  unfold V3 W3
  after_results
  rfl

theorem y_at' (k : Fin 8) (i : Fin 7680) (l : Fin 512) :
    (V3 m ρ c main_v10 : S8x7680x512.Idx → BitVec 32) (ix3 k i l) = argY m c (ix3 k ⟨8960 + i.val, by have := i.isLt; omega⟩ l) := by
  rw [between_y]
  pointwise

theorem w_at' (k : Fin 8) (i : Fin 7680) :
    (V3 m ρ c main_v11 : S8x7680.Idx → EReal) (ix2 k i) = argW m c (ix2 k ⟨8960 + i.val, by have := i.isLt; omega⟩) := by
  rw [between_w]
  pointwise

/-! ## The blocks of the first call -/

theorem first_points (t : Fin cfg0.N) : t.val < 35 := lt_of_lt_of_eq t.isLt (by decide)

theorem idx0_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = t.val :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem coord0 : ∀ t : Fin cfg0.N, ((grid0.coords t) 0).val = t.val :=
  (by decide +kernel : ∀ t : Fin grid0.N, _)

/-- Row `r` of a point's rows: in the stream, and in the experts' rows the call is given. -/
def firstRow (t : Fin cfg0.N) (r : Fin 256) : Fin 16640 := ⟨256 * (0 + t.val) + r.val, by have := first_points t; have := r.isLt; omega⟩
def firstPart (t : Fin cfg0.N) (r : Fin 256) : Fin 8960 := ⟨256 * t.val + r.val, by have := first_points t; have := r.isLt; omega⟩

theorem emb0_0 (t : Fin cfg0.N) (k : Fin 8) (r : Fin 256) (l : Fin 512) :
    ((cfg0.win 0).blk t).view.emb (ix3 k r l) = (ix3 k (firstPart t r) l : S8x8960x512.Idx) := by
  obtain ⟨e0, e1, e2⟩ := idx0_0 t
  funext a; apply Fin.ext
  match a with
  | ⟨0, _⟩ => show win0_0.index t (0 : Fin 3) * 8 + 1 * k.val = k.val; omega
  | ⟨1, _⟩ => show win0_0.index t (1 : Fin 3) * 256 + 1 * r.val = 256 * t.val + r.val; omega
  | ⟨2, _⟩ => show win0_0.index t (2 : Fin 3) * 512 + 1 * l.val = l.val; omega

theorem emb0_1 (t : Fin cfg0.N) (k : Fin 8) (r : Fin 256) :
    ((cfg0.win 1).blk t).view.emb (ix2 k r) = (ix2 k (firstPart t r) : S8x8960.Idx) := by
  obtain ⟨e0, e1⟩ := idx0_1 t
  funext a; apply Fin.ext
  match a with
  | ⟨0, _⟩ => show win0_1.index t (0 : Fin 2) * 8 + 1 * k.val = k.val; omega
  | ⟨1, _⟩ => show win0_1.index t (1 : Fin 2) * 256 + 1 * r.val = 256 * t.val + r.val; omega

theorem emb0_2 (t : Fin cfg0.N) (r : Fin 256) (j : Fin 1024) :
    ((cfg0.win 2).blk t).view.emb (ix2 r j) = (ix2 (firstRow t r) j : S16640x1024.Idx) := by
  obtain ⟨e0, e1⟩ := idx0_2 t
  funext a; apply Fin.ext
  match a with
  | ⟨0, _⟩ => show win0_2.index t (0 : Fin 2) * 256 + 1 * r.val = 256 * (0 + t.val) + r.val; omega
  | ⟨1, _⟩ => show win0_2.index t (1 : Fin 2) * 1024 + 1 * j.val = j.val; omega

theorem emb0_6 (t : Fin cfg0.N) (r : Fin 256) (j : Fin 1024) :
    ((cfg0.win 6).blk t).view.emb (ix2 r j) = (ix2 (firstRow t r) j : S16640x1024.Idx) := by
  obtain ⟨e0, e1⟩ := idx0_6 t
  funext a; apply Fin.ext
  match a with
  | ⟨0, _⟩ => show win0_6.index t (0 : Fin 2) * 256 + 1 * r.val = 256 * (0 + t.val) + r.val; omega
  | ⟨1, _⟩ => show win0_6.index t (1 : Fin 2) * 1024 + 1 * j.val = j.val; omega

theorem emb0_8 (t : Fin cfg0.N) (r : Fin 256) (j : Fin 1024) :
    ((cfg0.win 8).blk t).view.emb (ix2 r j) = (ix2 (firstRow t r) j : S16640x1024.Idx) := by
  obtain ⟨e0, e1⟩ := idx0_8 t
  funext a; apply Fin.ext
  match a with
  | ⟨0, _⟩ => show win0_8.index t (0 : Fin 2) * 256 + 1 * r.val = 256 * (0 + t.val) + r.val; omega
  | ⟨1, _⟩ => show win0_8.index t (1 : Fin 2) * 1024 + 1 * j.val = j.val; omega

theorem emb0_3 (t : Fin cfg0.N) (d : Fin 1024) (f : Fin 256) :
    ((cfg0.win 3).blk t).view.emb (ix2 d f) = (ix2 d f : S1024x256.Idx) := by
  obtain ⟨e0, e1⟩ := idx0_3 t
  funext a; apply Fin.ext
  match a with
  | ⟨0, _⟩ => show win0_3.index t (0 : Fin 2) * 1024 + 1 * d.val = d.val; omega
  | ⟨1, _⟩ => show win0_3.index t (1 : Fin 2) * 256 + 1 * f.val = f.val; omega

theorem emb0_4 (t : Fin cfg0.N) (d : Fin 1024) (f : Fin 256) :
    ((cfg0.win 4).blk t).view.emb (ix2 d f) = (ix2 d f : S1024x256.Idx) := by
  obtain ⟨e0, e1⟩ := idx0_4 t
  funext a; apply Fin.ext
  match a with
  | ⟨0, _⟩ => show win0_4.index t (0 : Fin 2) * 1024 + 1 * d.val = d.val; omega
  | ⟨1, _⟩ => show win0_4.index t (1 : Fin 2) * 256 + 1 * f.val = f.val; omega

theorem emb0_5 (t : Fin cfg0.N) (f : Fin 256) (j : Fin 1024) :
    ((cfg0.win 5).blk t).view.emb (ix2 f j) = (ix2 f j : S256x1024.Idx) := by
  obtain ⟨e0, e1⟩ := idx0_5 t
  funext a; apply Fin.ext
  match a with
  | ⟨0, _⟩ => show win0_5.index t (0 : Fin 2) * 256 + 1 * f.val = f.val; omega
  | ⟨1, _⟩ => show win0_5.index t (1 : Fin 2) * 1024 + 1 * j.val = j.val; omega

theorem emb0_7 (t : Fin cfg0.N) (p : Fin 2) (q : Fin 6) (j : Fin 1024) :
    ((cfg0.win 7).blk t).view.emb (ix3 p q j) = (ix3 p q j : S2x6x1024.Idx) := by
  obtain ⟨e0, e1, e2⟩ := idx0_7 t
  funext a; apply Fin.ext
  match a with
  | ⟨0, _⟩ => show win0_7.index t (0 : Fin 3) * 2 + 1 * p.val = p.val; omega
  | ⟨1, _⟩ => show win0_7.index t (1 : Fin 3) * 6 + 1 * q.val = q.val; omega
  | ⟨2, _⟩ => show win0_7.index t (2 : Fin 3) * 1024 + 1 * j.val = j.val; omega

/-- A point's block is the result's at its rows. -/
theorem first_block (t : Fin cfg0.N) (r : Fin 256) (j : Fin 1024) :
    blockOut (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (0 + t.val) r j
      = out m c (ix2 (firstRow t r) j) := by
  refine block_of _ _ _ _ _ _ _ _ _ _ r j (firstRow t r) rfl (fun k l => ?_) (fun k => ?_) (fun d => ?_) (fun d f => ?_) (fun d f => ?_) (fun f => ?_) ?_ ?_ ?_
  · exact (congrArg (V1 m ρ c main_v7 : S8x8960x512.Idx → BitVec 32) (emb0_0 t k r l)).trans ((y_at m ρ c k (firstPart t r) l).trans (congrArg (fun i => argY m c (ix3 k i l)) (Fin.ext (by show 256 * t.val + r.val = 256 * (0 + t.val) + r.val; omega))))
  · exact (congrArg (V1 m ρ c main_v8 : S8x8960.Idx → EReal) (emb0_1 t k r)).trans ((w_at m ρ c k (firstPart t r)).trans (congrArg (fun i => argW m c (ix2 k i)) (Fin.ext (by show 256 * t.val + r.val = 256 * (0 + t.val) + r.val; omega))))
  · exact (congrArg (V1 m ρ c main_v0 : S16640x1024.Idx → EReal) (emb0_2 t r d)).trans (h_at m ρ c _ _)
  · exact (congrArg (V1 m ρ c main_v1 : S1024x256.Idx → EReal) (emb0_3 t d f)).trans (g_at m ρ c _ _)
  · exact (congrArg (V1 m ρ c main_v2 : S1024x256.Idx → EReal) (emb0_4 t d f)).trans (u_at m ρ c _ _)
  · exact (congrArg (V1 m ρ c main_v3 : S256x1024.Idx → EReal) (emb0_5 t f j)).trans (d_at m ρ c _ _)
  · exact (congrArg (V1 m ρ c main_arg0 : S16640x1024.Idx → EReal) (emb0_6 t r j)).trans (congrFun (W1_args m ρ c main_arg0 (by decide)) _)
  · exact (congrArg (V1 m ρ c main_v6 : S2x6x1024.Idx → EReal) (emb0_7 t 0 5 j)).trans (ctx_at m ρ c _)
  · exact (congrArg (V1 m ρ c main_v6 : S2x6x1024.Idx → EReal) (emb0_7 t 1 5 j)).trans (lat_at m ρ c _)

theorem first_apart : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun e => hne <| Fin.ext <| by
    have h := congrFun e (0 : Fin 2)
    have h1 := (idx0_8 t).1
    have h2 := (idx0_8 t').1
    have h3 : win0_8.index t (0 : Fin 2) = win0_8.index t' (0 : Fin 2) := h
    omega

theorem first_stored (t : Fin cfg0.N) (r : Fin 256) (j : Fin 1024) : (out0_8 (F := Ideal) (grid0.coords t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) : S256x1024.Idx → EReal) (ix2 r j) = out m c (ix2 (firstRow t r) j) := by
  refine (out_first _ _ _ _ _ _ _ _ (grid0.coords t) r j).trans ?_
  rw [coord0 t]
  exact first_block m ρ c t r j

/-- The call's array at a row it writes. -/
theorem first_array (t : Fin cfg0.N) (r : Fin 256) (j : Fin 1024) :
    ((dat0 (V1 m ρ) c).arrAt 8 cfg0.N : S16640x1024.Idx → EReal) (ix2 (firstRow t r) j) = out m c (ix2 (firstRow t r) j) := by
  have hb := (dat0 (V1 m ρ) c).read_blk_arrAt_eq_flushed 8 first_apart cfg0.N t t.isLt (flush0_8 t)
  have hw : (dat0 (V1 m ρ) c).flushed 8 t = (cfg0.win 8).cut (grid0.coords t) (out0_8 (F := Ideal) (grid0.coords t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t)) := by
    show (cfg0.win 8).cut (grid0.coords t) ((dat0 (V1 m ρ) c).after 8 t) = _
    rw [after0_8]
  refine Eq.trans ?_ ((congrFun (hb.trans hw) (ix2 r j)).trans (first_stored m ρ c t r j))
  exact (congrArg ((dat0 (V1 m ρ) c).arrAt 8 cfg0.N : S16640x1024.Idx → EReal) (emb0_8 t r j)).symm

/-! ## The blocks of the second call -/

theorem rest_points (t : Fin cfg1.N) : t.val < 30 := lt_of_lt_of_eq t.isLt (by decide)

theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idx1_1 : ∀ t : Fin cfg1.N, win1_1.index t (0 : Fin 2) = 0 ∧ win1_1.index t (1 : Fin 2) = t.val :=
  (by decide +kernel : ∀ t : Fin grid1.N, _)
theorem idx1_2 : ∀ t : Fin cfg1.N, win1_2.index t (0 : Fin 2) = 35 + t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 35 + t.val ∧ win1_6.index t (1 : Fin 2) = 0 :=
  (by decide +kernel : ∀ t : Fin grid1.N, _)
theorem idx1_7 : ∀ t : Fin cfg1.N, win1_7.index t (0 : Fin 3) = 0 ∧ win1_7.index t (1 : Fin 3) = 0 ∧ win1_7.index t (2 : Fin 3) = 0 :=
  (by decide +kernel : ∀ t : Fin grid1.N, _)
theorem idx1_8 : ∀ t : Fin cfg1.N, win1_8.index t (0 : Fin 2) = 35 + t.val ∧ win1_8.index t (1 : Fin 2) = 0 :=
  (by decide +kernel : ∀ t : Fin grid1.N, _)
theorem coord1 : ∀ t : Fin cfg1.N, ((grid1.coords t) 0).val = t.val :=
  (by decide +kernel : ∀ t : Fin grid1.N, _)

/-- Row `r` of a point's rows: in the stream, and in the experts' rows the call is given. -/
def restRow (t : Fin cfg1.N) (r : Fin 256) : Fin 16640 := ⟨256 * (35 + t.val) + r.val, by have := rest_points t; have := r.isLt; omega⟩
def restPart (t : Fin cfg1.N) (r : Fin 256) : Fin 7680 := ⟨256 * t.val + r.val, by have := rest_points t; have := r.isLt; omega⟩

theorem emb1_0 (t : Fin cfg1.N) (k : Fin 8) (r : Fin 256) (l : Fin 512) :
    ((cfg1.win 0).blk t).view.emb (ix3 k r l) = (ix3 k (restPart t r) l : S8x7680x512.Idx) := by
  obtain ⟨e0, e1, e2⟩ := idx1_0 t
  funext a; apply Fin.ext
  match a with
  | ⟨0, _⟩ => show win1_0.index t (0 : Fin 3) * 8 + 1 * k.val = k.val; omega
  | ⟨1, _⟩ => show win1_0.index t (1 : Fin 3) * 256 + 1 * r.val = 256 * t.val + r.val; omega
  | ⟨2, _⟩ => show win1_0.index t (2 : Fin 3) * 512 + 1 * l.val = l.val; omega

theorem emb1_1 (t : Fin cfg1.N) (k : Fin 8) (r : Fin 256) :
    ((cfg1.win 1).blk t).view.emb (ix2 k r) = (ix2 k (restPart t r) : S8x7680.Idx) := by
  obtain ⟨e0, e1⟩ := idx1_1 t
  funext a; apply Fin.ext
  match a with
  | ⟨0, _⟩ => show win1_1.index t (0 : Fin 2) * 8 + 1 * k.val = k.val; omega
  | ⟨1, _⟩ => show win1_1.index t (1 : Fin 2) * 256 + 1 * r.val = 256 * t.val + r.val; omega

theorem emb1_2 (t : Fin cfg1.N) (r : Fin 256) (j : Fin 1024) :
    ((cfg1.win 2).blk t).view.emb (ix2 r j) = (ix2 (restRow t r) j : S16640x1024.Idx) := by
  obtain ⟨e0, e1⟩ := idx1_2 t
  funext a; apply Fin.ext
  match a with
  | ⟨0, _⟩ => show win1_2.index t (0 : Fin 2) * 256 + 1 * r.val = 256 * (35 + t.val) + r.val; omega
  | ⟨1, _⟩ => show win1_2.index t (1 : Fin 2) * 1024 + 1 * j.val = j.val; omega

theorem emb1_6 (t : Fin cfg1.N) (r : Fin 256) (j : Fin 1024) :
    ((cfg1.win 6).blk t).view.emb (ix2 r j) = (ix2 (restRow t r) j : S16640x1024.Idx) := by
  obtain ⟨e0, e1⟩ := idx1_6 t
  funext a; apply Fin.ext
  match a with
  | ⟨0, _⟩ => show win1_6.index t (0 : Fin 2) * 256 + 1 * r.val = 256 * (35 + t.val) + r.val; omega
  | ⟨1, _⟩ => show win1_6.index t (1 : Fin 2) * 1024 + 1 * j.val = j.val; omega

theorem emb1_8 (t : Fin cfg1.N) (r : Fin 256) (j : Fin 1024) :
    ((cfg1.win 8).blk t).view.emb (ix2 r j) = (ix2 (restRow t r) j : S16640x1024.Idx) := by
  obtain ⟨e0, e1⟩ := idx1_8 t
  funext a; apply Fin.ext
  match a with
  | ⟨0, _⟩ => show win1_8.index t (0 : Fin 2) * 256 + 1 * r.val = 256 * (35 + t.val) + r.val; omega
  | ⟨1, _⟩ => show win1_8.index t (1 : Fin 2) * 1024 + 1 * j.val = j.val; omega

theorem emb1_3 (t : Fin cfg1.N) (d : Fin 1024) (f : Fin 256) :
    ((cfg1.win 3).blk t).view.emb (ix2 d f) = (ix2 d f : S1024x256.Idx) := by
  obtain ⟨e0, e1⟩ := idx1_3 t
  funext a; apply Fin.ext
  match a with
  | ⟨0, _⟩ => show win1_3.index t (0 : Fin 2) * 1024 + 1 * d.val = d.val; omega
  | ⟨1, _⟩ => show win1_3.index t (1 : Fin 2) * 256 + 1 * f.val = f.val; omega

theorem emb1_4 (t : Fin cfg1.N) (d : Fin 1024) (f : Fin 256) :
    ((cfg1.win 4).blk t).view.emb (ix2 d f) = (ix2 d f : S1024x256.Idx) := by
  obtain ⟨e0, e1⟩ := idx1_4 t
  funext a; apply Fin.ext
  match a with
  | ⟨0, _⟩ => show win1_4.index t (0 : Fin 2) * 1024 + 1 * d.val = d.val; omega
  | ⟨1, _⟩ => show win1_4.index t (1 : Fin 2) * 256 + 1 * f.val = f.val; omega

theorem emb1_5 (t : Fin cfg1.N) (f : Fin 256) (j : Fin 1024) :
    ((cfg1.win 5).blk t).view.emb (ix2 f j) = (ix2 f j : S256x1024.Idx) := by
  obtain ⟨e0, e1⟩ := idx1_5 t
  funext a; apply Fin.ext
  match a with
  | ⟨0, _⟩ => show win1_5.index t (0 : Fin 2) * 256 + 1 * f.val = f.val; omega
  | ⟨1, _⟩ => show win1_5.index t (1 : Fin 2) * 1024 + 1 * j.val = j.val; omega

theorem emb1_7 (t : Fin cfg1.N) (p : Fin 2) (q : Fin 6) (j : Fin 1024) :
    ((cfg1.win 7).blk t).view.emb (ix3 p q j) = (ix3 p q j : S2x6x1024.Idx) := by
  obtain ⟨e0, e1, e2⟩ := idx1_7 t
  funext a; apply Fin.ext
  match a with
  | ⟨0, _⟩ => show win1_7.index t (0 : Fin 3) * 2 + 1 * p.val = p.val; omega
  | ⟨1, _⟩ => show win1_7.index t (1 : Fin 3) * 6 + 1 * q.val = q.val; omega
  | ⟨2, _⟩ => show win1_7.index t (2 : Fin 3) * 1024 + 1 * j.val = j.val; omega

/-- A point's block is the result's at its rows. -/
theorem rest_block (t : Fin cfg1.N) (r : Fin 256) (j : Fin 1024) :
    blockOut (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (35 + t.val) r j
      = out m c (ix2 (restRow t r) j) := by
  refine block_of _ _ _ _ _ _ _ _ _ _ r j (restRow t r) rfl (fun k l => ?_) (fun k => ?_) (fun d => ?_) (fun d f => ?_) (fun d f => ?_) (fun f => ?_) ?_ ?_ ?_
  · exact (congrArg (V3 m ρ c main_v10 : S8x7680x512.Idx → BitVec 32) (emb1_0 t k r l)).trans ((y_at' m ρ c k (restPart t r) l).trans (congrArg (fun i => argY m c (ix3 k i l)) (Fin.ext (by show 8960 + (256 * t.val + r.val) = 256 * (35 + t.val) + r.val; omega))))
  · exact (congrArg (V3 m ρ c main_v11 : S8x7680.Idx → EReal) (emb1_1 t k r)).trans ((w_at' m ρ c k (restPart t r)).trans (congrArg (fun i => argW m c (ix2 k i)) (Fin.ext (by show 8960 + (256 * t.val + r.val) = 256 * (35 + t.val) + r.val; omega))))
  · exact (congrArg (V3 m ρ c main_v0 : S16640x1024.Idx → EReal) (emb1_2 t r d)).trans ((congrFun (kept m ρ c main_v0 (by decide) (by decide)) _).trans (h_at m ρ c _ _))
  · exact (congrArg (V3 m ρ c main_v1 : S1024x256.Idx → EReal) (emb1_3 t d f)).trans ((congrFun (kept m ρ c main_v1 (by decide) (by decide)) _).trans (g_at m ρ c _ _))
  · exact (congrArg (V3 m ρ c main_v2 : S1024x256.Idx → EReal) (emb1_4 t d f)).trans ((congrFun (kept m ρ c main_v2 (by decide) (by decide)) _).trans (u_at m ρ c _ _))
  · exact (congrArg (V3 m ρ c main_v3 : S256x1024.Idx → EReal) (emb1_5 t f j)).trans ((congrFun (kept m ρ c main_v3 (by decide) (by decide)) _).trans (d_at m ρ c _ _))
  · exact (congrArg (V3 m ρ c main_arg0 : S16640x1024.Idx → EReal) (emb1_6 t r j)).trans (congrFun (W3_args m ρ c main_arg0 (by decide)) _)
  · exact (congrArg (V3 m ρ c main_v6 : S2x6x1024.Idx → EReal) (emb1_7 t 0 5 j)).trans ((congrFun (kept m ρ c main_v6 (by decide) (by decide)) _).trans (ctx_at m ρ c _))
  · exact (congrArg (V3 m ρ c main_v6 : S2x6x1024.Idx → EReal) (emb1_7 t 1 5 j)).trans ((congrFun (kept m ρ c main_v6 (by decide) (by decide)) _).trans (lat_at m ρ c _))

theorem rest_apart : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun e => hne <| Fin.ext <| by
    have h := congrFun e (0 : Fin 2)
    have h1 := (idx1_8 t).1
    have h2 := (idx1_8 t').1
    have h3 : win1_8.index t (0 : Fin 2) = win1_8.index t' (0 : Fin 2) := h
    omega

theorem rest_stored (t : Fin cfg1.N) (r : Fin 256) (j : Fin 1024) : (outsAt1 (F := Ideal) (V3 m ρ) c t : S256x1024.Idx → EReal) (ix2 r j) = out m c (ix2 (restRow t r) j) := by
  refine (out_rest _ _ _ _ _ _ _ _ c (grid1.coords t) (ms1_0 t) (hs1_0 t) (ms1_1 t) (hs1_1 t) (ms1_2 t) (hs1_2 t) (ms1_3 t) (hs1_3 t) (ms1_4 t) (hs1_4 t) (ms1_5 t) (hs1_5 t)
    (ms1_6 t) (hs1_6 t) (ms1_7 t) (hs1_7 t) (ms1_8 t) (hs1_8 t) r j).trans ?_
  rw [coord1 t]
  exact rest_block m ρ c t r j

/-- The call's array at a row it writes. -/
theorem rest_array (t : Fin cfg1.N) (r : Fin 256) (j : Fin 1024) :
    ((dat1 (V3 m ρ) c).arrAt 8 cfg1.N : S16640x1024.Idx → EReal) (ix2 (restRow t r) j) = out m c (ix2 (restRow t r) j) := by
  have hb := (dat1 (V3 m ρ) c).read_blk_arrAt_eq_flushed 8 rest_apart cfg1.N t t.isLt (flush1_8 t)
  have hw : (dat1 (V3 m ρ) c).flushed 8 t = (cfg1.win 8).cut (grid1.coords t) (outsAt1 (F := Ideal) (V3 m ρ) c t) := by
    show (cfg1.win 8).cut (grid1.coords t) ((dat1 (V3 m ρ) c).after 8 t) = _
    rw [after1_8]
  refine Eq.trans ?_ ((congrFun (hb.trans hw) (ix2 r j)).trans (rest_stored m ρ c t r j))
  exact (congrArg ((dat1 (V3 m ρ) c).arrAt 8 cfg1.N : S16640x1024.Idx → EReal) (emb1_8 t r j)).symm

/-! ## The whole stream -/

/-- The second call's blocks lie below row 8960. -/
theorem above (t : Fin cfg1.N) (i : S16640x1024.Idx) (hi : (i 0).val < 8960) : i ∉ ((cfg1.win 8).blk t).view.set := by
  show i ∉ ((View.whole main_v12).slice (win1_8.rect t)).set
  rw [View.set_slice_whole, Rect.mem_set_unit]
  intro h
  have h0 : win1_8.index t (0 : Fin 2) * 256 ≤ (i 0).val := (h 0).1
  have h1 := (idx1_8 t).1
  omega

theorem array_eq : ((dat1 (V3 m ρ) c).arrAt 8 cfg1.N : S16640x1024.Idx → EReal) = out m c := by
  funext i
  have hi0 : (i 0).val < 16640 := (i 0).isLt
  have hN0 : cfg0.N = 35 := by decide
  have hN1 : cfg1.N = 30 := by decide
  by_cases hi : (i 0).val < 8960
  · refine ((dat1 (V3 m ρ) c).arrAt_apply_of_forall_not_mem 8 cfg1.N i fun t _ _ => above t i hi).trans ?_
    refine (congrFun (A_eq1 (V3 m ρ) c 8) i).trans ((congrFun (between_x m ρ c) i).trans ((congrFun (W2_arr m ρ c 8) i).trans ?_))
    have e : i = (ix2 (firstRow ⟨(i 0).val / 256, by omega⟩ ⟨(i 0).val % 256, by omega⟩) (i 1) : S16640x1024.Idx) := by
      funext a
      match a with
      | ⟨0, _⟩ => exact Fin.ext (by show (i 0).val = 256 * (0 + (i 0).val / 256) + (i 0).val % 256; omega)
      | ⟨1, _⟩ => rfl
    rw [e]
    exact first_array m ρ c _ _ _
  · have e : i = (ix2 (restRow ⟨(i 0).val / 256 - 35, by omega⟩ ⟨(i 0).val % 256, by omega⟩) (i 1) : S16640x1024.Idx) := by
      funext a
      match a with
      | ⟨0, _⟩ => exact Fin.ext (by show (i 0).val = 256 * (35 + ((i 0).val / 256 - 35)) + (i 0).val % 256; omega)
      | ⟨1, _⟩ => rfl
    rw [e]
    exact rest_array m ρ c _ _ _

end Cert.MoeOutIdeal.Hand

end
-- ==== Proof.MoeOutRun.lean ====
/-
  The run of the end of the mixture of experts: both calls with the operations around them, read at the second one's array
  and at the arguments.
-/
module

public import proofs.«01_k».proof.Proof.MoeOut

@[expose] public section

noncomputable section

namespace Cert.MoeOutIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeOutIdeal Cert.MoeOutIdeal.Gen

variable (m : (ℓ : Loc nD τ sig) → Buf (Elt Ideal) ℓ) (ρ : Dev nD → PrngReg)

local notation "𝕄" => MT nD τ sig Unit (Elt Ideal) ℕ (UR sig nD τ) ℕ

/-- A core's memory at the end: every array outside the calls is at the last contents. -/
def AtEnd (c : Dev nD) (s : MemSt nD τ sig (Elt Ideal)) : Prop :=
  ∀ b ∈ Pipeline.ucRefs τ sig, s.mem (((c : Thread nD τ)).1, b) = W4 m ρ c b

/-- The first contents: the launch's arrays beside the core's register, nothing owed. -/
def atStart (c : Dev nD) : sProp 𝕄 :=
  iprop(StableHlo.held (c : Thread nD τ) (Pipeline.ucRefs τ sig) (W0 m ρ c) ∗ R c)

-- the launch theorem's arguments are found through plain definitions
set_option backward.isDefEq.respectTransparency.types false in
/-- From any memory the program ends, every array outside the calls at the last contents. -/
theorem ends : θ_run (defs (F := Ideal)) (onTc (τ := τ) (main (F := Ideal))) ⟨m, fun _ => 0, ρ⟩ fun r => ∀ c, AtEnd m ρ c r.2 := by
  refine Pipeline.θ_run_regions_kit (pcfgs (F := Ideal)) adm (pdats m ρ) () cellOf_inj emb₁ defs₀ 𝒱₀ L lv m ρ main (segs m ρ)
    (fun c Q => Entails.of_eq (by rw [main_run m ρ c])) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) ?_
    (T₀ := atStart m ρ) (Tₙ := Tₙ m ρ) ⟨fun _ => .rfl, fun _ => .rfl, fun _ => .rfl, fun _ => .rfl, fun _ => .rfl⟩ ?_
    (QY := AtEnd m ρ) (fun c s => ?_) (fun _ h => h)
  · have nothing : (BI.emp : sProp 𝕄) ⊢ bigSep Finset.univ (fun _ : Dev nD => (BI.emp : sProp 𝕄)) := by rw [BI.bigSep_emp_const]
    have given : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Hu
    imodintro
    isplitl [Hu]
    · iapply given; iexact Hu
    · iapply nothing; iempintro
  · refine Pipeline.initEach L lv fun c => ?_
    have e := Pipeline.unscopedBufs_held (Ix := Unit) (Name := ℕ) (U := UR sig nD τ) (Lvl := ℕ) c (W0 m ρ c)
    unfold atStart
    rw [← e]
    iintro ⟨⟨Harr, -, Howe, -, Hreg, -⟩, -⟩
    imodintro
    isplitl [Harr]
    · iexact Harr
    isplitl [Hreg]
    · iexists _; iexact Hreg
    · iexists ∅; iexact Howe
  · unfold AtEnd Tₙ StableHlo.held
    iintro ⟨⟨Harr, -⟩, Hst⟩
    imodintro
    iapply (pointsTo_read_all (Pipeline.ucRefs τ sig) (fun b => (((c : Thread nD τ)).1, b)) (W4 m ρ c) s)
    isplitl [Harr] <;> iassumption

/-- The run, read at its result and its arguments. -/
theorem run : θ_run (defs (F := Ideal)) (onTc (τ := τ) (main (F := Ideal))) ⟨m, fun _ => 0, ρ⟩ (fun r => ∀ c : Dev nD,
      r.2.mem ((c.tc : Thread nD τ).loc main_v12) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ?_) (ends m ρ)
  have arg : ∀ a ∈ argRefs, ¬ (Proc.devRef .tc a : DevRef τ sig).isScoped → r.2.mem ((c.tc : Thread nD τ).loc a) = m ((c.tc : Thread nD τ).loc a) :=
    fun a ha hs => (h c _ (mem_uc a hs)).trans (W4_args m ρ c a ha)
  exact ⟨((h c _ (mem_uc main_v12 (by decide))).trans (W4_arr m ρ c 8)).trans (array_eq m ρ c),
    arg main_arg0 (by decide) (by decide), arg main_arg1 (by decide) (by decide), arg main_arg2 (by decide) (by decide),
    arg main_arg3 (by decide) (by decide), arg main_arg4 (by decide) (by decide), arg main_arg5 (by decide) (by decide),
    arg main_arg6 (by decide) (by decide), arg main_arg7 (by decide) (by decide), arg main_arg8 (by decide) (by decide)⟩

end Cert.MoeOutIdeal.Hand

end
-- ==== Proof.MoeOutReference.lean ====
/-
  The reference of the end of the mixture of experts: the shared expert on all rows, the chosen experts' rows summed with
  their weights, and the gated step of the stream, as whole arrays; entry by entry it is what the two calls leave.
-/
module

public import proofs.«01_k».proof.Proof.MoeOut
public import proofs.«01_k».proof.Proof.Gen.MoeOutRefIdeal.Run

@[expose] public section

set_option maxRecDepth 16384

noncomputable section

namespace Cert.MoeOutRefIdeal.Hand

open Idealize.ShloMosaic Idealize.ShloMosaic.TcCoe Idealize.ShloMosaic.Tactic
open Cert.MoeOutRefIdeal Cert.MoeOutRefIdeal.Gen

variable {F : FTy → Type} [FloatOps F]

/-- The array types, at any reading of the floats. -/
abbrev Rows (F : FTy → Type) := (⟨S16640x1024, .f32⟩ : BufTy).Contents (Elt F)
abbrev Up (F : FTy → Type) := (⟨S1024x256, .f32⟩ : BufTy).Contents (Elt F)
abbrev Mid (F : FTy → Type) := (⟨S16640x256, .f32⟩ : BufTy).Contents (Elt F)

/-- The latent rows of the stream after the step. -/
def latent (x y : Rows F) (mx : (⟨S1x6144, .f32⟩ : BufTy).Contents (Elt F)) : (⟨S16384x1024, .f32⟩ : BufTy).Contents (Elt F) :=
  addf (extractStridedSlice S16384x1024 ![0, 0] x slices_S16640x1024_S16384x1024_0_0)
    (mulf (broadcastInDim S16384x1024 ![0, 1] bcast_S1x1024_S16384x1024_0_1
        (extractStridedSlice S1x1024 ![0, 5120] mx slices_S1x6144_S1x1024_0_5120))
      (extractStridedSlice S16384x1024 ![0, 0] y slices_S16640x1024_S16384x1024_0_0))

/-- The context rows of the stream after the step. -/
def context (x y : Rows F) (mc : (⟨S6144, .f32⟩ : BufTy).Contents (Elt F)) : (⟨S256x1024, .f32⟩ : BufTy).Contents (Elt F) :=
  addf (extractStridedSlice S256x1024 ![16384, 0] x slices_S16640x1024_S256x1024_16384_0)
    (mulf (broadcastInDim S256x1024 ![0, 1] bcast_S1x1024_S256x1024_0_1
        (broadcastInDim S1x1024 ![1] bcast_S1024_S1x1024_1 (extractStridedSlice S1024 ![5120] mc slices_S6144_S1024_5120)))
      (extractStridedSlice S256x1024 ![16384, 0] y slices_S16640x1024_S256x1024_16384_0))

/-- The whole stream after the step. -/
def stream (x y : Rows F) (mc : (⟨S6144, .f32⟩ : BufTy).Contents (Elt F)) (mx : (⟨S1x6144, .f32⟩ : BufTy).Contents (Elt F)) : Rows F :=
  concatenate S16640x1024 0 [⟨S16384x1024, latent x y mx⟩, ⟨S256x1024, context x y mc⟩] concatenates_S16384x1024_S256x1024_S16640x1024_d0

/-- A row's product with the gating or the other weights, and the gated hidden row. -/
def up (h : Rows F) (w : Up F) : Mid F := Host.dotGeneral dot_S16640x1024_S1024x256_S16640x256_1_0_0_1_n_n none h w
def gated (a u : Mid F) : Mid F :=
  mulf (mulf a (Host.divf (broadcastInDim S16640x256 ![] bcast_S_S16640x256 (constant S_ .f32 0x3F800000#32))
    (addf (broadcastInDim S16640x256 ![] bcast_S_S16640x256 (constant S_ .f32 0x3F800000#32)) (Host.exp (Host.negf a))))) u

/-- The shared expert. -/
def expert (h : Rows F) (wg wu : Up F) (wd : (⟨S256x1024, .f32⟩ : BufTy).Contents (Elt F)) : Rows F :=
  Host.dotGeneral dot_S16640x256_S256x1024_S16640x1024_1_0_0_1_n_n none (gated (up h wg) (up h wu)) wd

/-- The words' entries: the low halves, then the high halves. -/
def entries (y : (⟨S8x16640x512, .i32⟩ : BufTy).Contents (Elt F)) : (⟨S8x16640x1024, .f32⟩ : BufTy).Contents (Elt F) :=
  concatenate S8x16640x1024 2
    [⟨S8x16640x512, bitcastToFloat (F := F) .f32 (Host.shli y (broadcastInDim S8x16640x512 ![] bcast_S_S8x16640x512 (constantI S_ 32 16#32)))⟩,
     ⟨S8x16640x512, bitcastToFloat (F := F) .f32 (andi y (broadcastInDim S8x16640x512 ![] bcast_S_S8x16640x512 (constantI S_ 32 4294901760#32)))⟩]
    concatenates_S8x16640x512_S8x16640x512_S8x16640x1024_d2

/-- The weighted sum of the chosen experts' rows. -/
def weighted (w : (⟨S8x16640, .f32⟩ : BufTy).Contents (Elt F)) (e : (⟨S8x16640x1024, .f32⟩ : BufTy).Contents (Elt F)) : Rows F :=
  Host.reduceAdd (mulf (broadcastInDim S8x16640x1024 ![0, 1, 2] bcast_S8x16640x1_S8x16640x1024_0_1_2
    (shapeCast _ w shapeCasts_S8x16640_S8x16640x1)) e) (constant S_ .f32 0x00000000#32) reducesTo_S8x16640x1024_S16640x1024_d0 h_S_

open Cert.MoeOutIdeal.Hand (gateUp rowGate shared chosen word half)

theorem up_at (h : S16640x1024.Idx → EReal) (w : S1024x256.Idx → EReal) (r : Fin 16640) (f : Fin 256) :
    up (F := Ideal) h w (ix2 r f) = ∑ d : Fin 1024, h (ix2 r d) * w (ix2 d f) := by
  pointwise [up]

theorem gated_at (a u : S16640x256.Idx → EReal) (r : Fin 16640) (f : Fin 256) :
    gated (F := Ideal) a u (ix2 r f) = gateUp (a (ix2 r f)) (u (ix2 r f)) := by
  unfold gateUp Ideal.logistic
  pointwise [gated]

theorem shift_at (w : BitVec 32) : IntOp.shli .host w 16#32 = IntOp.shli .vector w 16#32 := by
  unfold IntOp.shli
  rw [if_pos (by decide), if_pos (by decide)]

theorem entries_at (y : S8x16640x512.Idx → BitVec 32) (k : Fin 8) (r : Fin 16640) (j : Fin 1024) :
    entries (F := Ideal) y (ix3 k r j) = half (y (ix3 k r (word j))) j := by
  unfold half word
  pointwise [entries]
  by_cases hj : j.val < 512
  · have e : ∀ h h', (⟨j.val, h⟩ : Fin 512) = ⟨j.val % 512, h'⟩ := fun _ _ => Fin.ext (by dsimp only; omega)
    rw [dif_pos hj, if_pos hj, shift_at, e]
  · have e : ∀ h h', (⟨j.val - 512, h⟩ : Fin 512) = ⟨j.val % 512, h'⟩ := fun _ _ => Fin.ext (by have := j.isLt; dsimp only; omega)
    rw [dif_neg hj, if_neg hj, e]

theorem weighted_at (w : S8x16640.Idx → EReal) (e : S8x16640x1024.Idx → EReal) (r : Fin 16640) (j : Fin 1024) :
    weighted (F := Ideal) w e (ix2 r j) = ∑ k : Fin 8, w (ix2 k r) * e (ix3 k r j) := by
  pointwise [weighted]

theorem expert_at (h : S16640x1024.Idx → EReal) (wg wu : S1024x256.Idx → EReal) (wd : S256x1024.Idx → EReal) (r : Fin 16640) (j : Fin 1024) :
    expert (F := Ideal) h wg wu wd (ix2 r j) = shared h wg wu wd r j := by
  have e : expert (F := Ideal) h wg wu wd (ix2 r j) = ∑ f : Fin 256, gated (F := Ideal) (up h wg) (up h wu) (ix2 r f) * wd (ix2 f j) := by
    pointwise [expert]
  rw [e]
  unfold shared
  exact Finset.sum_congr rfl fun f _ => congrArg (· * _) ((gated_at _ _ r f).trans (congrArg₂ gateUp (up_at _ _ r f) (up_at _ _ r f)))

theorem stream_at (x y : S16640x1024.Idx → EReal) (mc : S6144.Idx → EReal) (mx : S1x6144.Idx → EReal) (r : Fin 16640) (j : Fin 1024) :
    stream (F := Ideal) x y mc mx (ix2 r j) = x (ix2 r j) + rowGate mc mx r j * y (ix2 r j) := by
  unfold rowGate
  pointwise [stream, latent, context]
  split
  · rfl
  · have e : ∀ hh, (⟨16384 + (r.val - 16384), hh⟩ : Fin 16640) = r := fun _ => Fin.ext (by have := r.isLt; dsimp only; omega)
    rw [e]

theorem reference_eq (x h : S16640x1024.Idx → EReal) (y : S8x16640x512.Idx → BitVec 32) (w : S8x16640.Idx → EReal) (wg wu : S1024x256.Idx → EReal)
    (wd : S256x1024.Idx → EReal) (mc : S6144.Idx → EReal) (mx : S1x6144.Idx → EReal) :
    stream (F := Ideal) x (addf (F := Ideal) (s := S16640x1024) (φ := .f32) (expert (F := Ideal) h wg wu wd) (weighted (F := Ideal) w (entries (F := Ideal) y))) mc mx
      = Cert.MoeOutIdeal.Hand.result x h y w wg wu wd mc mx := by
  funext i
  obtain ⟨r, j, rfl⟩ : ∃ r j, i = (ix2 r j : S16640x1024.Idx) := ⟨i 0, i 1, by funext a; fin_cases a <;> rfl⟩
  refine (stream_at _ _ _ _ r j).trans (congrArg (fun s => x (ix2 r j) + rowGate mc mx r j * s) ?_)
  show expert (F := Ideal) h wg wu wd (ix2 r j) + weighted (F := Ideal) w (entries (F := Ideal) y) (ix2 r j) = _
  rw [expert_at, weighted_at]
  exact congrArg (_ + ·) (Finset.sum_congr rfl fun k _ => congrArg (_ * ·) (entries_at y k r j))

end Cert.MoeOutRefIdeal.Hand

end
-- ==== Proof.MixNorm.lean ====
/-
  The norm ahead of a mixer: a row over its root mean square, weighted, scaled and shifted by the modulations of the row's
  kind. A block's entry is that value of the row it belongs to.
-/
module

public import proofs.«01_k».proof.Proof.Gen.MixNormIdeal.Value
public import Idealize.ShloMosaic.Lib.Pointwise
public import Idealize.ShloMosaic.Lib.Tactic.CleanTypes

@[expose] public section

set_option maxRecDepth 16384

noncomputable section

namespace Cert.MixNormIdeal.Hand

open Idealize.ShloMosaic Idealize.ShloMosaic.TcCoe Idealize.ShloMosaic.Tactic Idealize.SL.Sem
open Cert.MixNormIdeal Cert.MixNormIdeal.Gen
open Idealize.ShloMosaic.Pipeline (Dat)

/-- The root-mean-square norm of a row of 1024 entries with the weight `g`, at entry `j`. -/
def normed (x : Fin 1024 → EReal) (g : EReal) (j : Fin 1024) : EReal :=
  x j * Ideal.rsqrt (Ideal.div (∑ d, x d * x d) (Ideal.ofBits .f32 0x44800000#32) + Ideal.ofBits .f32 0x358637BD#32) * g

/-- Column `j` of the `k`-th of the six modulations, for a latent row or for a context row. -/
def modulation (mc : S6144.Idx → EReal) (mx : S1x6144.Idx → EReal) (i : Fin 16640) (k : Fin 6) (j : Fin 1024) : EReal :=
  if i.val < 16384 then mx (ix2 0 ⟨1024 * k.val + j.val, by have := j.isLt; have := k.isLt; omega⟩)
  else mc (ix1 ⟨1024 * k.val + j.val, by have := j.isLt; have := k.isLt; omega⟩)

/-- The normed row, scaled and shifted by two of the modulations. -/
def value (sh sc : Fin 6) (x : S16640x1024.Idx → EReal) (g : S1024.Idx → EReal) (mc : S6144.Idx → EReal) (mx : S1x6144.Idx → EReal)
    (i : Fin 16640) (j : Fin 1024) : EReal :=
  normed (fun d => x (ix2 i d)) (g (ix1 j)) j * (Ideal.ofBits .f32 0x3F800000#32 + modulation mc mx i sc j) + modulation mc mx i sh j

/-- The array of the normed rows: shifted by the first modulation, scaled by the second. -/
def result (x : S16640x1024.Idx → EReal) (g : S1024.Idx → EReal) (mc : S6144.Idx → EReal) (mx : S1x6144.Idx → EReal) :
    S16640x1024.Idx → EReal :=
  fun i => value 0 1 x g mc mx (i 0) (i 1)

variable (m : (ℓ : Loc nD τ sig) → Buf (Elt Ideal) ℓ) (c : Dev nD)

/-- The four arguments as arrays. -/
abbrev argX : S16640x1024.Idx → EReal := m ((c : Thread nD τ).loc main_arg0)
abbrev argG : S1024.Idx → EReal := m ((c : Thread nD τ).loc main_arg1)
abbrev argC : S6144.Idx → EReal := m ((c : Thread nD τ).loc main_arg2)
abbrev argL : S1x6144.Idx → EReal := m ((c : Thread nD τ).loc main_arg3)

theorem g_at (j : Fin 1024) : (V m c main_v3 : S1x1024.Idx → EReal) (ix2 0 j) = argG m c (ix1 j) := by
  unfold V
  after_results
  pointwise

/-- The context's modulations are the first plane. -/
theorem ctx_at (k : Fin 6) (j : Fin 1024) : (V m c main_v2 : S2x6x1024.Idx → EReal) (ix3 0 k j)
    = argC m c (ix1 ⟨1024 * k.val + j.val, by have := j.isLt; have := k.isLt; omega⟩) := by
  unfold V
  after_results
  clean_types
  fin_cases k <;> pointwise

/-- The latents' modulations are the second. -/
theorem lat_at (k : Fin 6) (j : Fin 1024) : (V m c main_v2 : S2x6x1024.Idx → EReal) (ix3 1 k j)
    = argL m c (ix2 0 ⟨1024 * k.val + j.val, by have := j.isLt; have := k.isLt; omega⟩) := by
  unfold V
  after_results
  clean_types
  fin_cases k <;> pointwise

/-! ## Where the blocks lie -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem coord0 : ∀ t : Fin cfg0.N, ((grid0.coords t) 0).val = t.val :=
  (by decide +kernel : ∀ t : Fin grid0.N, _)

theorem lt_points (t : Fin cfg0.N) : t.val < 13 := lt_of_lt_of_eq t.isLt (by decide)

/-- Row `r` of a point's rows. -/
def row (t : Fin cfg0.N) (r : Fin 1280) : Fin 16640 := ⟨1280 * t.val + r.val, by have := lt_points t; have := r.isLt; omega⟩

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * t.val + r.val; omega
  | ⟨1, _⟩ => show win0_0.index t (1 : Fin 2) * 1024 + 1 * d.val = d.val; omega

theorem emb0_1 (t : Fin cfg0.N) (p : Fin 2) (q : Fin 6) (j : Fin 1024) :
    ((cfg0.win 1).blk t).view.emb (ix3 p q j) = (ix3 p q j : S2x6x1024.Idx) := by
  obtain ⟨e0, e1, e2⟩ := idx0_1 t
  funext a; apply Fin.ext
  match a with
  | ⟨0, _⟩ => show win0_1.index t (0 : Fin 3) * 2 + 1 * p.val = p.val; omega
  | ⟨1, _⟩ => show win0_1.index t (1 : Fin 3) * 6 + 1 * q.val = q.val; omega
  | ⟨2, _⟩ => show win0_1.index t (2 : Fin 3) * 1024 + 1 * j.val = j.val; omega

theorem emb0_2 (t : Fin cfg0.N) (j : Fin 1024) :
    ((cfg0.win 2).blk t).view.emb (ix2 (0 : Fin 1) j) = (ix2 0 j : S1x1024.Idx) := by
  obtain ⟨e0, e1⟩ := idx0_2 t
  funext a; apply Fin.ext
  match a with
  | ⟨0, _⟩ => show win0_2.index t (0 : Fin 2) * 1 + 1 * 0 = 0; omega
  | ⟨1, _⟩ => show win0_2.index t (1 : Fin 2) * 1024 + 1 * j.val = j.val; omega

theorem emb0_3 (t : Fin cfg0.N) (r : Fin 1280) (j : Fin 1024) :
    ((cfg0.win 3).blk t).view.emb (ix2 r j) = (ix2 (row t r) j : S16640x1024.Idx) := by
  obtain ⟨e0, e1⟩ := idx0_3 t
  funext a; apply Fin.ext
  match a with
  | ⟨0, _⟩ => show win0_3.index t (0 : Fin 2) * 1280 + 1 * r.val = 1280 * t.val + r.val; omega
  | ⟨1, _⟩ => show win0_3.index t (1 : Fin 2) * 1024 + 1 * j.val = j.val; omega

theorem mem_blk (t : Fin cfg0.N) (y : S16640x1024.Idx) :
    y ∈ ((cfg0.win 3).blk t).view.set ↔ ∀ a : Fin 2,
      win0_3.index t a * S1280x1024.size a ≤ (y a).val ∧ (y a).val < win0_3.index t a * S1280x1024.size a + S1280x1024.size a := by
  show y ∈ ((View.whole main_v4).slice (win0_3.rect t)).set ↔ _
  rw [View.set_slice_whole, Rect.mem_set_unit]
  exact Iff.rfl

/-- The blocks written back tile the result. -/
theorem cover (y : S16640x1024.Idx) :
    ∃ t : Fin cfg0.N, (cfg0.win 3).flush t = true ∧ y ∈ ((cfg0.win 3).blk t).view.set := by
  have h0 : (y 0).val < 16640 := (y 0).isLt
  have h1 : (y 1).val < 1024 := (y 1).isLt
  have hN : cfg0.N = 13 := by decide
  refine ⟨⟨(y 0).val / 1280, by omega⟩, flush0_3 _, ?_⟩
  rw [mem_blk]
  obtain ⟨e0, e1⟩ := idx0_3 ⟨(y 0).val / 1280, by omega⟩
  intro a
  match a with
  | ⟨0, _⟩ =>
    show win0_3.index _ (0 : Fin 2) * 1280 ≤ (y 0).val ∧ (y 0).val < win0_3.index _ (0 : Fin 2) * 1280 + 1280
    rw [e0]; dsimp only; omega
  | ⟨1, _⟩ =>
    show win0_3.index _ (1 : Fin 2) * 1024 ≤ (y 1).val ∧ (y 1).val < win0_3.index _ (1 : Fin 2) * 1024 + 1024
    rw [e1]; omega

/-! ## The blocks -/

theorem blk_x (t : Fin cfg0.N) (r : Fin 1280) (d : Fin 1024) :
    (iblk m c 0 t : S1280x1024.Idx → EReal) (ix2 r d) = argX m c (ix2 (row t r) d) :=
  (congrArg (V m c main_arg0 : S16640x1024.Idx → EReal) (emb0_0 t r d)).trans (congrFun (V_main_arg0 m c) _)

theorem blk_g (t : Fin cfg0.N) (j : Fin 1024) : (iblk m c 2 t : S1x1024.Idx → EReal) (ix2 0 j) = argG m c (ix1 j) :=
  (congrArg (V m c main_v3 : S1x1024.Idx → EReal) (emb0_2 t j)).trans (g_at m c j)

theorem blk_ctx (t : Fin cfg0.N) (k : Fin 6) (j : Fin 1024) : (iblk m c 1 t : S2x6x1024.Idx → EReal) (ix3 0 k j)
    = argC m c (ix1 ⟨1024 * k.val + j.val, by have := j.isLt; have := k.isLt; omega⟩) :=
  (congrArg (V m c main_v2 : S2x6x1024.Idx → EReal) (emb0_1 t 0 k j)).trans (ctx_at m c k j)

theorem blk_lat (t : Fin cfg0.N) (k : Fin 6) (j : Fin 1024) : (iblk m c 1 t : S2x6x1024.Idx → EReal) (ix3 1 k j)
    = argL m c (ix2 0 ⟨1024 * k.val + j.val, by have := j.isLt; have := k.isLt; omega⟩) :=
  (congrArg (V m c main_v2 : S2x6x1024.Idx → EReal) (emb0_1 t 1 k j)).trans (lat_at m c k j)

/-- The row's kind, as the body decides it on words. -/
theorem is_ctx (a r : ℕ) (ha : a < 13) (hr : r < 1280) :
    IntOp.cmpi .sge (IntOp.addi (Scalar.muli (BitVec.ofNat 32 a) 1280#32) (BitVec.ofNat 32 r)) 16384#32
      = if 1280 * a + r < 16384 then 0#1 else 1#1 := by
  have e : IntOp.addi (Scalar.muli (BitVec.ofNat 32 a) 1280#32) (BitVec.ofNat 32 r) = BitVec.ofNat 32 (1280 * a + r) := by
    show BitVec.ofNat 32 a * 1280#32 + BitVec.ofNat 32 r = _
    apply BitVec.eq_of_toNat_eq
    simp
    omega
  rw [e]
  have hm : (1280 * a + r) % 4294967296 = 1280 * a + r := by omega
  have hi : (BitVec.ofNat 32 (1280 * a + r)).toInt = ((1280 * a + r : ℕ) : ℤ) := by
    rw [BitVec.toInt_eq_toNat_of_lt] <;> rw [BitVec.toNat_ofNat, hm]
    omega
  show BitVec.ofBool (BitVec.sle 16384#32 (BitVec.ofNat 32 (1280 * a + r))) = _
  have hk : (16384#32 : BitVec 32).toInt = 16384 := rfl
  unfold BitVec.sle
  rw [hi, hk]
  split
  · rw [decide_eq_false (by omega)]; rfl
  · rw [decide_eq_true (by omega)]; rfl

/-- The choice between the two kinds' entries. -/
theorem pick (t : Fin cfg0.N) (r : Fin 1280) (a b : EReal) :
    Scalar.select (IntOp.cmpi .sge (IntOp.addi (Scalar.muli (BitVec.ofNat 32 ((grid0.coords t) 0).val) 1280#32) (BitVec.ofNat 32 r.val)) 16384#32) a b
      = if (row t r).val < 16384 then b else a := by
  rw [is_ctx _ _ ((grid0.coords t) 0).isLt r.isLt, coord0 t]
  show Scalar.select (if (row t r).val < 16384 then 0#1 else 1#1) _ _ = _
  split <;> rfl

/-- The normed and scaled row. -/
theorem scaled_at (t : Fin cfg0.N) (x : S1280x1024.Idx → EReal) (g : S1x1024.Idx → EReal) (u v : S1x1x1024.Idx → EReal)
    (r : Fin 1280) (j : Fin 1024) :
    k0_pay2 (F := Ideal) (grid0.coords t) x g u v (ix2 r j)
      = normed (fun d => x (ix2 r d)) (g (ix2 0 j)) j
          * (Ideal.ofBits .f32 0x3F800000#32 + if (row t r).val < 16384 then v (ix3 0 0 j) else u (ix3 0 0 j)) := by
  unfold normed
  rw [← pick t r]
  pointwise [k0_pay2]

/-- The row's kind as a mask. -/
theorem mask_at (t : Fin cfg0.N) (r : Fin 1280) :
    k0_pay3 (grid0.coords t) (ix2 r 0)
      = IntOp.cmpi .sge (IntOp.addi (Scalar.muli (BitVec.ofNat 32 ((grid0.coords t) 0).val) 1280#32) (BitVec.ofNat 32 r.val)) 16384#32 := by
  pointwise [k0_pay3]

/-- The shift. -/
theorem shifted_at (s : FVec Ideal S1280x1024 .f32) (k : IVec S1280x1 1) (u v : S1x1x1024.Idx → EReal) (r : Fin 1280) (j : Fin 1024) :
    k0_pay1 (F := Ideal) s k u v (ix2 r j) = s (ix2 r j) + Scalar.select (k (ix2 r 0)) (u (ix3 0 0 j)) (v (ix3 0 0 j)) := by
  pointwise [k0_pay1]

/-- A load of one modulation's row. -/
theorem ld_at (x : Vec Ideal S2x6x1024 .f32) (p : Fin 2) (q : Fin 6) {off : Fin 3 → ℕ} (inb) (h : off = ![p.val, q.val, 0]) (j : Fin 1024) :
    View.ld x (Rect.unit (s := S2x6x1024) off S1x1x1024.size inb) (ix3 0 0 j) = x (ix3 p q j) := by
  subst h; pointwise

/-- What the body leaves, entry by entry, from the blocks it finds. -/
theorem body_at (t : Fin cfg0.N) (x0 : S1280x1024.Idx → EReal) (x1 : S2x6x1024.Idx → EReal) (x2 : S1x1024.Idx → EReal)
    (r : Fin 1280) (j : Fin 1024) :
    out0_3 (F := Ideal) (grid0.coords t) x0 x1 x2 (ix2 r j)
      = normed (fun d => x0 (ix2 r d)) (x2 (ix2 0 j)) j
          * (Ideal.ofBits .f32 0x3F800000#32 + if (row t r).val < 16384 then x1 (ix3 1 1 j) else x1 (ix3 0 1 j))
        + if (row t r).val < 16384 then x1 (ix3 1 0 j) else x1 (ix3 0 0 j) := by
  have z : (![0, 0] : Fin 2 → ℕ) = fun _ => 0 := by funext a; fin_cases a <;> rfl
  unfold out0_3
  rw [View.canon_unit_zero z, View.ld_unit_zero z, View.ld_unit_zero z]
  have l2 : (View.ld x1 r0_2 : Vec Ideal S1x1x1024 .f32) (ix3 0 0 j) = x1 (ix3 0 1 j) := ld_at x1 0 1 _ rfl j
  have l3 : (View.ld x1 r0_3 : Vec Ideal S1x1x1024 .f32) (ix3 0 0 j) = x1 (ix3 1 1 j) := ld_at x1 1 1 _ rfl j
  have l4 : (View.ld x1 r0_4 : Vec Ideal S1x1x1024 .f32) (ix3 0 0 j) = x1 (ix3 0 0 j) := ld_at x1 0 0 _ rfl j
  have l5 : (View.ld x1 r0_5 : Vec Ideal S1x1x1024 .f32) (ix3 0 0 j) = x1 (ix3 1 0 j) := ld_at x1 1 0 _ rfl j
  rw [shifted_at, scaled_at, mask_at, pick, l2, l3, l4, l5]

theorem block_eq (t : Fin cfg0.N) :
    (dats m 0 c).flushed 3 t
      = ((cfg0.win 3).blk t).view.read (Elt Ideal) (result (argX m c) (argG m c) (argC m c) (argL m c)) := by
  rw [Value.flushed3]
  refine funext fun y => ?_
  obtain ⟨r, j, rfl⟩ : ∃ r j, y = (ix2 r j : S1280x1024.Idx) := ⟨y 0, y 1, by funext a; fin_cases a <;> rfl⟩
  refine (body_at t _ _ _ r j).trans (Eq.trans ?_
    (congrArg (result (argX m c) (argG m c) (argC m c) (argL m c)) (emb0_3 t r j)).symm)
  show _ = value 0 1 _ _ _ _ (row t r) j
  unfold value modulation
  rw [blk_ctx, blk_ctx, blk_lat, blk_lat, blk_g]
  simp only [blk_x]

theorem array_eq : (dats m 0 c).arrAt 3 cfg0.N = result (argX m c) (argG m c) (argC m c) (argL m c) :=
  (dats m 0 c).arrAt_eq_of_cover 3 _ (fun t _ => block_eq m c t) cover

end Cert.MixNormIdeal.Hand

end
-- ==== Proof.MixNormReference.lean ====
/-
  The reference of the norm ahead of a mixer: the latent rows and the context rows normed, scaled and shifted as whole arrays;
  entry by entry it is what the call leaves.
-/
module

public import proofs.«01_k».proof.Proof.MixNorm
public import proofs.«01_k».proof.Proof.Gen.MixNormRefIdeal.Run

@[expose] public section

set_option maxRecDepth 16384

noncomputable section

namespace Cert.MixNormRefIdeal.Hand

open Idealize.ShloMosaic Idealize.ShloMosaic.TcCoe Idealize.ShloMosaic.Tactic
open Cert.MixNormRefIdeal Cert.MixNormRefIdeal.Gen
open Cert.MixNormIdeal.Hand (normed modulation value)

variable {F : FTy → Type} [FloatOps F]

/-- The array types, at any reading of the floats. -/
abbrev Rows (F : FTy → Type) := (⟨S16640x1024, .f32⟩ : BufTy).Contents (Elt F)
abbrev Latent (F : FTy → Type) := (⟨S16384x1024, .f32⟩ : BufTy).Contents (Elt F)
abbrev Context (F : FTy → Type) := (⟨S256x1024, .f32⟩ : BufTy).Contents (Elt F)
abbrev Weight (F : FTy → Type) := (⟨S1024, .f32⟩ : BufTy).Contents (Elt F)

/-- The latent rows over their root mean squares, weighted. -/
def normedLatent (x : Latent F) (g : Weight F) : Latent F :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The context rows over their root mean squares, weighted. -/
def normedContext (x : Context F) (g : Weight F) : Context F :=
  mulf (mulf x (broadcastInDim S256x1024 ![0, 1] bcast_S256x1_S256x1024_0_1
      (Host.rsqrt (addf (Host.divf (broadcastInDim S256x1 ![0] bcast_S256_S256x1_0
          (Host.reduceAdd (mulf x x) (constant S_ .f32 0x00000000#32) reducesTo_S256x1024_S256_d1 h_S_))
        (broadcastInDim S256x1 ![] bcast_S_S256x1 (constant S_ .f32 0x44800000#32)))
        (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

/-- The latent rows, scaled and shifted. -/
def latent (x : Rows F) (g : Weight F) (mx : (⟨S1x6144, .f32⟩ : BufTy).Contents (Elt F)) : Latent F :=
  addf (mulf (normedLatent (extractStridedSlice S16384x1024 ![0, 0] x slices_S16640x1024_S16384x1024_0_0) g)
      (broadcastInDim S16384x1024 ![0, 1] bcast_S1x1024_S16384x1024_0_1
        (addf (broadcastInDim S1x1024 ![] bcast_S_S1x1024 (constant S_ .f32 0x3F800000#32))
          (extractStridedSlice S1x1024 ![0, 1024] mx slices_S1x6144_S1x1024_0_1024))))
    (broadcastInDim S16384x1024 ![0, 1] bcast_S1x1024_S16384x1024_0_1
      (extractStridedSlice S1x1024 ![0, 0] mx slices_S1x6144_S1x1024_0_0))

/-- The context rows, scaled and shifted. -/
def context (x : Rows F) (g : Weight F) (mc : (⟨S6144, .f32⟩ : BufTy).Contents (Elt F)) : Context F :=
  addf (mulf (normedContext (extractStridedSlice S256x1024 ![16384, 0] x slices_S16640x1024_S256x1024_16384_0) g)
      (broadcastInDim S256x1024 ![0, 1] bcast_S1x1024_S256x1024_0_1 (broadcastInDim S1x1024 ![1] bcast_S1024_S1x1024_1
        (addf (broadcastInDim S1024 ![] bcast_S_S1024 (constant S_ .f32 0x3F800000#32))
          (extractStridedSlice S1024 ![1024] mc slices_S6144_S1024_1024)))))
    (broadcastInDim S256x1024 ![0, 1] bcast_S1x1024_S256x1024_0_1 (broadcastInDim S1x1024 ![1] bcast_S1024_S1x1024_1
      (extractStridedSlice S1024 ![0] mc slices_S6144_S1024_0)))

/-- All rows. -/
def rows (x : Rows F) (g : Weight F) (mc : (⟨S6144, .f32⟩ : BufTy).Contents (Elt F)) (mx : (⟨S1x6144, .f32⟩ : BufTy).Contents (Elt F)) : Rows F :=
  concatenate S16640x1024 0 [⟨S16384x1024, latent x g mx⟩, ⟨S256x1024, context x g mc⟩] concatenates_S16384x1024_S256x1024_S16640x1024_d0

theorem normedLatent_at (x : S16384x1024.Idx → EReal) (g : S1024.Idx → EReal) (r : Fin 16384) (j : Fin 1024) :
    normedLatent (F := Ideal) x g (ix2 r j) = normed (fun d => x (ix2 r d)) (g (ix1 j)) j := by
  unfold normed
  pointwise [normedLatent]

theorem normedContext_at (x : S256x1024.Idx → EReal) (g : S1024.Idx → EReal) (r : Fin 256) (j : Fin 1024) :
    normedContext (F := Ideal) x g (ix2 r j) = normed (fun d => x (ix2 r d)) (g (ix1 j)) j := by
  unfold normed
  pointwise [normedContext]

/-- A latent row of the stream, and a context row of it. -/
theorem latent_slice (x : S16640x1024.Idx → EReal) (r : Fin 16384) (d : Fin 1024) :
    extractStridedSlice (α := EReal) S16384x1024 ![0, 0] x slices_S16640x1024_S16384x1024_0_0 (ix2 r d)
      = x (ix2 ⟨r.val, by have := r.isLt; omega⟩ d) := by
  pointwise

theorem context_slice (x : S16640x1024.Idx → EReal) (r : Fin 256) (d : Fin 1024) :
    extractStridedSlice (α := EReal) S256x1024 ![16384, 0] x slices_S16640x1024_S256x1024_16384_0 (ix2 r d)
      = x (ix2 ⟨16384 + r.val, by have := r.isLt; omega⟩ d) := by
  pointwise

theorem latent_at (x : S16640x1024.Idx → EReal) (g : S1024.Idx → EReal) (mx : S1x6144.Idx → EReal) (r : Fin 16384) (j : Fin 1024) :
    latent (F := Ideal) x g mx (ix2 r j)
      = normed (fun d => x (ix2 ⟨r.val, by have := r.isLt; omega⟩ d)) (g (ix1 j)) j
          * (Ideal.ofBits .f32 0x3F800000#32 + mx (ix2 0 ⟨1024 + j.val, by have := j.isLt; omega⟩))
        + mx (ix2 0 ⟨0 + j.val, by have := j.isLt; omega⟩) := by
  have e : ∀ n : Latent Ideal, addf (F := Ideal) (s := S16384x1024) (φ := .f32) (mulf n (broadcastInDim S16384x1024 ![0, 1] bcast_S1x1024_S16384x1024_0_1
        (addf (broadcastInDim S1x1024 ![] bcast_S_S1x1024 (constant S_ .f32 0x3F800000#32))
          (extractStridedSlice S1x1024 ![0, 1024] mx slices_S1x6144_S1x1024_0_1024))))
      (broadcastInDim S16384x1024 ![0, 1] bcast_S1x1024_S16384x1024_0_1
        (extractStridedSlice S1x1024 ![0, 0] mx slices_S1x6144_S1x1024_0_0)) (ix2 r j)
      = n (ix2 r j) * (Ideal.ofBits .f32 0x3F800000#32 + mx (ix2 0 ⟨1024 + j.val, by have := j.isLt; omega⟩))
        + mx (ix2 0 ⟨0 + j.val, by have := j.isLt; omega⟩) := by
    intro n; pointwise
  refine (e _).trans ?_
  rw [normedLatent_at]
  simp only [latent_slice]

theorem context_at (x : S16640x1024.Idx → EReal) (g : S1024.Idx → EReal) (mc : S6144.Idx → EReal) (r : Fin 256) (j : Fin 1024) :
    context (F := Ideal) x g mc (ix2 r j)
      = normed (fun d => x (ix2 ⟨16384 + r.val, by have := r.isLt; omega⟩ d)) (g (ix1 j)) j
          * (Ideal.ofBits .f32 0x3F800000#32 + mc (ix1 ⟨1024 + j.val, by have := j.isLt; omega⟩))
        + mc (ix1 ⟨0 + j.val, by have := j.isLt; omega⟩) := by
  have e : ∀ n : Context Ideal, addf (F := Ideal) (s := S256x1024) (φ := .f32) (mulf n (broadcastInDim S256x1024 ![0, 1] bcast_S1x1024_S256x1024_0_1
        (broadcastInDim S1x1024 ![1] bcast_S1024_S1x1024_1 (addf (broadcastInDim S1024 ![] bcast_S_S1024 (constant S_ .f32 0x3F800000#32))
          (extractStridedSlice S1024 ![1024] mc slices_S6144_S1024_1024)))))
      (broadcastInDim S256x1024 ![0, 1] bcast_S1x1024_S256x1024_0_1 (broadcastInDim S1x1024 ![1] bcast_S1024_S1x1024_1
        (extractStridedSlice S1024 ![0] mc slices_S6144_S1024_0))) (ix2 r j)
      = n (ix2 r j) * (Ideal.ofBits .f32 0x3F800000#32 + mc (ix1 ⟨1024 + j.val, by have := j.isLt; omega⟩))
        + mc (ix1 ⟨0 + j.val, by have := j.isLt; omega⟩) := by
    intro n; pointwise
  refine (e _).trans ?_
  rw [normedContext_at]
  simp only [context_slice]

/-- Where the rows of the two kinds lie among all of them. -/
theorem rows_split (a : Latent Ideal) (b : Context Ideal) (r : Fin 16640) (j : Fin 1024) :
    concatenate (α := EReal) S16640x1024 0 [⟨S16384x1024, a⟩, ⟨S256x1024, b⟩] concatenates_S16384x1024_S256x1024_S16640x1024_d0 (ix2 r j)
      = if h : r.val < 16384 then a (ix2 ⟨r.val, h⟩ j) else b (ix2 ⟨r.val - 16384, by have := r.isLt; omega⟩ j) := by
  pointwise

theorem rows_at (x : S16640x1024.Idx → EReal) (g : S1024.Idx → EReal) (mc : S6144.Idx → EReal) (mx : S1x6144.Idx → EReal)
    (r : Fin 16640) (j : Fin 1024) :
    rows (F := Ideal) x g mc mx (ix2 r j) = value 0 1 x g mc mx r j := by
  refine (rows_split _ _ r j).trans ?_
  unfold value modulation
  by_cases h : r.val < 16384
  · rw [dif_pos h, if_pos h, if_pos h, latent_at]
    rfl
  · have e : ∀ hh, (⟨16384 + (r.val - 16384), hh⟩ : Fin 16640) = r := fun _ => Fin.ext (by dsimp only; omega)
    rw [dif_neg h, if_neg h, if_neg h, context_at]
    simp only [e]
    rfl

theorem reference_eq (x : S16640x1024.Idx → EReal) (g : S1024.Idx → EReal) (mc : S6144.Idx → EReal) (mx : S1x6144.Idx → EReal) :
    truncf (F := Ideal) (s := S16640x1024) .bf16 (rows (F := Ideal) x g mc mx) bitsLt_bf16_f32 = Cert.MixNormIdeal.Hand.result x g mc mx := by
  funext i
  obtain ⟨r, j, rfl⟩ : ∃ r j, i = (ix2 r j : S16640x1024.Idx) := ⟨i 0, i 1, by funext a; fin_cases a <;> rfl⟩
  exact rows_at x g mc mx r j

end Cert.MixNormRefIdeal.Hand

end
-- ==== Proof.FinalNorm.lean ====
/-
  The last norm: every latent row over its root mean square, weighted. The context rows are left out.
-/
module

public import proofs.«01_k».proof.Proof.MixNorm
public import proofs.«01_k».proof.Proof.Gen.FinalNormIdeal.Value

@[expose] public section

set_option maxRecDepth 16384

noncomputable section

namespace Cert.FinalNormIdeal.Hand

open Idealize.ShloMosaic Idealize.ShloMosaic.TcCoe Idealize.ShloMosaic.Tactic Idealize.SL.Sem
open Cert.FinalNormIdeal Cert.FinalNormIdeal.Gen
open Cert.MixNormIdeal.Hand (normed)
open Idealize.ShloMosaic.Pipeline (Dat)

/-- The latent rows, normed. -/
def result (x : S16640x1024.Idx → EReal) (g : S1024.Idx → EReal) : S16384x1024.Idx → EReal :=
  fun i => normed (fun d => x (ix2 ⟨(i 0).val, lt_trans (i 0).isLt (by decide)⟩ d)) (g (ix1 (i 1))) (i 1)

variable (m : (ℓ : Loc nD τ sig) → Buf (Elt Ideal) ℓ) (c : Dev nD)

/-- The two arguments as arrays. -/
abbrev argX : S16640x1024.Idx → EReal := m ((c : Thread nD τ).loc main_arg0)
abbrev argG : S1024.Idx → EReal := m ((c : Thread nD τ).loc main_arg1)

theorem g_at (j : Fin 1024) : (V m c main_v0 : S1x1024.Idx → EReal) (ix2 0 j) = argG m c (ix1 j) := by
  unfold V
  after_results
  pointwise

/-! ## Where the blocks lie -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)

theorem lt_points (t : Fin cfg0.N) : t.val < 16 := lt_of_lt_of_eq t.isLt (by decide)

/-- Row `r` of a point's rows, among the latent rows. -/
def row (t : Fin cfg0.N) (r : Fin 1024) : Fin 16384 := ⟨1024 * t.val + r.val, by have := lt_points t; have := r.isLt; omega⟩

/-- The same row among all rows. -/
def wide (t : Fin cfg0.N) (r : Fin 1024) : Fin 16640 := ⟨1024 * t.val + r.val, by have := lt_points t; have := r.isLt; omega⟩

theorem emb0_1 (t : Fin cfg0.N) (j : Fin 1024) :
    ((cfg0.win 1).blk t).view.emb (ix2 (0 : Fin 1) j) = (ix2 0 j : S1x1024.Idx) := by
  obtain ⟨e0, e1⟩ := idx0_1 t
  funext a; apply Fin.ext
  match a with
  | ⟨0, _⟩ => show win0_1.index t (0 : Fin 2) * 1 + 1 * 0 = 0; omega
  | ⟨1, _⟩ => show win0_1.index t (1 : Fin 2) * 1024 + 1 * j.val = j.val; omega

theorem emb0_2 (t : Fin cfg0.N) (r : Fin 1024) (j : Fin 1024) :
    ((cfg0.win 2).blk t).view.emb (ix2 r j) = (ix2 (row t r) j : S16384x1024.Idx) := by
  obtain ⟨e0, e1⟩ := idx0_2 t
  funext a; apply Fin.ext
  match a with
  | ⟨0, _⟩ => show win0_2.index t (0 : Fin 2) * 1024 + 1 * r.val = 1024 * t.val + r.val; omega
  | ⟨1, _⟩ => show win0_2.index t (1 : Fin 2) * 1024 + 1 * j.val = j.val; omega

theorem mem_blk (t : Fin cfg0.N) (y : S16384x1024.Idx) :
    y ∈ ((cfg0.win 2).blk t).view.set ↔ ∀ a : Fin 2,
      win0_2.index t a * S1024x1024.size a ≤ (y a).val ∧ (y a).val < win0_2.index t a * S1024x1024.size a + S1024x1024.size a := by
  show y ∈ ((View.whole main_v1).slice (win0_2.rect t)).set ↔ _
  rw [View.set_slice_whole, Rect.mem_set_unit]
  exact Iff.rfl

/-- The points' blocks tile the array. -/
theorem cover (y : S16384x1024.Idx) : ∃ t : Fin cfg0.N, (cfg0.win 2).flush t = true ∧ y ∈ ((cfg0.win 2).blk t).view.set := by
  have h0 : (y 0).val < 16384 := (y 0).isLt
  have h1 : (y 1).val < 1024 := (y 1).isLt
  have hN : cfg0.N = 16 := by decide
  refine ⟨⟨(y 0).val / 1024, by omega⟩, flush0_2 _, ?_⟩
  rw [mem_blk]
  obtain ⟨e0, e1⟩ := idx0_2 ⟨(y 0).val / 1024, by omega⟩
  intro a
  match a with
  | ⟨0, _⟩ =>
    show win0_2.index _ (0 : Fin 2) * 1024 ≤ (y 0).val ∧ (y 0).val < win0_2.index _ (0 : Fin 2) * 1024 + 1024
    rw [e0]; dsimp only; omega
  | ⟨1, _⟩ =>
    show win0_2.index _ (1 : Fin 2) * 1024 ≤ (y 1).val ∧ (y 1).val < win0_2.index _ (1 : Fin 2) * 1024 + 1024
    rw [e1]; omega

/-! ## The blocks -/

/-- The block of rows a point reads: none of them is cut. -/
theorem blk_x (t : Fin cfg0.N) (r d : Fin 1024) : (X0_0 m c t : S1024x1024.Idx → EReal) (ix2 r d) = argX m c (ix2 (wide t r) d) := by
  obtain ⟨e0, e1⟩ := idx0_0 t
  unfold X0_0 Pipeline.Window.fill
  rw [dif_pos (moved0_0 t (ix2 r d))]
  refine Eq.trans (congrArg (V m c main_arg0 : S16640x1024.Idx → EReal) (?_ : _ = (ix2 (wide t r) d : S16640x1024.Idx))) (congrFun (V_main_arg0 m c) _)
  funext a; apply Fin.ext
  match a with
  | ⟨0, _⟩ => show win0_0.index t (0 : Fin 2) * 1024 + 1 * r.val = 1024 * t.val + r.val; omega
  | ⟨1, _⟩ => show win0_0.index t (1 : Fin 2) * 1024 + 1 * d.val = d.val; omega

theorem blk_g (t : Fin cfg0.N) (j : Fin 1024) : (iblk m c 1 t : S1x1024.Idx → EReal) (ix2 0 j) = argG m c (ix1 j) :=
  (congrArg (V m c main_v0 : S1x1024.Idx → EReal) (emb0_1 t j)).trans (g_at m c j)

theorem normed_at (x : S1024x1024.Idx → EReal) (g : S1x1024.Idx → EReal) (r j : Fin 1024) :
    k0_pay1 (F := Ideal) x g (ix2 r j) = normed (fun d => x (ix2 r d)) (g (ix2 0 j)) j := by
  unfold normed
  pointwise [k0_pay1]

theorem zero2 : (![0, 0] : Fin 2 → ℕ) = fun _ => 0 := by funext a; fin_cases a <;> rfl

theorem load0 (x : S1024x1024.Idx → EReal) :
    View.ld (Val := Elt Ideal) (e' := .f32) x (Rect.unit (s := S1024x1024) ![0, 0] S1024x1024.size inb_S1024x1024_S1024x1024_0_0) = x :=
  View.ld_unit_zero zero2 _ _
theorem load1 (x : S1x1024.Idx → EReal) :
    View.ld (Val := Elt Ideal) (e' := .f32) x (Rect.unit (s := S1x1024) ![0, 0] S1x1024.size inb_S1x1024_S1x1024_0_0) = x :=
  View.ld_unit_zero zero2 _ _

/-- A store of the whole block. -/
theorem whole_at (inb : ∀ a, (![0, 0] : Fin 2 → ℕ) a + S1024x1024.size a ≤ S1024x1024.size a) (w : S1024x1024.Idx → EReal)
    (G : Fin 1024 → Fin 1024 → EReal) (hw : ∀ r l : Fin 1024, w (ix2 r l) = G r l) (x : S1024x1024.Idx) :
    w x = G ((Rect.unit (s := S1024x1024) ![0, 0] S1024x1024.size inb).emb x 0) ((Rect.unit (s := S1024x1024) ![0, 0] S1024x1024.size inb).emb x 1) := by
  obtain ⟨r, l, rfl⟩ : ∃ r l, x = (ix2 r l : S1024x1024.Idx) := ⟨x 0, x 1, by funext a; fin_cases a <;> rfl⟩
  refine (hw r l).trans (congrArg₂ G (Fin.ext ?_) (Fin.ext ?_))
  · show r.val = 0 + 1 * r.val; omega
  · show l.val = 0 + 1 * l.val; omega

/-- What the body leaves, entry by entry, from the blocks it finds. -/
theorem body_at (i : grid0.Coords) (arg1 : Memref sig .tc .vmem S1024x1024 .f32) (harg1 : arg1.IsWhole)
    (arg2 : Memref sig .tc .vmem S1x1024 .f32) (harg2 : arg2.IsWhole) (arg3 : Memref sig .tc .vmem S1024x1024 .f32) (harg3 : arg3.IsWhole)
    (x : S1024x1024.Idx → EReal) (g : S1x1024.Idx → EReal) (r j : Fin 1024) :
    out0_A_2 (F := Ideal) c i arg1 harg1 arg2 harg2 arg3 harg3 x g (ix2 r j) = normed (fun d => x (ix2 r d)) (g (ix2 0 j)) j := by
  have cov := cover0_A_2 (F := Ideal) c i arg1 harg1 arg2 harg2 arg3 harg3 x g
  unfold out0_A_2
  rw [View.read_writes_eq_canon _ _ _ cov]
  refine (View.canon_apply_of_pieces (S := S1024x1024) (fun y => normed (fun d => x (ix2 (y 0) d)) (g (ix2 0 (y 1))) (y 1)) _ ?_ _ (cov _)).trans rfl
  unfold kernelRun0_A
  dsimp only
  simp only [View.readAt_eq_ld, Memref.IsWhole.read_unread]
  rw [load0, load1]
  refine List.forall_mem_cons.mpr ⟨?_, fun p hp => absurd hp List.not_mem_nil⟩
  exact whole_at inb_S1024x1024_S1024x1024_0_0 _ (fun r j => normed (fun d => x (ix2 r d)) (g (ix2 0 j)) j) fun r l => normed_at x g r l

theorem block_eq (t : Fin cfg0.N) :
    (dats m 0 c).flushed 2 t = ((cfg0.win 2).blk t).view.read (Elt Ideal) (result (argX m c) (argG m c)) := by
  rw [Value.flushed2_A]
  refine funext fun y => ?_
  obtain ⟨r, j, rfl⟩ : ∃ r j, y = (ix2 r j : S1024x1024.Idx) := ⟨y 0, y 1, by funext a; fin_cases a <;> rfl⟩
  refine (body_at c _ _ _ _ _ _ _ _ _ r j).trans (Eq.trans ?_ (congrArg (result (argX m c) (argG m c)) (emb0_2 t r j)).symm)
  show _ = normed (fun d => argX m c (ix2 (wide t r) d)) (argG m c (ix1 j)) j
  rw [blk_g]
  simp only [blk_x]

theorem array_eq : (dats m 0 c).arrAt 2 cfg0.N = result (argX m c) (argG m c) :=
  (dats m 0 c).arrAt_eq_of_cover 2 _ (fun t _ => block_eq m c t) cover

end Cert.FinalNormIdeal.Hand

end
-- ==== Proof.FinalNormReference.lean ====
/-
  The reference of the last norm, as whole arrays; entry by entry it is what the call leaves.
-/
module

public import proofs.«01_k».proof.Proof.FinalNorm
public import proofs.«01_k».proof.Proof.Gen.FinalNormRefIdeal.Run

@[expose] public section

set_option maxRecDepth 16384

noncomputable section

namespace Cert.FinalNormRefIdeal.Hand

open Idealize.ShloMosaic Idealize.ShloMosaic.TcCoe Idealize.ShloMosaic.Tactic
open Cert.FinalNormRefIdeal Cert.FinalNormRefIdeal.Gen
open Cert.MixNormIdeal.Hand (normed)

variable {F : FTy → Type} [FloatOps F]

/-- The array types, at any reading of the floats. -/
abbrev Rows (F : FTy → Type) := (⟨S16640x1024, .f32⟩ : BufTy).Contents (Elt F)
abbrev Latent (F : FTy → Type) := (⟨S16384x1024, .f32⟩ : BufTy).Contents (Elt F)
abbrev Weight (F : FTy → Type) := (⟨S1024, .f32⟩ : BufTy).Contents (Elt F)

/-- The latent rows over their root mean squares, weighted. -/
def normedLatent (x : Latent F) (g : Weight F) : Latent F :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The latent rows of all rows, normed. -/
def latent (x : Rows F) (g : Weight F) : Latent F :=
  normedLatent (extractStridedSlice S16384x1024 ![0, 0] x slices_S16640x1024_S16384x1024_0_0) g

theorem normedLatent_at (x : S16384x1024.Idx → EReal) (g : S1024.Idx → EReal) (r : Fin 16384) (j : Fin 1024) :
    normedLatent (F := Ideal) x g (ix2 r j) = normed (fun d => x (ix2 r d)) (g (ix1 j)) j := by
  unfold normed
  pointwise [normedLatent]

theorem slice_at (x : S16640x1024.Idx → EReal) (r : Fin 16384) (d : Fin 1024) :
    extractStridedSlice (α := EReal) S16384x1024 ![0, 0] x slices_S16640x1024_S16384x1024_0_0 (ix2 r d)
      = x (ix2 ⟨r.val, lt_trans r.isLt (by decide)⟩ d) := by
  pointwise

theorem reference_eq (x : S16640x1024.Idx → EReal) (g : S1024.Idx → EReal) :
    latent (F := Ideal) x g = Cert.FinalNormIdeal.Hand.result x g := by
  funext i
  obtain ⟨r, j, rfl⟩ : ∃ r j, i = (ix2 r j : S16384x1024.Idx) := ⟨i 0, i 1, by funext a; fin_cases a <;> rfl⟩
  refine (normedLatent_at _ g r j).trans ?_
  show normed _ _ j = normed _ _ j
  refine congrArg (fun f => normed f (g (ix1 j)) j) (funext fun d => slice_at x r d)

end Cert.FinalNormRefIdeal.Hand

end
-- ==== Proof.FfnNorm.lean ====
/-
  The norm ahead of the experts, and the router's product: a row over its root mean square, weighted, scaled and shifted by the
  modulations of the row's kind, and the products of that row with the experts' router columns.
-/
module

public import proofs.«01_k».proof.Proof.MixNorm
public import proofs.«01_k».proof.Proof.Gen.FfnNormIdeal.Value

@[expose] public section

set_option maxRecDepth 16384

noncomputable section

namespace Cert.FfnNormIdeal.Hand

open Idealize.ShloMosaic Idealize.ShloMosaic.TcCoe Idealize.ShloMosaic.Tactic Idealize.SL.Sem
open Cert.FfnNormIdeal Cert.FfnNormIdeal.Gen
open Cert.MixNormIdeal.Hand (normed modulation value is_ctx)
open Idealize.ShloMosaic.Pipeline (Dat)

/-- The array of the normed rows: shifted by the fourth modulation, scaled by the fifth. -/
def result (x : S16640x1024.Idx → EReal) (g : S1024.Idx → EReal) (mc : S6144.Idx → EReal) (mx : S1x6144.Idx → EReal) :
    S16640x1024.Idx → EReal :=
  fun i => value 3 4 x g mc mx (i 0) (i 1)

/-- The products of the normed rows with the router's columns, the experts across the rows. -/
def logits (x : S16640x1024.Idx → EReal) (g : S1024.Idx → EReal) (w : S1024x64.Idx → EReal) (mc : S6144.Idx → EReal) (mx : S1x6144.Idx → EReal) :
    S64x16640.Idx → EReal :=
  fun i => ∑ d : Fin 1024, value 3 4 x g mc mx (i 1) d * w (ix2 d (i 0))

variable (m : (ℓ : Loc nD τ sig) → Buf (Elt Ideal) ℓ) (c : Dev nD)

/-- The five arguments as arrays. -/
abbrev argX : S16640x1024.Idx → EReal := m ((c : Thread nD τ).loc main_arg0)
abbrev argG : S1024.Idx → EReal := m ((c : Thread nD τ).loc main_arg1)
abbrev argW : S1024x64.Idx → EReal := m ((c : Thread nD τ).loc main_arg2)
abbrev argC : S6144.Idx → EReal := m ((c : Thread nD τ).loc main_arg3)
abbrev argL : S1x6144.Idx → EReal := m ((c : Thread nD τ).loc main_arg4)

theorem w_at (e : Fin 64) (d : Fin 1024) : (V m c main_v3 : S64x1024.Idx → EReal) (ix2 e d) = argW m c (ix2 d e) := by
  unfold V
  after_results
  pointwise

theorem g_at (j : Fin 1024) : (V m c main_v4 : S1x1024.Idx → EReal) (ix2 0 j) = argG m c (ix1 j) := by
  unfold V
  after_results
  pointwise

/-- The context's modulations are the first plane. -/
theorem ctx_at (k : Fin 6) (j : Fin 1024) : (V m c main_v2 : S2x6x1024.Idx → EReal) (ix3 0 k j)
    = argC m c (ix1 ⟨1024 * k.val + j.val, by have := j.isLt; have := k.isLt; omega⟩) := by
  unfold V
  after_results
  clean_types
  fin_cases k <;> pointwise

/-- The latents' modulations are the second. -/
theorem lat_at (k : Fin 6) (j : Fin 1024) : (V m c main_v2 : S2x6x1024.Idx → EReal) (ix3 1 k j)
    = argL m c (ix2 0 ⟨1024 * k.val + j.val, by have := j.isLt; have := k.isLt; omega⟩) := by
  unfold V
  after_results
  clean_types
  fin_cases k <;> pointwise

/-! ## Where the blocks lie -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = t.val :=
  (by decide +kernel : ∀ t : Fin grid0.N, _)
theorem coord0 : ∀ t : Fin cfg0.N, ((grid0.coords t) 0).val = t.val :=
  (by decide +kernel : ∀ t : Fin grid0.N, _)

theorem lt_points (t : Fin cfg0.N) : t.val < 13 := lt_of_lt_of_eq t.isLt (by decide)

/-- Row `r` of a point's rows. -/
def row (t : Fin cfg0.N) (r : Fin 1280) : Fin 16640 := ⟨1280 * t.val + r.val, by have := lt_points t; have := r.isLt; omega⟩

theorem emb0_0 (t : Fin cfg0.N) (r : Fin 1280) (d : Fin 1024) :
    ((cfg0.win 0).blk t).view.emb (ix2 r d) = (ix2 (row t r) d : S16640x1024.Idx) := by
  obtain ⟨e0, e1⟩ := idx0_0 t
  funext a; apply Fin.ext
  match a with
  | ⟨0, _⟩ => show win0_0.index t (0 : Fin 2) * 1280 + 1 * r.val = 1280 * t.val + r.val; omega
  | ⟨1, _⟩ => show win0_0.index t (1 : Fin 2) * 1024 + 1 * d.val = d.val; omega

theorem emb0_1 (t : Fin cfg0.N) (p : Fin 2) (q : Fin 6) (j : Fin 1024) :
    ((cfg0.win 1).blk t).view.emb (ix3 p q j) = (ix3 p q j : S2x6x1024.Idx) := by
  obtain ⟨e0, e1, e2⟩ := idx0_1 t
  funext a; apply Fin.ext
  match a with
  | ⟨0, _⟩ => show win0_1.index t (0 : Fin 3) * 2 + 1 * p.val = p.val; omega
  | ⟨1, _⟩ => show win0_1.index t (1 : Fin 3) * 6 + 1 * q.val = q.val; omega
  | ⟨2, _⟩ => show win0_1.index t (2 : Fin 3) * 1024 + 1 * j.val = j.val; omega

theorem emb0_2 (t : Fin cfg0.N) (j : Fin 1024) :
    ((cfg0.win 2).blk t).view.emb (ix2 (0 : Fin 1) j) = (ix2 0 j : S1x1024.Idx) := by
  obtain ⟨e0, e1⟩ := idx0_2 t
  funext a; apply Fin.ext
  match a with
  | ⟨0, _⟩ => show win0_2.index t (0 : Fin 2) * 1 + 1 * 0 = 0; omega
  | ⟨1, _⟩ => show win0_2.index t (1 : Fin 2) * 1024 + 1 * j.val = j.val; omega

theorem emb0_3 (t : Fin cfg0.N) (e : Fin 64) (d : Fin 1024) :
    ((cfg0.win 3).blk t).view.emb (ix2 e d) = (ix2 e d : S64x1024.Idx) := by
  obtain ⟨e0, e1⟩ := idx0_3 t
  funext a; apply Fin.ext
  match a with
  | ⟨0, _⟩ => show win0_3.index t (0 : Fin 2) * 64 + 1 * e.val = e.val; omega
  | ⟨1, _⟩ => show win0_3.index t (1 : Fin 2) * 1024 + 1 * d.val = d.val; omega

theorem emb0_4 (t : Fin cfg0.N) (r : Fin 1280) (j : Fin 1024) :
    ((cfg0.win 4).blk t).view.emb (ix2 r j) = (ix2 (row t r) j : S16640x1024.Idx) := by
  obtain ⟨e0, e1⟩ := idx0_4 t
  funext a; apply Fin.ext
  match a with
  | ⟨0, _⟩ => show win0_4.index t (0 : Fin 2) * 1280 + 1 * r.val = 1280 * t.val + r.val; omega
  | ⟨1, _⟩ => show win0_4.index t (1 : Fin 2) * 1024 + 1 * j.val = j.val; omega

theorem mem_blk (t : Fin cfg0.N) (y : S16640x1024.Idx) :
    y ∈ ((cfg0.win 4).blk t).view.set ↔ ∀ a : Fin 2,
      win0_4.index t a * S1280x1024.size a ≤ (y a).val ∧ (y a).val < win0_4.index t a * S1280x1024.size a + S1280x1024.size a := by
  show y ∈ ((View.whole main_v5_0).slice (win0_4.rect t)).set ↔ _
  rw [View.set_slice_whole, Rect.mem_set_unit]
  exact Iff.rfl

/-- The blocks written back tile the result. -/
theorem cover (y : S16640x1024.Idx) :
    ∃ t : Fin cfg0.N, (cfg0.win 4).flush t = true ∧ y ∈ ((cfg0.win 4).blk t).view.set := by
  have h0 : (y 0).val < 16640 := (y 0).isLt
  have h1 : (y 1).val < 1024 := (y 1).isLt
  have hN : cfg0.N = 13 := by decide
  refine ⟨⟨(y 0).val / 1280, by omega⟩, flush0_4 _, ?_⟩
  rw [mem_blk]
  obtain ⟨e0, e1⟩ := idx0_4 ⟨(y 0).val / 1280, by omega⟩
  intro a
  match a with
  | ⟨0, _⟩ =>
    show win0_4.index _ (0 : Fin 2) * 1280 ≤ (y 0).val ∧ (y 0).val < win0_4.index _ (0 : Fin 2) * 1280 + 1280
    rw [e0]; dsimp only; omega
  | ⟨1, _⟩ =>
    show win0_4.index _ (1 : Fin 2) * 1024 ≤ (y 1).val ∧ (y 1).val < win0_4.index _ (1 : Fin 2) * 1024 + 1024
    rw [e1]; omega

theorem emb0_5 (t : Fin cfg0.N) (e : Fin 64) (r : Fin 1280) :
    ((cfg0.win 5).blk t).view.emb (ix2 e r) = (ix2 e (row t r) : S64x16640.Idx) := by
  obtain ⟨e0, e1⟩ := idx0_5 t
  funext a; apply Fin.ext
  match a with
  | ⟨0, _⟩ => show win0_5.index t (0 : Fin 2) * 64 + 1 * e.val = e.val; omega
  | ⟨1, _⟩ => show win0_5.index t (1 : Fin 2) * 1280 + 1 * r.val = 1280 * t.val + r.val; omega

theorem mem_blk_logits (t : Fin cfg0.N) (y : S64x16640.Idx) :
    y ∈ ((cfg0.win 5).blk t).view.set ↔ ∀ a : Fin 2,
      win0_5.index t a * S64x1280.size a ≤ (y a).val ∧ (y a).val < win0_5.index t a * S64x1280.size a + S64x1280.size a := by
  show y ∈ ((View.whole main_v5_1).slice (win0_5.rect t)).set ↔ _
  rw [View.set_slice_whole, Rect.mem_set_unit]
  exact Iff.rfl

/-- The blocks of the router's products tile their array. -/
theorem cover_logits (y : S64x16640.Idx) :
    ∃ t : Fin cfg0.N, (cfg0.win 5).flush t = true ∧ y ∈ ((cfg0.win 5).blk t).view.set := by
  have h0 : (y 0).val < 64 := (y 0).isLt
  have h1 : (y 1).val < 16640 := (y 1).isLt
  have hN : cfg0.N = 13 := by decide
  refine ⟨⟨(y 1).val / 1280, by omega⟩, flush0_5 _, ?_⟩
  rw [mem_blk_logits]
  obtain ⟨e0, e1⟩ := idx0_5 ⟨(y 1).val / 1280, by omega⟩
  intro a
  match a with
  | ⟨0, _⟩ =>
    show win0_5.index _ (0 : Fin 2) * 64 ≤ (y 0).val ∧ (y 0).val < win0_5.index _ (0 : Fin 2) * 64 + 64
    rw [e0]; omega
  | ⟨1, _⟩ =>
    show win0_5.index _ (1 : Fin 2) * 1280 ≤ (y 1).val ∧ (y 1).val < win0_5.index _ (1 : Fin 2) * 1280 + 1280
    rw [e1]; dsimp only; omega

/-! ## The blocks -/

theorem blk_x (t : Fin cfg0.N) (r : Fin 1280) (d : Fin 1024) :
    (iblk m c 0 t : S1280x1024.Idx → EReal) (ix2 r d) = argX m c (ix2 (row t r) d) :=
  (congrArg (V m c main_arg0 : S16640x1024.Idx → EReal) (emb0_0 t r d)).trans (congrFun (V_main_arg0 m c) _)

theorem blk_g (t : Fin cfg0.N) (j : Fin 1024) : (iblk m c 2 t : S1x1024.Idx → EReal) (ix2 0 j) = argG m c (ix1 j) :=
  (congrArg (V m c main_v4 : S1x1024.Idx → EReal) (emb0_2 t j)).trans (g_at m c j)

theorem blk_ctx (t : Fin cfg0.N) (k : Fin 6) (j : Fin 1024) : (iblk m c 1 t : S2x6x1024.Idx → EReal) (ix3 0 k j)
    = argC m c (ix1 ⟨1024 * k.val + j.val, by have := j.isLt; have := k.isLt; omega⟩) :=
  (congrArg (V m c main_v2 : S2x6x1024.Idx → EReal) (emb0_1 t 0 k j)).trans (ctx_at m c k j)

theorem blk_lat (t : Fin cfg0.N) (k : Fin 6) (j : Fin 1024) : (iblk m c 1 t : S2x6x1024.Idx → EReal) (ix3 1 k j)
    = argL m c (ix2 0 ⟨1024 * k.val + j.val, by have := j.isLt; have := k.isLt; omega⟩) :=
  (congrArg (V m c main_v2 : S2x6x1024.Idx → EReal) (emb0_1 t 1 k j)).trans (lat_at m c k j)

theorem blk_w (t : Fin cfg0.N) (e : Fin 64) (d : Fin 1024) : (iblk m c 3 t : S64x1024.Idx → EReal) (ix2 e d) = argW m c (ix2 d e) :=
  (congrArg (V m c main_v3 : S64x1024.Idx → EReal) (emb0_3 t e d)).trans (w_at m c e d)

/-- The choice between the two kinds' entries. -/
theorem pick (t : Fin cfg0.N) (r : Fin 1280) (a b : EReal) :
    Scalar.select (IntOp.cmpi .sge (IntOp.addi (Scalar.muli (BitVec.ofNat 32 ((grid0.coords t) 0).val) 1280#32) (BitVec.ofNat 32 r.val)) 16384#32) a b
      = if (row t r).val < 16384 then b else a := by
  rw [is_ctx _ _ ((grid0.coords t) 0).isLt r.isLt, coord0 t]
  show Scalar.select (if (row t r).val < 16384 then 0#1 else 1#1) _ _ = _
  split <;> rfl

/-- The normed and scaled row. -/
theorem scaled_at (t : Fin cfg0.N) (x : S1280x1024.Idx → EReal) (g : S1x1024.Idx → EReal) (u v : S1x1x1024.Idx → EReal)
    (r : Fin 1280) (j : Fin 1024) :
    k0_pay4 (F := Ideal) (grid0.coords t) x g u v (ix2 r j)
      = normed (fun d => x (ix2 r d)) (g (ix2 0 j)) j
          * (Ideal.ofBits .f32 0x3F800000#32 + if (row t r).val < 16384 then v (ix3 0 0 j) else u (ix3 0 0 j)) := by
  unfold normed
  rw [← pick t r]
  pointwise [k0_pay4]

/-- The row's kind as a mask. -/
theorem mask_at (t : Fin cfg0.N) (r : Fin 1280) :
    k0_pay5 (grid0.coords t) (ix2 r 0)
      = IntOp.cmpi .sge (IntOp.addi (Scalar.muli (BitVec.ofNat 32 ((grid0.coords t) 0).val) 1280#32) (BitVec.ofNat 32 r.val)) 16384#32 := by
  pointwise [k0_pay5]

/-- The shift. -/
theorem shifted_at (s : FVec Ideal S1280x1024 .f32) (k : IVec S1280x1 1) (u v : S1x1x1024.Idx → EReal) (r : Fin 1280) (j : Fin 1024) :
    k0_pay1 (F := Ideal) s k u v (ix2 r j) = s (ix2 r j) + Scalar.select (k (ix2 r 0)) (u (ix3 0 0 j)) (v (ix3 0 0 j)) := by
  pointwise [k0_pay1]

/-- A load of one modulation's row. -/
theorem ld_at (x : Vec Ideal S2x6x1024 .f32) (p : Fin 2) (q : Fin 6) {off : Fin 3 → ℕ} (inb) (h : off = ![p.val, q.val, 0]) (j : Fin 1024) :
    View.ld x (Rect.unit (s := S2x6x1024) off S1x1x1024.size inb) (ix3 0 0 j) = x (ix3 p q j) := by
  subst h; pointwise

/-- The entry the body leaves, from the blocks it finds. -/
def entry (t : Fin cfg0.N) (x0 : S1280x1024.Idx → EReal) (x1 : S2x6x1024.Idx → EReal) (x2 : S1x1024.Idx → EReal) (r : Fin 1280) (j : Fin 1024) : EReal :=
  normed (fun d => x0 (ix2 r d)) (x2 (ix2 0 j)) j
      * (Ideal.ofBits .f32 0x3F800000#32 + if (row t r).val < 16384 then x1 (ix3 1 4 j) else x1 (ix3 0 4 j))
    + if (row t r).val < 16384 then x1 (ix3 1 3 j) else x1 (ix3 0 3 j)

theorem entry_at (t : Fin cfg0.N) (x0 : S1280x1024.Idx → EReal) (x1 : S2x6x1024.Idx → EReal) (x2 : S1x1024.Idx → EReal)
    (x3 : S64x1024.Idx → EReal) (r : Fin 1280) (j : Fin 1024) :
    k0_pay1 (F := Ideal) (k0_pay6 (F := Ideal) (grid0.coords t) x0 x1 x2 x3) (k0_pay7 (F := Ideal) (grid0.coords t) x0 x1 x2 x3)
        (View.ld x1 r0_4) (View.ld x1 r0_5) (ix2 r j) = entry t x0 x1 x2 r j := by
  have z : (![0, 0] : Fin 2 → ℕ) = fun _ => 0 := by funext a; fin_cases a <;> rfl
  have l2 : (View.ld x1 r0_2 : Vec Ideal S1x1x1024 .f32) (ix3 0 0 j) = x1 (ix3 0 4 j) := ld_at x1 0 4 _ rfl j
  have l3 : (View.ld x1 r0_3 : Vec Ideal S1x1x1024 .f32) (ix3 0 0 j) = x1 (ix3 1 4 j) := ld_at x1 1 4 _ rfl j
  have l4 : (View.ld x1 r0_4 : Vec Ideal S1x1x1024 .f32) (ix3 0 0 j) = x1 (ix3 0 3 j) := ld_at x1 0 3 _ rfl j
  have l5 : (View.ld x1 r0_5 : Vec Ideal S1x1x1024 .f32) (ix3 0 0 j) = x1 (ix3 1 3 j) := ld_at x1 1 3 _ rfl j
  unfold entry k0_pay6 k0_pay7
  rw [View.ld_unit_zero z, View.ld_unit_zero z, shifted_at, scaled_at, mask_at, pick, l2, l3, l4, l5]

theorem entry_eq (t : Fin cfg0.N) (r : Fin 1280) (j : Fin 1024) :
    entry t (iblk m c 0 t) (iblk m c 1 t) (iblk m c 2 t) r j = value 3 4 (argX m c) (argG m c) (argC m c) (argL m c) (row t r) j := by
  unfold entry value modulation
  rw [blk_ctx, blk_ctx, blk_lat, blk_lat, blk_g]
  simp only [blk_x]

theorem body_at (t : Fin cfg0.N) (x0 : S1280x1024.Idx → EReal) (x1 : S2x6x1024.Idx → EReal) (x2 : S1x1024.Idx → EReal)
    (x3 : S64x1024.Idx → EReal) (r : Fin 1280) (j : Fin 1024) :
    out0_4 (F := Ideal) (grid0.coords t) x0 x1 x2 x3 (ix2 r j) = entry t x0 x1 x2 r j := by
  have z : (![0, 0] : Fin 2 → ℕ) = fun _ => 0 := by funext a; fin_cases a <;> rfl
  unfold out0_4
  rw [View.canon_unit_zero z]
  exact entry_at t x0 x1 x2 x3 r j

/-- The router's products of a block. -/
theorem product_at (s : FVec Ideal S1280x1024 .f32) (k : IVec S1280x1 1) (u v : S1x1x1024.Idx → EReal) (w : S64x1024.Idx → EReal)
    (e : Fin 64) (r : Fin 1280) :
    k0_pay3 (F := Ideal) s k u v w (ix2 e r) = ∑ d : Fin 1024, w (ix2 e d) * k0_pay1 (F := Ideal) s k u v (ix2 r d) := by
  pointwise [k0_pay3]

theorem body_logits_at (t : Fin cfg0.N) (x0 : S1280x1024.Idx → EReal) (x1 : S2x6x1024.Idx → EReal) (x2 : S1x1024.Idx → EReal)
    (x3 : S64x1024.Idx → EReal) (e : Fin 64) (r : Fin 1280) :
    out0_5 (F := Ideal) (grid0.coords t) x0 x1 x2 x3 (ix2 e r) = ∑ d : Fin 1024, x3 (ix2 e d) * entry t x0 x1 x2 r d := by
  have z : (![0, 0] : Fin 2 → ℕ) = fun _ => 0 := by funext a; fin_cases a <;> rfl
  unfold out0_5
  rw [View.canon_unit_zero z, product_at, View.ld_unit_zero z]
  exact Finset.sum_congr rfl fun d _ => congrArg (_ * ·) (entry_at t x0 x1 x2 x3 r d)

theorem block_eq (t : Fin cfg0.N) :
    (dats m 0 c).flushed 4 t
      = ((cfg0.win 4).blk t).view.read (Elt Ideal) (result (argX m c) (argG m c) (argC m c) (argL m c)) := by
  rw [Value.flushed4]
  refine funext fun y => ?_
  obtain ⟨r, j, rfl⟩ : ∃ r j, y = (ix2 r j : S1280x1024.Idx) := ⟨y 0, y 1, by funext a; fin_cases a <;> rfl⟩
  exact (body_at t _ _ _ _ r j).trans ((entry_eq m c t r j).trans
    (congrArg (result (argX m c) (argG m c) (argC m c) (argL m c)) (emb0_4 t r j)).symm)

theorem array_eq : (dats m 0 c).arrAt 4 cfg0.N = result (argX m c) (argG m c) (argC m c) (argL m c) :=
  (dats m 0 c).arrAt_eq_of_cover 4 _ (fun t _ => block_eq m c t) cover

theorem block_logits_eq (t : Fin cfg0.N) :
    (dats m 0 c).flushed 5 t
      = ((cfg0.win 5).blk t).view.read (Elt Ideal) (logits (argX m c) (argG m c) (argW m c) (argC m c) (argL m c)) := by
  rw [Value.flushed5]
  refine funext fun y => ?_
  obtain ⟨e, r, rfl⟩ : ∃ e r, y = (ix2 e r : S64x1280.Idx) := ⟨y 0, y 1, by funext a; fin_cases a <;> rfl⟩
  refine (body_logits_at t _ _ _ _ e r).trans (Eq.trans ?_
    (congrArg (logits (argX m c) (argG m c) (argW m c) (argC m c) (argL m c)) (emb0_5 t e r)).symm)
  exact Finset.sum_congr rfl fun d _ => (congrArg₂ (fun a b : EReal => a * b) (blk_w m c t e d) (entry_eq m c t r d)).trans (mul_comm (argW m c (ix2 d e)) _)

theorem array_logits_eq : (dats m 0 c).arrAt 5 cfg0.N = logits (argX m c) (argG m c) (argW m c) (argC m c) (argL m c) :=
  (dats m 0 c).arrAt_eq_of_cover 5 _ (fun t _ => block_logits_eq m c t) cover_logits

end Cert.FfnNormIdeal.Hand

end
-- ==== Proof.FfnNormReference.lean ====
/-
  The reference of the norm ahead of the experts and of the router's product, as whole arrays; entry by entry they are what
  the call leaves.
-/
module

public import proofs.«01_k».proof.Proof.FfnNorm
public import proofs.«01_k».proof.Proof.Gen.FfnNormRefIdeal.Run

@[expose] public section

set_option maxRecDepth 16384

noncomputable section

namespace Cert.FfnNormRefIdeal.Hand

open Idealize.ShloMosaic Idealize.ShloMosaic.TcCoe Idealize.ShloMosaic.Tactic
open Cert.FfnNormRefIdeal Cert.FfnNormRefIdeal.Gen
open Cert.MixNormIdeal.Hand (normed modulation value)

variable {F : FTy → Type} [FloatOps F]

/-- The array types, at any reading of the floats. -/
abbrev Rows (F : FTy → Type) := (⟨S16640x1024, .f32⟩ : BufTy).Contents (Elt F)
abbrev Latent (F : FTy → Type) := (⟨S16384x1024, .f32⟩ : BufTy).Contents (Elt F)
abbrev Context (F : FTy → Type) := (⟨S256x1024, .f32⟩ : BufTy).Contents (Elt F)
abbrev Weight (F : FTy → Type) := (⟨S1024, .f32⟩ : BufTy).Contents (Elt F)

/-- The latent rows over their root mean squares, weighted. -/
def normedLatent (x : Latent F) (g : Weight F) : Latent F :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The context rows over their root mean squares, weighted. -/
def normedContext (x : Context F) (g : Weight F) : Context F :=
  mulf (mulf x (broadcastInDim S256x1024 ![0, 1] bcast_S256x1_S256x1024_0_1
      (Host.rsqrt (addf (Host.divf (broadcastInDim S256x1 ![0] bcast_S256_S256x1_0
          (Host.reduceAdd (mulf x x) (constant S_ .f32 0x00000000#32) reducesTo_S256x1024_S256_d1 h_S_))
        (broadcastInDim S256x1 ![] bcast_S_S256x1 (constant S_ .f32 0x44800000#32)))
        (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

/-- The latent rows, scaled and shifted. -/
def latent (x : Rows F) (g : Weight F) (mx : (⟨S1x6144, .f32⟩ : BufTy).Contents (Elt F)) : Latent F :=
  addf (mulf (normedLatent (extractStridedSlice S16384x1024 ![0, 0] x slices_S16640x1024_S16384x1024_0_0) g)
      (broadcastInDim S16384x1024 ![0, 1] bcast_S1x1024_S16384x1024_0_1
        (addf (broadcastInDim S1x1024 ![] bcast_S_S1x1024 (constant S_ .f32 0x3F800000#32))
          (extractStridedSlice S1x1024 ![0, 4096] mx slices_S1x6144_S1x1024_0_4096))))
    (broadcastInDim S16384x1024 ![0, 1] bcast_S1x1024_S16384x1024_0_1
      (extractStridedSlice S1x1024 ![0, 3072] mx slices_S1x6144_S1x1024_0_3072))

/-- The context rows, scaled and shifted. -/
def context (x : Rows F) (g : Weight F) (mc : (⟨S6144, .f32⟩ : BufTy).Contents (Elt F)) : Context F :=
  addf (mulf (normedContext (extractStridedSlice S256x1024 ![16384, 0] x slices_S16640x1024_S256x1024_16384_0) g)
      (broadcastInDim S256x1024 ![0, 1] bcast_S1x1024_S256x1024_0_1 (broadcastInDim S1x1024 ![1] bcast_S1024_S1x1024_1
        (addf (broadcastInDim S1024 ![] bcast_S_S1024 (constant S_ .f32 0x3F800000#32))
          (extractStridedSlice S1024 ![4096] mc slices_S6144_S1024_4096)))))
    (broadcastInDim S256x1024 ![0, 1] bcast_S1x1024_S256x1024_0_1 (broadcastInDim S1x1024 ![1] bcast_S1024_S1x1024_1
      (extractStridedSlice S1024 ![3072] mc slices_S6144_S1024_3072)))

/-- All rows. -/
def rows (x : Rows F) (g : Weight F) (mc : (⟨S6144, .f32⟩ : BufTy).Contents (Elt F)) (mx : (⟨S1x6144, .f32⟩ : BufTy).Contents (Elt F)) : Rows F :=
  concatenate S16640x1024 0 [⟨S16384x1024, latent x g mx⟩, ⟨S256x1024, context x g mc⟩] concatenates_S16384x1024_S256x1024_S16640x1024_d0

theorem normedLatent_at (x : S16384x1024.Idx → EReal) (g : S1024.Idx → EReal) (r : Fin 16384) (j : Fin 1024) :
    normedLatent (F := Ideal) x g (ix2 r j) = normed (fun d => x (ix2 r d)) (g (ix1 j)) j := by
  unfold normed
  pointwise [normedLatent]

theorem normedContext_at (x : S256x1024.Idx → EReal) (g : S1024.Idx → EReal) (r : Fin 256) (j : Fin 1024) :
    normedContext (F := Ideal) x g (ix2 r j) = normed (fun d => x (ix2 r d)) (g (ix1 j)) j := by
  unfold normed
  pointwise [normedContext]

/-- A latent row of the stream, and a context row of it. -/
theorem latent_slice (x : S16640x1024.Idx → EReal) (r : Fin 16384) (d : Fin 1024) :
    extractStridedSlice (α := EReal) S16384x1024 ![0, 0] x slices_S16640x1024_S16384x1024_0_0 (ix2 r d)
      = x (ix2 ⟨r.val, by have := r.isLt; omega⟩ d) := by
  pointwise

theorem context_slice (x : S16640x1024.Idx → EReal) (r : Fin 256) (d : Fin 1024) :
    extractStridedSlice (α := EReal) S256x1024 ![16384, 0] x slices_S16640x1024_S256x1024_16384_0 (ix2 r d)
      = x (ix2 ⟨16384 + r.val, by have := r.isLt; omega⟩ d) := by
  pointwise

theorem latent_at (x : S16640x1024.Idx → EReal) (g : S1024.Idx → EReal) (mx : S1x6144.Idx → EReal) (r : Fin 16384) (j : Fin 1024) :
    latent (F := Ideal) x g mx (ix2 r j)
      = normed (fun d => x (ix2 ⟨r.val, by have := r.isLt; omega⟩ d)) (g (ix1 j)) j
          * (Ideal.ofBits .f32 0x3F800000#32 + mx (ix2 0 ⟨4096 + j.val, by have := j.isLt; omega⟩))
        + mx (ix2 0 ⟨3072 + j.val, by have := j.isLt; omega⟩) := by
  have e : ∀ n : Latent Ideal, addf (F := Ideal) (s := S16384x1024) (φ := .f32) (mulf n (broadcastInDim S16384x1024 ![0, 1] bcast_S1x1024_S16384x1024_0_1
        (addf (broadcastInDim S1x1024 ![] bcast_S_S1x1024 (constant S_ .f32 0x3F800000#32))
          (extractStridedSlice S1x1024 ![0, 4096] mx slices_S1x6144_S1x1024_0_4096))))
      (broadcastInDim S16384x1024 ![0, 1] bcast_S1x1024_S16384x1024_0_1
        (extractStridedSlice S1x1024 ![0, 3072] mx slices_S1x6144_S1x1024_0_3072)) (ix2 r j)
      = n (ix2 r j) * (Ideal.ofBits .f32 0x3F800000#32 + mx (ix2 0 ⟨4096 + j.val, by have := j.isLt; omega⟩))
        + mx (ix2 0 ⟨3072 + j.val, by have := j.isLt; omega⟩) := by
    intro n; pointwise
  refine (e _).trans ?_
  rw [normedLatent_at]
  simp only [latent_slice]

theorem context_at (x : S16640x1024.Idx → EReal) (g : S1024.Idx → EReal) (mc : S6144.Idx → EReal) (r : Fin 256) (j : Fin 1024) :
    context (F := Ideal) x g mc (ix2 r j)
      = normed (fun d => x (ix2 ⟨16384 + r.val, by have := r.isLt; omega⟩ d)) (g (ix1 j)) j
          * (Ideal.ofBits .f32 0x3F800000#32 + mc (ix1 ⟨4096 + j.val, by have := j.isLt; omega⟩))
        + mc (ix1 ⟨3072 + j.val, by have := j.isLt; omega⟩) := by
  have e : ∀ n : Context Ideal, addf (F := Ideal) (s := S256x1024) (φ := .f32) (mulf n (broadcastInDim S256x1024 ![0, 1] bcast_S1x1024_S256x1024_0_1
        (broadcastInDim S1x1024 ![1] bcast_S1024_S1x1024_1 (addf (broadcastInDim S1024 ![] bcast_S_S1024 (constant S_ .f32 0x3F800000#32))
          (extractStridedSlice S1024 ![4096] mc slices_S6144_S1024_4096)))))
      (broadcastInDim S256x1024 ![0, 1] bcast_S1x1024_S256x1024_0_1 (broadcastInDim S1x1024 ![1] bcast_S1024_S1x1024_1
        (extractStridedSlice S1024 ![3072] mc slices_S6144_S1024_3072))) (ix2 r j)
      = n (ix2 r j) * (Ideal.ofBits .f32 0x3F800000#32 + mc (ix1 ⟨4096 + j.val, by have := j.isLt; omega⟩))
        + mc (ix1 ⟨3072 + j.val, by have := j.isLt; omega⟩) := by
    intro n; pointwise
  refine (e _).trans ?_
  rw [normedContext_at]
  simp only [context_slice]

/-- Where the rows of the two kinds lie among all of them. -/
theorem rows_split (a : Latent Ideal) (b : Context Ideal) (r : Fin 16640) (j : Fin 1024) :
    concatenate (α := EReal) S16640x1024 0 [⟨S16384x1024, a⟩, ⟨S256x1024, b⟩] concatenates_S16384x1024_S256x1024_S16640x1024_d0 (ix2 r j)
      = if h : r.val < 16384 then a (ix2 ⟨r.val, h⟩ j) else b (ix2 ⟨r.val - 16384, by have := r.isLt; omega⟩ j) := by
  pointwise

theorem rows_at (x : S16640x1024.Idx → EReal) (g : S1024.Idx → EReal) (mc : S6144.Idx → EReal) (mx : S1x6144.Idx → EReal)
    (r : Fin 16640) (j : Fin 1024) :
    rows (F := Ideal) x g mc mx (ix2 r j) = value 3 4 x g mc mx r j := by
  refine (rows_split _ _ r j).trans ?_
  unfold value modulation
  by_cases h : r.val < 16384
  · rw [dif_pos h, if_pos h, if_pos h, latent_at]
    rfl
  · have e : ∀ hh, (⟨16384 + (r.val - 16384), hh⟩ : Fin 16640) = r := fun _ => Fin.ext (by dsimp only; omega)
    rw [dif_neg h, if_neg h, if_neg h, context_at]
    simp only [e]
    rfl

/-- The router's product, the experts across the rows. -/
def routed (h : Rows F) (w : (⟨S1024x64, .f32⟩ : BufTy).Contents (Elt F)) : (⟨S64x16640, .f32⟩ : BufTy).Contents (Elt F) :=
  transpose S64x16640 [1, 0] (Host.dotGeneral dot_S16640x1024_S1024x64_S16640x64_1_0_0_1_n_n none h w) transposes_S16640x64_S64x16640_1_0

theorem routed_at (h : S16640x1024.Idx → EReal) (w : S1024x64.Idx → EReal) (e : Fin 64) (r : Fin 16640) :
    routed (F := Ideal) h w (ix2 e r) = ∑ d : Fin 1024, h (ix2 r d) * w (ix2 d e) := by
  pointwise [routed]

theorem reference_eq (x : S16640x1024.Idx → EReal) (g : S1024.Idx → EReal) (mc : S6144.Idx → EReal) (mx : S1x6144.Idx → EReal) :
    truncf (F := Ideal) (s := S16640x1024) .bf16 (rows (F := Ideal) x g mc mx) bitsLt_bf16_f32 = Cert.FfnNormIdeal.Hand.result x g mc mx := by
  funext i
  obtain ⟨r, j, rfl⟩ : ∃ r j, i = (ix2 r j : S16640x1024.Idx) := ⟨i 0, i 1, by funext a; fin_cases a <;> rfl⟩
  exact rows_at x g mc mx r j

theorem reference_logits_eq (x : S16640x1024.Idx → EReal) (g : S1024.Idx → EReal) (w : S1024x64.Idx → EReal) (mc : S6144.Idx → EReal) (mx : S1x6144.Idx → EReal) :
    routed (F := Ideal) (rows (F := Ideal) x g mc mx) w = Cert.FfnNormIdeal.Hand.logits x g w mc mx := by
  funext i
  obtain ⟨e, r, rfl⟩ : ∃ e r, i = (ix2 e r : S64x16640.Idx) := ⟨i 0, i 1, by funext a; fin_cases a <;> rfl⟩
  exact (routed_at _ _ e r).trans (Finset.sum_congr rfl fun d _ => congrArg (· * _) (rows_at x g mc mx r d))

end Cert.FfnNormRefIdeal.Hand

end
-- ==== Proof.ShortConvBody.lean ====
/-
  The convolution over three neighbouring rows: every entry of the last third of a projected row, and the entries above and
  below it, each times its weight, plus a bias. The latents and the context are two sequences, so a row at an end of either has
  nothing beyond it. The columns go to three arrays of 512 columns.
-/
module

public import proofs.«01_k».proof.Proof.Gen.ShortConvIdeal.Value
public import Idealize.ShloMosaic.Lib.Pointwise
public import Idealize.ShloMosaic.Lib.Tactic.CleanTypes

@[expose] public section

set_option maxRecDepth 16384

noncomputable section

namespace Cert.ShortConvIdeal.Hand

open Idealize.ShloMosaic Idealize.ShloMosaic.TcCoe Idealize.ShloMosaic.Tactic Idealize.SL.Sem
open Cert.ShortConvIdeal Cert.ShortConvIdeal.Gen
open Idealize.ShloMosaic.Pipeline (Dat)

/-- Column `e` of the convolved columns, among all the projected ones. -/
def source (e : Fin 1536) : Fin 4608 := ⟨3072 + e.val, by have := e.isLt; omega⟩

/-- The entry above: nothing above the first latent row, nor above the first context row. -/
def before (p : S16640x4608.Idx → EReal) (r : Fin 16640) (e : Fin 1536) : EReal :=
  if r.val = 0 ∨ r.val = 16384 then 0 else p (ix2 ⟨r.val - 1, by have := r.isLt; omega⟩ (source e))

/-- The entry below: nothing below the last latent row, nor below the last context row. -/
def after (p : S16640x4608.Idx → EReal) (r : Fin 16640) (e : Fin 1536) : EReal :=
  if _h : r.val = 16383 ∨ r.val = 16639 then 0 else p (ix2 ⟨r.val + 1, by have := r.isLt; omega⟩ (source e))

/-- The convolution's entry. -/
def conv (p : S16640x4608.Idx → EReal) (w : S3x1536.Idx → EReal) (b : S1536.Idx → EReal) (r : Fin 16640) (e : Fin 1536) : EReal :=
  before p r e * w (ix2 0 e) + p (ix2 r (source e)) * w (ix2 1 e) + after p r e * w (ix2 2 e) + b (ix1 e)

/-- Column `j` of the `o`-th of the three arrays. -/
def column (o : Fin 3) (j : Fin 512) : Fin 1536 := ⟨512 * o.val + j.val, by have := o.isLt; have := j.isLt; omega⟩

/-- The `o`-th array. -/
def result (o : Fin 3) (p : S16640x4608.Idx → EReal) (w : S3x1536.Idx → EReal) (b : S1536.Idx → EReal) : S16640x512.Idx → EReal :=
  fun i => conv p w b (i 0) (column o (i 1))

variable (m : (ℓ : Loc nD τ sig) → Buf (Elt Ideal) ℓ) (c : Dev nD)

/-- The three arguments as arrays. -/
abbrev argP : S16640x4608.Idx → EReal := m ((c : Thread nD τ).loc main_arg0)
abbrev argW : S3x1536.Idx → EReal := m ((c : Thread nD τ).loc main_arg1)
abbrev argB : S1536.Idx → EReal := m ((c : Thread nD τ).loc main_arg2)

theorem b_at (e : Fin 1536) : (V m c main_v0 : S1x1536.Idx → EReal) (ix2 0 e) = argB m c (ix1 e) := by
  unfold V
  after_results
  pointwise

/-! ## Where the blocks lie -/

theorem idx0_0 : ∀ t : Fin cfg0.N, win0_0.index t (0 : Fin 2) = t.val ∧ win0_0.index t (1 : Fin 2) = 2 :=
  (by decide +kernel : ∀ t : Fin grid0.N, _)
/-- The eight rows that end just above the block. -/
theorem idx0_1 : ∀ t : Fin cfg0.N, (t.val = 0 ∨ win0_1.index t (0 : Fin 2) + 1 = 32 * t.val) ∧ win0_1.index t (1 : Fin 2) = 2 :=
  (by decide +kernel : ∀ t : Fin grid0.N, _)
/-- The eight rows that begin just below it. -/
theorem idx0_2 : ∀ t : Fin cfg0.N, (t.val = 64 ∨ win0_2.index t (0 : Fin 2) = 32 * (t.val + 1)) ∧ win0_2.index t (1 : Fin 2) = 2 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem coord0 : ∀ t : Fin cfg0.N, ((grid0.coords t) 0).val = t.val :=
  (by decide +kernel : ∀ t : Fin grid0.N, _)

theorem lt_points (t : Fin cfg0.N) : t.val < 65 := lt_of_lt_of_eq t.isLt (by decide)

/-- Row `r` of a point's rows. -/
def row (t : Fin cfg0.N) (r : Fin 256) : Fin 16640 := ⟨256 * t.val + r.val, by have := lt_points t; have := r.isLt; omega⟩

theorem emb0_0 (t : Fin cfg0.N) (r : Fin 256) (e : Fin 1536) :
    ((cfg0.win 0).blk t).view.emb (ix2 r e) = (ix2 (row t r) (source e) : S16640x4608.Idx) := by
  obtain ⟨e0, e1⟩ := idx0_0 t
  funext a; apply Fin.ext
  match a with
  | ⟨0, _⟩ => show win0_0.index t (0 : Fin 2) * 256 + 1 * r.val = 256 * t.val + r.val; omega
  | ⟨1, _⟩ => show win0_0.index t (1 : Fin 2) * 1536 + 1 * e.val = 3072 + e.val; omega

theorem emb0_1 (t : Fin cfg0.N) (h : t.val ≠ 0) (e : Fin 1536) :
    ((cfg0.win 1).blk t).view.emb (ix2 (7 : Fin 8) e)
      = (ix2 ⟨256 * t.val - 1, by have := lt_points t; omega⟩ (source e) : S16640x4608.Idx) := by
  obtain ⟨e0, e1⟩ := idx0_1 t
  funext a; apply Fin.ext
  match a with
  | ⟨0, _⟩ => show win0_1.index t (0 : Fin 2) * 8 + 1 * 7 = 256 * t.val - 1; omega
  | ⟨1, _⟩ => show win0_1.index t (1 : Fin 2) * 1536 + 1 * e.val = 3072 + e.val; omega

theorem emb0_2 (t : Fin cfg0.N) (h : t.val < 64) (e : Fin 1536) :
    ((cfg0.win 2).blk t).view.emb (ix2 (0 : Fin 8) e)
      = (ix2 ⟨256 * t.val + 256, by omega⟩ (source e) : S16640x4608.Idx) := by
  obtain ⟨e0, e1⟩ := idx0_2 t
  funext a; apply Fin.ext
  match a with
  | ⟨0, _⟩ => show win0_2.index t (0 : Fin 2) * 8 + 1 * 0 = 256 * t.val + 256; omega
  | ⟨1, _⟩ => show win0_2.index t (1 : Fin 2) * 1536 + 1 * e.val = 3072 + e.val; omega

theorem emb0_3 (t : Fin cfg0.N) (k : Fin 3) (e : Fin 1536) :
    ((cfg0.win 3).blk t).view.emb (ix2 k e) = (ix2 k e : S3x1536.Idx) := by
  obtain ⟨e0, e1⟩ := idx0_3 t
  funext a; apply Fin.ext
  match a with
  | ⟨0, _⟩ => show win0_3.index t (0 : Fin 2) * 3 + 1 * k.val = k.val; omega
  | ⟨1, _⟩ => show win0_3.index t (1 : Fin 2) * 1536 + 1 * e.val = e.val; omega

theorem emb0_4 (t : Fin cfg0.N) (e : Fin 1536) :
    ((cfg0.win 4).blk t).view.emb (ix2 (0 : Fin 1) e) = (ix2 0 e : S1x1536.Idx) := by
  obtain ⟨e0, e1⟩ := idx0_4 t
  funext a; apply Fin.ext
  match a with
  | ⟨0, _⟩ => show win0_4.index t (0 : Fin 2) * 1 + 1 * 0 = 0; omega
  | ⟨1, _⟩ => show win0_4.index t (1 : Fin 2) * 1536 + 1 * e.val = e.val; omega

/-! ## The blocks -/

theorem blk_p (t : Fin cfg0.N) (r : Fin 256) (e : Fin 1536) :
    (iblk m c 0 t : S256x1536.Idx → EReal) (ix2 r e) = argP m c (ix2 (row t r) (source e)) :=
  (congrArg (V m c main_arg0 : S16640x4608.Idx → EReal) (emb0_0 t r e)).trans (congrFun (V_main_arg0 m c) _)

theorem blk_above (t : Fin cfg0.N) (h : t.val ≠ 0) (e : Fin 1536) :
    (iblk m c 1 t : S8x1536.Idx → EReal) (ix2 7 e) = argP m c (ix2 ⟨256 * t.val - 1, by have := lt_points t; omega⟩ (source e)) :=
  (congrArg (V m c main_arg0 : S16640x4608.Idx → EReal) (emb0_1 t h e)).trans (congrFun (V_main_arg0 m c) _)

theorem blk_below (t : Fin cfg0.N) (h : t.val < 64) (e : Fin 1536) :
    (iblk m c 2 t : S8x1536.Idx → EReal) (ix2 0 e) = argP m c (ix2 ⟨256 * t.val + 256, by omega⟩ (source e)) :=
  (congrArg (V m c main_arg0 : S16640x4608.Idx → EReal) (emb0_2 t h e)).trans (congrFun (V_main_arg0 m c) _)

theorem blk_w (t : Fin cfg0.N) (k : Fin 3) (e : Fin 1536) : (iblk m c 3 t : S3x1536.Idx → EReal) (ix2 k e) = argW m c (ix2 k e) :=
  (congrArg (V m c main_arg1 : S3x1536.Idx → EReal) (emb0_3 t k e)).trans (congrFun (V_main_arg1 m c) _)

theorem blk_b (t : Fin cfg0.N) (e : Fin 1536) : (iblk m c 4 t : S1x1536.Idx → EReal) (ix2 0 e) = argB m c (ix1 e) :=
  (congrArg (V m c main_v0 : S1x1536.Idx → EReal) (emb0_4 t e)).trans (b_at m c e)

/-! ## The body -/

theorem first_row : ∀ r : Fin 256, IntOp.cmpi .eq (BitVec.ofNat 32 r.val) 0#32 = if r.val = 0 then 1#1 else 0#1 := by decide +kernel
theorem last_row : ∀ r : Fin 256, IntOp.cmpi .eq (BitVec.ofNat 32 r.val) 255#32 = if r.val = 255 then 1#1 else 0#1 := by decide +kernel
theorem first_point : ∀ n : Fin 65, Scalar.ori (Scalar.cmpi .eq (BitVec.ofNat 32 n.val) 0#32) (Scalar.cmpi .eq (BitVec.ofNat 32 n.val) 64#32)
    = if n.val = 0 ∨ n.val = 64 then 1#1 else 0#1 := by decide +kernel
theorem last_point : ∀ n : Fin 65, Scalar.ori (Scalar.cmpi .eq (BitVec.ofNat 32 n.val) 63#32) (Scalar.cmpi .eq (BitVec.ofNat 32 n.val) 64#32)
    = if n.val = 63 ∨ n.val = 64 then 1#1 else 0#1 := by decide +kernel

/-- A choice by a mask that is a condition. -/
theorem select_if (q : Prop) [Decidable q] (a b : EReal) : Scalar.select (if q then 1#1 else 0#1) a b = if q then a else b := by
  split <;> rfl

/-- The entry above, of a block and of the row above it. -/
def above (t : Fin cfg0.N) (x0 : S256x1536.Idx → EReal) (u : EReal) (r : Fin 256) (e : Fin 1536) : EReal :=
  if r.val = 0 then (if t.val = 0 ∨ t.val = 64 then 0 else u) else x0 (ix2 ⟨(r.val + 256 - 1) % 256, Nat.mod_lt _ (by decide)⟩ e)

/-- The entry below, of a block and of the row below it. -/
def below (t : Fin cfg0.N) (x0 : S256x1536.Idx → EReal) (u : EReal) (r : Fin 256) (e : Fin 1536) : EReal :=
  if r.val = 255 then (if t.val = 63 ∨ t.val = 64 then 0 else u) else x0 (ix2 ⟨(r.val + 256 - 255) % 256, Nat.mod_lt _ (by decide)⟩ e)

theorem below_at (t : Fin cfg0.N) (x : S256x1536.Idx → EReal) (u : S1x1536.Idx → EReal) (r : Fin 256) (e : Fin 1536) :
    k0_pay5 (F := Ideal) (grid0.coords t) x u (ix2 r e) = below t x (u (ix2 0 e)) r e := by
  unfold below
  rw [← select_if, ← select_if, ← last_row r, ← last_point ⟨t.val, lt_points t⟩, ← coord0 t]
  pointwise [k0_pay5]

theorem above_at (t : Fin cfg0.N) (x : S256x1536.Idx → EReal) (u w : S1x1536.Idx → EReal) (r : Fin 256) (e : Fin 1536) :
    k0_pay6 (F := Ideal) (grid0.coords t) x u w (ix2 r e) = above t x (u (ix2 0 e)) r e * w (ix2 0 e) := by
  unfold above
  rw [← select_if, ← select_if, ← first_row r, ← first_point ⟨t.val, lt_points t⟩, ← coord0 t]
  pointwise [k0_pay6]

/-- A weight's row, in every row of a block. -/
theorem weight_at (w : S1x1536.Idx → EReal) (r : Fin 256) (e : Fin 1536) : k0_pay7 (F := Ideal) w (ix2 r e) = w (ix2 0 e) := by
  pointwise [k0_pay7]

theorem sum_at (x y z w : S256x1536.Idx → EReal) (u v : S1x1536.Idx → EReal) (r : Fin 256) (e : Fin 1536) :
    k0_pay1 (F := Ideal) x y z w u v (ix2 r e) = z (ix2 r e) + x (ix2 r e) * w (ix2 r e) + y (ix2 r e) * u (ix2 0 e) + v (ix2 0 e) := by
  pointwise [k0_pay1]

/-- A load of one row of the eight, and of one weight's row. -/
theorem ld_at (x : Vec Ideal S8x1536 .f32) (k : Fin 8) {off : Fin 2 → ℕ} (inb) (h : off = ![k.val, 0]) (e : Fin 1536) :
    View.ld x (Rect.unit (s := S8x1536) off S1x1536.size inb) (ix2 0 e) = x (ix2 k e) := by
  subst h; pointwise

theorem ld_weight_at (x : Vec Ideal S3x1536 .f32) (k : Fin 3) {off : Fin 2 → ℕ} (inb) (h : off = ![k.val, 0]) (e : Fin 1536) :
    View.ld x (Rect.unit (s := S3x1536) off S1x1536.size inb) (ix2 0 e) = x (ix2 k e) := by
  subst h; pointwise

/-- The entry the body leaves, from the blocks it finds. -/
def entry (t : Fin cfg0.N) (x0 : S256x1536.Idx → EReal) (x1 x2 : S8x1536.Idx → EReal) (x3 : S3x1536.Idx → EReal) (x4 : S1x1536.Idx → EReal)
    (r : Fin 256) (e : Fin 1536) : EReal :=
  above t x0 (x1 (ix2 7 e)) r e * x3 (ix2 0 e) + x0 (ix2 r e) * x3 (ix2 1 e) + below t x0 (x2 (ix2 0 e)) r e * x3 (ix2 2 e) + x4 (ix2 0 e)

theorem entry_at (t : Fin cfg0.N) (x0 : S256x1536.Idx → EReal) (x1 x2 : S8x1536.Idx → EReal) (x3 : S3x1536.Idx → EReal) (x4 : S1x1536.Idx → EReal)
    (r : Fin 256) (e : Fin 1536) :
    k0_pay1 (F := Ideal) (View.ld x0 r0_0) (k0_pay8 (F := Ideal) (grid0.coords t) x0 x1 x2 x3 x4) (k0_pay9 (F := Ideal) (grid0.coords t) x0 x1 x2 x3 x4)
        (k0_pay10 (F := Ideal) (grid0.coords t) x0 x1 x2 x3 x4) (View.ld x3 r0_5) (View.ld x4 r0_6) (ix2 r e) = entry t x0 x1 x2 x3 x4 r e := by
  have z : (![0, 0] : Fin 2 → ℕ) = fun _ => 0 := by funext a; fin_cases a <;> rfl
  have l1 : (View.ld x1 r0_1 : Vec Ideal S1x1536 .f32) (ix2 0 e) = x1 (ix2 7 e) := ld_at x1 7 _ rfl e
  have l2 : (View.ld x2 r0_2 : Vec Ideal S1x1536 .f32) (ix2 0 e) = x2 (ix2 0 e) := ld_at x2 0 _ rfl e
  have l3 : (View.ld x3 r0_3 : Vec Ideal S1x1536 .f32) (ix2 0 e) = x3 (ix2 0 e) := ld_weight_at x3 0 _ rfl e
  have l4 : (View.ld x3 r0_4 : Vec Ideal S1x1536 .f32) (ix2 0 e) = x3 (ix2 1 e) := ld_weight_at x3 1 _ rfl e
  have l5 : (View.ld x3 r0_5 : Vec Ideal S1x1536 .f32) (ix2 0 e) = x3 (ix2 2 e) := ld_weight_at x3 2 _ rfl e
  unfold entry k0_pay8 k0_pay9 k0_pay10
  rw [View.ld_unit_zero z, View.ld_unit_zero z, sum_at, below_at, above_at, weight_at, l1, l2, l3, l4, l5]

theorem above_eq (t : Fin cfg0.N) (r : Fin 256) (e : Fin 1536) :
    above t (iblk m c 0 t) ((iblk m c 1 t : S8x1536.Idx → EReal) (ix2 7 e)) r e = before (argP m c) (row t r) e := by
  have ht := lt_points t
  have hr := r.isLt
  have hv : (row t r).val = 256 * t.val + r.val := rfl
  unfold above before
  by_cases h : r.val = 0
  · rw [if_pos h]
    by_cases k : t.val = 0 ∨ t.val = 64
    · rw [if_pos k, if_pos (by omega)]
    · rw [if_neg k, if_neg (by omega), blk_above m c t (by omega)]
      exact congrArg (fun n => argP m c (ix2 n (source e))) (Fin.ext (by dsimp only; omega))
  · rw [if_neg h, if_neg (by omega), blk_p]
    exact congrArg (fun n => argP m c (ix2 n (source e))) (Fin.ext (by dsimp only [row]; omega))

theorem below_eq (t : Fin cfg0.N) (r : Fin 256) (e : Fin 1536) :
    below t (iblk m c 0 t) ((iblk m c 2 t : S8x1536.Idx → EReal) (ix2 0 e)) r e = after (argP m c) (row t r) e := by
  have ht := lt_points t
  have hr := r.isLt
  have hv : (row t r).val = 256 * t.val + r.val := rfl
  unfold below after
  by_cases h : r.val = 255
  · rw [if_pos h]
    by_cases k : t.val = 63 ∨ t.val = 64
    · rw [if_pos k, dif_pos (by omega)]
    · rw [if_neg k, dif_neg (by omega), blk_below m c t (by omega)]
      exact congrArg (fun n => argP m c (ix2 n (source e))) (Fin.ext (by dsimp only; omega))
  · rw [if_neg h, dif_neg (by omega), blk_p]
    exact congrArg (fun n => argP m c (ix2 n (source e))) (Fin.ext (by dsimp only [row]; omega))

theorem entry_eq (t : Fin cfg0.N) (r : Fin 256) (e : Fin 1536) :
    entry t (iblk m c 0 t) (iblk m c 1 t) (iblk m c 2 t) (iblk m c 3 t) (iblk m c 4 t) r e
      = conv (argP m c) (argW m c) (argB m c) (row t r) e := by
  unfold entry conv
  rw [above_eq, below_eq, blk_p, blk_w, blk_w, blk_w, blk_b]

end Cert.ShortConvIdeal.Hand

end
-- ==== Proof.ShortConv.lean ====
/-
  The three arrays the convolution over neighbouring rows leaves, each written back block by block.
-/
module

public import proofs.«01_k».proof.Proof.ShortConvBody

@[expose] public section

set_option maxRecDepth 16384

noncomputable section

namespace Cert.ShortConvIdeal.Hand

open Idealize.ShloMosaic Idealize.ShloMosaic.TcCoe Idealize.ShloMosaic.Tactic Idealize.SL.Sem
open Cert.ShortConvIdeal Cert.ShortConvIdeal.Gen
open Idealize.ShloMosaic.Pipeline (Dat)

variable (m : (ℓ : Loc nD τ sig) → Buf (Elt Ideal) ℓ) (c : Dev nD)

/-! ## The first array -/

theorem idx0_5 : ∀ t : Fin cfg0.N, win0_5.index t (0 : Fin 2) = t.val ∧ win0_5.index t (1 : Fin 2) = 0 :=
  (by decide +kernel : ∀ t : Fin grid0.N, _)

theorem emb0_5 (t : Fin cfg0.N) (r : Fin 256) (j : Fin 512) :
    ((cfg0.win 5).blk t).view.emb (ix2 r j) = (ix2 (row t r) j : S16640x512.Idx) := by
  obtain ⟨e0, e1⟩ := idx0_5 t
  funext a; apply Fin.ext
  match a with
  | ⟨0, _⟩ => show win0_5.index t (0 : Fin 2) * 256 + 1 * r.val = 256 * t.val + r.val; omega
  | ⟨1, _⟩ => show win0_5.index t (1 : Fin 2) * 512 + 1 * j.val = j.val; omega

theorem mem_blk_first (t : Fin cfg0.N) (y : S16640x512.Idx) :
    y ∈ ((cfg0.win 5).blk t).view.set ↔ ∀ a : Fin 2,
      win0_5.index t a * S256x512.size a ≤ (y a).val ∧ (y a).val < win0_5.index t a * S256x512.size a + S256x512.size a := by
  show y ∈ ((View.whole main_v1_0).slice (win0_5.rect t)).set ↔ _
  rw [View.set_slice_whole, Rect.mem_set_unit]
  exact Iff.rfl

/-- Its blocks tile it. -/
theorem cover_first (y : S16640x512.Idx) :
    ∃ t : Fin cfg0.N, (cfg0.win 5).flush t = true ∧ y ∈ ((cfg0.win 5).blk t).view.set := by
  have h0 : (y 0).val < 16640 := (y 0).isLt
  have h1 : (y 1).val < 512 := (y 1).isLt
  have hN : cfg0.N = 65 := by decide
  refine ⟨⟨(y 0).val / 256, by omega⟩, flush0_5 _, ?_⟩
  rw [mem_blk_first]
  obtain ⟨e0, e1⟩ := idx0_5 ⟨(y 0).val / 256, by omega⟩
  intro a
  match a with
  | ⟨0, _⟩ =>
    show win0_5.index _ (0 : Fin 2) * 256 ≤ (y 0).val ∧ (y 0).val < win0_5.index _ (0 : Fin 2) * 256 + 256
    rw [e0]; dsimp only; omega
  | ⟨1, _⟩ =>
    show win0_5.index _ (1 : Fin 2) * 512 ≤ (y 1).val ∧ (y 1).val < win0_5.index _ (1 : Fin 2) * 512 + 512
    rw [e1]; omega

/-- Its columns among the convolved ones. -/
theorem cut_first (x y z w : S256x1536.Idx → EReal) (u v : S1x1536.Idx → EReal) (r : Fin 256) (j : Fin 512) :
    k0_pay2 (F := Ideal) x y z w u v (ix2 r j) = k0_pay1 (F := Ideal) x y z w u v (ix2 r (column 0 j)) := by
  have e : column 0 j = ⟨j.val, by have := j.isLt; omega⟩ := Fin.ext (by simp [column])
  rw [e]
  pointwise [k0_pay2]

theorem body_first_at (t : Fin cfg0.N) (x0 : S256x1536.Idx → EReal) (x1 x2 : S8x1536.Idx → EReal) (x3 : S3x1536.Idx → EReal)
    (x4 : S1x1536.Idx → EReal) (r : Fin 256) (j : Fin 512) :
    out0_5 (F := Ideal) (grid0.coords t) x0 x1 x2 x3 x4 (ix2 r j) = entry t x0 x1 x2 x3 x4 r (column 0 j) := by
  have z : (![0, 0] : Fin 2 → ℕ) = fun _ => 0 := by funext a; fin_cases a <;> rfl
  unfold out0_5
  rw [View.canon_unit_zero z, cut_first]
  exact entry_at t x0 x1 x2 x3 x4 r (column 0 j)

theorem block_first_eq (t : Fin cfg0.N) :
    (dats m 0 c).flushed 5 t = ((cfg0.win 5).blk t).view.read (Elt Ideal) (result 0 (argP m c) (argW m c) (argB m c)) := by
  rw [Value.flushed5]
  refine funext fun y => ?_
  obtain ⟨r, j, rfl⟩ : ∃ r j, y = (ix2 r j : S256x512.Idx) := ⟨y 0, y 1, by funext a; fin_cases a <;> rfl⟩
  exact (body_first_at t _ _ _ _ _ r j).trans ((entry_eq m c t r (column 0 j)).trans
    (congrArg (result 0 (argP m c) (argW m c) (argB m c)) (emb0_5 t r j)).symm)

theorem array_first_eq : (dats m 0 c).arrAt 5 cfg0.N = result 0 (argP m c) (argW m c) (argB m c) :=
  (dats m 0 c).arrAt_eq_of_cover 5 _ (fun t _ => block_first_eq m c t) cover_first

/-! ## The second array -/

theorem idx0_6 : ∀ t : Fin cfg0.N, win0_6.index t (0 : Fin 2) = t.val ∧ win0_6.index t (1 : Fin 2) = 0 :=
  (by decide +kernel : ∀ t : Fin grid0.N, _)

theorem emb0_6 (t : Fin cfg0.N) (r : Fin 256) (j : Fin 512) :
    ((cfg0.win 6).blk t).view.emb (ix2 r j) = (ix2 (row t r) j : S16640x512.Idx) := by
  obtain ⟨e0, e1⟩ := idx0_6 t
  funext a; apply Fin.ext
  match a with
  | ⟨0, _⟩ => show win0_6.index t (0 : Fin 2) * 256 + 1 * r.val = 256 * t.val + r.val; omega
  | ⟨1, _⟩ => show win0_6.index t (1 : Fin 2) * 512 + 1 * j.val = j.val; omega

theorem mem_blk_second (t : Fin cfg0.N) (y : S16640x512.Idx) :
    y ∈ ((cfg0.win 6).blk t).view.set ↔ ∀ a : Fin 2,
      win0_6.index t a * S256x512.size a ≤ (y a).val ∧ (y a).val < win0_6.index t a * S256x512.size a + S256x512.size a := by
  show y ∈ ((View.whole main_v1_1).slice (win0_6.rect t)).set ↔ _
  rw [View.set_slice_whole, Rect.mem_set_unit]
  exact Iff.rfl

/-- Its blocks tile it. -/
theorem cover_second (y : S16640x512.Idx) :
    ∃ t : Fin cfg0.N, (cfg0.win 6).flush t = true ∧ y ∈ ((cfg0.win 6).blk t).view.set := by
  have h0 : (y 0).val < 16640 := (y 0).isLt
  have h1 : (y 1).val < 512 := (y 1).isLt
  have hN : cfg0.N = 65 := by decide
  refine ⟨⟨(y 0).val / 256, by omega⟩, flush0_6 _, ?_⟩
  rw [mem_blk_second]
  obtain ⟨e0, e1⟩ := idx0_6 ⟨(y 0).val / 256, by omega⟩
  intro a
  match a with
  | ⟨0, _⟩ =>
    show win0_6.index _ (0 : Fin 2) * 256 ≤ (y 0).val ∧ (y 0).val < win0_6.index _ (0 : Fin 2) * 256 + 256
    rw [e0]; dsimp only; omega
  | ⟨1, _⟩ =>
    show win0_6.index _ (1 : Fin 2) * 512 ≤ (y 1).val ∧ (y 1).val < win0_6.index _ (1 : Fin 2) * 512 + 512
    rw [e1]; omega

/-- Its columns among the convolved ones. -/
theorem cut_second (x y z w : S256x1536.Idx → EReal) (u v : S1x1536.Idx → EReal) (r : Fin 256) (j : Fin 512) :
    k0_pay3 (F := Ideal) x y z w u v (ix2 r j) = k0_pay1 (F := Ideal) x y z w u v (ix2 r (column 1 j)) := by
  have e : column 1 j = ⟨512 + j.val, by have := j.isLt; omega⟩ := Fin.ext (by simp [column])
  rw [e]
  pointwise [k0_pay3]

theorem body_second_at (t : Fin cfg0.N) (x0 : S256x1536.Idx → EReal) (x1 x2 : S8x1536.Idx → EReal) (x3 : S3x1536.Idx → EReal)
    (x4 : S1x1536.Idx → EReal) (r : Fin 256) (j : Fin 512) :
    out0_6 (F := Ideal) (grid0.coords t) x0 x1 x2 x3 x4 (ix2 r j) = entry t x0 x1 x2 x3 x4 r (column 1 j) := by
  have z : (![0, 0] : Fin 2 → ℕ) = fun _ => 0 := by funext a; fin_cases a <;> rfl
  unfold out0_6
  rw [View.canon_unit_zero z, cut_second]
  exact entry_at t x0 x1 x2 x3 x4 r (column 1 j)

theorem block_second_eq (t : Fin cfg0.N) :
    (dats m 0 c).flushed 6 t = ((cfg0.win 6).blk t).view.read (Elt Ideal) (result 1 (argP m c) (argW m c) (argB m c)) := by
  rw [Value.flushed6]
  refine funext fun y => ?_
  obtain ⟨r, j, rfl⟩ : ∃ r j, y = (ix2 r j : S256x512.Idx) := ⟨y 0, y 1, by funext a; fin_cases a <;> rfl⟩
  exact (body_second_at t _ _ _ _ _ r j).trans ((entry_eq m c t r (column 1 j)).trans
    (congrArg (result 1 (argP m c) (argW m c) (argB m c)) (emb0_6 t r j)).symm)

theorem array_second_eq : (dats m 0 c).arrAt 6 cfg0.N = result 1 (argP m c) (argW m c) (argB m c) :=
  (dats m 0 c).arrAt_eq_of_cover 6 _ (fun t _ => block_second_eq m c t) cover_second

/-! ## The third array -/

theorem idx0_7 : ∀ t : Fin cfg0.N, win0_7.index t (0 : Fin 2) = t.val ∧ win0_7.index t (1 : Fin 2) = 0 :=
  (by decide +kernel : ∀ t : Fin grid0.N, _)

theorem emb0_7 (t : Fin cfg0.N) (r : Fin 256) (j : Fin 512) :
    ((cfg0.win 7).blk t).view.emb (ix2 r j) = (ix2 (row t r) j : S16640x512.Idx) := by
  obtain ⟨e0, e1⟩ := idx0_7 t
  funext a; apply Fin.ext
  match a with
  | ⟨0, _⟩ => show win0_7.index t (0 : Fin 2) * 256 + 1 * r.val = 256 * t.val + r.val; omega
  | ⟨1, _⟩ => show win0_7.index t (1 : Fin 2) * 512 + 1 * j.val = j.val; omega

theorem mem_blk_third (t : Fin cfg0.N) (y : S16640x512.Idx) :
    y ∈ ((cfg0.win 7).blk t).view.set ↔ ∀ a : Fin 2,
      win0_7.index t a * S256x512.size a ≤ (y a).val ∧ (y a).val < win0_7.index t a * S256x512.size a + S256x512.size a := by
  show y ∈ ((View.whole main_v1_2).slice (win0_7.rect t)).set ↔ _
  rw [View.set_slice_whole, Rect.mem_set_unit]
  exact Iff.rfl

/-- Its blocks tile it. -/
theorem cover_third (y : S16640x512.Idx) :
    ∃ t : Fin cfg0.N, (cfg0.win 7).flush t = true ∧ y ∈ ((cfg0.win 7).blk t).view.set := by
  have h0 : (y 0).val < 16640 := (y 0).isLt
  have h1 : (y 1).val < 512 := (y 1).isLt
  have hN : cfg0.N = 65 := by decide
  refine ⟨⟨(y 0).val / 256, by omega⟩, flush0_7 _, ?_⟩
  rw [mem_blk_third]
  obtain ⟨e0, e1⟩ := idx0_7 ⟨(y 0).val / 256, by omega⟩
  intro a
  match a with
  | ⟨0, _⟩ =>
    show win0_7.index _ (0 : Fin 2) * 256 ≤ (y 0).val ∧ (y 0).val < win0_7.index _ (0 : Fin 2) * 256 + 256
    rw [e0]; dsimp only; omega
  | ⟨1, _⟩ =>
    show win0_7.index _ (1 : Fin 2) * 512 ≤ (y 1).val ∧ (y 1).val < win0_7.index _ (1 : Fin 2) * 512 + 512
    rw [e1]; omega

/-- Its columns among the convolved ones. -/
theorem cut_third (x y z w : S256x1536.Idx → EReal) (u v : S1x1536.Idx → EReal) (r : Fin 256) (j : Fin 512) :
    k0_pay4 (F := Ideal) x y z w u v (ix2 r j) = k0_pay1 (F := Ideal) x y z w u v (ix2 r (column 2 j)) := by
  have e : column 2 j = ⟨1024 + j.val, by have := j.isLt; omega⟩ := Fin.ext (by simp [column])
  rw [e]
  pointwise [k0_pay4]

theorem body_third_at (t : Fin cfg0.N) (x0 : S256x1536.Idx → EReal) (x1 x2 : S8x1536.Idx → EReal) (x3 : S3x1536.Idx → EReal)
    (x4 : S1x1536.Idx → EReal) (r : Fin 256) (j : Fin 512) :
    out0_7 (F := Ideal) (grid0.coords t) x0 x1 x2 x3 x4 (ix2 r j) = entry t x0 x1 x2 x3 x4 r (column 2 j) := by
  have z : (![0, 0] : Fin 2 → ℕ) = fun _ => 0 := by funext a; fin_cases a <;> rfl
  unfold out0_7
  rw [View.canon_unit_zero z, cut_third]
  exact entry_at t x0 x1 x2 x3 x4 r (column 2 j)

theorem block_third_eq (t : Fin cfg0.N) :
    (dats m 0 c).flushed 7 t = ((cfg0.win 7).blk t).view.read (Elt Ideal) (result 2 (argP m c) (argW m c) (argB m c)) := by
  rw [Value.flushed7]
  refine funext fun y => ?_
  obtain ⟨r, j, rfl⟩ : ∃ r j, y = (ix2 r j : S256x512.Idx) := ⟨y 0, y 1, by funext a; fin_cases a <;> rfl⟩
  exact (body_third_at t _ _ _ _ _ r j).trans ((entry_eq m c t r (column 2 j)).trans
    (congrArg (result 2 (argP m c) (argW m c) (argB m c)) (emb0_7 t r j)).symm)

theorem array_third_eq : (dats m 0 c).arrAt 7 cfg0.N = result 2 (argP m c) (argW m c) (argB m c) :=
  (dats m 0 c).arrAt_eq_of_cover 7 _ (fun t _ => block_third_eq m c t) cover_third

end Cert.ShortConvIdeal.Hand

end
-- ==== Proof.ShortConvReference.lean ====
/-
  The reference of the convolution over three neighbouring rows, as whole arrays: each sequence with a row of zeros at either
  end, three slices of it times the weights, their sum and the bias. Entry by entry it is what the call leaves.
-/
module

public import proofs.«01_k».proof.Proof.ShortConv
public import proofs.«01_k».proof.Proof.Gen.ShortConvRefIdeal.Run

@[expose] public section

set_option maxRecDepth 16384

noncomputable section

namespace Cert.ShortConvRefIdeal.Hand

open Idealize.ShloMosaic Idealize.ShloMosaic.TcCoe Idealize.ShloMosaic.Tactic
open Cert.ShortConvRefIdeal Cert.ShortConvRefIdeal.Gen
open Cert.ShortConvIdeal.Hand (source before after conv column)

variable {F : FTy → Type} [FloatOps F]

/-- The array types, at any reading of the floats. -/
abbrev Rows (F : FTy → Type) := (⟨S16640x4608, .f32⟩ : BufTy).Contents (Elt F)
abbrev Latent (F : FTy → Type) := (⟨S16384x1536, .f32⟩ : BufTy).Contents (Elt F)
abbrev Context (F : FTy → Type) := (⟨S256x1536, .f32⟩ : BufTy).Contents (Elt F)
abbrev Weights (F : FTy → Type) := (⟨S3x1536, .f32⟩ : BufTy).Contents (Elt F)
abbrev Bias (F : FTy → Type) := (⟨S1536, .f32⟩ : BufTy).Contents (Elt F)

/-- The convolved columns. -/
def columns (p : Rows F) : (⟨S16640x1536, .f32⟩ : BufTy).Contents (Elt F) :=
  extractStridedSlice S16640x1536 ![0, 3072] p slices_S16640x4608_S16640x1536_0_3072

/-- The latent rows with a row of zeros at either end. -/
def paddedLatent (u : Latent F) : (⟨S16386x1536, .f32⟩ : BufTy).Contents (Elt F) :=
  pad S16386x1536 ![1, 0] ![1, 0] ![0, 0] u (sitofp .f32 (constantI S_ 32 0#32)) pads_S16384x1536_S16386x1536_110_000 h_S_

/-- The latent rows, convolved. -/
def latent (u : Latent F) (w : Weights F) (b : Bias F) : Latent F :=
  addf (addf (addf
    (mulf (extractStridedSlice S16384x1536 ![0, 0] (paddedLatent u) slices_S16386x1536_S16384x1536_0_0)
      (broadcastInDim S16384x1536 ![0, 1] bcast_S1x1536_S16384x1536_0_1 (broadcastInDim S1x1536 ![1] bcast_S1536_S1x1536_1
        (shapeCast _ (extractStridedSlice S1x1536 ![0, 0] w slices_S3x1536_S1x1536_0_0) shapeCasts_S1x1536_S1536))))
    (mulf (extractStridedSlice S16384x1536 ![1, 0] (paddedLatent u) slices_S16386x1536_S16384x1536_1_0)
      (broadcastInDim S16384x1536 ![0, 1] bcast_S1x1536_S16384x1536_0_1 (broadcastInDim S1x1536 ![1] bcast_S1536_S1x1536_1
        (shapeCast _ (extractStridedSlice S1x1536 ![1, 0] w slices_S3x1536_S1x1536_1_0) shapeCasts_S1x1536_S1536)))))
    (mulf (extractStridedSlice S16384x1536 ![2, 0] (paddedLatent u) slices_S16386x1536_S16384x1536_2_0)
      (broadcastInDim S16384x1536 ![0, 1] bcast_S1x1536_S16384x1536_0_1 (broadcastInDim S1x1536 ![1] bcast_S1536_S1x1536_1
        (shapeCast _ (extractStridedSlice S1x1536 ![2, 0] w slices_S3x1536_S1x1536_2_0) shapeCasts_S1x1536_S1536)))))
    (broadcastInDim S16384x1536 ![0, 1] bcast_S1x1536_S16384x1536_0_1 (broadcastInDim S1x1536 ![1] bcast_S1536_S1x1536_1 b))

/-- The context rows with a row of zeros at either end. -/
def paddedContext (u : Context F) : (⟨S258x1536, .f32⟩ : BufTy).Contents (Elt F) :=
  pad S258x1536 ![1, 0] ![1, 0] ![0, 0] u (sitofp .f32 (constantI S_ 32 0#32)) pads_S256x1536_S258x1536_110_000 h_S_

/-- The context rows, convolved. -/
def context (u : Context F) (w : Weights F) (b : Bias F) : Context F :=
  addf (addf (addf
    (mulf (extractStridedSlice S256x1536 ![0, 0] (paddedContext u) slices_S258x1536_S256x1536_0_0)
      (broadcastInDim S256x1536 ![0, 1] bcast_S1x1536_S256x1536_0_1 (broadcastInDim S1x1536 ![1] bcast_S1536_S1x1536_1
        (shapeCast _ (extractStridedSlice S1x1536 ![0, 0] w slices_S3x1536_S1x1536_0_0) shapeCasts_S1x1536_S1536))))
    (mulf (extractStridedSlice S256x1536 ![1, 0] (paddedContext u) slices_S258x1536_S256x1536_1_0)
      (broadcastInDim S256x1536 ![0, 1] bcast_S1x1536_S256x1536_0_1 (broadcastInDim S1x1536 ![1] bcast_S1536_S1x1536_1
        (shapeCast _ (extractStridedSlice S1x1536 ![1, 0] w slices_S3x1536_S1x1536_1_0) shapeCasts_S1x1536_S1536)))))
    (mulf (extractStridedSlice S256x1536 ![2, 0] (paddedContext u) slices_S258x1536_S256x1536_2_0)
      (broadcastInDim S256x1536 ![0, 1] bcast_S1x1536_S256x1536_0_1 (broadcastInDim S1x1536 ![1] bcast_S1536_S1x1536_1
        (shapeCast _ (extractStridedSlice S1x1536 ![2, 0] w slices_S3x1536_S1x1536_2_0) shapeCasts_S1x1536_S1536)))))
    (broadcastInDim S256x1536 ![0, 1] bcast_S1x1536_S256x1536_0_1 (broadcastInDim S1x1536 ![1] bcast_S1536_S1x1536_1 b))

/-- All rows, convolved. -/
def rows (p : Rows F) (w : Weights F) (b : Bias F) : (⟨S16640x1536, .f32⟩ : BufTy).Contents (Elt F) :=
  concatenate S16640x1536 0
    [⟨S16384x1536, latent (extractStridedSlice S16384x1536 ![0, 0] (columns p) slices_S16640x1536_S16384x1536_0_0) w b⟩,
     ⟨S256x1536, context (extractStridedSlice S256x1536 ![16384, 0] (columns p) slices_S16640x1536_S256x1536_16384_0) w b⟩]
    concatenates_S16384x1536_S256x1536_S16640x1536_d0

/-- The integer zero as a float. -/
theorem zero_at : FloatOps.sitofp (F := Ideal) FTy.f32 0#32 = (0 : EReal) := by
  simp [FloatOps.sitofp]

/-- A row of the latent rows or nothing, from the padded rows. -/
def latentRow (u : S16384x1536.Idx → EReal) (n : ℕ) (e : Fin 1536) : EReal :=
  if h : 1 ≤ n ∧ n - 1 < 16384 then u (ix2 ⟨n - 1, h.2⟩ e) else 0

theorem paddedLatent_at (u : S16384x1536.Idx → EReal) (n : Fin 16386) (e : Fin 1536) :
    paddedLatent (F := Ideal) u (ix2 n e) = latentRow u n.val e := by
  unfold latentRow
  rw [← zero_at]
  pointwise [paddedLatent]

theorem latent_at (u : S16384x1536.Idx → EReal) (w : S3x1536.Idx → EReal) (b : S1536.Idx → EReal) (r : Fin 16384) (e : Fin 1536) :
    latent (F := Ideal) u w b (ix2 r e)
      = latentRow u r.val e * w (ix2 0 e) + latentRow u (1 + r.val) e * w (ix2 1 e) + latentRow u (2 + r.val) e * w (ix2 2 e) + b (ix1 e) := by
  have hr := r.isLt
  have e0 := paddedLatent_at u ⟨r.val, by omega⟩ e
  have e1 := paddedLatent_at u ⟨1 + r.val, by omega⟩ e
  have e2 := paddedLatent_at u ⟨2 + r.val, by omega⟩ e
  rw [← e0, ← e1, ← e2]
  pointwise [latent]

/-- A row of the context rows or nothing, from the padded rows. -/
def contextRow (u : S256x1536.Idx → EReal) (n : ℕ) (e : Fin 1536) : EReal :=
  if h : 1 ≤ n ∧ n - 1 < 256 then u (ix2 ⟨n - 1, h.2⟩ e) else 0

theorem paddedContext_at (u : S256x1536.Idx → EReal) (n : Fin 258) (e : Fin 1536) :
    paddedContext (F := Ideal) u (ix2 n e) = contextRow u n.val e := by
  unfold contextRow
  rw [← zero_at]
  pointwise [paddedContext]

theorem context_at (u : S256x1536.Idx → EReal) (w : S3x1536.Idx → EReal) (b : S1536.Idx → EReal) (r : Fin 256) (e : Fin 1536) :
    context (F := Ideal) u w b (ix2 r e)
      = contextRow u r.val e * w (ix2 0 e) + contextRow u (1 + r.val) e * w (ix2 1 e) + contextRow u (2 + r.val) e * w (ix2 2 e) + b (ix1 e) := by
  have hr := r.isLt
  have e0 := paddedContext_at u ⟨r.val, by omega⟩ e
  have e1 := paddedContext_at u ⟨1 + r.val, by omega⟩ e
  have e2 := paddedContext_at u ⟨2 + r.val, by omega⟩ e
  rw [← e0, ← e1, ← e2]
  pointwise [context]

theorem latent_slice (p : S16640x4608.Idx → EReal) (r : Fin 16384) (e : Fin 1536) :
    extractStridedSlice (α := EReal) S16384x1536 ![0, 0] (columns (F := Ideal) p) slices_S16640x1536_S16384x1536_0_0 (ix2 r e)
      = p (ix2 ⟨r.val, by have := r.isLt; omega⟩ (source e)) := by
  unfold source
  pointwise [columns]

theorem context_slice (p : S16640x4608.Idx → EReal) (r : Fin 256) (e : Fin 1536) :
    extractStridedSlice (α := EReal) S256x1536 ![16384, 0] (columns (F := Ideal) p) slices_S16640x1536_S256x1536_16384_0 (ix2 r e)
      = p (ix2 ⟨16384 + r.val, by have := r.isLt; omega⟩ (source e)) := by
  unfold source
  pointwise [columns]

/-- Where the rows of the two kinds lie among all of them. -/
theorem rows_split (a : Latent Ideal) (b : Context Ideal) (r : Fin 16640) (e : Fin 1536) :
    concatenate (α := EReal) S16640x1536 0 [⟨S16384x1536, a⟩, ⟨S256x1536, b⟩] concatenates_S16384x1536_S256x1536_S16640x1536_d0 (ix2 r e)
      = if h : r.val < 16384 then a (ix2 ⟨r.val, h⟩ e) else b (ix2 ⟨r.val - 16384, by have := r.isLt; omega⟩ e) := by
  pointwise

theorem rows_at (p : S16640x4608.Idx → EReal) (w : S3x1536.Idx → EReal) (b : S1536.Idx → EReal) (r : Fin 16640) (e : Fin 1536) :
    rows (F := Ideal) p w b (ix2 r e) = conv p w b r e := by
  have hr := r.isLt
  refine (rows_split _ _ r e).trans ?_
  unfold conv
  by_cases h : r.val < 16384
  · rw [dif_pos h, latent_at]
    refine congrArg₂ (fun x y : EReal => x + y) (congrArg₂ (fun x y : EReal => x + y) (congrArg₂ (fun x y : EReal => x + y)
      (congrArg (fun x : EReal => x * w (ix2 0 e)) ?_) (congrArg (fun x : EReal => x * w (ix2 1 e)) ?_))
      (congrArg (fun x : EReal => x * w (ix2 2 e)) ?_)) rfl
    · unfold latentRow before
      by_cases k : r.val = 0
      · rw [if_pos (Or.inl k), dif_neg (by dsimp only; omega)]
      · rw [if_neg (by omega), dif_pos ⟨by dsimp only; omega, by dsimp only; omega⟩, latent_slice]
    · unfold latentRow
      rw [dif_pos ⟨by dsimp only; omega, by dsimp only; omega⟩, latent_slice]
      exact congrArg (fun n => p (ix2 n (source e))) (Fin.ext (by dsimp only; omega))
    · unfold latentRow after
      by_cases k : r.val = 16383
      · rw [dif_pos (Or.inl k), dif_neg (by dsimp only; omega)]
      · rw [dif_neg (by omega : ¬(r.val = 16383 ∨ r.val = 16639)), dif_pos ⟨by dsimp only; omega, by dsimp only; omega⟩, latent_slice]
        exact congrArg (fun n => p (ix2 n (source e))) (Fin.ext (by dsimp only; omega))
  · rw [dif_neg h, context_at]
    refine congrArg₂ (fun x y : EReal => x + y) (congrArg₂ (fun x y : EReal => x + y) (congrArg₂ (fun x y : EReal => x + y)
      (congrArg (fun x : EReal => x * w (ix2 0 e)) ?_) (congrArg (fun x : EReal => x * w (ix2 1 e)) ?_))
      (congrArg (fun x : EReal => x * w (ix2 2 e)) ?_)) rfl
    · unfold contextRow before
      by_cases k : r.val = 16384
      · rw [if_pos (Or.inr k), dif_neg (by dsimp only; omega)]
      · rw [if_neg (by omega), dif_pos ⟨by dsimp only; omega, by dsimp only; omega⟩, context_slice]
        exact congrArg (fun n => p (ix2 n (source e))) (Fin.ext (by dsimp only; omega))
    · unfold contextRow
      rw [dif_pos ⟨by dsimp only; omega, by dsimp only; omega⟩, context_slice]
      exact congrArg (fun n => p (ix2 n (source e))) (Fin.ext (by dsimp only; omega))
    · unfold contextRow after
      by_cases k : r.val = 16639
      · rw [dif_pos (Or.inr k), dif_neg (by dsimp only; omega)]
      · rw [dif_neg (by omega : ¬(r.val = 16383 ∨ r.val = 16639)), dif_pos ⟨by dsimp only; omega, by dsimp only; omega⟩, context_slice]
        exact congrArg (fun n => p (ix2 n (source e))) (Fin.ext (by dsimp only; omega))

theorem first_cut (x : S16640x1536.Idx → EReal) (r : Fin 16640) (j : Fin 512) :
    extractStridedSlice (α := EReal) S16640x512 ![0, 0] x slices_S16640x1536_S16640x512_0_0 (ix2 r j) = x (ix2 r (column 0 j)) := by
  have e : column 0 j = ⟨j.val, by have := j.isLt; omega⟩ := Fin.ext (by simp [column])
  rw [e]
  pointwise

theorem reference_first_eq (p : S16640x4608.Idx → EReal) (w : S3x1536.Idx → EReal) (b : S1536.Idx → EReal) :
    extractStridedSlice (α := EReal) S16640x512 ![0, 0] (rows (F := Ideal) p w b) slices_S16640x1536_S16640x512_0_0
      = Cert.ShortConvIdeal.Hand.result 0 p w b := by
  funext i
  obtain ⟨r, j, rfl⟩ : ∃ r j, i = (ix2 r j : S16640x512.Idx) := ⟨i 0, i 1, by funext a; fin_cases a <;> rfl⟩
  exact (first_cut _ r j).trans (rows_at p w b r (column 0 j))

theorem second_cut (x : S16640x1536.Idx → EReal) (r : Fin 16640) (j : Fin 512) :
    extractStridedSlice (α := EReal) S16640x512 ![0, 512] x slices_S16640x1536_S16640x512_0_512 (ix2 r j) = x (ix2 r (column 1 j)) := by
  have e : column 1 j = ⟨512 + j.val, by have := j.isLt; omega⟩ := Fin.ext (by simp [column])
  rw [e]
  pointwise

theorem reference_second_eq (p : S16640x4608.Idx → EReal) (w : S3x1536.Idx → EReal) (b : S1536.Idx → EReal) :
    extractStridedSlice (α := EReal) S16640x512 ![0, 512] (rows (F := Ideal) p w b) slices_S16640x1536_S16640x512_0_512
      = Cert.ShortConvIdeal.Hand.result 1 p w b := by
  funext i
  obtain ⟨r, j, rfl⟩ : ∃ r j, i = (ix2 r j : S16640x512.Idx) := ⟨i 0, i 1, by funext a; fin_cases a <;> rfl⟩
  exact (second_cut _ r j).trans (rows_at p w b r (column 1 j))

theorem third_cut (x : S16640x1536.Idx → EReal) (r : Fin 16640) (j : Fin 512) :
    extractStridedSlice (α := EReal) S16640x512 ![0, 1024] x slices_S16640x1536_S16640x512_0_1024 (ix2 r j) = x (ix2 r (column 2 j)) := by
  have e : column 2 j = ⟨1024 + j.val, by have := j.isLt; omega⟩ := Fin.ext (by simp [column])
  rw [e]
  pointwise

theorem reference_third_eq (p : S16640x4608.Idx → EReal) (w : S3x1536.Idx → EReal) (b : S1536.Idx → EReal) :
    extractStridedSlice (α := EReal) S16640x512 ![0, 1024] (rows (F := Ideal) p w b) slices_S16640x1536_S16640x512_0_1024
      = Cert.ShortConvIdeal.Hand.result 2 p w b := by
  funext i
  obtain ⟨r, j, rfl⟩ : ∃ r j, i = (ix2 r j : S16640x512.Idx) := ⟨i 0, i 1, by funext a; fin_cases a <;> rfl⟩
  exact (third_cut _ r j).trans (rows_at p w b r (column 2 j))

end Cert.ShortConvRefIdeal.Hand

end
-- ==== Proof.Modulation.lean ====
/-
  The modulations of the layers: the two time vectors, laid in the first two rows of eight, through the sigmoid's gate and
  the layer's weights, with the layer's bias.
-/
module

public import proofs.«01_k».proof.Proof.Gen.ModulationIdeal.Frame
public import Idealize.ShloMosaic.Lib.Pipeline.Value
public import Idealize.ShloMosaic.Lib.Routing.OpsPair
public import Idealize.ShloMosaic.Lib.Routing.OpsSet
public import Idealize.ShloMosaic.Lib.Pointwise
public import Idealize.ShloMosaic.Lib.Tactic.CleanTypes

@[expose] public section

set_option maxRecDepth 16384

noncomputable section

namespace Cert.ModulationIdeal.Hand

open Idealize.ShloMosaic Idealize.ShloMosaic.TcCoe Idealize.ShloMosaic.Tactic Idealize.SL.Sem
open Idealize.ShloMosaic.Routing
open Cert.ModulationIdeal Cert.ModulationIdeal.Gen
open Idealize.ShloMosaic.Pipeline (Dat)

/-! ## Laying one row -/

/-- Entry `q` of an update of row `k` lands at `(p, e)` exactly when `p` is that row and `e` is `q`. -/
theorem lands_row (idx : IVec S1 32) (k : Fin 8) (hk : (idx (ix1 0)).toInt = (k.val : Int)) (q e : Fin 1024) (p : Fin 8) :
    scatter_S8x1024_S1_S1024_0_0_0_0.resultIdx? (ix1 q) idx = some (ix2 p e) ↔ p = k ∧ q = e := by
  have row : scatter_S8x1024_S1_S1024_0_0_0_0.start (ix1 q) idx 0 = (k.val : Int) := by
    unfold ScatterDims.start
    rw [dif_pos (show (0 : Fin 2) ∈ scatter_S8x1024_S1_S1024_0_0_0_0.scatterDimsToOperandDims from List.mem_singleton.2 rfl), ← hk]
    refine congrArg (fun i => (idx i).toInt) (funext fun a => ?_)
    match a with
    | ⟨0, _⟩ => exact Subsingleton.elim (α := Fin 1) _ _
  have col : scatter_S8x1024_S1_S1024_0_0_0_0.start (ix1 q) idx 1 = 0 := by
    unfold ScatterDims.start
    exact dif_neg (by decide : ¬ (1 : Fin 2) ∈ ([0] : List (Fin 2)))
  have inRow : scatter_S8x1024_S1_S1024_0_0_0_0.window (ix1 q) 0 = 0 := rfl
  have inCol : scatter_S8x1024_S1_S1024_0_0_0_0.window (ix1 q) 1 = q.val := rfl
  have both := resultIdx?_ix2 scatter_S8x1024_S1_S1024_0_0_0_0 (ix1 q) idx p e
  rw [row, col, inRow, inCol] at both
  refine both.trans ?_
  rw [Fin.ext_iff, Fin.ext_iff]
  omega

/-- A row laid over a row of the eight: the row itself there, the array elsewhere. -/
theorem laid_at (x : S8x1024.Idx → EReal) (idx : IVec S1 32) (u : S1024.Idx → EReal) (k : Fin 8)
    (hk : (idx (ix1 0)).toInt = (k.val : Int)) (p : Fin 8) (e : Fin 1024) :
    Host.scatter (α := EReal) scatter_S8x1024_S1_S1024_0_0_0_0 (fun _ b => b) x idx u (ix2 p e) = if p = k then u (ix1 e) else x (ix2 p e) := by
  have one : ∀ i : S1024.Idx, ∃ q : Fin 1024, i = ix1 q := fun i => ⟨i 0, by funext a; fin_cases a; rfl⟩
  by_cases h : p = k
  · rw [if_pos h]
    refine scatter_set_hit _ x idx u _ _ (fun i hi => ?_) (ix1 e) ((lands_row idx k hk e e p).2 ⟨h, rfl⟩)
    obtain ⟨q, rfl⟩ := one i
    rw [((lands_row idx k hk q e p).1 hi).2]
  · rw [if_neg h]
    refine scatter_set_miss _ x idx u _ fun i hi => ?_
    obtain ⟨q, rfl⟩ := one i
    exact h ((lands_row idx k hk q e p).1 hi).1

/-! ## The result, and the arrays the call finds -/

/-- An entry times its sigmoid. -/
def gate (a : EReal) : EReal := a * Ideal.logistic a

/-- One modulation: a time vector through the gate and a column of weights, and a bias. -/
def product (t : Fin 1024 → EReal) (w : Fin 1024 → EReal) (b : EReal) : EReal := (∑ d : Fin 1024, gate (t d) * w d) + b

/-- Of the two time vectors the context's comes first. -/
def time (cx : S1x1024.Idx → EReal) (cc : S1024.Idx → EReal) (p : Fin 2) (d : Fin 1024) : EReal :=
  if p.val = 0 then cc (ix1 d) else cx (ix2 0 d)

/-- Column `j` of modulation `k`. -/
def column (k : Fin 6) (j : Fin 1024) : Fin 6144 := ⟨k.val * 1024 + j.val, by have := j.isLt; have := k.isLt; omega⟩

/-- The array of the modulations: the layer, the kind, which of the six, and the feature. -/
def result (cx : S1x1024.Idx → EReal) (cc : S1024.Idx → EReal) (w : S4x1024x6144.Idx → EReal) (b : S4x6144.Idx → EReal) :
    S4x2x6x1024.Idx → EReal :=
  fun i => product (time cx cc (i 1)) (fun d => w (ix3 (i 0) d (column (i 2) (i 3)))) (b (ix2 (i 0) (column (i 2) (i 3))))

variable (m : (ℓ : Loc nD τ sig) → Buf (Elt Ideal) ℓ) (c : Dev nD)

/-- The four arguments as arrays. -/
abbrev argX : S1x1024.Idx → EReal := m ((c : Thread nD τ).loc main_arg0)
abbrev argC : S1024.Idx → EReal := m ((c : Thread nD τ).loc main_arg1)
abbrev argW : S4x1024x6144.Idx → EReal := m ((c : Thread nD τ).loc main_arg2)
abbrev argB : S4x6144.Idx → EReal := m ((c : Thread nD τ).loc main_arg3)

/-- The eight rows of which the first two are the time vectors. -/
abbrev eight : S8x1024.Idx → EReal := V m c main_v5

theorem eight_at (p : Fin 2) (d : Fin 1024) :
    eight m c (ix2 ⟨p.val, by have := p.isLt; omega⟩ d) = time (argX m c) (argC m c) p d := by
  unfold eight V V0
  rw [List.flatten_cons, List.flatten_nil, List.append_nil]
  after_results
  unfold time
  refine (laid_at _ _ _ 1 ?_ _ d).trans ?_
  · rfl
  fin_cases p
  · refine (if_neg (by decide)).trans ?_
    refine (laid_at _ _ _ 0 ?_ _ d).trans ?_
    · rfl
    exact (if_pos rfl).trans (if_pos rfl).symm
  · refine (if_pos rfl).trans (Eq.trans ?_ (if_neg (by decide)).symm)
    pointwise

theorem b_at (l : Fin 4) (q : Fin 6144) : (V m c main_v6 : S4x1x6144.Idx → EReal) (ix3 l 0 q) = argB m c (ix2 l q) := by
  unfold V V0
  rw [List.flatten_cons, List.flatten_nil, List.append_nil]
  after_results
  pointwise

/-! ## Where the blocks lie -/

theorem lt_points (t : Fin cfg0.N) : t.val < 16 := lt_of_lt_of_eq t.isLt (by decide)

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem idx0_2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem idx0_3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)
theorem flush : ∀ t : Fin cfg0.N, (cfg0.win 3).flush t = true :=
  (by decide +kernel : ∀ t : Fin grid0.N, _)

/-- The layer of a point, and column `q` of its columns. -/
def layer (t : Fin cfg0.N) : Fin 4 := ⟨t.val / 4, by have := lt_points t; omega⟩
def col (t : Fin cfg0.N) (q : Fin 1536) : Fin 6144 := ⟨1536 * (t.val % 4) + q.val, by have := q.isLt; omega⟩

theorem emb0_0 (t : Fin cfg0.N) (p : Fin 8) (d : Fin 1024) :
    ((cfg0.win 0).blk t).view.emb (ix2 p d) = (ix2 p d : S8x1024.Idx) := by
  obtain ⟨e0, e1⟩ := idx0_0 t
  funext a; apply Fin.ext
  match a with
  | ⟨0, _⟩ => show win0_0.index t (0 : Fin 2) * 8 + 1 * p.val = p.val; omega
  | ⟨1, _⟩ => show win0_0.index t (1 : Fin 2) * 1024 + 1 * d.val = d.val; omega

theorem emb0_1 (t : Fin cfg0.N) (d : Fin 1024) (q : Fin 1536) :
    ((cfg0.win 1).blk t).view.emb (ix3 (0 : Fin 1) d q) = (ix3 (layer t) d (col t q) : S4x1024x6144.Idx) := by
  obtain ⟨e0, e1, e2⟩ := idx0_1 t
  funext a; apply Fin.ext
  match a with
  | ⟨0, _⟩ => show win0_1.index t (0 : Fin 3) * 1 + 1 * 0 = t.val / 4; omega
  | ⟨1, _⟩ => show win0_1.index t (1 : Fin 3) * 1024 + 1 * d.val = d.val; omega
  | ⟨2, _⟩ => show win0_1.index t (2 : Fin 3) * 1536 + 1 * q.val = 1536 * (t.val % 4) + q.val; omega

theorem emb0_2 (t : Fin cfg0.N) (q : Fin 1536) :
    ((cfg0.win 2).blk t).view.emb (ix3 (0 : Fin 1) (0 : Fin 1) q) = (ix3 (layer t) 0 (col t q) : S4x1x6144.Idx) := by
  obtain ⟨e0, e1, e2⟩ := idx0_2 t
  funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1536 + 1 * q.val = 1536 * (t.val % 4) + q.val; omega

theorem emb0_3 (t : Fin cfg0.N) (p : Fin 8) (q : Fin 1536) :
    ((cfg0.win 3).blk t).view.emb (ix3 (0 : Fin 1) p q) = (ix3 (layer t) p (col t q) : S4x8x6144.Idx) := by
  obtain ⟨e0, e1, e2⟩ := idx0_3 t
  funext a; apply Fin.ext
  match a with
  | ⟨0, _⟩ => show win0_3.index t (0 : Fin 3) * 1 + 1 * 0 = t.val / 4; omega
  | ⟨1, _⟩ => show win0_3.index t (1 : Fin 3) * 8 + 1 * p.val = p.val; omega
  | ⟨2, _⟩ => show win0_3.index t (2 : Fin 3) * 1536 + 1 * q.val = 1536 * (t.val % 4) + q.val; omega

theorem mem_blk (t : Fin cfg0.N) (y : S4x8x6144.Idx) :
    y ∈ ((cfg0.win 3).blk t).view.set ↔ ∀ a : Fin 3,
      win0_3.index t a * S1x8x1536.size a ≤ (y a).val ∧ (y a).val < win0_3.index t a * S1x8x1536.size a + S1x8x1536.size a := by
  show y ∈ ((View.whole main_v7).slice (win0_3.rect t)).set ↔ _
  rw [View.set_slice_whole, Rect.mem_set_unit]
  exact Iff.rfl

/-- The blocks written back tile the array. -/
theorem cover (y : S4x8x6144.Idx) :
    ∃ t : Fin cfg0.N, (cfg0.win 3).flush t = true ∧ y ∈ ((cfg0.win 3).blk t).view.set := by
  have h0 : (y 0).val < 4 := (y 0).isLt
  have h1 : (y 1).val < 8 := (y 1).isLt
  have h2 : (y 2).val < 6144 := (y 2).isLt
  have hN : cfg0.N = 16 := by decide
  refine ⟨⟨4 * (y 0).val + (y 2).val / 1536, by omega⟩, flush _, ?_⟩
  rw [mem_blk]
  obtain ⟨e0, e1, e2⟩ := idx0_3 ⟨4 * (y 0).val + (y 2).val / 1536, by omega⟩
  intro a
  match a with
  | ⟨0, _⟩ =>
    show win0_3.index _ (0 : Fin 3) * 1 ≤ (y 0).val ∧ (y 0).val < win0_3.index _ (0 : Fin 3) * 1 + 1
    rw [e0]; dsimp only; omega
  | ⟨1, _⟩ =>
    show win0_3.index _ (1 : Fin 3) * 8 ≤ (y 1).val ∧ (y 1).val < win0_3.index _ (1 : Fin 3) * 8 + 8
    rw [e1]; omega
  | ⟨2, _⟩ =>
    show win0_3.index _ (2 : Fin 3) * 1536 ≤ (y 2).val ∧ (y 2).val < win0_3.index _ (2 : Fin 3) * 1536 + 1536
    rw [e2]; dsimp only; omega

/-! ## The blocks -/

theorem blk_t (t : Fin cfg0.N) (p : Fin 8) (d : Fin 1024) :
    (iblk m c 0 t : S8x1024.Idx → EReal) (ix2 p d) = eight m c (ix2 p d) :=
  congrArg (V m c main_v5 : S8x1024.Idx → EReal) (emb0_0 t p d)

theorem blk_w (t : Fin cfg0.N) (d : Fin 1024) (q : Fin 1536) :
    (iblk m c 1 t : S1x1024x1536.Idx → EReal) (ix3 0 d q) = argW m c (ix3 (layer t) d (col t q)) :=
  (congrArg (V m c main_arg2 : S4x1024x6144.Idx → EReal) (emb0_1 t d q)).trans (congrFun (V_main_arg2 m c) _)

theorem blk_b (t : Fin cfg0.N) (q : Fin 1536) :
    (iblk m c 2 t : S1x1x1536.Idx → EReal) (ix3 0 0 q) = argB m c (ix2 (layer t) (col t q)) :=
  (congrArg (V m c main_v6 : S4x1x6144.Idx → EReal) (emb0_2 t q)).trans (b_at m c _ _)

/-- The array before the two rows are taken. -/
def padded (x : S8x1024.Idx → EReal) (w : S4x1024x6144.Idx → EReal) (b : S4x6144.Idx → EReal) : S4x8x6144.Idx → EReal :=
  fun i => product (fun d => x (ix2 (i 1) d)) (fun d => w (ix3 (i 0) d (i 2))) (b (ix2 (i 0) (i 2)))

theorem stored_at (x : S8x1024.Idx → EReal) (w : S1x1024x1536.Idx → EReal) (b : S1x1x1536.Idx → EReal) (p : Fin 8) (q : Fin 1536) :
    k0_pay1 (F := Ideal) x w b (ix3 0 p q) = product (fun d => x (ix2 p d)) (fun d => w (ix3 0 d q)) (b (ix3 0 0 q)) := by
  unfold product gate
  pointwise [k0_pay1]

theorem body_at (x0 : S8x1024.Idx → EReal) (x1 : S1x1024x1536.Idx → EReal) (x2 : S1x1x1536.Idx → EReal) (p : Fin 8) (q : Fin 1536) :
    out0_3 (F := Ideal) x0 x1 x2 (ix3 0 p q) = product (fun d => x0 (ix2 p d)) (fun d => x1 (ix3 0 d q)) (x2 (ix3 0 0 q)) := by
  have z2 : (![0, 0] : Fin 2 → ℕ) = fun _ => 0 := by funext a; fin_cases a <;> rfl
  have z3 : (![0, 0, 0] : Fin 3 → ℕ) = fun _ => 0 := by funext a; fin_cases a <;> rfl
  unfold out0_3
  rw [View.canon_unit_zero z3, View.ld_unit_zero z2, View.ld_unit_zero z3, View.ld_unit_zero z3]
  exact stored_at x0 x1 x2 p q

theorem block_eq (t : Fin cfg0.N) :
    (dats m 0 c).flushed 3 t
      = ((cfg0.win 3).blk t).view.read (Elt Ideal) (padded (eight m c) (argW m c) (argB m c)) := by
  show (cfg0.win 3).cut (grid0.coords t) ((dats m 0 c).after 3 t) = _
  rw [after0_3]
  refine funext fun y => ?_
  obtain ⟨p, q, rfl⟩ : ∃ p q, y = (ix3 0 p q : S1x8x1536.Idx) :=
    ⟨y 1, y 2, by funext a; fin_cases a; exacts [Subsingleton.elim (α := Fin 1) _ _, rfl, rfl]⟩
  refine (body_at _ _ _ p q).trans (Eq.trans ?_ (congrArg (padded (eight m c) (argW m c) (argB m c)) (emb0_3 t p q)).symm)
  unfold padded
  rw [blk_b]
  simp only [blk_t, blk_w]
  rfl

theorem array_eq : (dats m 0 c).arrAt 3 cfg0.N = padded (eight m c) (argW m c) (argB m c) :=
  (dats m 0 c).arrAt_eq_of_cover 3 _ (fun t _ => block_eq m c t) cover

end Cert.ModulationIdeal.Hand

end
-- ==== Proof.ModulationRun.lean ====
/-
  What the modulations' call leaves: of the array's eight rows the first two, their columns as six modulations.
-/
module

public import proofs.«01_k».proof.Proof.Modulation

@[expose] public section

set_option maxRecDepth 16384

noncomputable section

namespace Cert.ModulationIdeal.Hand

open Idealize.ShloMosaic Idealize.ShloMosaic.TcCoe Idealize.ShloMosaic.Tactic Idealize.SL.Sem
open Cert.ModulationIdeal Cert.ModulationIdeal.Gen

/-- The first two rows, as six modulations each. -/
theorem taken_at (y : S4x8x6144.Idx → EReal) (l : Fin 4) (p : Fin 2) (k : Fin 6) (j : Fin 1024) :
    shapeCast (α := EReal) S4x2x6x1024 (extractStridedSlice S4x2x6144 ![0, 0, 0] y slices_S4x8x6144_S4x2x6144_0_0_0)
        shapeCasts_S4x2x6144_S4x2x6x1024 (ix4 l p k j)
      = y (ix3 l ⟨p.val, by have := p.isLt; omega⟩ (column k j)) := by
  unfold column
  pointwise

variable (m : (ℓ : Loc nD τ sig) → Buf (Elt Ideal) ℓ) (c : Dev nD)

/-- The array handed to the operations after the grid. -/
theorem left_array :
    Pipeline.withArrays cfg0.spec c (V0 m c) (fun w => (dats m 0 c).arrAt w cfg0.N) (Proc.devRef .tc main_v7)
      = padded (eight m c) (argW m c) (argB m c) :=
  (Pipeline.withArrays_arr cfg0.spec (by decide) c (V0 m c) _ 3).trans (array_eq m c)

theorem left_result : Pipeline.afterTail₀ cfgs (dats m) 0 (V0 m) [hostOps1] c main_v9 = result (argX m c) (argC m c) (argW m c) (argB m c) := by
  unfold Pipeline.afterTail₀
  rw [List.flatten_cons, List.flatten_nil, List.append_nil]
  after_results
  refine funext fun i => ?_
  obtain ⟨l, p, k, j, rfl⟩ : ∃ l p k j, i = (ix4 l p k j : S4x2x6x1024.Idx) :=
    ⟨i 0, i 1, i 2, i 3, by funext a; fin_cases a <;> rfl⟩
  refine (taken_at _ l p k j).trans ?_
  refine (congrFun (left_array m c) _).trans ?_
  unfold padded result
  exact congrArg (fun t => product t _ _) (funext fun d => eight_at m c p d)

/-- Every run of the call ends with the modulations in its result and the arguments as they were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v9) = result (argX m c) (argC m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨?_, ?_, ?_, ?_, ?_⟩) (run_main (F := Ideal) m g)
  · exact ((h c).2 main_v9 (Pipeline.mem_restRefs_of main_v9 (by decide) (by decide))).trans (left_result m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).1 1).trans (((dats m 0 c).arrAt_in 1 rfl _).trans ((A_eq m c 1).trans (V_main_arg2 m c)))
  · exact ((h c).2 main_arg3 (Pipeline.mem_restRefs_of main_arg3 (by decide) (by decide))).trans (W_main_arg3 m (dats m) c)

end Cert.ModulationIdeal.Hand

end
-- ==== Proof.ModulationReference.lean ====
/-
  The reference of the modulations, a layer at a time; entry by entry it is what the call leaves.
-/
module

public import proofs.«01_k».proof.Proof.ModulationRun
public import proofs.«01_k».proof.Proof.Gen.ModulationRefIdeal.Run

@[expose] public section

set_option maxRecDepth 16384

noncomputable section

namespace Cert.ModulationRefIdeal.Hand

open Idealize.ShloMosaic Idealize.ShloMosaic.TcCoe Idealize.ShloMosaic.Tactic
open Cert.ModulationRefIdeal Cert.ModulationRefIdeal.Gen
open Cert.ModulationIdeal.Hand (gate product time column result)

variable {F : FTy → Type} [FloatOps F]

/-- The context's modulations in one layer. -/
def ofContext (cc : (⟨S1024, .f32⟩ : BufTy).Contents (Elt F)) (w : (⟨S1x1024x6144, .f32⟩ : BufTy).Contents (Elt F))
    (b : (⟨S1x6144, .f32⟩ : BufTy).Contents (Elt F)) : (⟨S6144, .f32⟩ : BufTy).Contents (Elt F) :=
  addf (Host.dotGeneral dot_S1024_S1024x6144_S6144_0_0_n_1_n_n none
      (mulf cc (Host.divf (broadcastInDim S1024 ![] bcast_S_S1024 (constant S_ .f32 0x3F800000#32))
        (addf (broadcastInDim S1024 ![] bcast_S_S1024 (constant S_ .f32 0x3F800000#32)) (Host.exp (Host.negf cc)))))
      (shapeCast _ w shapeCasts_S1x1024x6144_S1024x6144))
    (shapeCast _ b shapeCasts_S1x6144_S6144)

/-- The latents' modulations in one layer. -/
def ofLatent (cx : (⟨S1x1024, .f32⟩ : BufTy).Contents (Elt F)) (w : (⟨S1x1024x6144, .f32⟩ : BufTy).Contents (Elt F))
    (b : (⟨S1x6144, .f32⟩ : BufTy).Contents (Elt F)) : (⟨S1x6144, .f32⟩ : BufTy).Contents (Elt F) :=
  addf (Host.dotGeneral dot_S1x1024_S1024x6144_S1x6144_1_0_0_1_n_n none
      (mulf cx (Host.divf (broadcastInDim S1x1024 ![] bcast_S_S1x1024 (constant S_ .f32 0x3F800000#32))
        (addf (broadcastInDim S1x1024 ![] bcast_S_S1x1024 (constant S_ .f32 0x3F800000#32)) (Host.exp (Host.negf cx)))))
      (shapeCast _ w shapeCasts_S1x1024x6144_S1024x6144))
    (broadcastInDim S1x6144 ![1] bcast_S6144_S1x6144_1 (shapeCast _ b shapeCasts_S1x6144_S6144))

/-- The two rows of one layer. -/
def both (u : (⟨S6144, .f32⟩ : BufTy).Contents (Elt F)) (v : (⟨S1x6144, .f32⟩ : BufTy).Contents (Elt F)) :
    (⟨S1x2x6144, .f32⟩ : BufTy).Contents (Elt F) :=
  broadcastInDim S1x2x6144 ![1, 2] bcast_S2x6144_S1x2x6144_1_2
    (concatenate S2x6144 0 [⟨S1x6144, broadcastInDim S1x6144 ![1] bcast_S6144_S1x6144_1 u⟩,
      ⟨S1x6144, broadcastInDim S1x6144 ![1] bcast_S6144_S1x6144_1 (shapeCast _ v shapeCasts_S1x6144_S6144)⟩]
      concatenates_S1x6144_S1x6144_S2x6144_d0)

/-- One layer. -/
def layer (cx : (⟨S1x1024, .f32⟩ : BufTy).Contents (Elt F)) (cc : (⟨S1024, .f32⟩ : BufTy).Contents (Elt F))
    (w : (⟨S1x1024x6144, .f32⟩ : BufTy).Contents (Elt F)) (b : (⟨S1x6144, .f32⟩ : BufTy).Contents (Elt F)) :
    (⟨S1x2x6144, .f32⟩ : BufTy).Contents (Elt F) :=
  both (ofContext cc w b) (ofLatent cx w b)

/-- Four layers, their columns as six modulations. -/
def stacked (y0 y1 y2 y3 : (⟨S1x2x6144, .f32⟩ : BufTy).Contents (Elt F)) : (⟨S4x2x6x1024, .f32⟩ : BufTy).Contents (Elt F) :=
  shapeCast _ (concatenate S4x2x6144 0 [⟨S1x2x6144, y0⟩, ⟨S1x2x6144, y1⟩, ⟨S1x2x6144, y2⟩, ⟨S1x2x6144, y3⟩]
    concatenates_S1x2x6144_S1x2x6144_S1x2x6144_S1x2x6144_S4x2x6144_d0) shapeCasts_S4x2x6144_S4x2x6x1024

/-- The weights and the bias of one layer. -/
def weights (w : S4x1024x6144.Idx → EReal) (l : Fin 4) : S1x1024x6144.Idx → EReal := fun i => w (ix3 l (i 1) (i 2))
def bias (b : S4x6144.Idx → EReal) (l : Fin 4) : S1x6144.Idx → EReal := fun i => b (ix2 l (i 1))

theorem weights_eq (w : S4x1024x6144.Idx → EReal) (l : Fin 4) (h : S4x1024x6144.Slices ![l.val, 0, 0] S1x1024x6144) :
    extractStridedSlice (α := EReal) S1x1024x6144 ![l.val, 0, 0] w h = weights w l := by
  refine funext fun i => ?_
  obtain ⟨d, q, rfl⟩ : ∃ d q, i = (ix3 0 d q : S1x1024x6144.Idx) :=
    ⟨i 1, i 2, by funext a; fin_cases a; exacts [Subsingleton.elim (α := Fin 1) _ _, rfl, rfl]⟩
  fin_cases l <;> (unfold weights; pointwise)

theorem bias_eq (b : S4x6144.Idx → EReal) (l : Fin 4) (h : S4x6144.Slices ![l.val, 0] S1x6144) :
    extractStridedSlice (α := EReal) S1x6144 ![l.val, 0] b h = bias b l := by
  refine funext fun i => ?_
  obtain ⟨q, rfl⟩ : ∃ q, i = (ix2 0 q : S1x6144.Idx) :=
    ⟨i 1, by funext a; fin_cases a; exacts [Subsingleton.elim (α := Fin 1) _ _, rfl]⟩
  fin_cases l <;> (unfold bias; pointwise)

theorem ofContext_at (cc : S1024.Idx → EReal) (w : S1x1024x6144.Idx → EReal) (b : S1x6144.Idx → EReal) (q : Fin 6144) :
    ofContext (F := Ideal) cc w b (ix1 q) = product (fun d => cc (ix1 d)) (fun d => w (ix3 0 d q)) (b (ix2 0 q)) := by
  unfold product gate Ideal.logistic
  pointwise [ofContext]

theorem ofLatent_at (cx : S1x1024.Idx → EReal) (w : S1x1024x6144.Idx → EReal) (b : S1x6144.Idx → EReal) (q : Fin 6144) :
    ofLatent (F := Ideal) cx w b (ix2 0 q) = product (fun d => cx (ix2 0 d)) (fun d => w (ix3 0 d q)) (b (ix2 0 q)) := by
  unfold product gate Ideal.logistic
  pointwise [ofLatent]

theorem both_context (u : S6144.Idx → EReal) (v : S1x6144.Idx → EReal) (q : Fin 6144) :
    both (F := Ideal) u v (ix3 0 0 q) = u (ix1 q) := by
  pointwise [both]

theorem both_latent (u : S6144.Idx → EReal) (v : S1x6144.Idx → EReal) (q : Fin 6144) :
    both (F := Ideal) u v (ix3 0 1 q) = v (ix2 0 q) := by
  pointwise [both]

theorem layer_at (cx : S1x1024.Idx → EReal) (cc : S1024.Idx → EReal) (w : S4x1024x6144.Idx → EReal) (b : S4x6144.Idx → EReal)
    (l : Fin 4) (p : Fin 2) (q : Fin 6144) :
    layer (F := Ideal) cx cc (weights w l) (bias b l) (ix3 0 p q) = product (time cx cc p) (fun d => w (ix3 l d q)) (b (ix2 l q)) := by
  unfold layer
  fin_cases p
  · exact (both_context _ _ q).trans (ofContext_at cc _ _ q)
  · exact (both_latent _ _ q).trans (ofLatent_at cx _ _ q)

theorem stacked_at (y : Fin 4 → S1x2x6144.Idx → EReal) (l : Fin 4) (p : Fin 2) (k : Fin 6) (j : Fin 1024) :
    stacked (F := Ideal) (y 0) (y 1) (y 2) (y 3) (ix4 l p k j) = y l (ix3 0 p (column k j)) := by
  unfold column
  fin_cases l <;> pointwise [stacked]

/-- The reference's result. -/
theorem reference_eq (cx : S1x1024.Idx → EReal) (cc : S1024.Idx → EReal) (w : S4x1024x6144.Idx → EReal) (b : S4x6144.Idx → EReal) :
    stacked (F := Ideal)
        (layer cx cc (extractStridedSlice S1x1024x6144 ![0, 0, 0] w slices_S4x1024x6144_S1x1024x6144_0_0_0) (extractStridedSlice S1x6144 ![0, 0] b slices_S4x6144_S1x6144_0_0))
        (layer cx cc (extractStridedSlice S1x1024x6144 ![1, 0, 0] w slices_S4x1024x6144_S1x1024x6144_1_0_0) (extractStridedSlice S1x6144 ![1, 0] b slices_S4x6144_S1x6144_1_0))
        (layer cx cc (extractStridedSlice S1x1024x6144 ![2, 0, 0] w slices_S4x1024x6144_S1x1024x6144_2_0_0) (extractStridedSlice S1x6144 ![2, 0] b slices_S4x6144_S1x6144_2_0))
        (layer cx cc (extractStridedSlice S1x1024x6144 ![3, 0, 0] w slices_S4x1024x6144_S1x1024x6144_3_0_0) (extractStridedSlice S1x6144 ![3, 0] b slices_S4x6144_S1x6144_3_0))
      = result cx cc w b := by
  have w0 := weights_eq w 0 slices_S4x1024x6144_S1x1024x6144_0_0_0
  have w1 := weights_eq w 1 slices_S4x1024x6144_S1x1024x6144_1_0_0
  have w2 := weights_eq w 2 slices_S4x1024x6144_S1x1024x6144_2_0_0
  have w3 := weights_eq w 3 slices_S4x1024x6144_S1x1024x6144_3_0_0
  have b0 := bias_eq b 0 slices_S4x6144_S1x6144_0_0
  have b1 := bias_eq b 1 slices_S4x6144_S1x6144_1_0
  have b2 := bias_eq b 2 slices_S4x6144_S1x6144_2_0
  have b3 := bias_eq b 3 slices_S4x6144_S1x6144_3_0
  refine funext fun i => ?_
  obtain ⟨l, p, k, j, rfl⟩ : ∃ l p k j, i = (ix4 l p k j : S4x2x6x1024.Idx) :=
    ⟨i 0, i 1, i 2, i 3, by funext a; fin_cases a <;> rfl⟩
  refine Eq.trans ?_ ((stacked_at (fun l => layer (F := Ideal) cx cc (weights w l) (bias b l)) l p k j).trans (layer_at cx cc w b l p (column k j)))
  exact congrFun (congr (congr (congr (congrArg (stacked (F := Ideal)) (congrArg₂ (layer (F := Ideal) cx cc) w0 b0))
    (congrArg₂ (layer (F := Ideal) cx cc) w1 b1)) (congrArg₂ (layer (F := Ideal) cx cc) w2 b2)) (congrArg₂ (layer (F := Ideal) cx cc) w3 b3)) _

end Cert.ModulationRefIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbIn.Value
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInIdeal.Value
public import proofs.«01_k».proof.Proof.Gen.AbInRefIdeal
public import proofs.«01_k».proof.Proof.Gen.AbInRefIdeal.Run
public import proofs.«01_k».proof.Proof.Gen.DaIn
public import proofs.«01_k».proof.Proof.Gen.DaIn.Skeleton
public import proofs.«01_k».proof.Proof.Gen.DaIn.Launch
public import proofs.«01_k».proof.Proof.Gen.DaIn.Points
public import proofs.«01_k».proof.Proof.Gen.DaIn.Frame
public import proofs.«01_k».proof.Proof.Gen.DaIn.Value
public import proofs.«01_k».proof.Proof.Gen.DaInIdeal
public import proofs.«01_k».proof.Proof.Gen.DaInIdeal.Skeleton
public import proofs.«01_k».proof.Proof.Gen.DaInIdeal.Launch
public import proofs.«01_k».proof.Proof.Gen.DaInIdeal.Points
public import proofs.«01_k».proof.Proof.Gen.DaInIdeal.Frame
public import proofs.«01_k».proof.Proof.Gen.DaInIdeal.Value
public import proofs.«01_k».proof.Proof.Gen.DaInRefIdeal
public import proofs.«01_k».proof.Proof.Gen.DaInRefIdeal.Run
public import proofs.«01_k».proof.Proof.Gen.AbOut
public import proofs.«01_k».proof.Proof.Gen.AbOut.Skeleton
public import proofs.«01_k».proof.Proof.Gen.AbOut.Launch
public import proofs.«01_k».proof.Proof.Gen.AbOut.Points
public import proofs.«01_k».proof.Proof.Gen.AbOut.Frame
public import proofs.«01_k».proof.Proof.Gen.AbOut.Value
public import proofs.«01_k».proof.Proof.Gen.AbOutIdeal
public import proofs.«01_k».proof.Proof.Gen.AbOutIdeal.Skeleton
public import proofs.«01_k».proof.Proof.Gen.AbOutIdeal.Launch
public import proofs.«01_k».proof.Proof.Gen.AbOutIdeal.Points
public import proofs.«01_k».proof.Proof.Gen.AbOutIdeal.Frame
public import proofs.«01_k».proof.Proof.Gen.AbOutIdeal.Value
public import proofs.«01_k».proof.Proof.Gen.AbOutRefIdeal
public import proofs.«01_k».proof.Proof.Gen.AbOutRefIdeal.Run
public import proofs.«01_k».proof.Proof.Gen.DaOut
public import proofs.«01_k».proof.Proof.Gen.DaOut.Skeleton
public import proofs.«01_k».proof.Proof.Gen.DaOut.Launch
public import proofs.«01_k».proof.Proof.Gen.DaOut.Points
public import proofs.«01_k».proof.Proof.Gen.DaOut.Frame
public import proofs.«01_k».proof.Proof.Gen.DaOut.Value
public import proofs.«01_k».proof.Proof.Gen.DaOutIdeal
public import proofs.«01_k».proof.Proof.Gen.DaOutIdeal.Skeleton
public import proofs.«01_k».proof.Proof.Gen.DaOutIdeal.Launch
public import proofs.«01_k».proof.Proof.Gen.DaOutIdeal.Points
public import proofs.«01_k».proof.Proof.Gen.DaOutIdeal.Frame
public import proofs.«01_k».proof.Proof.Gen.DaOutIdeal.Value
public import proofs.«01_k».proof.Proof.Gen.DaOutRefIdeal
public import proofs.«01_k».proof.Proof.Gen.DaOutRefIdeal.Run
public import proofs.«01_k».proof.Proof.Gen.MoeOut
public import proofs.«01_k».proof.Proof.Gen.MoeOut.Skeleton
public import proofs.«01_k».proof.Proof.Gen.MoeOut.Launch
public import proofs.«01_k».proof.Proof.Gen.MoeOut.Points
public import proofs.«01_k».proof.Proof.Gen.MoeOut.Frame
public import proofs.«01_k».proof.Proof.Gen.MoeOutIdeal
public import proofs.«01_k».proof.Proof.Gen.MoeOutIdeal.Skeleton
public import proofs.«01_k».proof.Proof.Gen.MoeOutIdeal.Launch
public import proofs.«01_k».proof.Proof.Gen.MoeOutIdeal.Points
public import proofs.«01_k».proof.Proof.Gen.MoeOutIdeal.Frame
public import proofs.«01_k».proof.Proof.Gen.MoeOutRefIdeal
public import proofs.«01_k».proof.Proof.Gen.MoeOutRefIdeal.Run
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNorm.Value
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNorm.Value
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.Gen.FfnNorm
public import proofs.«01_k».proof.Proof.Gen.FfnNorm.Skeleton
public import proofs.«01_k».proof.Proof.Gen.FfnNorm.Launch
public import proofs.«01_k».proof.Proof.Gen.FfnNorm.Points
public import proofs.«01_k».proof.Proof.Gen.FfnNorm.Frame
public import proofs.«01_k».proof.Proof.Gen.FfnNorm.Value
public import proofs.«01_k».proof.Proof.Gen.FfnNormIdeal
public import proofs.«01_k».proof.Proof.Gen.FfnNormIdeal.Skeleton
public import proofs.«01_k».proof.Proof.Gen.FfnNormIdeal.Launch
public import proofs.«01_k».proof.Proof.Gen.FfnNormIdeal.Points
public import proofs.«01_k».proof.Proof.Gen.FfnNormIdeal.Frame
public import proofs.«01_k».proof.Proof.Gen.FfnNormIdeal.Value
public import proofs.«01_k».proof.Proof.Gen.FfnNormRefIdeal
public import proofs.«01_k».proof.Proof.Gen.FfnNormRefIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.ModulationRefIdeal.Run
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConv.Value
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.ShortConvIdeal.Value
public import proofs.«01_k».proof.Proof.Gen.ShortConvRefIdeal
public import proofs.«01_k».proof.Proof.Gen.ShortConvRefIdeal.Run
public import proofs.«01_k».proof.Proof.WordsFrame
public import proofs.«01_k».proof.Proof.IdealFrame
public import proofs.«01_k».proof.Proof.Equation
public import proofs.«01_k».proof.Proof.Finite
public import proofs.«01_k».proof.Proof.DaIn
public import proofs.«01_k».proof.Proof.DaOut
public import proofs.«01_k».proof.Proof.AbOut
public import proofs.«01_k».proof.Proof.AbIn
public import proofs.«01_k».proof.Proof.AbInReference
public import proofs.«01_k».proof.Proof.MoeOutRun
public import proofs.«01_k».proof.Proof.MoeOutReference
public import proofs.«01_k».proof.Proof.MixNormReference
public import proofs.«01_k».proof.Proof.FinalNormReference
public import proofs.«01_k».proof.Proof.FfnNormReference
public import proofs.«01_k».proof.Proof.ShortConvReference
public import proofs.«01_k».proof.Proof.Modulation
public import proofs.«01_k».proof.Proof.ModulationRun
public import proofs.«01_k».proof.Proof.ModulationReference
public import Idealize.ShloMosaic.Adequacy
public import Idealize.ShloMosaic.Init

@[expose] public section

noncomputable section

namespace Cert.Proof

open Idealize.ShloMosaic Idealize.SL.Sem Cert.Kernel

/-- The reference's own run, its counters at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩)
    (Cert.ReferenceIdeal.Value.run (F := Ideal) m g)

/-- On real queries, keys, values and lambda vectors the kernel and the reference leave one result. -/
theorem values : Cert.algebraic_KernelIdeal_ReferenceIdeal_pre_finite_args (hKernelIdeal := Cert.KernelIdeal.Gen.facts)
    (hReferenceIdeal := Cert.ReferenceIdeal.Gen.facts) (hPre_finite_args := Attn.finite_facts) := by
  intro m g m' g' hpre hargs
  have hq := fun c => @Attn.real_0 Attn.finite_facts _ _ _ _ _ (hpre c).1
  have hk := fun c => @Attn.real_1 Attn.finite_facts _ _ _ _ _ (hpre c).2.1
  have hv := fun c => @Attn.real_2 Attn.finite_facts _ _ _ _ _ (hpre c).2.2.1
  have hl := fun c => Attn.lam_real _ (@Attn.real_3 Attn.finite_facts _ _ _ _ _ (hpre c).2.2.2)
  refine ⟨fun c => Attn.result (Cert.KernelIdeal.Hand.argQ m c) (Cert.KernelIdeal.Hand.argK m c)
      (Cert.KernelIdeal.Hand.argV m c) (Cert.KernelIdeal.Hand.argL m c) (Cert.KernelIdeal.Hand.argS m c), ?_, ?_⟩
  · exact Cert.KernelIdeal.Hand.vrun (F := Ideal) m g _
      fun c t o ho => Attn.tile_block m c t (hq c) (hk c) (hv c) o ho
  · refine (θ_run _ _ _).mono (fun r h c => ⟨(h c).1.trans ?_, (h c).2⟩)
      (Cert.ReferenceIdeal.Value.run (F := Ideal) m' g')
    obtain ⟨e0, e1, e2, e3, e4⟩ := hargs c
    rw [Cert.ReferenceIdeal.Hand.res_eq, e0, e1, e2, e3, e4]
    exact Attn.reference_result _ _ _ _ _ (hq c) (hk c) (hv c) (hl c)

/-! ## The four projections and the end of the mixture of experts -/

theorem AbIn_frame : Cert.quiescent_AbInRefIdeal (hAbInRefIdeal := Cert.AbInRefIdeal.Gen.facts) := fun m g _ =>
  (θ_run _ _ _).mono (fun r h => ⟨fun c => (h c).2, sem_eq_zero_of_no_sems rfl r.2⟩)
    (Cert.AbInRefIdeal.Value.run (F := Ideal) m g)

theorem DaIn_frame : Cert.quiescent_DaInRefIdeal (hDaInRefIdeal := Cert.DaInRefIdeal.Gen.facts) := fun m g _ =>
  (θ_run _ _ _).mono (fun r h => ⟨fun c => (h c).2, sem_eq_zero_of_no_sems rfl r.2⟩)
    (Cert.DaInRefIdeal.Value.run (F := Ideal) m g)

theorem AbOut_frame : Cert.quiescent_AbOutRefIdeal (hAbOutRefIdeal := Cert.AbOutRefIdeal.Gen.facts) := fun m g _ =>
  (θ_run _ _ _).mono (fun r h => ⟨fun c => (h c).2, sem_eq_zero_of_no_sems rfl r.2⟩)
    (Cert.AbOutRefIdeal.Value.run (F := Ideal) m g)

theorem DaOut_frame : Cert.quiescent_DaOutRefIdeal (hDaOutRefIdeal := Cert.DaOutRefIdeal.Gen.facts) := fun m g _ =>
  (θ_run _ _ _).mono (fun r h => ⟨fun c => (h c).2, sem_eq_zero_of_no_sems rfl r.2⟩)
    (Cert.DaOutRefIdeal.Value.run (F := Ideal) m g)

theorem MoeOut_frame : Cert.quiescent_MoeOutRefIdeal (hMoeOutRefIdeal := Cert.MoeOutRefIdeal.Gen.facts) := fun m g _ =>
  (θ_run _ _ _).mono (fun r h => ⟨fun c => (h c).2, sem_eq_zero_of_no_sems rfl r.2⟩)
    (Cert.MoeOutRefIdeal.Value.run (F := Ideal) m g)

theorem MixNorm_frame : Cert.quiescent_MixNormRefIdeal (hMixNormRefIdeal := Cert.MixNormRefIdeal.Gen.facts) := fun m g _ =>
  (θ_run _ _ _).mono (fun r h => ⟨fun c => (h c).2, sem_eq_zero_of_no_sems rfl r.2⟩)
    (Cert.MixNormRefIdeal.Value.run (F := Ideal) m g)

theorem FinalNorm_frame : Cert.quiescent_FinalNormRefIdeal (hFinalNormRefIdeal := Cert.FinalNormRefIdeal.Gen.facts) := fun m g _ =>
  (θ_run _ _ _).mono (fun r h => ⟨fun c => (h c).2, sem_eq_zero_of_no_sems rfl r.2⟩)
    (Cert.FinalNormRefIdeal.Value.run (F := Ideal) m g)

theorem FfnNorm_frame : Cert.quiescent_FfnNormRefIdeal (hFfnNormRefIdeal := Cert.FfnNormRefIdeal.Gen.facts) := fun m g _ =>
  (θ_run _ _ _).mono (fun r h => ⟨fun c => (h c).2.2, sem_eq_zero_of_no_sems rfl r.2⟩)
    (Cert.FfnNormRefIdeal.Value.run (F := Ideal) m g)

theorem Modulation_frame : Cert.quiescent_ModulationRefIdeal (hModulationRefIdeal := Cert.ModulationRefIdeal.Gen.facts) := fun m g _ =>
  (θ_run _ _ _).mono (fun r h => ⟨fun c => (h c).2, sem_eq_zero_of_no_sems rfl r.2⟩)
    (Cert.ModulationRefIdeal.Value.run (F := Ideal) m g)

theorem ShortConv_frame : Cert.quiescent_ShortConvRefIdeal (hShortConvRefIdeal := Cert.ShortConvRefIdeal.Gen.facts) := fun m g _ =>
  (θ_run _ _ _).mono (fun r h => ⟨fun c => (h c).2.2.2, sem_eq_zero_of_no_sems rfl r.2⟩)
    (Cert.ShortConvRefIdeal.Value.run (F := Ideal) m g)

/-- From any arguments the kernel and the reference of the retention and Hyena layer's in-projection leave one result. -/
theorem AbIn_values : Cert.algebraic_AbInIdeal_AbInRefIdeal (hAbInIdeal := Cert.AbInIdeal.Gen.facts) (hAbInRefIdeal := Cert.AbInRefIdeal.Gen.facts) := by
  intro m g m' g' _ hargs
  refine ⟨fun c => Cert.AbInIdeal.Hand.result (Cert.AbInIdeal.Hand.argH m c) (Cert.AbInIdeal.Hand.argW m c) (Cert.AbInIdeal.Hand.argC m c) (Cert.AbInIdeal.Hand.argS m c), ?_, ?_⟩
  · exact (θ_run _ _ _).mono (fun r h c => ⟨(h c).1.trans (Cert.AbInIdeal.Hand.array_eq m c), (h c).2⟩)
      (Cert.AbInIdeal.Value.run_blocks (F := Ideal) m g)
  · refine (θ_run _ _ _).mono (fun r h c => ⟨(h c).1.trans ?_, (h c).2⟩)
      (Cert.AbInRefIdeal.Value.run (F := Ideal) m' g')
    obtain ⟨e0, e1, e2, e3⟩ := hargs c
    rw [Cert.AbInRefIdeal.Value.res_main_v48, e0, e1, e2, e3]
    exact Cert.AbInRefIdeal.Hand.reference_eq _ _ _ _

/-- From any arguments the kernel and the reference of the attention layer's in-projection leave one result. -/
theorem DaIn_values : Cert.algebraic_DaInIdeal_DaInRefIdeal (hDaInIdeal := Cert.DaInIdeal.Gen.facts) (hDaInRefIdeal := Cert.DaInRefIdeal.Gen.facts) := by
  intro m g m' g' _ hargs
  refine ⟨fun c => Cert.DaInIdeal.Hand.result (Cert.DaInIdeal.Hand.argH m c) (Cert.DaInIdeal.Hand.argW m c), ?_, ?_⟩
  · exact (θ_run _ _ _).mono (fun r h c => ⟨(h c).1.trans (Cert.DaInIdeal.Hand.array_eq m c), (h c).2⟩)
      (Cert.DaInIdeal.Value.run_blocks (F := Ideal) m g)
  · refine (θ_run _ _ _).mono (fun r h c => ⟨(h c).1.trans ?_, (h c).2⟩)
      (Cert.DaInRefIdeal.Value.run (F := Ideal) m' g')
    obtain ⟨e0, e1⟩ := hargs c
    rw [e0, e1]
    exact Cert.DaInIdeal.Hand.reference_eq _ _

/-- From any arguments the kernel and the reference of the retention and Hyena layer's out-projection leave one result. -/
theorem AbOut_values : Cert.algebraic_AbOutIdeal_AbOutRefIdeal (hAbOutIdeal := Cert.AbOutIdeal.Gen.facts) (hAbOutRefIdeal := Cert.AbOutRefIdeal.Gen.facts) := by
  intro m g m' g' _ hargs
  refine ⟨fun c => Cert.AbOutIdeal.Hand.result (Cert.AbOutIdeal.Hand.argX m c) (Cert.AbOutIdeal.Hand.argA m c) (Cert.AbOutIdeal.Hand.argB m c) (Cert.AbOutIdeal.Hand.argW m c) (Cert.AbOutIdeal.Hand.argC m c) (Cert.AbOutIdeal.Hand.argL m c), ?_, ?_⟩
  · exact (θ_run _ _ _).mono (fun r h c => ⟨(h c).1.trans (Cert.AbOutIdeal.Hand.array_eq m c), (h c).2⟩)
      (Cert.AbOutIdeal.Value.run_blocks (F := Ideal) m g)
  · refine (θ_run _ _ _).mono (fun r h c => ⟨(h c).1.trans ?_, (h c).2⟩)
      (Cert.AbOutRefIdeal.Value.run (F := Ideal) m' g')
    obtain ⟨e0, e1, e2, e3, e4, e5⟩ := hargs c
    rw [e0, e1, e2, e3, e4, e5]
    exact Cert.AbOutRefIdeal.Hand.reference_eq _ _ _ _ _ _

/-- From any arguments the kernel and the reference of the attention layer's out-projection leave one result. -/
theorem DaOut_values : Cert.algebraic_DaOutIdeal_DaOutRefIdeal (hDaOutIdeal := Cert.DaOutIdeal.Gen.facts) (hDaOutRefIdeal := Cert.DaOutRefIdeal.Gen.facts) := by
  intro m g m' g' _ hargs
  refine ⟨fun c => Cert.DaOutIdeal.Hand.result (Cert.DaOutIdeal.Hand.argX m c) (Cert.DaOutIdeal.Hand.argO m c) (Cert.DaOutIdeal.Hand.argW m c) (Cert.DaOutIdeal.Hand.argC m c) (Cert.DaOutIdeal.Hand.argL m c), ?_, ?_⟩
  · exact (θ_run _ _ _).mono (fun r h c => ⟨(h c).1.trans (Cert.DaOutIdeal.Hand.array_eq m c), (h c).2⟩)
      (Cert.DaOutIdeal.Value.run_blocks (F := Ideal) m g)
  · refine (θ_run _ _ _).mono (fun r h c => ⟨(h c).1.trans ?_, (h c).2⟩)
      (Cert.DaOutRefIdeal.Value.run (F := Ideal) m' g')
    obtain ⟨e0, e1, e2, e3, e4⟩ := hargs c
    rw [e0, e1, e2, e3, e4]
    exact Cert.DaOutRefIdeal.Hand.reference_eq _ _ _ _ _

/-- From any arguments the two calls that end the mixture of experts and their reference leave one result. -/
theorem MoeOut_values : Cert.algebraic_MoeOutIdeal_MoeOutRefIdeal (hMoeOutIdeal := Cert.MoeOutIdeal.Gen.facts) (hMoeOutRefIdeal := Cert.MoeOutRefIdeal.Gen.facts) := by
  intro m g m' g' _ hargs
  refine ⟨fun c => Cert.MoeOutIdeal.Hand.out m c, Cert.MoeOutIdeal.Hand.run m g, ?_⟩
  refine (θ_run _ _ _).mono (fun r h c => ⟨(h c).1.trans ?_, (h c).2⟩) (Cert.MoeOutRefIdeal.Value.run (F := Ideal) m' g')
  obtain ⟨e0, e1, e2, e3, e4, e5, e6, e7, e8⟩ := hargs c
  rw [e0, e1, e2, e3, e4, e5, e6, e7, e8]
  exact Cert.MoeOutRefIdeal.Hand.reference_eq _ _ _ _ _ _ _ _ _

/-- From any arguments the norm ahead of a mixer and its reference leave one result. -/
theorem MixNorm_values : Cert.algebraic_MixNormIdeal_MixNormRefIdeal (hMixNormIdeal := Cert.MixNormIdeal.Gen.facts) (hMixNormRefIdeal := Cert.MixNormRefIdeal.Gen.facts) := by
  intro m g m' g' _ hargs
  refine ⟨fun c => Cert.MixNormIdeal.Hand.result (Cert.MixNormIdeal.Hand.argX m c) (Cert.MixNormIdeal.Hand.argG m c) (Cert.MixNormIdeal.Hand.argC m c) (Cert.MixNormIdeal.Hand.argL m c), ?_, ?_⟩
  · exact (θ_run _ _ _).mono (fun r h c => ⟨(h c).1.trans (Cert.MixNormIdeal.Hand.array_eq m c), (h c).2⟩)
      (Cert.MixNormIdeal.Value.run_blocks (F := Ideal) m g)
  · refine (θ_run _ _ _).mono (fun r h c => ⟨(h c).1.trans ?_, (h c).2⟩)
      (Cert.MixNormRefIdeal.Value.run (F := Ideal) m' g')
    obtain ⟨e0, e1, e2, e3⟩ := hargs c
    rw [e0, e1, e2, e3]
    exact Cert.MixNormRefIdeal.Hand.reference_eq _ _ _ _

/-- From any arguments the last norm and its reference leave one result. -/
theorem FinalNorm_values : Cert.algebraic_FinalNormIdeal_FinalNormRefIdeal (hFinalNormIdeal := Cert.FinalNormIdeal.Gen.facts) (hFinalNormRefIdeal := Cert.FinalNormRefIdeal.Gen.facts) := by
  intro m g m' g' _ hargs
  refine ⟨fun c => Cert.FinalNormIdeal.Hand.result (Cert.FinalNormIdeal.Hand.argX m c) (Cert.FinalNormIdeal.Hand.argG m c), ?_, ?_⟩
  · exact (θ_run _ _ _).mono (fun r h c => ⟨(h c).1.trans (Cert.FinalNormIdeal.Hand.array_eq m c), (h c).2⟩)
      (Cert.FinalNormIdeal.Value.run_blocks (F := Ideal) m g)
  · refine (θ_run _ _ _).mono (fun r h c => ⟨(h c).1.trans ?_, (h c).2⟩)
      (Cert.FinalNormRefIdeal.Value.run (F := Ideal) m' g')
    obtain ⟨e0, e1⟩ := hargs c
    rw [e0, e1]
    exact Cert.FinalNormRefIdeal.Hand.reference_eq _ _

/-- From any arguments the norm ahead of the experts with the router's product, and their reference, leave the same two results. -/
theorem FfnNorm_values : Cert.algebraic_FfnNormIdeal_FfnNormRefIdeal (hFfnNormIdeal := Cert.FfnNormIdeal.Gen.facts) (hFfnNormRefIdeal := Cert.FfnNormRefIdeal.Gen.facts) := by
  intro m g m' g' _ hargs
  refine ⟨fun c => Cert.FfnNormIdeal.Hand.result (Cert.FfnNormIdeal.Hand.argX m c) (Cert.FfnNormIdeal.Hand.argG m c) (Cert.FfnNormIdeal.Hand.argC m c) (Cert.FfnNormIdeal.Hand.argL m c),
    fun c => Cert.FfnNormIdeal.Hand.logits (Cert.FfnNormIdeal.Hand.argX m c) (Cert.FfnNormIdeal.Hand.argG m c) (Cert.FfnNormIdeal.Hand.argW m c) (Cert.FfnNormIdeal.Hand.argC m c) (Cert.FfnNormIdeal.Hand.argL m c), ?_, ?_⟩
  · exact (θ_run _ _ _).mono (fun r h c => ⟨(h c).1.trans (Cert.FfnNormIdeal.Hand.array_eq m c),
        (h c).2.1.trans (Cert.FfnNormIdeal.Hand.array_logits_eq m c), (h c).2.2⟩)
      (Cert.FfnNormIdeal.Value.run_blocks (F := Ideal) m g)
  · refine (θ_run _ _ _).mono (fun r h c => ⟨(h c).1.trans ?_, (h c).2.1.trans ?_, (h c).2.2⟩)
      (Cert.FfnNormRefIdeal.Value.run (F := Ideal) m' g')
    all_goals
      obtain ⟨e0, e1, e2, e3, e4⟩ := hargs c
    · rw [e0, e1, e3, e4]
      exact Cert.FfnNormRefIdeal.Hand.reference_eq _ _ _ _
    · rw [e0, e1, e2, e3, e4]
      exact Cert.FfnNormRefIdeal.Hand.reference_logits_eq _ _ _ _ _

/-- From any arguments the modulations and their reference leave one result. -/
theorem Modulation_values : Cert.algebraic_ModulationIdeal_ModulationRefIdeal (hModulationIdeal := Cert.ModulationIdeal.Gen.facts) (hModulationRefIdeal := Cert.ModulationRefIdeal.Gen.facts) := by
  intro m g m' g' _ hargs
  refine ⟨fun c => Cert.ModulationIdeal.Hand.result (Cert.ModulationIdeal.Hand.argX m c) (Cert.ModulationIdeal.Hand.argC m c) (Cert.ModulationIdeal.Hand.argW m c) (Cert.ModulationIdeal.Hand.argB m c), ?_, ?_⟩
  · exact Cert.ModulationIdeal.Hand.run m g
  · refine (θ_run _ _ _).mono (fun r h c => ⟨(h c).1.trans ?_, (h c).2⟩)
      (Cert.ModulationRefIdeal.Value.run (F := Ideal) m' g')
    obtain ⟨e0, e1, e2, e3⟩ := hargs c
    unfold Cert.ModulationRefIdeal.Value.res_main_v81
    rw [e0, e1, e2, e3]
    exact Cert.ModulationRefIdeal.Hand.reference_eq _ _ _ _

/-- From any arguments the convolution over neighbouring rows and its reference leave the same three results. -/
theorem ShortConv_values : Cert.algebraic_ShortConvIdeal_ShortConvRefIdeal (hShortConvIdeal := Cert.ShortConvIdeal.Gen.facts) (hShortConvRefIdeal := Cert.ShortConvRefIdeal.Gen.facts) := by
  intro m g m' g' _ hargs
  refine ⟨fun c => Cert.ShortConvIdeal.Hand.result 0 (Cert.ShortConvIdeal.Hand.argP m c) (Cert.ShortConvIdeal.Hand.argW m c) (Cert.ShortConvIdeal.Hand.argB m c),
    fun c => Cert.ShortConvIdeal.Hand.result 1 (Cert.ShortConvIdeal.Hand.argP m c) (Cert.ShortConvIdeal.Hand.argW m c) (Cert.ShortConvIdeal.Hand.argB m c),
    fun c => Cert.ShortConvIdeal.Hand.result 2 (Cert.ShortConvIdeal.Hand.argP m c) (Cert.ShortConvIdeal.Hand.argW m c) (Cert.ShortConvIdeal.Hand.argB m c), ?_, ?_⟩
  · exact (θ_run _ _ _).mono (fun r h c => ⟨(h c).1.trans (Cert.ShortConvIdeal.Hand.array_first_eq m c), (h c).2.1.trans (Cert.ShortConvIdeal.Hand.array_second_eq m c),
        (h c).2.2.1.trans (Cert.ShortConvIdeal.Hand.array_third_eq m c), (h c).2.2.2⟩)
      (Cert.ShortConvIdeal.Value.run_blocks (F := Ideal) m g)
  · refine (θ_run _ _ _).mono (fun r h c => ⟨(h c).1.trans ?_, (h c).2.1.trans ?_, (h c).2.2.1.trans ?_, (h c).2.2.2⟩)
      (Cert.ShortConvRefIdeal.Value.run (F := Ideal) m' g')
    all_goals
      obtain ⟨e0, e1, e2⟩ := hargs c
    · unfold Cert.ShortConvRefIdeal.Value.res_main_v52
      rw [e0, e1, e2]
      exact Cert.ShortConvRefIdeal.Hand.reference_first_eq _ _ _
    · unfold Cert.ShortConvRefIdeal.Value.res_main_v53
      rw [e0, e1, e2]
      exact Cert.ShortConvRefIdeal.Hand.reference_second_eq _ _ _
    · unfold Cert.ShortConvRefIdeal.Value.res_main_v54
      rw [e0, e1, e2]
      exact Cert.ShortConvRefIdeal.Hand.reference_third_eq _ _ _

theorem claim : Cert.Claim := ⟨Cert.Kernel.Gen.facts, Cert.KernelIdeal.Gen.facts, Cert.ReferenceIdeal.Gen.facts,
  Cert.AbIn.Gen.facts, Cert.AbInIdeal.Gen.facts, Cert.AbInRefIdeal.Gen.facts, Cert.DaIn.Gen.facts, Cert.DaInIdeal.Gen.facts, Cert.DaInRefIdeal.Gen.facts, Cert.AbOut.Gen.facts, Cert.AbOutIdeal.Gen.facts, Cert.AbOutRefIdeal.Gen.facts, Cert.DaOut.Gen.facts, Cert.DaOutIdeal.Gen.facts, Cert.DaOutRefIdeal.Gen.facts,
  Cert.MoeOut.Gen.facts, Cert.MoeOutIdeal.Gen.facts, Cert.MoeOutRefIdeal.Gen.facts,
  Cert.MixNorm.Gen.facts, Cert.MixNormIdeal.Gen.facts, Cert.MixNormRefIdeal.Gen.facts, Cert.FinalNorm.Gen.facts, Cert.FinalNormIdeal.Gen.facts, Cert.FinalNormRefIdeal.Gen.facts, Cert.FfnNorm.Gen.facts, Cert.FfnNormIdeal.Gen.facts, Cert.FfnNormRefIdeal.Gen.facts, Cert.Modulation.Gen.facts, Cert.ModulationIdeal.Gen.facts, Cert.ModulationRefIdeal.Gen.facts, Cert.ShortConv.Gen.facts, Cert.ShortConvIdeal.Gen.facts, Cert.ShortConvRefIdeal.Gen.facts,
  Attn.finite_facts,
  fun m g _ => Cert.Kernel.Hand.frame (F := Bits) m g,
  fun m g _ => Cert.KernelIdeal.Hand.frame (F := Ideal) m g,
  fun m g _ => Cert.KernelIdeal.Hand.frame (F := Ideal) m g,
  reference_frame,
  fun m g _ => reference_frame m g trivial,
  fun m g _ => Cert.AbIn.Gen.frame (F := Bits) m g,
  fun m g _ => Cert.AbInIdeal.Gen.frame (F := Ideal) m g,
  AbIn_frame,
  fun m g _ => Cert.DaIn.Gen.frame (F := Bits) m g,
  fun m g _ => Cert.DaInIdeal.Gen.frame (F := Ideal) m g,
  DaIn_frame,
  fun m g _ => Cert.AbOut.Gen.frame (F := Bits) m g,
  fun m g _ => Cert.AbOutIdeal.Gen.frame (F := Ideal) m g,
  AbOut_frame,
  fun m g _ => Cert.DaOut.Gen.frame (F := Bits) m g,
  fun m g _ => Cert.DaOutIdeal.Gen.frame (F := Ideal) m g,
  DaOut_frame,
  fun m g _ => Cert.MoeOut.Gen.frame (F := Bits) m g,
  fun m g _ => Cert.MoeOutIdeal.Gen.frame (F := Ideal) m g,
  MoeOut_frame,
  fun m g _ => Cert.MixNorm.Gen.frame (F := Bits) m g,
  fun m g _ => Cert.MixNormIdeal.Gen.frame (F := Ideal) m g,
  MixNorm_frame,
  fun m g _ => Cert.FinalNorm.Gen.frame (F := Bits) m g,
  fun m g _ => Cert.FinalNormIdeal.Gen.frame (F := Ideal) m g,
  FinalNorm_frame,
  fun m g _ => Cert.FfnNorm.Gen.frame (F := Bits) m g,
  fun m g _ => Cert.FfnNormIdeal.Gen.frame (F := Ideal) m g,
  FfnNorm_frame,
  fun m g _ => Cert.Modulation.Gen.frame (F := Bits) m g,
  fun m g _ => Cert.ModulationIdeal.Gen.frame (F := Ideal) m g,
  Modulation_frame,
  fun m g _ => Cert.ShortConv.Gen.frame (F := Bits) m g,
  fun m g _ => Cert.ShortConvIdeal.Gen.frame (F := Ideal) m g,
  ShortConv_frame,
  ⟨IdealRules.named_const.statement Cert.KernelIdeal.κ "scale" .f32 0x3E38AA3B#32 (((Real.log 2)⁻¹ * (1 / 8) : ℝ) : EReal) rfl,
   IdealRules.named_const.statement Cert.KernelIdeal.κ "mask" .f32 0xF149F2CA#32 ⊥ rfl⟩,
  values,
  trivial, AbIn_values,
  trivial, DaIn_values,
  trivial, AbOut_values,
  trivial, DaOut_values,
  trivial, MoeOut_values,
  trivial, MixNorm_values,
  trivial, FinalNorm_values,
  trivial, FfnNorm_values,
  trivial, Modulation_values,
  trivial, ShortConv_values⟩

end Cert.Proof

end
